-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_InpS (m : (ℓ : Loc Cert.InpS.nD Cert.InpS.τ Cert.InpS.sig) → Buf (Elt Bits) ℓ) : Prop :=
  True

def Pre_InpSIdeal (m : (ℓ : Loc Cert.InpSIdeal.nD Cert.InpSIdeal.τ Cert.InpSIdeal.sig) → Buf (Elt Ideal) ℓ) : Prop :=
  True

def Pre_InpSRefIdeal (m : (ℓ : Loc Cert.InpSRefIdeal.nD Cert.InpSRefIdeal.τ Cert.InpSRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_OutpS (m : (ℓ : Loc Cert.OutpS.nD Cert.OutpS.τ Cert.OutpS.sig) → Buf (Elt Bits) ℓ) : Prop :=
  True

def Pre_OutpSIdeal (m : (ℓ : Loc Cert.OutpSIdeal.nD Cert.OutpSIdeal.τ Cert.OutpSIdeal.sig) → Buf (Elt Ideal) ℓ) : Prop :=
  True

def Pre_OutpSRefIdeal (m : (ℓ : Loc Cert.OutpSRefIdeal.nD Cert.OutpSRefIdeal.τ Cert.OutpSRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_decays_below_inf [hPre_decays_below_inf : Cert.Pre_decays_below_inf.Facts] (m : (ℓ : Loc Cert.GlaIdeal.nD Cert.GlaIdeal.τ Cert.GlaIdeal.sig) → Buf (Elt Ideal) ℓ) : Prop :=
  ∀ c : Dev Cert.GlaIdeal.nD,
    (Cert.Pre_decays_below_inf.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_decays_below_inf [hPre_decays_below_inf : Cert.Pre_decays_below_inf.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_decays_below_inf.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_InpS [hInpS : Cert.InpS.Facts] : Prop :=
  ∀ (m : (ℓ : Loc Cert.InpS.nD Cert.InpS.τ Cert.InpS.sig) → Buf (Elt Bits) ℓ) (g : Dev Cert.InpS.nD → PrngReg), Pre_InpS m →
    θ_run (Cert.InpS.defs (F := Bits)) (onTc (τ := Cert.InpS.τ) (Cert.InpS.main (F := Bits))) ⟨m, fun _ => 0, g⟩ (fun r => (∀ c : Dev Cert.InpS.nD,
      r.2.mem ((c.tc : Thread Cert.InpS.nD Cert.InpS.τ).loc Cert.InpS.main_arg0) = m ((c.tc : Thread Cert.InpS.nD Cert.InpS.τ).loc Cert.InpS.main_arg0)
      ∧ r.2.mem ((c.tc : Thread Cert.InpS.nD Cert.InpS.τ).loc Cert.InpS.main_arg1) = m ((c.tc : Thread Cert.InpS.nD Cert.InpS.τ).loc Cert.InpS.main_arg1)
      ∧ r.2.mem ((c.tc : Thread Cert.InpS.nD Cert.InpS.τ).loc Cert.InpS.main_arg2) = m ((c.tc : Thread Cert.InpS.nD Cert.InpS.τ).loc Cert.InpS.main_arg2)
      ∧ r.2.mem ((c.tc : Thread Cert.InpS.nD Cert.InpS.τ).loc Cert.InpS.main_arg3) = m ((c.tc : Thread Cert.InpS.nD Cert.InpS.τ).loc Cert.InpS.main_arg3)
      ∧ r.2.mem ((c.tc : Thread Cert.InpS.nD Cert.InpS.τ).loc Cert.InpS.main_arg4) = m ((c.tc : Thread Cert.InpS.nD Cert.InpS.τ).loc Cert.InpS.main_arg4)
      ∧ r.2.mem ((c.tc : Thread Cert.InpS.nD Cert.InpS.τ).loc Cert.InpS.main_arg5) = m ((c.tc : Thread Cert.InpS.nD Cert.InpS.τ).loc Cert.InpS.main_arg5)
      ∧ r.2.mem ((c.tc : Thread Cert.InpS.nD Cert.InpS.τ).loc Cert.InpS.main_arg6) = m ((c.tc : Thread Cert.InpS.nD Cert.InpS.τ).loc Cert.InpS.main_arg6))
      ∧ r.2.sem = fun _ => 0)

def quiescent_InpSIdeal [hInpSIdeal : Cert.InpSIdeal.Facts] : Prop :=
  ∀ (m : (ℓ : Loc Cert.InpSIdeal.nD Cert.InpSIdeal.τ Cert.InpSIdeal.sig) → Buf (Elt Ideal) ℓ) (g : Dev Cert.InpSIdeal.nD → PrngReg), Pre_InpSIdeal m →
    θ_run (Cert.InpSIdeal.defs (F := Ideal)) (onTc (τ := Cert.InpSIdeal.τ) (Cert.InpSIdeal.main (F := Ideal))) ⟨m, fun _ => 0, g⟩ (fun r => (∀ c : Dev Cert.InpSIdeal.nD,
      r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
      ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
      ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
      ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
      ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4)
      ∧ r.2.mem ((c.tc : Thread Cert.InpSIdeal.nD Cert.InpSIdeal.τ).loc Cert.InpSIdeal.main_arg5) = m ((c.tc : Thread Cert.InpSIdeal.nD Cert.InpSIdeal.τ).loc Cert.InpSIdeal.main_arg5)
      ∧ r.2.mem ((c.tc : Thread Cert.InpSIdeal.nD Cert.InpSIdeal.τ).loc Cert.InpSIdeal.main_arg6) = m ((c.tc : Thread Cert.InpSIdeal.nD Cert.InpSIdeal.τ).loc Cert.InpSIdeal.main_arg6))
      ∧ r.2.sem = fun _ => 0)

def quiescent_InpSRefIdeal [hInpSRefIdeal : Cert.InpSRefIdeal.Facts] : Prop :=
  ∀ (m : (ℓ : Loc Cert.InpSRefIdeal.nD Cert.InpSRefIdeal.τ Cert.InpSRefIdeal.sig) → Buf (Elt Ideal) ℓ) (g : Dev Cert.InpSRefIdeal.nD → PrngReg), Pre_InpSRefIdeal m →
    θ_run (Cert.InpSRefIdeal.defs (F := Ideal)) (onTc (τ := Cert.InpSRefIdeal.τ) (Cert.InpSRefIdeal.main (F := Ideal))) ⟨m, fun _ => 0, g⟩ (fun r => (∀ c : Dev Cert.InpSRefIdeal.nD,
      r.2.mem ((c.tc : Thread Cert.InpSRefIdeal.nD Cert.InpSRefIdeal.τ).loc Cert.InpSRefIdeal.main_arg0) = m ((c.tc : Thread Cert.InpSRefIdeal.nD Cert.InpSRefIdeal.τ).loc Cert.InpSRefIdeal.main_arg0)
      ∧ r.2.mem ((c.tc : Thread Cert.InpSRefIdeal.nD Cert.InpSRefIdeal.τ).loc Cert.InpSRefIdeal.main_arg1) = m ((c.tc : Thread Cert.InpSRefIdeal.nD Cert.InpSRefIdeal.τ).loc Cert.InpSRefIdeal.main_arg1)
      ∧ r.2.mem ((c.tc : Thread Cert.InpSRefIdeal.nD Cert.InpSRefIdeal.τ).loc Cert.InpSRefIdeal.main_arg2) = m ((c.tc : Thread Cert.InpSRefIdeal.nD Cert.InpSRefIdeal.τ).loc Cert.InpSRefIdeal.main_arg2)
      ∧ r.2.mem ((c.tc : Thread Cert.InpSRefIdeal.nD Cert.InpSRefIdeal.τ).loc Cert.InpSRefIdeal.main_arg3) = m ((c.tc : Thread Cert.InpSRefIdeal.nD Cert.InpSRefIdeal.τ).loc Cert.InpSRefIdeal.main_arg3)
      ∧ r.2.mem ((c.tc : Thread Cert.InpSRefIdeal.nD Cert.InpSRefIdeal.τ).loc Cert.InpSRefIdeal.main_arg4) = m ((c.tc : Thread Cert.InpSRefIdeal.nD Cert.InpSRefIdeal.τ).loc Cert.InpSRefIdeal.main_arg4)
      ∧ r.2.mem ((c.tc : Thread Cert.InpSRefIdeal.nD Cert.InpSRefIdeal.τ).loc Cert.InpSRefIdeal.main_arg5) = m ((c.tc : Thread Cert.InpSRefIdeal.nD Cert.InpSRefIdeal.τ).loc Cert.InpSRefIdeal.main_arg5)
      ∧ r.2.mem ((c.tc : Thread Cert.InpSRefIdeal.nD Cert.InpSRefIdeal.τ).loc Cert.InpSRefIdeal.main_arg6) = m ((c.tc : Thread Cert.InpSRefIdeal.nD Cert.InpSRefIdeal.τ).loc Cert.InpSRefIdeal.main_arg6))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4))
      ∧ r.2.sem = fun _ => 0)

def quiescent_OutpS [hOutpS : Cert.OutpS.Facts] : Prop :=
  ∀ (m : (ℓ : Loc Cert.OutpS.nD Cert.OutpS.τ Cert.OutpS.sig) → Buf (Elt Bits) ℓ) (g : Dev Cert.OutpS.nD → PrngReg), Pre_OutpS m →
    θ_run (Cert.OutpS.defs (F := Bits)) (onTc (τ := Cert.OutpS.τ) (Cert.OutpS.main (F := Bits))) ⟨m, fun _ => 0, g⟩ (fun r => (∀ c : Dev Cert.OutpS.nD,
      r.2.mem ((c.tc : Thread Cert.OutpS.nD Cert.OutpS.τ).loc Cert.OutpS.main_arg0) = m ((c.tc : Thread Cert.OutpS.nD Cert.OutpS.τ).loc Cert.OutpS.main_arg0)
      ∧ r.2.mem ((c.tc : Thread Cert.OutpS.nD Cert.OutpS.τ).loc Cert.OutpS.main_arg1) = m ((c.tc : Thread Cert.OutpS.nD Cert.OutpS.τ).loc Cert.OutpS.main_arg1)
      ∧ r.2.mem ((c.tc : Thread Cert.OutpS.nD Cert.OutpS.τ).loc Cert.OutpS.main_arg2) = m ((c.tc : Thread Cert.OutpS.nD Cert.OutpS.τ).loc Cert.OutpS.main_arg2)
      ∧ r.2.mem ((c.tc : Thread Cert.OutpS.nD Cert.OutpS.τ).loc Cert.OutpS.main_arg3) = m ((c.tc : Thread Cert.OutpS.nD Cert.OutpS.τ).loc Cert.OutpS.main_arg3)
      ∧ r.2.mem ((c.tc : Thread Cert.OutpS.nD Cert.OutpS.τ).loc Cert.OutpS.main_arg4) = m ((c.tc : Thread Cert.OutpS.nD Cert.OutpS.τ).loc Cert.OutpS.main_arg4))
      ∧ r.2.sem = fun _ => 0)

def quiescent_OutpSIdeal [hOutpSIdeal : Cert.OutpSIdeal.Facts] : Prop :=
  ∀ (m : (ℓ : Loc Cert.OutpSIdeal.nD Cert.OutpSIdeal.τ Cert.OutpSIdeal.sig) → Buf (Elt Ideal) ℓ) (g : Dev Cert.OutpSIdeal.nD → PrngReg), Pre_OutpSIdeal m →
    θ_run (Cert.OutpSIdeal.defs (F := Ideal)) (onTc (τ := Cert.OutpSIdeal.τ) (Cert.OutpSIdeal.main (F := Ideal))) ⟨m, fun _ => 0, g⟩ (fun r => (∀ c : Dev Cert.OutpSIdeal.nD,
      r.2.mem ((c.tc : Thread Cert.OutpSIdeal.nD Cert.OutpSIdeal.τ).loc Cert.OutpSIdeal.main_arg0) = m ((c.tc : Thread Cert.OutpSIdeal.nD Cert.OutpSIdeal.τ).loc Cert.OutpSIdeal.main_arg0)
      ∧ r.2.mem ((c.tc : Thread Cert.OutpSIdeal.nD Cert.OutpSIdeal.τ).loc Cert.OutpSIdeal.main_arg1) = m ((c.tc : Thread Cert.OutpSIdeal.nD Cert.OutpSIdeal.τ).loc Cert.OutpSIdeal.main_arg1)
      ∧ r.2.mem ((c.tc : Thread Cert.OutpSIdeal.nD Cert.OutpSIdeal.τ).loc Cert.OutpSIdeal.main_arg2) = m ((c.tc : Thread Cert.OutpSIdeal.nD Cert.OutpSIdeal.τ).loc Cert.OutpSIdeal.main_arg2)
      ∧ r.2.mem ((c.tc : Thread Cert.OutpSIdeal.nD Cert.OutpSIdeal.τ).loc Cert.OutpSIdeal.main_arg3) = m ((c.tc : Thread Cert.OutpSIdeal.nD Cert.OutpSIdeal.τ).loc Cert.OutpSIdeal.main_arg3)
      ∧ r.2.mem ((c.tc : Thread Cert.OutpSIdeal.nD Cert.OutpSIdeal.τ).loc Cert.OutpSIdeal.main_arg4) = m ((c.tc : Thread Cert.OutpSIdeal.nD Cert.OutpSIdeal.τ).loc Cert.OutpSIdeal.main_arg4))
      ∧ r.2.sem = fun _ => 0)

def quiescent_OutpSRefIdeal [hOutpSRefIdeal : Cert.OutpSRefIdeal.Facts] : Prop :=
  ∀ (m : (ℓ : Loc Cert.OutpSRefIdeal.nD Cert.OutpSRefIdeal.τ Cert.OutpSRefIdeal.sig) → Buf (Elt Ideal) ℓ) (g : Dev Cert.OutpSRefIdeal.nD → PrngReg), Pre_OutpSRefIdeal m →
    θ_run (Cert.OutpSRefIdeal.defs (F := Ideal)) (onTc (τ := Cert.OutpSRefIdeal.τ) (Cert.OutpSRefIdeal.main (F := Ideal))) ⟨m, fun _ => 0, g⟩ (fun r => (∀ c : Dev Cert.OutpSRefIdeal.nD,
      r.2.mem ((c.tc : Thread Cert.OutpSRefIdeal.nD Cert.OutpSRefIdeal.τ).loc Cert.OutpSRefIdeal.main_arg0) = m ((c.tc : Thread Cert.OutpSRefIdeal.nD Cert.OutpSRefIdeal.τ).loc Cert.OutpSRefIdeal.main_arg0)
      ∧ r.2.mem ((c.tc : Thread Cert.OutpSRefIdeal.nD Cert.OutpSRefIdeal.τ).loc Cert.OutpSRefIdeal.main_arg1) = m ((c.tc : Thread Cert.OutpSRefIdeal.nD Cert.OutpSRefIdeal.τ).loc Cert.OutpSRefIdeal.main_arg1)
      ∧ r.2.mem ((c.tc : Thread Cert.OutpSRefIdeal.nD Cert.OutpSRefIdeal.τ).loc Cert.OutpSRefIdeal.main_arg2) = m ((c.tc : Thread Cert.OutpSRefIdeal.nD Cert.OutpSRefIdeal.τ).loc Cert.OutpSRefIdeal.main_arg2)
      ∧ r.2.mem ((c.tc : Thread Cert.OutpSRefIdeal.nD Cert.OutpSRefIdeal.τ).loc Cert.OutpSRefIdeal.main_arg3) = m ((c.tc : Thread Cert.OutpSRefIdeal.nD Cert.OutpSRefIdeal.τ).loc Cert.OutpSRefIdeal.main_arg3)
      ∧ r.2.mem ((c.tc : Thread Cert.OutpSRefIdeal.nD Cert.OutpSRefIdeal.τ).loc Cert.OutpSRefIdeal.main_arg4) = m ((c.tc : Thread Cert.OutpSRefIdeal.nD Cert.OutpSRefIdeal.τ).loc Cert.OutpSRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_decays_below_inf [hGlaIdeal : Cert.GlaIdeal.Facts] [hPre_decays_below_inf : Cert.Pre_decays_below_inf.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_decays_below_inf m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaRefIdeal_pre_decays_below_inf [hGlaRefIdeal : Cert.GlaRefIdeal.Facts] [hPre_decays_below_inf : Cert.Pre_decays_below_inf.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_decays_below_inf m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)) →
    ∃ (v0 : (c : Dev Cert.FfnSIdeal.nD) → Buf (Elt Ideal) ((c.tc : Thread Cert.FfnSIdeal.nD Cert.FfnSIdeal.τ).loc Cert.FfnSIdeal.main_v6)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v6) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v69) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v12_0)) (v1 : (c : Dev Cert.InpIdeal.nD) → Buf (Elt Ideal) ((c.tc : Thread Cert.InpIdeal.nD Cert.InpIdeal.τ).loc Cert.InpIdeal.main_v12_1)) (v2 : (c : Dev Cert.InpIdeal.nD) → Buf (Elt Ideal) ((c.tc : Thread Cert.InpIdeal.nD Cert.InpIdeal.τ).loc Cert.InpIdeal.main_v12_2)) (v3 : (c : Dev Cert.InpIdeal.nD) → Buf (Elt Ideal) ((c.tc : Thread Cert.InpIdeal.nD Cert.InpIdeal.τ).loc Cert.InpIdeal.main_v12_3)) (v4 : (c : Dev Cert.InpIdeal.nD) → Buf (Elt Ideal) ((c.tc : Thread Cert.InpIdeal.nD Cert.InpIdeal.τ).loc Cert.InpIdeal.main_v12_4)) (v5 : (c : Dev Cert.InpIdeal.nD) → Buf (Elt Ideal) ((c.tc : Thread Cert.InpIdeal.nD Cert.InpIdeal.τ).loc Cert.InpIdeal.main_v12_5)) (v6 : (c : Dev Cert.InpIdeal.nD) → Buf (Elt Ideal) ((c.tc : Thread Cert.InpIdeal.nD Cert.InpIdeal.τ).loc Cert.InpIdeal.main_v12_6)) (v7 : (c : Dev Cert.InpIdeal.nD) → Buf (Elt Ideal) ((c.tc : Thread Cert.InpIdeal.nD Cert.InpIdeal.τ).loc Cert.InpIdeal.main_v12_7)) (v8 : (c : Dev Cert.InpIdeal.nD) → Buf (Elt Ideal) ((c.tc : Thread Cert.InpIdeal.nD Cert.InpIdeal.τ).loc Cert.InpIdeal.main_v12_8)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v12_0) = v0 c
          ∧ r.2.mem ((c.tc : Thread Cert.InpIdeal.nD Cert.InpIdeal.τ).loc Cert.InpIdeal.main_v12_1) = v1 c
          ∧ r.2.mem ((c.tc : Thread Cert.InpIdeal.nD Cert.InpIdeal.τ).loc Cert.InpIdeal.main_v12_2) = v2 c
          ∧ r.2.mem ((c.tc : Thread Cert.InpIdeal.nD Cert.InpIdeal.τ).loc Cert.InpIdeal.main_v12_3) = v3 c
          ∧ r.2.mem ((c.tc : Thread Cert.InpIdeal.nD Cert.InpIdeal.τ).loc Cert.InpIdeal.main_v12_4) = v4 c
          ∧ r.2.mem ((c.tc : Thread Cert.InpIdeal.nD Cert.InpIdeal.τ).loc Cert.InpIdeal.main_v12_5) = v5 c
          ∧ r.2.mem ((c.tc : Thread Cert.InpIdeal.nD Cert.InpIdeal.τ).loc Cert.InpIdeal.main_v12_6) = v6 c
          ∧ r.2.mem ((c.tc : Thread Cert.InpIdeal.nD Cert.InpIdeal.τ).loc Cert.InpIdeal.main_v12_7) = v7 c
          ∧ r.2.mem ((c.tc : Thread Cert.InpIdeal.nD Cert.InpIdeal.τ).loc Cert.InpIdeal.main_v12_8) = v8 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v39) = v0 c
          ∧ r.2.mem ((c.tc : Thread Cert.InpRefIdeal.nD Cert.InpRefIdeal.τ).loc Cert.InpRefIdeal.main_v41) = v1 c
          ∧ r.2.mem ((c.tc : Thread Cert.InpRefIdeal.nD Cert.InpRefIdeal.τ).loc Cert.InpRefIdeal.main_v43) = v2 c
          ∧ r.2.mem ((c.tc : Thread Cert.InpRefIdeal.nD Cert.InpRefIdeal.τ).loc Cert.InpRefIdeal.main_v44) = v3 c
          ∧ r.2.mem ((c.tc : Thread Cert.InpRefIdeal.nD Cert.InpRefIdeal.τ).loc Cert.InpRefIdeal.main_v45) = v4 c
          ∧ r.2.mem ((c.tc : Thread Cert.InpRefIdeal.nD Cert.InpRefIdeal.τ).loc Cert.InpRefIdeal.main_v47) = v5 c
          ∧ r.2.mem ((c.tc : Thread Cert.InpRefIdeal.nD Cert.InpRefIdeal.τ).loc Cert.InpRefIdeal.main_v48) = v6 c
          ∧ r.2.mem ((c.tc : Thread Cert.InpRefIdeal.nD Cert.InpRefIdeal.τ).loc Cert.InpRefIdeal.main_v49) = v7 c
          ∧ r.2.mem ((c.tc : Thread Cert.InpRefIdeal.nD Cert.InpRefIdeal.τ).loc Cert.InpRefIdeal.main_v50) = v8 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_InpS_InpSIdeal : Prop :=
  True

def algebraic_InpSIdeal_InpSRefIdeal [hInpSIdeal : Cert.InpSIdeal.Facts] [hInpSRefIdeal : Cert.InpSRefIdeal.Facts] : Prop :=
  ∀ (m : (ℓ : Loc Cert.InpSIdeal.nD Cert.InpSIdeal.τ Cert.InpSIdeal.sig) → Buf (Elt Ideal) ℓ) (g : Dev Cert.InpSIdeal.nD → PrngReg)
    (m' : (ℓ : Loc Cert.InpSRefIdeal.nD Cert.InpSRefIdeal.τ Cert.InpSRefIdeal.sig) → Buf (Elt Ideal) ℓ) (g' : Dev Cert.InpSRefIdeal.nD → PrngReg), Pre_InpSIdeal m →
    (∀ c : Dev Cert.InpSIdeal.nD,
      m' ((c.tc : Thread Cert.InpSRefIdeal.nD Cert.InpSRefIdeal.τ).loc Cert.InpSRefIdeal.main_arg0) = m ((c.tc : Thread Cert.InpSIdeal.nD Cert.InpSIdeal.τ).loc Cert.InpSIdeal.main_arg0)
      ∧ m' ((c.tc : Thread Cert.InpSRefIdeal.nD Cert.InpSRefIdeal.τ).loc Cert.InpSRefIdeal.main_arg1) = m ((c.tc : Thread Cert.InpSIdeal.nD Cert.InpSIdeal.τ).loc Cert.InpSIdeal.main_arg1)
      ∧ m' ((c.tc : Thread Cert.InpSRefIdeal.nD Cert.InpSRefIdeal.τ).loc Cert.InpSRefIdeal.main_arg2) = m ((c.tc : Thread Cert.InpSIdeal.nD Cert.InpSIdeal.τ).loc Cert.InpSIdeal.main_arg2)
      ∧ m' ((c.tc : Thread Cert.InpSRefIdeal.nD Cert.InpSRefIdeal.τ).loc Cert.InpSRefIdeal.main_arg3) = m ((c.tc : Thread Cert.InpSIdeal.nD Cert.InpSIdeal.τ).loc Cert.InpSIdeal.main_arg3)
      ∧ m' ((c.tc : Thread Cert.InpSRefIdeal.nD Cert.InpSRefIdeal.τ).loc Cert.InpSRefIdeal.main_arg4) = m ((c.tc : Thread Cert.InpSIdeal.nD Cert.InpSIdeal.τ).loc Cert.InpSIdeal.main_arg4)
      ∧ m' ((c.tc : Thread Cert.InpSRefIdeal.nD Cert.InpSRefIdeal.τ).loc Cert.InpSRefIdeal.main_arg5) = m ((c.tc : Thread Cert.InpSIdeal.nD Cert.InpSIdeal.τ).loc Cert.InpSIdeal.main_arg5)
      ∧ m' ((c.tc : Thread Cert.InpSRefIdeal.nD Cert.InpSRefIdeal.τ).loc Cert.InpSRefIdeal.main_arg6) = m ((c.tc : Thread Cert.InpSIdeal.nD Cert.InpSIdeal.τ).loc Cert.InpSIdeal.main_arg6)) →
    ∃ (v0 : (c : Dev Cert.InpSIdeal.nD) → Buf (Elt Ideal) ((c.tc : Thread Cert.InpSIdeal.nD Cert.InpSIdeal.τ).loc Cert.InpSIdeal.main_v12_0)) (v1 : (c : Dev Cert.InpSIdeal.nD) → Buf (Elt Ideal) ((c.tc : Thread Cert.InpSIdeal.nD Cert.InpSIdeal.τ).loc Cert.InpSIdeal.main_v12_1)) (v2 : (c : Dev Cert.InpSIdeal.nD) → Buf (Elt Ideal) ((c.tc : Thread Cert.InpSIdeal.nD Cert.InpSIdeal.τ).loc Cert.InpSIdeal.main_v12_2)) (v3 : (c : Dev Cert.InpSIdeal.nD) → Buf (Elt Ideal) ((c.tc : Thread Cert.InpSIdeal.nD Cert.InpSIdeal.τ).loc Cert.InpSIdeal.main_v12_3)) (v4 : (c : Dev Cert.InpSIdeal.nD) → Buf (Elt Ideal) ((c.tc : Thread Cert.InpSIdeal.nD Cert.InpSIdeal.τ).loc Cert.InpSIdeal.main_v12_4)) (v5 : (c : Dev Cert.InpSIdeal.nD) → Buf (Elt Ideal) ((c.tc : Thread Cert.InpSIdeal.nD Cert.InpSIdeal.τ).loc Cert.InpSIdeal.main_v12_5)) (v6 : (c : Dev Cert.InpSIdeal.nD) → Buf (Elt Ideal) ((c.tc : Thread Cert.InpSIdeal.nD Cert.InpSIdeal.τ).loc Cert.InpSIdeal.main_v12_6)) (v7 : (c : Dev Cert.InpSIdeal.nD) → Buf (Elt Ideal) ((c.tc : Thread Cert.InpSIdeal.nD Cert.InpSIdeal.τ).loc Cert.InpSIdeal.main_v12_7)) (v8 : (c : Dev Cert.InpSIdeal.nD) → Buf (Elt Ideal) ((c.tc : Thread Cert.InpSIdeal.nD Cert.InpSIdeal.τ).loc Cert.InpSIdeal.main_v12_8)),
      θ_run (Cert.InpSIdeal.defs (F := Ideal)) (onTc (τ := Cert.InpSIdeal.τ) (Cert.InpSIdeal.main (F := Ideal))) ⟨m, fun _ => 0, g⟩ (fun r => ∀ c : Dev Cert.InpSIdeal.nD,
          r.2.mem ((c.tc : Thread Cert.InpSIdeal.nD Cert.InpSIdeal.τ).loc Cert.InpSIdeal.main_v12_0) = v0 c
          ∧ r.2.mem ((c.tc : Thread Cert.InpSIdeal.nD Cert.InpSIdeal.τ).loc Cert.InpSIdeal.main_v12_1) = v1 c
          ∧ r.2.mem ((c.tc : Thread Cert.InpSIdeal.nD Cert.InpSIdeal.τ).loc Cert.InpSIdeal.main_v12_2) = v2 c
          ∧ r.2.mem ((c.tc : Thread Cert.InpSIdeal.nD Cert.InpSIdeal.τ).loc Cert.InpSIdeal.main_v12_3) = v3 c
          ∧ r.2.mem ((c.tc : Thread Cert.InpSIdeal.nD Cert.InpSIdeal.τ).loc Cert.InpSIdeal.main_v12_4) = v4 c
          ∧ r.2.mem ((c.tc : Thread Cert.InpSIdeal.nD Cert.InpSIdeal.τ).loc Cert.InpSIdeal.main_v12_5) = v5 c
          ∧ r.2.mem ((c.tc : Thread Cert.InpSIdeal.nD Cert.InpSIdeal.τ).loc Cert.InpSIdeal.main_v12_6) = v6 c
          ∧ r.2.mem ((c.tc : Thread Cert.InpSIdeal.nD Cert.InpSIdeal.τ).loc Cert.InpSIdeal.main_v12_7) = v7 c
          ∧ r.2.mem ((c.tc : Thread Cert.InpSIdeal.nD Cert.InpSIdeal.τ).loc Cert.InpSIdeal.main_v12_8) = v8 c
          ∧ r.2.mem ((c.tc : Thread Cert.InpSIdeal.nD Cert.InpSIdeal.τ).loc Cert.InpSIdeal.main_arg0) = m ((c.tc : Thread Cert.InpSIdeal.nD Cert.InpSIdeal.τ).loc Cert.InpSIdeal.main_arg0)
          ∧ r.2.mem ((c.tc : Thread Cert.InpSIdeal.nD Cert.InpSIdeal.τ).loc Cert.InpSIdeal.main_arg1) = m ((c.tc : Thread Cert.InpSIdeal.nD Cert.InpSIdeal.τ).loc Cert.InpSIdeal.main_arg1)
          ∧ r.2.mem ((c.tc : Thread Cert.InpSIdeal.nD Cert.InpSIdeal.τ).loc Cert.InpSIdeal.main_arg2) = m ((c.tc : Thread Cert.InpSIdeal.nD Cert.InpSIdeal.τ).loc Cert.InpSIdeal.main_arg2)
          ∧ r.2.mem ((c.tc : Thread Cert.InpSIdeal.nD Cert.InpSIdeal.τ).loc Cert.InpSIdeal.main_arg3) = m ((c.tc : Thread Cert.InpSIdeal.nD Cert.InpSIdeal.τ).loc Cert.InpSIdeal.main_arg3)
          ∧ r.2.mem ((c.tc : Thread Cert.InpSIdeal.nD Cert.InpSIdeal.τ).loc Cert.InpSIdeal.main_arg4) = m ((c.tc : Thread Cert.InpSIdeal.nD Cert.InpSIdeal.τ).loc Cert.InpSIdeal.main_arg4)
          ∧ r.2.mem ((c.tc : Thread Cert.InpSIdeal.nD Cert.InpSIdeal.τ).loc Cert.InpSIdeal.main_arg5) = m ((c.tc : Thread Cert.InpSIdeal.nD Cert.InpSIdeal.τ).loc Cert.InpSIdeal.main_arg5)
          ∧ r.2.mem ((c.tc : Thread Cert.InpSIdeal.nD Cert.InpSIdeal.τ).loc Cert.InpSIdeal.main_arg6) = m ((c.tc : Thread Cert.InpSIdeal.nD Cert.InpSIdeal.τ).loc Cert.InpSIdeal.main_arg6))
      ∧ θ_run (Cert.InpSRefIdeal.defs (F := Ideal)) (onTc (τ := Cert.InpSRefIdeal.τ) (Cert.InpSRefIdeal.main (F := Ideal))) ⟨m', fun _ => 0, g'⟩ (fun r => ∀ c : Dev Cert.InpSRefIdeal.nD,
          r.2.mem ((c.tc : Thread Cert.InpSRefIdeal.nD Cert.InpSRefIdeal.τ).loc Cert.InpSRefIdeal.main_v39) = v0 c
          ∧ r.2.mem ((c.tc : Thread Cert.InpSRefIdeal.nD Cert.InpSRefIdeal.τ).loc Cert.InpSRefIdeal.main_v41) = v1 c
          ∧ r.2.mem ((c.tc : Thread Cert.InpSRefIdeal.nD Cert.InpSRefIdeal.τ).loc Cert.InpSRefIdeal.main_v43) = v2 c
          ∧ r.2.mem ((c.tc : Thread Cert.InpSRefIdeal.nD Cert.InpSRefIdeal.τ).loc Cert.InpSRefIdeal.main_v44) = v3 c
          ∧ r.2.mem ((c.tc : Thread Cert.InpSRefIdeal.nD Cert.InpSRefIdeal.τ).loc Cert.InpSRefIdeal.main_v45) = v4 c
          ∧ r.2.mem ((c.tc : Thread Cert.InpSRefIdeal.nD Cert.InpSRefIdeal.τ).loc Cert.InpSRefIdeal.main_v47) = v5 c
          ∧ r.2.mem ((c.tc : Thread Cert.InpSRefIdeal.nD Cert.InpSRefIdeal.τ).loc Cert.InpSRefIdeal.main_v48) = v6 c
          ∧ r.2.mem ((c.tc : Thread Cert.InpSRefIdeal.nD Cert.InpSRefIdeal.τ).loc Cert.InpSRefIdeal.main_v49) = v7 c
          ∧ r.2.mem ((c.tc : Thread Cert.InpSRefIdeal.nD Cert.InpSRefIdeal.τ).loc Cert.InpSRefIdeal.main_v50) = v8 c
          ∧ r.2.mem ((c.tc : Thread Cert.InpSRefIdeal.nD Cert.InpSRefIdeal.τ).loc Cert.InpSRefIdeal.main_arg0) = m' ((c.tc : Thread Cert.InpSRefIdeal.nD Cert.InpSRefIdeal.τ).loc Cert.InpSRefIdeal.main_arg0)
          ∧ r.2.mem ((c.tc : Thread Cert.InpSRefIdeal.nD Cert.InpSRefIdeal.τ).loc Cert.InpSRefIdeal.main_arg1) = m' ((c.tc : Thread Cert.InpSRefIdeal.nD Cert.InpSRefIdeal.τ).loc Cert.InpSRefIdeal.main_arg1)
          ∧ r.2.mem ((c.tc : Thread Cert.InpSRefIdeal.nD Cert.InpSRefIdeal.τ).loc Cert.InpSRefIdeal.main_arg2) = m' ((c.tc : Thread Cert.InpSRefIdeal.nD Cert.InpSRefIdeal.τ).loc Cert.InpSRefIdeal.main_arg2)
          ∧ r.2.mem ((c.tc : Thread Cert.InpSRefIdeal.nD Cert.InpSRefIdeal.τ).loc Cert.InpSRefIdeal.main_arg3) = m' ((c.tc : Thread Cert.InpSRefIdeal.nD Cert.InpSRefIdeal.τ).loc Cert.InpSRefIdeal.main_arg3)
          ∧ r.2.mem ((c.tc : Thread Cert.InpSRefIdeal.nD Cert.InpSRefIdeal.τ).loc Cert.InpSRefIdeal.main_arg4) = m' ((c.tc : Thread Cert.InpSRefIdeal.nD Cert.InpSRefIdeal.τ).loc Cert.InpSRefIdeal.main_arg4)
          ∧ r.2.mem ((c.tc : Thread Cert.InpSRefIdeal.nD Cert.InpSRefIdeal.τ).loc Cert.InpSRefIdeal.main_arg5) = m' ((c.tc : Thread Cert.InpSRefIdeal.nD Cert.InpSRefIdeal.τ).loc Cert.InpSRefIdeal.main_arg5)
          ∧ r.2.mem ((c.tc : Thread Cert.InpSRefIdeal.nD Cert.InpSRefIdeal.τ).loc Cert.InpSRefIdeal.main_arg6) = m' ((c.tc : Thread Cert.InpSRefIdeal.nD Cert.InpSRefIdeal.τ).loc Cert.InpSRefIdeal.main_arg6))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)) →
    ∃ (v0 : (c : Dev Cert.OutpIdeal.nD) → Buf (Elt Ideal) ((c.tc : Thread Cert.OutpIdeal.nD Cert.OutpIdeal.τ).loc Cert.OutpIdeal.main_v8)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v8) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v17) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4))

def preserves_OutpS_OutpSIdeal : Prop :=
  True

def algebraic_OutpSIdeal_OutpSRefIdeal [hOutpSIdeal : Cert.OutpSIdeal.Facts] [hOutpSRefIdeal : Cert.OutpSRefIdeal.Facts] : Prop :=
  ∀ (m : (ℓ : Loc Cert.OutpSIdeal.nD Cert.OutpSIdeal.τ Cert.OutpSIdeal.sig) → Buf (Elt Ideal) ℓ) (g : Dev Cert.OutpSIdeal.nD → PrngReg)
    (m' : (ℓ : Loc Cert.OutpSRefIdeal.nD Cert.OutpSRefIdeal.τ Cert.OutpSRefIdeal.sig) → Buf (Elt Ideal) ℓ) (g' : Dev Cert.OutpSRefIdeal.nD → PrngReg), Pre_OutpSIdeal m →
    (∀ c : Dev Cert.OutpSIdeal.nD,
      m' ((c.tc : Thread Cert.OutpSRefIdeal.nD Cert.OutpSRefIdeal.τ).loc Cert.OutpSRefIdeal.main_arg0) = m ((c.tc : Thread Cert.OutpSIdeal.nD Cert.OutpSIdeal.τ).loc Cert.OutpSIdeal.main_arg0)
      ∧ m' ((c.tc : Thread Cert.OutpSRefIdeal.nD Cert.OutpSRefIdeal.τ).loc Cert.OutpSRefIdeal.main_arg1) = m ((c.tc : Thread Cert.OutpSIdeal.nD Cert.OutpSIdeal.τ).loc Cert.OutpSIdeal.main_arg1)
      ∧ m' ((c.tc : Thread Cert.OutpSRefIdeal.nD Cert.OutpSRefIdeal.τ).loc Cert.OutpSRefIdeal.main_arg2) = m ((c.tc : Thread Cert.OutpSIdeal.nD Cert.OutpSIdeal.τ).loc Cert.OutpSIdeal.main_arg2)
      ∧ m' ((c.tc : Thread Cert.OutpSRefIdeal.nD Cert.OutpSRefIdeal.τ).loc Cert.OutpSRefIdeal.main_arg3) = m ((c.tc : Thread Cert.OutpSIdeal.nD Cert.OutpSIdeal.τ).loc Cert.OutpSIdeal.main_arg3)
      ∧ m' ((c.tc : Thread Cert.OutpSRefIdeal.nD Cert.OutpSRefIdeal.τ).loc Cert.OutpSRefIdeal.main_arg4) = m ((c.tc : Thread Cert.OutpSIdeal.nD Cert.OutpSIdeal.τ).loc Cert.OutpSIdeal.main_arg4)) →
    ∃ (v0 : (c : Dev Cert.OutpSIdeal.nD) → Buf (Elt Ideal) ((c.tc : Thread Cert.OutpSIdeal.nD Cert.OutpSIdeal.τ).loc Cert.OutpSIdeal.main_v8)),
      θ_run (Cert.OutpSIdeal.defs (F := Ideal)) (onTc (τ := Cert.OutpSIdeal.τ) (Cert.OutpSIdeal.main (F := Ideal))) ⟨m, fun _ => 0, g⟩ (fun r => ∀ c : Dev Cert.OutpSIdeal.nD,
          r.2.mem ((c.tc : Thread Cert.OutpSIdeal.nD Cert.OutpSIdeal.τ).loc Cert.OutpSIdeal.main_v8) = v0 c
          ∧ r.2.mem ((c.tc : Thread Cert.OutpSIdeal.nD Cert.OutpSIdeal.τ).loc Cert.OutpSIdeal.main_arg0) = m ((c.tc : Thread Cert.OutpSIdeal.nD Cert.OutpSIdeal.τ).loc Cert.OutpSIdeal.main_arg0)
          ∧ r.2.mem ((c.tc : Thread Cert.OutpSIdeal.nD Cert.OutpSIdeal.τ).loc Cert.OutpSIdeal.main_arg1) = m ((c.tc : Thread Cert.OutpSIdeal.nD Cert.OutpSIdeal.τ).loc Cert.OutpSIdeal.main_arg1)
          ∧ r.2.mem ((c.tc : Thread Cert.OutpSIdeal.nD Cert.OutpSIdeal.τ).loc Cert.OutpSIdeal.main_arg2) = m ((c.tc : Thread Cert.OutpSIdeal.nD Cert.OutpSIdeal.τ).loc Cert.OutpSIdeal.main_arg2)
          ∧ r.2.mem ((c.tc : Thread Cert.OutpSIdeal.nD Cert.OutpSIdeal.τ).loc Cert.OutpSIdeal.main_arg3) = m ((c.tc : Thread Cert.OutpSIdeal.nD Cert.OutpSIdeal.τ).loc Cert.OutpSIdeal.main_arg3)
          ∧ r.2.mem ((c.tc : Thread Cert.OutpSIdeal.nD Cert.OutpSIdeal.τ).loc Cert.OutpSIdeal.main_arg4) = m ((c.tc : Thread Cert.OutpSIdeal.nD Cert.OutpSIdeal.τ).loc Cert.OutpSIdeal.main_arg4))
      ∧ θ_run (Cert.OutpSRefIdeal.defs (F := Ideal)) (onTc (τ := Cert.OutpSRefIdeal.τ) (Cert.OutpSRefIdeal.main (F := Ideal))) ⟨m', fun _ => 0, g'⟩ (fun r => ∀ c : Dev Cert.OutpSRefIdeal.nD,
          r.2.mem ((c.tc : Thread Cert.OutpSRefIdeal.nD Cert.OutpSRefIdeal.τ).loc Cert.OutpSRefIdeal.main_v17) = v0 c
          ∧ r.2.mem ((c.tc : Thread Cert.OutpSRefIdeal.nD Cert.OutpSRefIdeal.τ).loc Cert.OutpSRefIdeal.main_arg0) = m' ((c.tc : Thread Cert.OutpSRefIdeal.nD Cert.OutpSRefIdeal.τ).loc Cert.OutpSRefIdeal.main_arg0)
          ∧ r.2.mem ((c.tc : Thread Cert.OutpSRefIdeal.nD Cert.OutpSRefIdeal.τ).loc Cert.OutpSRefIdeal.main_arg1) = m' ((c.tc : Thread Cert.OutpSRefIdeal.nD Cert.OutpSRefIdeal.τ).loc Cert.OutpSRefIdeal.main_arg1)
          ∧ r.2.mem ((c.tc : Thread Cert.OutpSRefIdeal.nD Cert.OutpSRefIdeal.τ).loc Cert.OutpSRefIdeal.main_arg2) = m' ((c.tc : Thread Cert.OutpSRefIdeal.nD Cert.OutpSRefIdeal.τ).loc Cert.OutpSRefIdeal.main_arg2)
          ∧ r.2.mem ((c.tc : Thread Cert.OutpSRefIdeal.nD Cert.OutpSRefIdeal.τ).loc Cert.OutpSRefIdeal.main_arg3) = m' ((c.tc : Thread Cert.OutpSRefIdeal.nD Cert.OutpSRefIdeal.τ).loc Cert.OutpSRefIdeal.main_arg3)
          ∧ r.2.mem ((c.tc : Thread Cert.OutpSRefIdeal.nD Cert.OutpSRefIdeal.τ).loc Cert.OutpSRefIdeal.main_arg4) = m' ((c.tc : Thread Cert.OutpSRefIdeal.nD Cert.OutpSRefIdeal.τ).loc Cert.OutpSRefIdeal.main_arg4))

def preserves_Gla_GlaIdeal : Prop :=
  True

def algebraic_GlaIdeal_GlaRefIdeal_pre_decays_below_inf [hGlaIdeal : Cert.GlaIdeal.Facts] [hGlaRefIdeal : Cert.GlaRefIdeal.Facts] [hPre_decays_below_inf : Cert.Pre_decays_below_inf.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_decays_below_inf m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v17)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v17) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v41) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def Claim : Prop :=
  ∃ (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts) (hInp : Cert.Inp.Facts) (hInpIdeal : Cert.InpIdeal.Facts) (hInpRefIdeal : Cert.InpRefIdeal.Facts) (hInpS : Cert.InpS.Facts) (hInpSIdeal : Cert.InpSIdeal.Facts) (hInpSRefIdeal : Cert.InpSRefIdeal.Facts) (hOutp : Cert.Outp.Facts) (hOutpIdeal : Cert.OutpIdeal.Facts) (hOutpRefIdeal : Cert.OutpRefIdeal.Facts) (hOutpS : Cert.OutpS.Facts) (hOutpSIdeal : Cert.OutpSIdeal.Facts) (hOutpSRefIdeal : Cert.OutpSRefIdeal.Facts) (hGla : Cert.Gla.Facts) (hGlaIdeal : Cert.GlaIdeal.Facts) (hGlaRefIdeal : Cert.GlaRefIdeal.Facts) (hPre_decays_below_inf : Cert.Pre_decays_below_inf.Facts),
    quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Inp (hInp := hInp)
    ∧ quiescent_InpIdeal (hInpIdeal := hInpIdeal)
    ∧ quiescent_InpRefIdeal (hInpRefIdeal := hInpRefIdeal)
    ∧ quiescent_InpS (hInpS := hInpS)
    ∧ quiescent_InpSIdeal (hInpSIdeal := hInpSIdeal)
    ∧ quiescent_InpSRefIdeal (hInpSRefIdeal := hInpSRefIdeal)
    ∧ quiescent_Outp (hOutp := hOutp)
    ∧ quiescent_OutpIdeal (hOutpIdeal := hOutpIdeal)
    ∧ quiescent_OutpRefIdeal (hOutpRefIdeal := hOutpRefIdeal)
    ∧ quiescent_OutpS (hOutpS := hOutpS)
    ∧ quiescent_OutpSIdeal (hOutpSIdeal := hOutpSIdeal)
    ∧ quiescent_OutpSRefIdeal (hOutpSRefIdeal := hOutpSRefIdeal)
    ∧ quiescent_Gla (hGla := hGla)
    ∧ quiescent_GlaIdeal (hGlaIdeal := hGlaIdeal)
    ∧ quiescent_GlaIdeal_pre_decays_below_inf (hGlaIdeal := hGlaIdeal) (hPre_decays_below_inf := hPre_decays_below_inf)
    ∧ quiescent_GlaRefIdeal (hGlaRefIdeal := hGlaRefIdeal)
    ∧ quiescent_GlaRefIdeal_pre_decays_below_inf (hGlaRefIdeal := hGlaRefIdeal) (hPre_decays_below_inf := hPre_decays_below_inf)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
    ∧ preserves_Inp_InpIdeal
    ∧ algebraic_InpIdeal_InpRefIdeal (hInpIdeal := hInpIdeal) (hInpRefIdeal := hInpRefIdeal)
    ∧ preserves_InpS_InpSIdeal
    ∧ algebraic_InpSIdeal_InpSRefIdeal (hInpSIdeal := hInpSIdeal) (hInpSRefIdeal := hInpSRefIdeal)
    ∧ preserves_Outp_OutpIdeal
    ∧ algebraic_OutpIdeal_OutpRefIdeal (hOutpIdeal := hOutpIdeal) (hOutpRefIdeal := hOutpRefIdeal)
    ∧ preserves_OutpS_OutpSIdeal
    ∧ algebraic_OutpSIdeal_OutpSRefIdeal (hOutpSIdeal := hOutpSIdeal) (hOutpSRefIdeal := hOutpSRefIdeal)
    ∧ preserves_Gla_GlaIdeal
    ∧ algebraic_GlaIdeal_GlaRefIdeal_pre_decays_below_inf (hGlaIdeal := hGlaIdeal) (hGlaRefIdeal := hGlaRefIdeal) (hPre_decays_below_inf := hPre_decays_below_inf)
-- ==== Pre_decays_below_inf.lean ====
abbrev S16x2048x256 : Shape := ⟨3, ![16, 2048, 256]⟩
abbrev S16x2048x512 : Shape := ⟨3, ![16, 2048, 512]⟩
abbrev S_ : Shape := ⟨0, ![]⟩

class Facts : Prop where
  bcast_S_S16x2048x256 : S_.BroadcastsInDim S16x2048x256 (![] : Fin 0 → Fin S16x2048x256.rank)

variable [Facts]

def fn {F : FTy → Type} [FloatOps F] (main_arg0 : FVec F S16x2048x256 .f32) (main_arg1 : FVec F S16x2048x256 .f32) (main_arg2 : FVec F S16x2048x512 .bf16) (main_arg3 : FVec F S16x2048x256 .f32) : IVec S16x2048x256 1 :=
  let main_cst : FVec F S_ .f32 := constant S_ .f32 0x7F800000#32
  let main_v0 : FVec F S16x2048x256 .f32 := broadcastInDim S16x2048x256 ![] bcast_S_S16x2048x256 main_cst
  let main_v1 : IVec S16x2048x256 1 := cmpf .olt main_arg3 main_v0
  main_v1
-- ==== Ffn.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S1x2816 : Shape := ⟨2, ![1, 2816]⟩
abbrev S1024x1024 : Shape := ⟨2, ![1024, 1024]⟩
abbrev S8x1024 : Shape := ⟨2, ![8, 1024]⟩
abbrev S1024x2816 : Shape := ⟨2, ![1024, 2816]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S16x256 : Shape := ⟨2, ![16, 256]⟩
abbrev S1x256 : Shape := ⟨2, ![1, 256]⟩
abbrev S3x256 : Shape := ⟨2, ![3, 256]⟩

abbrev nBuf : Space → Nat
  | .hbm => 14
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S1x2816, .f32⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16x2048x1024 : Shape := ⟨3, ![16, 2048, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S16x2050x2816 : Shape := ⟨3, ![16, 2050, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x5632, .f32⟩
  | .hbm, ⟨24, _⟩ => ⟨S16x2048x2816, .f32⟩
  | .hbm, ⟨25, _⟩ => ⟨S16x2048x2816, .f32⟩
  | .hbm, ⟨26, _⟩ => ⟨S_, .i32⟩
  | .hbm, ⟨27, _⟩ => ⟨S_, .f32⟩
  | .hbm, ⟨28, _⟩ => ⟨S16x2050x2816, .f32⟩
  | .hbm, ⟨29, _⟩ => ⟨S16x2048x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S16x2048x2816, .f32⟩
  | .hbm, ⟨34, _⟩ => ⟨S16x2048x2816, .f32⟩
  | .hbm, ⟨35, _⟩ => ⟨S1x1x2816, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S_, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S16x2048x2816, .f32⟩
  | .hbm, ⟨62, _⟩ => ⟨S_, .f32⟩
  | .hbm, ⟨63, _⟩ => ⟨S16x2048x2816, .f32⟩
  | .hbm, ⟨64, _⟩ => ⟨S16x2048x2816, .f32⟩
  | .hbm, ⟨65, _⟩ => ⟨S_, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S16x2048x2816, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== FfnS.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S1x1024 : Shape := ⟨2, ![1, 1024]⟩
abbrev S1x2816 : Shape := ⟨2, ![1, 2816]⟩
abbrev S1024x1024 : Shape := ⟨2, ![1024, 1024]⟩
abbrev S8x1024 : Shape := ⟨2, ![8, 1024]⟩
abbrev S1024x2816 : Shape := ⟨2, ![1024, 2816]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S16x256 : Shape := ⟨2, ![16, 256]⟩
abbrev S1x256 : Shape := ⟨2, ![1, 256]⟩
abbrev S3x256 : Shape := ⟨2, ![3, 256]⟩

abbrev nBuf : Space → Nat
  | .hbm => 14
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S1x1024, .f32⟩
  | .hbm, ⟨9, _⟩ => ⟨S1024x5632, .bf16⟩
  | .hbm, ⟨10, _⟩ => ⟨S1x2816, .f32⟩
  | .hbm, ⟨11, _⟩ => ⟨S2816x1024, .bf16⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnSRefIdeal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .i32⟩
  | .hbm, ⟨27, _⟩ => ⟨S_, .f32⟩
  | .hbm, ⟨28, _⟩ => ⟨S4x4098x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S1x1x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S_, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S4x4096x2816, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x1024, .f32⟩
  | .hbm, ⟨83, _⟩ => ⟨S4x4096x1024, .f32⟩
  | .hbm, ⟨84, _⟩ => ⟨S1x1x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Inp.lean ====
abbrev S16x2048x1024 : Shape := ⟨3, ![16, 2048, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S512 : Shape := ⟨1, ![512]⟩
abbrev S1x512 : Shape := ⟨2, ![1, 512]⟩
abbrev S32768x1024 : Shape := ⟨2, ![32768, 1024]⟩
abbrev S1x1024 : Shape := ⟨2, ![1, 1024]⟩
abbrev S1024x3072 : Shape := ⟨2, ![1024, 3072]⟩
abbrev S32768x512 : Shape := ⟨2, ![32768, 512]⟩
abbrev S32768x256 : Shape := ⟨2, ![32768, 256]⟩
abbrev S1024x1024 : Shape := ⟨2, ![1024, 1024]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 32
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S16x256, .f32⟩
  | .hbm, ⟨6, _⟩ => ⟨S256, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16x512, .f32⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S512, .f32⟩
  | .hbm, ⟨17, _⟩ => ⟨S1x512, .f32⟩
  | .hbm, ⟨18, _⟩ => ⟨S32768x1024, .f32⟩
  | .hbm, ⟨19, _⟩ => ⟨S1x1024, .f32⟩
  | .hbm, ⟨20, _⟩ => ⟨S1024x3072, .f32⟩
  | .hbm, ⟨21, _⟩ => ⟨S1024x3072, .bf16⟩
  | .hbm, ⟨22, _⟩ => ⟨S128x512, .bf16⟩
  | .hbm, ⟨23, _⟩ => ⟨S32768x512, .bf16⟩
  | .hbm, ⟨24, _⟩ => ⟨S32768x512, .bf16⟩
  | .hbm, ⟨25, _⟩ => ⟨S32768x512, .bf16⟩
  | .hbm, ⟨26, _⟩ => ⟨S32768x256, .f32⟩
  | .hbm, ⟨27, _⟩ => ⟨S32768x256, .f32⟩
  | .hbm, ⟨28, _⟩ => ⟨S32768x512, .bf16⟩
  | .hbm, ⟨29, _⟩ => ⟨S32768x512, .f32⟩
  | .hbm, ⟨30, _⟩ => ⟨S32768x256, .f32⟩
  | .hbm, ⟨31, _⟩ => ⟨S32768x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v12_7 : Ref sig .tc := ⟨.hbm, 30, rfl⟩
abbrev main_v12_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InpRefIdeal.lean ====
abbrev S16x2048x1024 : Shape := ⟨3, ![16, 2048, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3088 : Shape := ⟨3, ![16, 2048, 3088]⟩
abbrev S16x2048x512 : Shape := ⟨3, ![16, 2048, 512]⟩
abbrev S16x2048x256 : Shape := ⟨3, ![16, 2048, 256]⟩
abbrev S16x2048x16 : Shape := ⟨3, ![16, 2048, 16]⟩
abbrev S1x1x256 : Shape := ⟨3, ![1, 1, 256]⟩
abbrev S32768x512 : Shape := ⟨2, ![32768, 512]⟩
abbrev S32768x256 : Shape := ⟨2, ![32768, 256]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S16x256, .f32⟩
  | .hbm, ⟨6, _⟩ => ⟨S256, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x3088, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x256, .f32⟩
  | .hbm, ⟨28, _⟩ => ⟨S16x2048x256, .f32⟩
  | .hbm, ⟨29, _⟩ => ⟨S16x2048x512, .f32⟩
  | .hbm, ⟨30, _⟩ => ⟨S16x2048x512, .f32⟩
  | .hbm, ⟨31, _⟩ => ⟨S16x2048x16, .f32⟩
  | .hbm, ⟨32, _⟩ => ⟨S16x2048x256, .f32⟩
  | .hbm, ⟨33, _⟩ => ⟨S1x1x256, .f32⟩
  | .hbm, ⟨34, _⟩ => ⟨S16x2048x256, .f32⟩
  | .hbm, ⟨35, _⟩ => ⟨S16x2048x256, .f32⟩
  | .hbm, ⟨36, _⟩ => ⟨S16x2048x256, .f32⟩
  | .hbm, ⟨37, _⟩ => ⟨S_, .f32⟩
  | .hbm, ⟨38, _⟩ => ⟨S16x2048x256, .f32⟩
  | .hbm, ⟨39, _⟩ => ⟨S16x2048x256, .f32⟩
  | .hbm, ⟨40, _⟩ => ⟨S16x2048x256, .f32⟩
  | .hbm, ⟨41, _⟩ => ⟨S16x2048x256, .f32⟩
  | .hbm, ⟨42, _⟩ => ⟨S16x2048x256, .i1⟩
  | .hbm, ⟨43, _⟩ => ⟨S16x2048x256, .f32⟩
  | .hbm, ⟨44, _⟩ => ⟨S16x2048x256, .f32⟩
  | .hbm, ⟨45, _⟩ => ⟨S16x2048x256, .f32⟩
  | .hbm, ⟨46, _⟩ => ⟨S16x2048x256, .f32⟩
  | .hbm, ⟨47, _⟩ => ⟨S16x2048x256, .f32⟩
  | .hbm, ⟨48, _⟩ => ⟨S16x2048x256, .f32⟩
  | .hbm, ⟨49, _⟩ => ⟨S16x2048x256, .f32⟩
  | .hbm, ⟨50, _⟩ => ⟨S16x2048x256, .f32⟩
  | .hbm, ⟨51, _⟩ => ⟨S16x2048x256, .f32⟩
  | .hbm, ⟨52, _⟩ => ⟨S_, .f32⟩
  | .hbm, ⟨53, _⟩ => ⟨S16x2048x256, .f32⟩
  | .hbm, ⟨54, _⟩ => ⟨S16x2048x256, .f32⟩
  | .hbm, ⟨55, _⟩ => ⟨S16x2048x256, .f32⟩
  | .hbm, ⟨56, _⟩ => ⟨S1x1x256, .f32⟩
  | .hbm, ⟨57, _⟩ => ⟨S16x2048x256, .f32⟩
  | .hbm, ⟨58, _⟩ => ⟨S16x2048x256, .f32⟩
  | .hbm, ⟨59, _⟩ => ⟨S16x2048x256, .f32⟩
  | .hbm, ⟨60, _⟩ => ⟨S_, .f32⟩
  | .hbm, ⟨61, _⟩ => ⟨S16x2048x256, .f32⟩
  | .hbm, ⟨62, _⟩ => ⟨S16x2048x256, .f32⟩
  | .hbm, ⟨63, _⟩ => ⟨S16x2048x256, .f32⟩
  | .hbm, ⟨64, _⟩ => ⟨S16x2048x256, .f32⟩
  | .hbm, ⟨65, _⟩ => ⟨S16x2048x256, .i1⟩
  | .hbm, ⟨66, _⟩ => ⟨S16x2048x256, .f32⟩
  | .hbm, ⟨67, _⟩ => ⟨S16x2048x256, .f32⟩
  | .hbm, ⟨68, _⟩ => ⟨S16x2048x256, .f32⟩
  | .hbm, ⟨69, _⟩ => ⟨S16x2048x256, .f32⟩
  | .hbm, ⟨70, _⟩ => ⟨S16x2048x256, .f32⟩
  | .hbm, ⟨71, _⟩ => ⟨S16x2048x256, .f32⟩
  | .hbm, ⟨72, _⟩ => ⟨S16x2048x256, .f32⟩
  | .hbm, ⟨73, _⟩ => ⟨S16x2048x256, .f32⟩
  | .hbm, ⟨74, _⟩ => ⟨S16x2048x256, .f32⟩
  | .hbm, ⟨75, _⟩ => ⟨S_, .f32⟩
  | .hbm, ⟨76, _⟩ => ⟨S16x2048x256, .f32⟩
  | .hbm, ⟨77, _⟩ => ⟨S16x2048x256, .f32⟩
  | .hbm, ⟨78, _⟩ => ⟨S_, .f32⟩
  | .hbm, ⟨79, _⟩ => ⟨S16x2048x512, .f32⟩
  | .hbm, ⟨80, _⟩ => ⟨S16x2048x512, .f32⟩
  | .hbm, ⟨81, _⟩ => ⟨S32768x512, .f32⟩
  | .hbm, ⟨82, _⟩ => ⟨S32768x512, .bf16⟩
  | .hbm, ⟨83, _⟩ => ⟨S32768x512, .f32⟩
  | .hbm, ⟨84, _⟩ => ⟨S32768x512, .bf16⟩
  | .hbm, ⟨85, _⟩ => ⟨S32768x512, .f32⟩
  | .hbm, ⟨86, _⟩ => ⟨S32768x512, .bf16⟩
  | .hbm, ⟨87, _⟩ => ⟨S32768x256, .f32⟩
  | .hbm, ⟨88, _⟩ => ⟨S32768x256, .f32⟩
  | .hbm, ⟨89, _⟩ => ⟨S32768x512, .f32⟩
  | .hbm, ⟨90, _⟩ => ⟨S32768x512, .bf16⟩
  | .hbm, ⟨91, _⟩ => ⟨S32768x512, .f32⟩
  | .hbm, ⟨92, _⟩ => ⟨S32768x256, .f32⟩
  | .hbm, ⟨93, _⟩ => ⟨S32768x256, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_v0 : Ref sig .tc := ⟨.hbm, 59, rfl⟩
abbrev main_call1_call0_cst : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_v8 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_v11 : Ref sig .tc := ⟨.hbm, 72, rfl⟩
abbrev main_call1_v1 : Ref sig .tc := ⟨.hbm, 73, rfl⟩
abbrev main_v33 : Ref sig .tc := ⟨.hbm, 74, rfl⟩
abbrev main_cst_3 : Ref sig .tc := ⟨.hbm, 75, rfl⟩
abbrev main_v34 : Ref sig .tc := ⟨.hbm, 76, rfl⟩
abbrev main_v35 : Ref sig .tc := ⟨.hbm, 77, rfl⟩
abbrev main_cst_4 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩

abbrev nD : Nat := 1
abbrev τ : Topo := Topo.v7x

variable {F : FTy → Type} [FloatOps F]
-- ==== InpS.lean ====
abbrev S4x4096x1024 : Shape := ⟨3, ![4, 4096, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x16 : Shape := ⟨2, ![1024, 16]⟩
abbrev S_ : Shape := ⟨0, ![]⟩
abbrev S1024x128 : Shape := ⟨2, ![1024, 128]⟩
abbrev S16x512 : Shape := ⟨2, ![16, 512]⟩
abbrev S128x512 : Shape := ⟨2, ![128, 512]⟩
abbrev S512 : Shape := ⟨1, ![512]⟩
abbrev S1x512 : Shape := ⟨2, ![1, 512]⟩
abbrev S16384x1024 : Shape := ⟨2, ![16384, 1024]⟩
abbrev S1x1024 : Shape := ⟨2, ![1, 1024]⟩
abbrev S1024x3072 : Shape := ⟨2, ![1024, 3072]⟩
abbrev S16384x512 : Shape := ⟨2, ![16384, 512]⟩
abbrev S16384x256 : Shape := ⟨2, ![16384, 256]⟩
abbrev S1024x1024 : Shape := ⟨2, ![1024, 1024]⟩
abbrev S1024x512 : Shape := ⟨2, ![1024, 512]⟩
abbrev S1024x256 : Shape := ⟨2, ![1024, 256]⟩
abbrev S1024x1 : Shape := ⟨2, ![1024, 1]⟩

abbrev nBuf : Space → Nat
  | .hbm => 32
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S16x256, .f32⟩
  | .hbm, ⟨6, _⟩ => ⟨S256, .f32⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S16x512, .f32⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S512, .f32⟩
  | .hbm, ⟨17, _⟩ => ⟨S1x512, .f32⟩
  | .hbm, ⟨18, _⟩ => ⟨S16384x1024, .f32⟩
  | .hbm, ⟨19, _⟩ => ⟨S1x1024, .f32⟩
  | .hbm, ⟨20, _⟩ => ⟨S1024x3072, .f32⟩
  | .hbm, ⟨21, _⟩ => ⟨S1024x3072, .bf16⟩
  | .hbm, ⟨22, _⟩ => ⟨S128x512, .bf16⟩
  | .hbm, ⟨23, _⟩ => ⟨S16384x512, .bf16⟩
  | .hbm, ⟨24, _⟩ => ⟨S16384x512, .bf16⟩
  | .hbm, ⟨25, _⟩ => ⟨S16384x512, .bf16⟩
  | .hbm, ⟨26, _⟩ => ⟨S16384x256, .f32⟩
  | .hbm, ⟨27, _⟩ => ⟨S16384x256, .f32⟩
  | .hbm, ⟨28, _⟩ => ⟨S16384x512, .bf16⟩
  | .hbm, ⟨29, _⟩ => ⟨S16384x512, .f32⟩
  | .hbm, ⟨30, _⟩ => ⟨S16384x256, .f32⟩
  | .hbm, ⟨31, _⟩ => ⟨S16384x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev main_v12_6 : Ref sig .tc := ⟨.hbm, 29, rfl⟩
abbrev main_v12_7 : Ref sig .tc := ⟨.hbm, 30, rfl⟩
abbrev main_v12_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InpSRefIdeal.lean ====
abbrev S4x4096x1024 : Shape := ⟨3, ![4, 4096, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S4x4096x512 : Shape := ⟨3, ![4, 4096, 512]⟩
abbrev S4x4096x256 : Shape := ⟨3, ![4, 4096, 256]⟩
abbrev S4x4096x16 : Shape := ⟨3, ![4, 4096, 16]⟩
abbrev S1x1x256 : Shape := ⟨3, ![1, 1, 256]⟩
abbrev S16384x512 : Shape := ⟨2, ![16384, 512]⟩
abbrev S16384x256 : Shape := ⟨2, ![16384, 256]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S16x256, .f32⟩
  | .hbm, ⟨6, _⟩ => ⟨S256, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x3088, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x256, .f32⟩
  | .hbm, ⟨28, _⟩ => ⟨S4x4096x256, .f32⟩
  | .hbm, ⟨29, _⟩ => ⟨S4x4096x512, .f32⟩
  | .hbm, ⟨30, _⟩ => ⟨S4x4096x512, .f32⟩
  | .hbm, ⟨31, _⟩ => ⟨S4x4096x16, .f32⟩
  | .hbm, ⟨32, _⟩ => ⟨S4x4096x256, .f32⟩
  | .hbm, ⟨33, _⟩ => ⟨S1x1x256, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S_, .f32⟩
  | .hbm, ⟨38, _⟩ => ⟨S4x4096x256, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S4x4096x256, .i1⟩
  | .hbm, ⟨43, _⟩ => ⟨S4x4096x256, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S4x4096x256, .f32⟩
  | .hbm, ⟨48, _⟩ => ⟨S4x4096x256, .f32⟩
  | .hbm, ⟨49, _⟩ => ⟨S4x4096x256, .f32⟩
  | .hbm, ⟨50, _⟩ => ⟨S4x4096x256, .f32⟩
  | .hbm, ⟨51, _⟩ => ⟨S4x4096x256, .f32⟩
  | .hbm, ⟨52, _⟩ => ⟨S_, .f32⟩
  | .hbm, ⟨53, _⟩ => ⟨S4x4096x256, .f32⟩
  | .hbm, ⟨54, _⟩ => ⟨S4x4096x256, .f32⟩
  | .hbm, ⟨55, _⟩ => ⟨S4x4096x256, .f32⟩
  | .hbm, ⟨56, _⟩ => ⟨S1x1x256, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S4x4096x256, .i1⟩
  | .hbm, ⟨66, _⟩ => ⟨S4x4096x256, .f32⟩
  | .hbm, ⟨67, _⟩ => ⟨S4x4096x256, .f32⟩
  | .hbm, ⟨68, _⟩ => ⟨S4x4096x256, .f32⟩
  | .hbm, ⟨69, _⟩ => ⟨S4x4096x256, .f32⟩
  | .hbm, ⟨70, _⟩ => ⟨S4x4096x256, .f32⟩
  | .hbm, ⟨71, _⟩ => ⟨S4x4096x256, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096x512, .f32⟩
  | .hbm, ⟨80, _⟩ => ⟨S4x4096x512, .f32⟩
  | .hbm, ⟨81, _⟩ => ⟨S16384x512, .f32⟩
  | .hbm, ⟨82, _⟩ => ⟨S16384x512, .bf16⟩
  | .hbm, ⟨83, _⟩ => ⟨S16384x512, .f32⟩
  | .hbm, ⟨84, _⟩ => ⟨S16384x512, .bf16⟩
  | .hbm, ⟨85, _⟩ => ⟨S16384x512, .f32⟩
  | .hbm, ⟨86, _⟩ => ⟨S16384x512, .bf16⟩
  | .hbm, ⟨87, _⟩ => ⟨S16384x256, .f32⟩
  | .hbm, ⟨88, _⟩ => ⟨S16384x256, .f32⟩
  | .hbm, ⟨89, _⟩ => ⟨S16384x512, .f32⟩
  | .hbm, ⟨90, _⟩ => ⟨S16384x512, .bf16⟩
  | .hbm, ⟨91, _⟩ => ⟨S16384x512, .f32⟩
  | .hbm, ⟨92, _⟩ => ⟨S16384x256, .f32⟩
  | .hbm, ⟨93, _⟩ => ⟨S16384x256, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_v0 : Ref sig .tc := ⟨.hbm, 59, rfl⟩
abbrev main_call1_call0_cst : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_v8 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_v11 : Ref sig .tc := ⟨.hbm, 72, rfl⟩
abbrev main_call1_v1 : Ref sig .tc := ⟨.hbm, 73, rfl⟩
abbrev main_v33 : Ref sig .tc := ⟨.hbm, 74, rfl⟩
abbrev main_cst_3 : Ref sig .tc := ⟨.hbm, 75, rfl⟩
abbrev main_v34 : Ref sig .tc := ⟨.hbm, 76, rfl⟩
abbrev main_v35 : Ref sig .tc := ⟨.hbm, 77, rfl⟩
abbrev main_cst_4 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩

abbrev nD : Nat := 1
abbrev τ : Topo := Topo.v7x

variable {F : FTy → Type} [FloatOps F]
-- ==== Outp.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S32768x1024, .f32⟩
  | .hbm, ⟨6, _⟩ => ⟨S32768x512, .f32⟩
  | .hbm, ⟨7, _⟩ => ⟨S32768x512, .bf16⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutpRefIdeal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .bf16⟩
  | .hbm, ⟨3, _⟩ => ⟨S1024x1024, .f32⟩
  | .hbm, ⟨4, _⟩ => ⟨S1024, .f32⟩
  | .hbm, ⟨5, _⟩ => ⟨S16x2048x512, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== OutpS.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .bf16⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x512, .f32⟩
  | .hbm, ⟨7, _⟩ => ⟨S16384x512, .bf16⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutpSRefIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .bf16⟩
  | .hbm, ⟨3, _⟩ => ⟨S1024x1024, .f32⟩
  | .hbm, ⟨4, _⟩ => ⟨S1024, .f32⟩
  | .hbm, ⟨5, _⟩ => ⟨S4x4096x512, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Gla.lean ====
abbrev S16x2048x256 : Shape := ⟨3, ![16, 2048, 256]⟩
abbrev S16x2048x512 : Shape := ⟨3, ![16, 2048, 512]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S256x512 : Shape := ⟨2, ![256, 512]⟩
abbrev S1x2048x256 : Shape := ⟨3, ![1, 2048, 256]⟩
abbrev S1x2048x512 : Shape := ⟨3, ![1, 2048, 512]⟩
abbrev S256x128 : Shape := ⟨2, ![256, 128]⟩
abbrev S1x256x256 : Shape := ⟨3, ![1, 256, 256]⟩
abbrev S1x256x512 : Shape := ⟨3, ![1, 256, 512]⟩
abbrev S1x128 : Shape := ⟨2, ![1, 128]⟩
abbrev S128x256 : Shape := ⟨2, ![128, 256]⟩
abbrev S128x128 : Shape := ⟨2, ![128, 128]⟩
abbrev S64x128 : Shape := ⟨2, ![64, 128]⟩
abbrev S32x128 : Shape := ⟨2, ![32, 128]⟩
abbrev S256x1024 : Shape := ⟨2, ![256, 1024]⟩
abbrev S64x256 : Shape := ⟨2, ![64, 256]⟩
abbrev S64x1024 : Shape := ⟨2, ![64, 1024]⟩
abbrev S32x256 : Shape := ⟨2, ![32, 256]⟩

abbrev nBuf : Space → Nat
  | .hbm => 56
  | .vmem => 12
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x512, .bf16⟩
  | .hbm, ⟨3, _⟩ => ⟨S16x2048x256, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S1x256, .i32⟩
  | .hbm, ⟨47, _⟩ => ⟨S256x1, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S256x256, .i1⟩
  | .hbm, ⟨52, _⟩ => ⟨S256x256, .i1⟩
  | .hbm, ⟨53, _⟩ => ⟨S256x512, .i1⟩
  | .hbm, ⟨54, _⟩ => ⟨S256x512, .bf16⟩
  | .hbm, ⟨55, _⟩ => ⟨S16x2048x512, .f32⟩
  | .local _ .vmem, ⟨0, _⟩ => ⟨S256x512, .bf16⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x256, .f32⟩
  | .local _ .vmem, ⟨8, _⟩ => ⟨S1x2048x256, .f32⟩
  | .local _ .vmem, ⟨9, _⟩ => ⟨S1x2048x512, .f32⟩
  | .local _ .vmem, ⟨10, _⟩ => ⟨S1x2048x512, .f32⟩
  | .local _ .vmem, ⟨11, _⟩ => ⟨S256x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaRefIdeal.lean ====
abbrev S16x2048x256 : Shape := ⟨3, ![16, 2048, 256]⟩
abbrev S16x2048x512 : Shape := ⟨3, ![16, 2048, 512]⟩
abbrev S16x2048x8x32 : Shape := ⟨4, ![16, 2048, 8, 32]⟩
abbrev S_ : Shape := ⟨0, ![]⟩
abbrev S16x2048x8x64 : Shape := ⟨4, ![16, 2048, 8, 64]⟩
abbrev S16x64x32x8x32 : Shape := ⟨5, ![16, 64, 32, 8, 32]⟩
abbrev S16x64x32x8x64 : Shape := ⟨5, ![16, 64, 32, 8, 64]⟩
abbrev S16x64x1x8x32 : Shape := ⟨5, ![16, 64, 1, 8, 32]⟩
abbrev S16x64x8x32 : Shape := ⟨4, ![16, 64, 8, 32]⟩
abbrev S32x32 : Shape := ⟨2, ![32, 32]⟩
abbrev S16x64x8x32x32 : Shape := ⟨5, ![16, 64, 8, 32, 32]⟩
abbrev S16x64x8x64x32 : Shape := ⟨5, ![16, 64, 8, 64, 32]⟩
abbrev S16x64x8x32x64 : Shape := ⟨5, ![16, 64, 8, 32, 64]⟩
abbrev S16x8x32x64 : Shape := ⟨4, ![16, 8, 32, 64]⟩
abbrev S64x16x8x32 : Shape := ⟨4, ![64, 16, 8, 32]⟩
abbrev S64x16x8x32x64 : Shape := ⟨5, ![64, 16, 8, 32, 64]⟩
abbrev S64x16x32x8x32 : Shape := ⟨5, ![64, 16, 32, 8, 32]⟩
abbrev S64x16x32x8x64 : Shape := ⟨5, ![64, 16, 32, 8, 64]⟩
abbrev S1x16x8x32 : Shape := ⟨4, ![1, 16, 8, 32]⟩
abbrev S16x8x32 : Shape := ⟨3, ![16, 8, 32]⟩
abbrev S1x16x8x32x64 : Shape := ⟨5, ![1, 16, 8, 32, 64]⟩
abbrev S1x16x32x8x32 : Shape := ⟨5, ![1, 16, 32, 8, 32]⟩
abbrev S16x32x8x32 : Shape := ⟨4, ![16, 32, 8, 32]⟩
abbrev S1x16x32x8x64 : Shape := ⟨5, ![1, 16, 32, 8, 64]⟩
abbrev S16x32x8x64 : Shape := ⟨4, ![16, 32, 8, 64]⟩
abbrev S16x8x32x1 : Shape := ⟨4, ![16, 8, 32, 1]⟩
abbrev S16x8x64x32 : Shape := ⟨4, ![16, 8, 64, 32]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x512, .bf16⟩
  | .hbm, ⟨3, _⟩ => ⟨S16x2048x256, .f32⟩
  | .hbm, ⟨4, _⟩ => ⟨S16x2048x8x32, .f32⟩
  | .hbm, ⟨5, _⟩ => ⟨S_, .f32⟩
  | .hbm, ⟨6, _⟩ => ⟨S16x2048x8x32, .f32⟩
  | .hbm, ⟨7, _⟩ => ⟨S16x2048x8x32, .f32⟩
  | .hbm, ⟨8, _⟩ => ⟨S16x2048x8x32, .f32⟩
  | .hbm, ⟨9, _⟩ => ⟨S16x2048x512, .f32⟩
  | .hbm, ⟨10, _⟩ => ⟨S16x2048x8x64, .f32⟩
  | .hbm, ⟨11, _⟩ => ⟨S16x2048x8x32, .f32⟩
  | .hbm, ⟨12, _⟩ => ⟨S16x64x32x8x32, .f32⟩
  | .hbm, ⟨13, _⟩ => ⟨S16x64x32x8x32, .f32⟩
  | .hbm, ⟨14, _⟩ => ⟨S16x64x32x8x64, .f32⟩
  | .hbm, ⟨15, _⟩ => ⟨S16x64x32x8x32, .f32⟩
  | .hbm, ⟨16, _⟩ => ⟨S_, .f32⟩
  | .hbm, ⟨17, _⟩ => ⟨S_, .f32⟩
  | .hbm, ⟨18, _⟩ => ⟨S16x64x32x8x32, .f32⟩
  | .hbm, ⟨19, _⟩ => ⟨S16x64x1x8x32, .f32⟩
  | .hbm, ⟨20, _⟩ => ⟨S16x64x8x32, .f32⟩
  | .hbm, ⟨21, _⟩ => ⟨S16x64x32x8x32, .f32⟩
  | .hbm, ⟨22, _⟩ => ⟨S16x64x32x8x32, .f32⟩
  | .hbm, ⟨23, _⟩ => ⟨S16x64x32x8x32, .f32⟩
  | .hbm, ⟨24, _⟩ => ⟨S16x64x32x8x32, .f32⟩
  | .hbm, ⟨25, _⟩ => ⟨S16x64x32x8x32, .f32⟩
  | .hbm, ⟨26, _⟩ => ⟨S16x64x1x8x32, .f32⟩
  | .hbm, ⟨27, _⟩ => ⟨S16x64x32x8x32, .f32⟩
  | .hbm, ⟨28, _⟩ => ⟨S16x64x32x8x32, .f32⟩
  | .hbm, ⟨29, _⟩ => ⟨S16x64x32x8x32, .f32⟩
  | .hbm, ⟨30, _⟩ => ⟨S16x64x32x8x32, .f32⟩
  | .hbm, ⟨31, _⟩ => ⟨S_, .i1⟩
  | .hbm, ⟨32, _⟩ => ⟨S32x32, .i1⟩
  | .hbm, ⟨33, _⟩ => ⟨S32x32, .i32⟩
  | .hbm, ⟨34, _⟩ => ⟨S_, .i32⟩
  | .hbm, ⟨35, _⟩ => ⟨S32x32, .i32⟩
  | .hbm, ⟨36, _⟩ => ⟨S32x32, .i32⟩
  | .hbm, ⟨37, _⟩ => ⟨S32x32, .i32⟩
  | .hbm, ⟨38, _⟩ => ⟨S32x32, .i1⟩
  | .hbm, ⟨39, _⟩ => ⟨S_, .i1⟩
  | .hbm, ⟨40, _⟩ => ⟨S32x32, .i1⟩
  | .hbm, ⟨41, _⟩ => ⟨S32x32, .i1⟩
  | .hbm, ⟨42, _⟩ => ⟨S16x64x8x32x32, .f32⟩
  | .hbm, ⟨43, _⟩ => ⟨S_, .f32⟩
  | .hbm, ⟨44, _⟩ => ⟨S_, .f32⟩
  | .hbm, ⟨45, _⟩ => ⟨S16x64x8x32x32, .i1⟩
  | .hbm, ⟨46, _⟩ => ⟨S16x64x8x32x32, .f32⟩
  | .hbm, ⟨47, _⟩ => ⟨S16x64x8x32x32, .f32⟩
  | .hbm, ⟨48, _⟩ => ⟨S16x64x8x64x32, .f32⟩
  | .hbm, ⟨49, _⟩ => ⟨S16x64x32x8x64, .f32⟩
  | .hbm, ⟨50, _⟩ => ⟨S16x64x8x32x64, .f32⟩
  | .hbm, ⟨51, _⟩ => ⟨S_, .f32⟩
  | .hbm, ⟨52, _⟩ => ⟨S16x8x32x64, .f32⟩
  | .hbm, ⟨53, _⟩ => ⟨S16x64x8x32, .f32⟩
  | .hbm, ⟨54, _⟩ => ⟨S64x16x8x32, .f32⟩
  | .hbm, ⟨55, _⟩ => ⟨S64x16x8x32x64, .f32⟩
  | .hbm, ⟨56, _⟩ => ⟨S64x16x32x8x32, .f32⟩
  | .hbm, ⟨57, _⟩ => ⟨S64x16x32x8x64, .f32⟩
  | .hbm, ⟨58, _⟩ => ⟨S_, .f32⟩
  | .hbm, ⟨59, _⟩ => ⟨S64x16x32x8x64, .f32⟩
  | .hbm, ⟨60, _⟩ => ⟨S_, .i32⟩
  | .hbm, ⟨61, _⟩ => ⟨S64x16x8x32, .f32⟩
  | .hbm, ⟨62, _⟩ => ⟨S64x16x8x32x64, .f32⟩
  | .hbm, ⟨63, _⟩ => ⟨S64x16x32x8x32, .f32⟩
  | .hbm, ⟨64, _⟩ => ⟨S64x16x32x8x64, .f32⟩
  | .hbm, ⟨65, _⟩ => ⟨S_, .i32⟩
  | .hbm, ⟨66, _⟩ => ⟨S16x8x32x64, .f32⟩
  | .hbm, ⟨67, _⟩ => ⟨S64x16x32x8x64, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x16x8x32, .f32⟩
  | .hbm, ⟨74, _⟩ => ⟨S16x8x32, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x16x8x32x64, .f32⟩
  | .hbm, ⟨80, _⟩ => ⟨S16x8x32x64, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S1x16x32x8x32, .f32⟩
  | .hbm, ⟨86, _⟩ => ⟨S16x32x8x32, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S1x16x32x8x64, .f32⟩
  | .hbm, ⟨92, _⟩ => ⟨S16x32x8x64, .f32⟩
  | .hbm, ⟨93, _⟩ => ⟨S16x8x32x1, .f32⟩
  | .hbm, ⟨94, _⟩ => ⟨S16x8x32x64, .f32⟩
  | .hbm, ⟨95, _⟩ => ⟨S16x8x32x64, .f32⟩
  | .hbm, ⟨96, _⟩ => ⟨S16x8x32x64, .f32⟩
  | .hbm, ⟨97, _⟩ => ⟨S16x8x64x32, .f32⟩
  | .hbm, ⟨98, _⟩ => ⟨S16x32x8x64, .f32⟩
  | .hbm, ⟨99, _⟩ => ⟨S16x32x8x64, .f32⟩
  | .hbm, ⟨100, _⟩ => ⟨S1x16x32x8x64, .f32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S64x16x32x8x64, .f32⟩
  | .hbm, ⟨106, _⟩ => ⟨S_, .i32⟩
  | .hbm, ⟨107, _⟩ => ⟨S_, .i32⟩
  | .hbm, ⟨108, _⟩ => ⟨S16x64x32x8x64, .f32⟩
  | .hbm, ⟨109, _⟩ => ⟨S16x2048x8x64, .f32⟩
  | .hbm, ⟨110, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_0 : Ref sig .tc := ⟨.hbm, 39, rfl⟩
abbrev main_call1_v5 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_c_3 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v38_4 : Ref sig .tc := ⟨.hbm, 65, rfl⟩
abbrev main_v38_5 : Ref sig .tc := ⟨.hbm, 66, rfl⟩
abbrev main_v38_6 : Ref sig .tc := ⟨.hbm, 67, rfl⟩
abbrev main_while0c_c_10 : Ref sig .tc := ⟨.hbm, 68, rfl⟩
abbrev main_while0c_v42 : Ref sig .tc := ⟨.hbm, 69, rfl⟩
abbrev main_while0b_call3_c : Ref sig .tc := ⟨.hbm, 70, rfl⟩
abbrev main_while0b_call3_c_0 : Ref sig .tc := ⟨.hbm, 71, rfl⟩
abbrev main_while0b_call3_c_1 : Ref sig .tc := ⟨.hbm, 72, rfl⟩
abbrev main_while0b_call3_v0 : Ref sig .tc := ⟨.hbm, 73, rfl⟩
abbrev main_while0b_v42 : Ref sig .tc := ⟨.hbm, 74, rfl⟩
abbrev main_while0b_call4_c : Ref sig .tc := ⟨.hbm, 75, rfl⟩
abbrev main_while0b_call4_c_0 : Ref sig .tc := ⟨.hbm, 76, rfl⟩
abbrev main_while0b_call4_c_1 : Ref sig .tc := ⟨.hbm, 77, rfl⟩
abbrev main_while0b_call4_c_2 : Ref sig .tc := ⟨.hbm, 78, rfl⟩
abbrev main_while0b_call4_v0 : Ref sig .tc := ⟨.hbm, 79, rfl⟩
abbrev main_while0b_v43 : Ref sig .tc := ⟨.hbm, 80, rfl⟩
abbrev main_while0b_call5_c : Ref sig .tc := ⟨.hbm, 81, rfl⟩
abbrev main_while0b_call5_c_0 : Ref sig .tc := ⟨.hbm, 82, rfl⟩
abbrev main_while0b_call5_c_1 : Ref sig .tc := ⟨.hbm, 83, rfl⟩
abbrev main_while0b_call5_c_2 : Ref sig .tc := ⟨.hbm, 84, rfl⟩
abbrev main_while0b_call5_v0 : Ref sig .tc := ⟨.hbm, 85, rfl⟩
abbrev main_while0b_v44 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_v0 : Ref sig .tc := ⟨.hbm, 91, rfl⟩
abbrev main_while0b_v45 : Ref sig .tc := ⟨.hbm, 92, rfl⟩
abbrev main_while0b_v46 : Ref sig .tc := ⟨.hbm, 93, rfl⟩
abbrev main_while0b_v47 : Ref sig .tc := ⟨.hbm, 94, rfl⟩
abbrev main_while0b_v48 : Ref sig .tc := ⟨.hbm, 95, rfl⟩
abbrev main_while0b_v49 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_call7_v0 : Ref sig .tc := ⟨.hbm, 100, rfl⟩
abbrev main_while0b_call7_c : Ref sig .tc := ⟨.hbm, 101, rfl⟩
abbrev main_while0b_call7_c_0 : Ref sig .tc := ⟨.hbm, 102, rfl⟩
abbrev main_while0b_call7_c_1 : Ref sig .tc := ⟨.hbm, 103, rfl⟩
abbrev main_while0b_call7_c_2 : Ref sig .tc := ⟨.hbm, 104, rfl⟩
abbrev main_while0b_v53 : Ref sig .tc := ⟨.hbm, 105, rfl⟩
abbrev main_while0b_c_10 : Ref sig .tc := ⟨.hbm, 106, rfl⟩
abbrev main_while0b_v54 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩

abbrev nD : Nat := 1
abbrev τ : Topo := Topo.v7x

variable {F : FTy → Type} [FloatOps F]

abbrev main_while0_count : Scf.Loop 32 := ⟨0#32, 64#32, 1#32⟩
-- ==== Proof.FfnBlock.lean ====
/- The feed-forward kernel's block: what one grid point leaves in its output tile, as one term over the tile's input
   blocks. The 2816 hidden columns are worked in eleven chunks of 256, every chunk by the same function of its columns. -/
module

public import proofs.«01_k».proof.Proof.Gen.FfnIdeal.Value
public import Idealize.ShloMosaic.Lib.Pointwise
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable {F : FTy → Type} [FloatOps F]

/-- One chunk of 256 hidden columns: the gated activation of the tile's rows, from the normalised rows `hb`, the
    normalised rows before and after the tile `halo` (rows 7 and 8 are the two neighbours), the chunk's columns of the
    two halves of the up-projection, and of the convolution's weights and bias. -/
def chunk (b0 b1 : BitVec 1) (hb : FVec F S1024x1024 .bf16) (halo : FVec F S16x1024 .bf16) (wa wg : Vec F S1024x256 .bf16)
    (cw : Vec F S3x256 .f32) (cb : Vec F S1x256 .f32) : FVec F S1024x256 .bf16 :=
  k0_pay20 (k0_pay16 hb wg)
    (k0_pay17 b0 b1 halo (iota .tc S1024x1 32 [0] iota_S1024x1_d0_w32) (k0_pay14 wa) (k0_pay15 hb wa) cw cb)
    (k0_pay18 b0 b1 halo (iota .tc S1024x1 32 [0] iota_S1024x1_d0_w32) (k0_pay14 wa) (k0_pay15 hb wa) cw cb)
    (k0_pay19 b0 b1 halo (iota .tc S1024x1 32 [0] iota_S1024x1_d0_w32) (k0_pay14 wa) (k0_pay15 hb wa) cw cb)

/-- Whether the tile's first row is the first row of its sequence. -/
def firstBit (i : BitVec 32) : BitVec 1 :=
  Scalar.cmpi .eq
    (Scalar.select
      (Scalar.andi (Scalar.xori (Scalar.cmpi .slt (Scalar.remsi i 2#32) 0#32) 0#1) (Scalar.cmpi .ne (Scalar.remsi i 2#32) 0#32))
      (Scalar.addi (Scalar.remsi i 2#32) 2#32) (Scalar.remsi i 2#32)) 0#32

/-- Whether the tile's last row is the last row of its sequence. -/
def lastBit (i : BitVec 32) : BitVec 1 :=
  Scalar.cmpi .eq
    (Scalar.select
      (Scalar.andi (Scalar.xori (Scalar.cmpi .slt (Scalar.remsi i 2#32) 0#32) 0#1) (Scalar.cmpi .ne (Scalar.remsi i 2#32) 0#32))
      (Scalar.addi (Scalar.remsi i 2#32) 2#32) (Scalar.remsi i 2#32)) 1#32

section
variable (b0 b1 : BitVec 1) (x0 : Vec F S1024x1024 .f32) (x1 x2 : Vec F S8x1024 .f32) (x3 : Vec F S1x1024 .f32)
  (x4 : Vec F S1024x5632 .bf16) (x5 : Vec F S3x2816 .f32) (x6 : Vec F S1x2816 .f32)

/-- The chunk at hidden columns `o … o + 255`. -/
def chunkAt (o : Nat) (h : o + 256 ≤ 2816) : FVec F S1024x256 .bf16 :=
  chunk b0 b1 (k0_pay5 (k0_pay4 x0 x3)) (k0_pay6 (k0_pay3 x3) x1 x2)
    (View.ld x4 (Rect.unit ![0, o] ![1024, 256] (fun a => match a with | 0 => (by decide : 0 + 1024 ≤ 1024) | 1 => (by show o + 256 ≤ 5632; omega))))
    (View.ld x4 (Rect.unit ![0, 2816 + o] ![1024, 256] (fun a => match a with | 0 => (by decide : 0 + 1024 ≤ 1024) | 1 => (by show 2816 + o + 256 ≤ 5632; omega))))
    (View.ld x5 (Rect.unit ![0, o] ![3, 256] (fun a => match a with | 0 => (by decide : 0 + 3 ≤ 3) | 1 => h)))
    (View.ld x6 (Rect.unit ![0, o] ![1, 256] (fun a => match a with | 0 => (by decide : 0 + 1 ≤ 1) | 1 => h)))

/-- The store of the chunk at hidden columns `o … o + 255` into the activation buffer. -/
def chunkPiece (o : Nat) (h : o + 256 ≤ 2816) : View.Piece (Elt F) S1024x2816 .bf16 :=
  ⟨Rect.unit ![0, o] ![1024, 256] (fun a => match a with | 0 => (by decide : 0 + 1024 ≤ 1024) | 1 => h),
    chunkAt b0 b1 x0 x1 x2 x3 x4 x5 x6 o h⟩

/-- The eleven chunk stores, the last first. -/
def chunkPieces : List (View.Piece (Elt F) S1024x2816 .bf16) :=
  List.ofFn fun k : Fin 11 => chunkPiece b0 b1 x0 x1 x2 x3 x4 x5 x6 (256 * (10 - k.val)) (by omega)

end

/-- The output tile from the activations `act`. -/
def tileOf (x0 : Vec F S1024x1024 .f32) (act : Vec F S1024x2816 .bf16) (x7 : Vec F S2816x1024 .bf16) (x8 : Vec F S1x1024 .f32) :
    FVec F S1024x1024 .f32 :=
  k0_pay1 (k0_pay2 x0) (k0_pay91 act x7) (k0_pay92 x8) (k0_pay93 act x7) (k0_pay94 (F := F))

variable (m : (ℓ : Loc nD τ sig) → Buf (Elt F) ℓ) (ρ : Dev nD → PrngReg)

set_option maxHeartbeats 4000000 in
theorem out_eq (c : Dev nD) (t : Fin cfg0.N) : outsAt0 m c t =
    tileOf (iblk m c 0 t) (View.canon (chunkPieces (firstBit (BitVec.ofNat 32 (grid0.coords t 0))) (lastBit (BitVec.ofNat 32 (grid0.coords t 0)))
      (iblk m c 0 t) (iblk m c 1 t) (iblk m c 2 t) (iblk m c 3 t) (iblk m c 4 t) (iblk m c 5 t) (iblk m c 6 t)))
      (iblk m c 7 t) (iblk m c 8 t) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  simp only [View.readCov_eq_canon', View.ld_unit_lit', View.canon_cons_unit_lit']
  show tileOf x0 (View.ld (View.canon _) (Rect.unit ![0, 0] S1024x2816.size inb_S1024x2816_S1024x2816_0_0)) x7 x8 = _
  rw [View.ld_unit_lit _ _ (by decide)]
  refine congrArg (fun L => tileOf x0 (View.canon L) x7 x8) ?_
  unfold chunkPieces
  rfl

end Cert.FfnIdeal.Block
-- ==== Proof.FfnMath.lean ====
/- The feed-forward layer in extended-real arithmetic: normalised rows, the up-projection, a three-tap convolution along
   each sequence, the gated activation, the down-projection, a second normalisation and the residual. -/
module

public import Idealize.ShloMosaic.Lib.Pointwise

@[expose] public section

noncomputable section

namespace FfnMath

open Idealize.ShloMosaic

/-- A row scaled to unit mean square (with the small constant added), then by the gain `g`. -/
def rmsRow (x g : Fin 1024 → EReal) (k : Fin 1024) : EReal :=
  x k * Ideal.rsqrt (Ideal.div (∑ j, x j * x j) (Ideal.ofBits .f32 0x44800000#32) + Ideal.ofBits .f32 0x358637BD#32) * g k

/-- A normalised row times a column of the up-projection. -/
def upAt (x g w : Fin 1024 → EReal) : EReal := ∑ k, rmsRow x g k * w k

/-- The three-tap convolution at one place: bias, the place before, the place itself, the place after. -/
def conv (b p a n w0 w1 w2 : EReal) : EReal := b + p * w0 + a * w1 + n * w2

/-- The activation: the tanh form of gelu. -/
def gelu (y : EReal) : EReal :=
  Ideal.ofBits .f32 0x3F000000#32 * y *
    (1 + Ideal.tanh (Ideal.ofBits .f32 0x3F4C422A#32 * (y + Ideal.ofBits .f32 0x3D372713#32 * (y * y * y))))

/-- A row plus the normalised sum over the hidden columns. -/
def outRow (x gp : Fin 1024 → EReal) (act : Fin 2816 → EReal) (wdn : Fin 2816 → Fin 1024 → EReal) (c : Fin 1024) : EReal :=
  x c + rmsRow (fun c' => ∑ f, act f * wdn f c') gp c

/-- The residual stream's row `r`, rows counted through all sequences. -/
def row (X : (⟨3, ![16, 2048, 1024]⟩ : Shape).Idx → EReal) (r : Fin 32768) (k : Fin 1024) : EReal :=
  X (ix3 (⟨r.val / 2048, by omega⟩ : Fin 16) (⟨r.val % 2048, by omega⟩ : Fin 2048) k)

section
variable (X : Fin 32768 → Fin 1024 → EReal) (g : Fin 1024 → EReal) (wup : Fin 1024 → Fin 5632 → EReal)
  (cw : Fin 3 → Fin 2816 → EReal) (cb : Fin 2816 → EReal) (wdn : Fin 2816 → Fin 1024 → EReal) (gp : Fin 1024 → EReal)

/-- The up-projection at row `r` and hidden column `f`; rows count through all sequences, 2048 to a sequence. -/
def hid (r : Fin 32768) (f : Fin 5632) : EReal := upAt (X r) g (fun k => wup k f)

/-- … at the row before, zero at the start of a sequence. -/
def hidPrev (r : Fin 32768) (f : Fin 5632) : EReal :=
  if h : r.val % 2048 = 0 then 0 else hid X g wup ⟨r.val - 1, by omega⟩ f

/-- … at the row after, zero at the end of a sequence. -/
def hidNext (r : Fin 32768) (f : Fin 5632) : EReal :=
  if h : r.val % 2048 = 2047 then 0 else hid X g wup ⟨r.val + 1, by omega⟩ f

/-- The gated activation at row `r` and hidden column `f`. -/
def act (r : Fin 32768) (f : Fin 2816) : EReal :=
  gelu (conv (cb f) (hidPrev X g wup r ⟨f.val, by omega⟩) (hid X g wup r ⟨f.val, by omega⟩) (hidNext X g wup r ⟨f.val, by omega⟩)
      (cw 0 f) (cw 1 f) (cw 2 f)) * hid X g wup r ⟨2816 + f.val, by omega⟩

/-- The layer's result at row `r` and column `c`. -/
def out (r : Fin 32768) (c : Fin 1024) : EReal := outRow (X r) gp (act X g wup cw cb r) wdn c

end

end FfnMath
-- ==== Proof.FfnRead.lean ====
/- The feed-forward kernel's tile read at an index, in extended-real arithmetic. -/
module

public import proofs.«01_k».proof.Proof.FfnBlock
public import proofs.«01_k».proof.Proof.FfnMath

@[expose] public section

set_option maxRecDepth 16384

noncomputable section

namespace Cert.FfnIdeal.Block

open Cert.FfnIdeal Cert.FfnIdeal.Gen Idealize.ShloMosaic Idealize.ShloMosaic.TcCoe Idealize.SL.Sem FfnMath

theorem pay4_apply (x0 : Vec Ideal S1024x1024 .f32) (x3 : Vec Ideal S1x1024 .f32) (i k : Fin 1024) :
    k0_pay5 (k0_pay4 x0 x3) (ix2 i k) = rmsRow (fun k => x0 (ix2 i k)) (fun k => x3 (ix2 0 k)) k := by
  unfold rmsRow
  pointwise [k0_pay5, k0_pay4, k0_pay2, k0_pay3]

theorem pay6_apply7 (x1 x2 : Vec Ideal S8x1024 .f32) (x3 : Vec Ideal S1x1024 .f32) (k : Fin 1024) :
    k0_pay6 (k0_pay3 x3) x1 x2 (ix2 7 k) = rmsRow (fun k => x1 (ix2 7 k)) (fun k => x3 (ix2 0 k)) k := by
  unfold rmsRow
  pointwise [k0_pay6, k0_pay3]

theorem pay6_apply8 (x1 x2 : Vec Ideal S8x1024 .f32) (x3 : Vec Ideal S1x1024 .f32) (k : Fin 1024) :
    k0_pay6 (k0_pay3 x3) x1 x2 (ix2 8 k) = rmsRow (fun k => x2 (ix2 0 k)) (fun k => x3 (ix2 0 k)) k := by
  unfold rmsRow
  pointwise [k0_pay6, k0_pay3]

/-- A 32-bit comparison of a row number below 1024 with a constant below 1024. -/
theorem select_row {α : Type} (i : Fin 1024) (n : Nat) (hn : n < 1024) (a b : α) :
    Scalar.select (IntOp.cmpi CmpIPredicate.eq (BitVec.ofNat 32 i.val) (BitVec.ofNat 32 n)) a b = if i.val = n then a else b := by
  have h : (BitVec.ofNat 32 i.val == BitVec.ofNat 32 n) = decide (i.val = n) := by
    rw [Bool.eq_iff_iff]
    simp only [beq_iff_eq, decide_eq_true_eq]
    constructor
    · intro h
      have := congrArg BitVec.toNat h
      simp only [BitVec.toNat_ofNat] at this
      omega
    · intro h; rw [h]
  show Scalar.select (BitVec.ofBool (BitVec.ofNat 32 i.val == BitVec.ofNat 32 n)) a b = _
  rw [h, Scalar.select_ofBool]
  simp

theorem chunk_apply (b0 b1 : BitVec 1) (hb : FVec Ideal S1024x1024 .bf16) (halo : FVec Ideal S16x1024 .bf16)
    (wa wg : Vec Ideal S1024x256 .bf16) (cw : Vec Ideal S3x256 .f32) (cb : Vec Ideal S1x256 .f32) (i : Fin 1024) (k : Fin 256) :
    chunk b0 b1 hb halo wa wg cw cb (ix2 i k) =
      gelu (conv (cb (ix2 0 k))
        (if i.val = 0 then (if b0 = 1 then 0 else ∑ x, halo (ix2 7 x) * wa (ix2 x k))
          else ∑ x, hb (ix2 ⟨(i.val + 1024 - 1) % 1024, by omega⟩ x) * wa (ix2 x k))
        (∑ x, hb (ix2 i x) * wa (ix2 x k))
        (if i.val = 1023 then (if b1 = 1 then 0 else ∑ x, halo (ix2 8 x) * wa (ix2 x k))
          else ∑ x, hb (ix2 ⟨(i.val + 1024 - 1023) % 1024, by omega⟩ x) * wa (ix2 x k))
        (cw (ix2 0 k)) (cw (ix2 1 k)) (cw (ix2 2 k))) * ∑ x, hb (ix2 i x) * wg (ix2 x k) := by
  rw [← select_row i 0 (by omega), ← select_row i 1023 (by omega), ← Scalar.select_def, ← Scalar.select_def]
  unfold gelu conv
  pointwise [chunk, k0_pay20, k0_pay16, k0_pay17, k0_pay18, k0_pay19, k0_pay14, k0_pay15]

section
variable (b0 b1 : BitVec 1) (x0 : Vec Ideal S1024x1024 .f32) (x1 x2 : Vec Ideal S8x1024 .f32) (x3 : Vec Ideal S1x1024 .f32)
  (x4 : Vec Ideal S1024x5632 .bf16) (x5 : Vec Ideal S3x2816 .f32) (x6 : Vec Ideal S1x2816 .f32)

/-- The activation of a tile's row `i` at hidden column `f`, from the tile's blocks. -/
def actT (i : Fin 1024) (f : Fin 2816) : EReal :=
  gelu (conv (x6 (ix2 0 f))
    (if i.val = 0 then (if b0 = 1 then 0 else upAt (fun k => x1 (ix2 7 k)) (fun k => x3 (ix2 0 k)) (fun k => x4 (ix2 k ⟨f.val, by omega⟩)))
      else upAt (fun k => x0 (ix2 ⟨(i.val + 1024 - 1) % 1024, by omega⟩ k)) (fun k => x3 (ix2 0 k)) (fun k => x4 (ix2 k ⟨f.val, by omega⟩)))
    (upAt (fun k => x0 (ix2 i k)) (fun k => x3 (ix2 0 k)) (fun k => x4 (ix2 k ⟨f.val, by omega⟩)))
    (if i.val = 1023 then (if b1 = 1 then 0 else upAt (fun k => x2 (ix2 0 k)) (fun k => x3 (ix2 0 k)) (fun k => x4 (ix2 k ⟨f.val, by omega⟩)))
      else upAt (fun k => x0 (ix2 ⟨(i.val + 1024 - 1023) % 1024, by omega⟩ k)) (fun k => x3 (ix2 0 k)) (fun k => x4 (ix2 k ⟨f.val, by omega⟩)))
    (x5 (ix2 0 f)) (x5 (ix2 1 f)) (x5 (ix2 2 f))) * upAt (fun k => x0 (ix2 i k)) (fun k => x3 (ix2 0 k)) (fun k => x4 (ix2 k ⟨2816 + f.val, by omega⟩))

theorem chunkAt_apply (o : Nat) (h : o + 256 ≤ 2816) (i : Fin 1024) (k : Fin 256) :
    chunkAt b0 b1 x0 x1 x2 x3 x4 x5 x6 o h (ix2 i k) = actT b0 b1 x0 x1 x2 x3 x4 x5 x6 i ⟨o + k.val, by omega⟩ := by
  unfold chunkAt actT upAt
  rw [chunk_apply]
  have e4 : ∀ (x : Fin 1024) (inb), View.ld x4 (Rect.unit ![0, o] ![1024, 256] inb) (ix2 x k) = x4 (ix2 x ⟨o + k.val, by omega⟩) :=
    fun x inb => View.ld_unit_apply_of x4 _ _ inb _ _ (fun a => match a with | 0 => by simp [ix2] | 1 => by simp [ix2])
  have e4' : ∀ (x : Fin 1024) (inb), View.ld x4 (Rect.unit ![0, 2816 + o] ![1024, 256] inb) (ix2 x k) = x4 (ix2 x ⟨2816 + (o + k.val), by omega⟩) :=
    fun x inb => View.ld_unit_apply_of x4 _ _ inb _ _ (fun a => match a with | 0 => by simp [ix2] | 1 => by simp [ix2]; omega)
  have e5 : ∀ (x : Fin 3) (inb), View.ld x5 (Rect.unit ![0, o] ![3, 256] inb) (ix2 x k) = x5 (ix2 x ⟨o + k.val, by omega⟩) :=
    fun x inb => View.ld_unit_apply_of x5 _ _ inb _ _ (fun a => match a with | 0 => by simp [ix2] | 1 => by simp [ix2])
  have e6 : ∀ (inb), View.ld x6 (Rect.unit ![0, o] ![1, 256] inb) (ix2 0 k) = x6 (ix2 0 ⟨o + k.val, by omega⟩) :=
    fun inb => View.ld_unit_apply_of x6 _ _ inb _ _ (fun a => match a with | 0 => by simp [ix2] | 1 => by simp [ix2])
  simp only [e4, e4', e5, e6, pay4_apply, pay6_apply7, pay6_apply8]

theorem act_apply (i : Fin 1024) (f : Fin 2816) :
    View.canon (chunkPieces b0 b1 x0 x1 x2 x3 x4 x5 x6) (ix2 i f) = actT b0 b1 x0 x1 x2 x3 x4 x5 x6 i f := by
  unfold chunkPieces chunkPiece
  refine View.canon_ofFn_unit_eq_of_forall (S := S1024x2816) (Val := Elt Ideal) (e := .bf16) (fun k : Fin 11 => ![0, 256 * (10 - k.val)]) ![1024, 256] _
    (fun k => chunkAt b0 b1 x0 x1 x2 x3 x4 x5 x6 (256 * (10 - k.val)) (by omega)) _ _ ?_ ?_
  · refine ⟨⟨10 - f.val / 256, by omega⟩, fun a => ?_⟩
    match a with
    | 0 => exact ⟨Nat.zero_le _, by show i.val < 0 + 1024; omega⟩
    | 1 => exact ⟨by show 256 * (10 - (10 - f.val / 256)) ≤ f.val; omega, by show f.val < 256 * (10 - (10 - f.val / 256)) + 256; omega⟩
  · intro k
    tile_intro x hx
    obtain ⟨a, b, rfl⟩ : ∃ (a : Fin 1024) (b : Fin 256), x = ix2 a b := ⟨x 0, x 1, by funext d; match d with | 0 => rfl | 1 => rfl⟩
    rw [chunkAt_apply]
    have e0 : a = i := Fin.ext hx0.symm
    have e1 : (⟨256 * (10 - k.val) + b.val, by omega⟩ : Fin 2816) = f := Fin.ext hx1.symm
    rw [e0, e1]

/-- The tile's result at row `i` and column `c`. -/
theorem tileOf_apply (act : Vec Ideal S1024x2816 .bf16) (x7 : Vec Ideal S2816x1024 .bf16) (x8 : Vec Ideal S1x1024 .f32) (i c : Fin 1024) :
    tileOf x0 act x7 x8 (ix2 i c) =
      outRow (fun k => x0 (ix2 i k)) (fun k => x8 (ix2 0 k)) (fun f => act (ix2 i f)) (fun f c => x7 (ix2 f c)) c := by
  unfold outRow rmsRow
  pointwise [tileOf, k0_pay1, k0_pay2, k0_pay91, k0_pay92, k0_pay93, k0_pay94]

end

end Cert.FfnIdeal.Block
-- ==== Proof.FfnArray.lean ====
/- The feed-forward kernel's result array, as the layer's mathematics over its arguments. -/
module

public import proofs.«01_k».proof.Proof.FfnRead

@[expose] public section

set_option maxRecDepth 16384

noncomputable section

namespace Cert.FfnIdeal.Block

open Cert.FfnIdeal Cert.FfnIdeal.Gen Idealize.ShloMosaic Idealize.ShloMosaic.TcCoe Idealize.SL.Sem FfnMath
open Idealize.ShloMosaic.Pipeline (Dat)

variable (m : (ℓ : Loc nD τ sig) → Buf (Elt Ideal) ℓ) (c : Dev nD)

/-! ## The arguments at coordinates -/

def xArr : Vec Ideal S16x2048x1024 .f32 := m ((c : Thread nD τ).loc main_arg0)
def gArr : Vec Ideal S1024 .f32 := m ((c : Thread nD τ).loc main_arg1)
def wupArr : Vec Ideal S1024x5632 .f32 := m ((c : Thread nD τ).loc main_arg2)
def cwArr : Vec Ideal S3x2816 .f32 := m ((c : Thread nD τ).loc main_arg3)
def cbArr : Vec Ideal S2816 .f32 := m ((c : Thread nD τ).loc main_arg4)
def wdnArr : Vec Ideal S2816x1024 .f32 := m ((c : Thread nD τ).loc main_arg5)
def gpArr : Vec Ideal S1024 .f32 := m ((c : Thread nD τ).loc main_arg6)

theorem idx0 : ∀ t : Fin cfg0.N, win0_0.index t = ![t.val, 0] := (by decide +kernel : ∀ t : Fin grid0.N, _)
theorem idx1 : ∀ t : Fin cfg0.N, win0_1.index t = ![t.val * 128 - 1, 0] := (by decide +kernel : ∀ t : Fin grid0.N, _)
theorem idx2 : ∀ t : Fin cfg0.N, win0_2.index t = ![min (t.val * 128 + 128) 4095, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)

theorem V_v0 (r : Fin 32768) (k : Fin 1024) : (V m c main_v0 : Vec Ideal S32768x1024 .f32) (ix2 r k) = row (xArr m c) r k := by
  dsimp only [V, hostOps0]; after_results
  unfold row xArr
  pointwise

theorem blk0 (t : Fin cfg0.N) (i k : Fin 1024) (r : Fin 32768) (hr : r.val = t.val * 1024 + i.val) :
    (iblk m c 0 t : Vec Ideal S1024x1024 .f32) (ix2 i k) = row (xArr m c) r k := by
  unfold row xArr
  blk_ext! [iblk, idx0 t]

theorem blk4 (t : Fin cfg0.N) (i : Fin 1024) (k : Fin 5632) :
    (iblk m c 4 t : Vec Ideal S1024x5632 .bf16) (ix2 i k) = wupArr m c (ix2 i k) := by
  unfold wupArr
  blk_ext! [iblk, idx4 t]
theorem blk5 (t : Fin cfg0.N) (i : Fin 3) (k : Fin 2816) :
    (iblk m c 5 t : Vec Ideal S3x2816 .f32) (ix2 i k) = cwArr m c (ix2 i k) := by
  unfold cwArr
  blk_ext! [iblk, idx5 t]
theorem blk6 (t : Fin cfg0.N) (k : Fin 2816) :
    (iblk m c 6 t : Vec Ideal S1x2816 .f32) (ix2 0 k) = cbArr m c (ix1 k) := by
  unfold cbArr
  blk_ext! [iblk, idx6 t]
theorem blk7 (t : Fin cfg0.N) (i : Fin 2816) (k : Fin 1024) :
    (iblk m c 7 t : Vec Ideal S2816x1024 .bf16) (ix2 i k) = wdnArr m c (ix2 i k) := by
  unfold wdnArr
  blk_ext! [iblk, idx7 t]
theorem blk3 (t : Fin cfg0.N) (k : Fin 1024) :
    (iblk m c 3 t : Vec Ideal S1x1024 .f32) (ix2 0 k) = gArr m c (ix1 k) := by
  unfold gArr
  blk_ext! [iblk, idx3 t]
theorem blk8 (t : Fin cfg0.N) (k : Fin 1024) :
    (iblk m c 8 t : Vec Ideal S1x1024 .f32) (ix2 0 k) = gpArr m c (ix1 k) := by
  unfold gpArr
  blk_ext! [iblk, idx8 t]
theorem blk1 (t : Fin cfg0.N) (k : Fin 1024) (r : Fin 32768) (ht : 0 < t.val) (hr : r.val = t.val * 1024 - 1) :
    (iblk m c 1 t : Vec Ideal S8x1024 .f32) (ix2 7 k) = row (xArr m c) r k := by
  rw [← V_v0 m c]
  blk_ext [iblk, idx1 t]

theorem blk2 (t : Fin cfg0.N) (k : Fin 1024) (r : Fin 32768) (ht : t.val < 31) (hr : r.val = t.val * 1024 + 1024) :
    (iblk m c 2 t : Vec Ideal S8x1024 .f32) (ix2 0 k) = row (xArr m c) r k := by
  rw [← V_v0 m c]
  blk_ext [iblk, idx2 t]

theorem first_iff : ∀ t : Fin cfg0.N, firstBit (BitVec.ofNat 32 (grid0.coords t 0)) = 1 ↔ t.val % 2 = 0 :=
  (by decide +kernel : ∀ t : Fin grid0.N, firstBit (BitVec.ofNat 32 (grid0.coords t 0)) = 1 ↔ t.val % 2 = 0)

theorem last_iff : ∀ t : Fin cfg0.N, lastBit (BitVec.ofNat 32 (grid0.coords t 0)) = 1 ↔ t.val % 2 = 1 :=
  (by decide +kernel : ∀ t : Fin grid0.N, lastBit (BitVec.ofNat 32 (grid0.coords t 0)) = 1 ↔ t.val % 2 = 1)

/-- The layer's result over the kernel's arguments. -/
def G (r : Fin 32768) (k : Fin 1024) : EReal :=
  out (row (xArr m c)) (fun k => gArr m c (ix1 k)) (fun k f => wupArr m c (ix2 k f)) (fun j f => cwArr m c (ix2 j f))
    (fun f => cbArr m c (ix1 f)) (fun f k => wdnArr m c (ix2 f k)) (fun k => gpArr m c (ix1 k)) r k

theorem act_blk (t : Fin cfg0.N) (i : Fin 1024) (f : Fin 2816) (r : Fin 32768) (hr : r.val = t.val * 1024 + i.val) :
    actT (firstBit (BitVec.ofNat 32 (grid0.coords t 0))) (lastBit (BitVec.ofNat 32 (grid0.coords t 0)))
      (iblk m c 0 t) (iblk m c 1 t) (iblk m c 2 t) (iblk m c 3 t) (iblk m c 4 t) (iblk m c 5 t) (iblk m c 6 t) i f =
    act (row (xArr m c)) (fun k => gArr m c (ix1 k)) (fun k f => wupArr m c (ix2 k f)) (fun j f => cwArr m c (ix2 j f))
      (fun f => cbArr m c (ix1 f)) r f := by
  have hN : t.val < 32 := t.isLt
  have e0 : ∀ k, (iblk m c 0 t : Vec Ideal S1024x1024 .f32) (ix2 i k) = row (xArr m c) r k := fun k => blk0 m c t i k r hr
  unfold actT act hidPrev hidNext hid
  simp only [first_iff t, last_iff t]
  congr 2
  · congr 1
    · exact blk6 m c t f
    · by_cases hi : i.val = 0
      · rw [if_pos hi]
        by_cases h2 : t.val % 2 = 0
        · rw [if_pos h2, dif_pos (by omega)]
        · rw [if_neg h2, dif_neg (by omega)]
          simp only [blk1 m c t _ ⟨r.val - 1, by omega⟩ (by omega) (by show r.val - 1 = _; omega), blk3 m c t, blk4 m c t]
      · rw [if_neg hi, dif_neg (by omega)]
        simp only [blk0 m c t ⟨(i.val + 1024 - 1) % 1024, by omega⟩ _ ⟨r.val - 1, by omega⟩ (by show r.val - 1 = t.val * 1024 + (i.val + 1024 - 1) % 1024; omega), blk3 m c t, blk4 m c t]
    · simp only [e0, blk3 m c t, blk4 m c t]
    · by_cases hi : i.val = 1023
      · rw [if_pos hi]
        by_cases h2 : t.val % 2 = 1
        · rw [if_pos h2, dif_pos (by omega)]
        · rw [if_neg h2, dif_neg (by omega)]
          simp only [blk2 m c t _ ⟨r.val + 1, by omega⟩ (by omega) (by show r.val + 1 = _; omega), blk3 m c t, blk4 m c t]
      · rw [if_neg hi, dif_neg (by omega)]
        simp only [blk0 m c t ⟨(i.val + 1024 - 1023) % 1024, by omega⟩ _ ⟨r.val + 1, by omega⟩ (by show r.val + 1 = t.val * 1024 + (i.val + 1024 - 1023) % 1024; omega), blk3 m c t, blk4 m c t]
    · exact blk5 m c t 0 f
    · exact blk5 m c t 1 f
    · exact blk5 m c t 2 f
  · simp only [e0]
  · simp only [blk3 m c t]
  · simp only [blk4 m c t]

/-- The kernel's result array is the layer. -/
theorem arr_eq : (dats m 0 c).arrAt 9 cfg0.N = (fun y => G m c (y 0) (y 1) : S32768x1024.Idx → EReal) := by
  refine (dats m 0 c).arrAt_eq_of_covers 9 _ (by decide +kernel) fun t hf y => ?_
  blk_simp
  rw [after0_9, out_eq]
  obtain ⟨i, k, rfl⟩ : ∃ (i : Fin 1024) (k : Fin 1024), y = ix2 i k := ⟨y 0, y 1, by funext d; match d with | 0 => rfl | 1 => rfl⟩
  rw [tileOf_apply]
  have hN : t.val < 32 := t.isLt
  have hr : (((cfg0.win 9).blk t).view.emb (ix2 i k) : S32768x1024.Idx) = ix2 (⟨t.val * 1024 + i.val, by omega⟩ : Fin 32768) k := by
    blk_ext [idx9 t]
  have h0 := congrFun hr 0
  have h1 := congrFun hr 1
  refine Eq.trans ?_ (congrArg₂ (G m c) h0.symm h1.symm)
  unfold G out
  refine congr (congr (congr (congr (congrArg outRow ?_) ?_) ?_) ?_) rfl
  · exact funext fun k => blk0 m c t i k ⟨t.val * 1024 + i.val, by omega⟩ rfl
  · exact funext fun k => blk8 m c t k
  · exact funext fun f => (act_apply _ _ _ _ _ _ _ _ _ i f).trans (act_blk m c t i f ⟨t.val * 1024 + i.val, by omega⟩ rfl)
  · exact funext fun f => funext fun k => blk7 m c t f k

end Cert.FfnIdeal.Block
-- ==== Proof.FfnRefRead.lean ====
/- The feed-forward reference read at an index, in extended-real arithmetic. -/
module

public import proofs.«01_k».proof.Proof.Gen.FfnRefIdeal.Read
public import proofs.«01_k».proof.Proof.FfnMath
public import Idealize.ShloMosaic.Lib.KernelVsHost

@[expose] public section

set_option maxRecDepth 16384

noncomputable section

namespace Cert.FfnRefIdeal.Layer

open Cert.FfnRefIdeal Cert.FfnRefIdeal.Read Idealize.ShloMosaic FfnMath

variable (x0 : Vec Ideal S16x2048x1024 .f32) (x1 : Vec Ideal S1024 .f32) (x2 : Vec Ideal S1024x5632 .f32)
  (x3 : Vec Ideal S3x2816 .f32) (x4 : Vec Ideal S2816 .f32) (x5 : Vec Ideal S2816x1024 .f32) (x6 : Vec Ideal S1024 .f32)

theorem v13_eq (b : Fin 16) (s : Fin 2048) (f : Fin 5632) :
    val_main_v13 x0 x1 x2 (ix3 b s f) = upAt (fun k => x0 (ix3 b s k)) (fun k => x1 (ix1 k)) (fun k => x2 (ix2 k f)) := by
  unfold upAt rmsRow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem zero_word : FloatOps.sitofp (F := Ideal) FTy.f32 (0#32) = (0 : EReal) := by
  show ((((0#32 : BitVec 32).toInt : ℤ) : ℝ) : EReal) = 0
  simp

theorem v16_eq (b : Fin 16) (s : Fin 2050) (f : Fin 2816) :
    val_main_v16 x0 x1 x2 (ix3 b s f) = if h : 1 ≤ s.val ∧ s.val - 1 < 2048 then val_main_v13 x0 x1 x2 (ix3 b (⟨s.val - 1, h.2⟩ : Fin 2048) (⟨f.val, by omega⟩ : Fin 5632)) else 0 := by
  rw [← zero_word]
  pointwise [val_main_v16, val_main_v14, val_main_call0_v0, val_main_c]

/-- The up-projection at row `r`, from the reference's stage. -/
theorem hid_eq (r : Fin 32768) (f : Fin 5632) :
    val_main_v13 x0 x1 x2 (ix3 (⟨r.val / 2048, by omega⟩ : Fin 16) (⟨r.val % 2048, by omega⟩ : Fin 2048) f) =
      hid (row x0) (fun k => x1 (ix1 k)) (fun k f => x2 (ix2 k f)) r f := v13_eq x0 x1 x2 _ _ _

theorem v39_eq (b : Fin 16) (s : Fin 2048) (f : Fin 2816) :
    val_main_v39 x0 x1 x2 x3 x4 (ix3 b s f) = conv (x4 (ix1 f)) (val_main_v16 x0 x1 x2 (ix3 b (⟨s.val, by omega⟩ : Fin 2050) f))
      (val_main_v16 x0 x1 x2 (ix3 b (⟨1 + s.val, by omega⟩ : Fin 2050) f)) (val_main_v16 x0 x1 x2 (ix3 b (⟨2 + s.val, by omega⟩ : Fin 2050) f))
      (x3 (ix2 0 f)) (x3 (ix2 1 f)) (x3 (ix2 2 f)) := by
  unfold conv
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]

theorem v53_eq (b : Fin 16) (s : Fin 2048) (f : Fin 2816) :
    val_main_v53 x0 x1 x2 x3 x4 (ix3 b s f) = gelu (val_main_v39 x0 x1 x2 x3 x4 (ix3 b s f)) * val_main_v13 x0 x1 x2 (ix3 b s (⟨2816 + f.val, by omega⟩ : Fin 5632)) := by
  unfold gelu
  pointwise! [val_main_v15, val_main_v40, val_main_v41, val_main_v42, val_main_v43, val_main_v44, val_main_v45, val_main_v46, val_main_v47, val_main_v48, val_main_v49, val_main_v50, val_main_v51, val_main_v52, val_main_v53, val_main_cst_2, val_main_cst_3, val_main_cst_4, val_main_cst_5]

theorem v69_eq (r : Fin 32768) (k : Fin 1024) :
    val_main_v69 x0 x1 x2 x3 x4 x5 x6 (ix2 r k) = outRow (row x0 r) (fun k => x6 (ix1 k))
      (fun f => val_main_v53 x0 x1 x2 x3 x4 (ix3 (⟨r.val / 2048, by omega⟩ : Fin 16) (⟨r.val % 2048, by omega⟩ : Fin 2048) f)) (fun f k => x5 (ix2 f k)) k := by
  unfold outRow rmsRow row
  pointwise [val_main_v54, val_main_v55, val_main_v56, val_main_v57, val_main_v58, val_main_v59, val_main_v60, val_main_v61, val_main_v62, val_main_v63, val_main_v64, val_main_v65, val_main_v66, val_main_v67, val_main_v68, val_main_v69, val_main_cst_6, val_main_cst_7, val_main_cst_8]

theorem act_eq (r : Fin 32768) (f : Fin 2816) :
    val_main_v53 x0 x1 x2 x3 x4 (ix3 (⟨r.val / 2048, by omega⟩ : Fin 16) (⟨r.val % 2048, by omega⟩ : Fin 2048) f) =
      act (row x0) (fun k => x1 (ix1 k)) (fun k f => x2 (ix2 k f)) (fun j f => x3 (ix2 j f)) (fun f => x4 (ix1 f)) r f := by
  rw [v53_eq, v39_eq, v16_eq, v16_eq, v16_eq]
  unfold act hidPrev hidNext
  have e (s : Nat) (h : s < 2048) (r' : Fin 32768) (e1 : r.val / 2048 = r'.val / 2048) (e2 : s = r'.val % 2048) :
      (ix3 (⟨r.val / 2048, by omega⟩ : Fin 16) (⟨s, h⟩ : Fin 2048) (⟨f.val, by omega⟩ : Fin 5632) : S16x2048x5632.Idx) =
        ix3 (⟨r'.val / 2048, by omega⟩ : Fin 16) (⟨r'.val % 2048, by omega⟩ : Fin 2048) (⟨f.val, by omega⟩ : Fin 5632) := by
    subst e2
    congr 1
    exact Fin.ext e1
  refine congrArg₂ (· * ·) (congrArg gelu ?_) (hid_eq x0 x1 x2 r _)
  refine congr (congr (congr (congr (congr (congr (congrArg conv rfl) ?_) ?_) ?_) rfl) rfl) rfl
  · by_cases h : r.val % 2048 = 0
    · rw [dif_pos h, dif_neg (by dsimp only; omega)]
    · rw [dif_neg h, dif_pos (by dsimp only; omega), ← hid_eq]
      exact congrArg _ (e _ _ ⟨r.val - 1, by omega⟩ (by dsimp only; omega) (by dsimp only; omega))
  · rw [dif_pos (by dsimp only; omega), ← hid_eq]
    exact congrArg _ (e _ _ r rfl (by dsimp only; omega))
  · by_cases h : r.val % 2048 = 2047
    · rw [dif_pos h, dif_neg (by dsimp only; omega)]
    · rw [dif_neg h, dif_pos (by dsimp only; omega), ← hid_eq]
      exact congrArg _ (e _ _ ⟨r.val + 1, by omega⟩ (by dsimp only; omega) (by dsimp only; omega))

/-- The reference's result is the layer. -/
theorem res_eq (r : Fin 32768) (k : Fin 1024) :
    val_main_v69 x0 x1 x2 x3 x4 x5 x6 (ix2 r k) =
      out (row x0) (fun k => x1 (ix1 k)) (fun k f => x2 (ix2 k f)) (fun j f => x3 (ix2 j f)) (fun f => x4 (ix1 f))
        (fun f k => x5 (ix2 f k)) (fun k => x6 (ix1 k)) r k := by
  rw [v69_eq]
  unfold out
  exact congrArg (fun a => outRow (row x0 r) _ a _ k) (funext fun f => act_eq x0 x1 x2 x3 x4 r f)

end Cert.FfnRefIdeal.Layer
-- ==== Proof.FfnClaims.lean ====
/- The feed-forward layer's claims: the reference's frame, and the kernel equal to the reference in extended-real
   arithmetic. -/
module

public import proofs.«01_k».proof.Defs
public import proofs.«01_k».proof.Proof.FfnArray
public import proofs.«01_k».proof.Proof.FfnRefRead
public import proofs.«01_k».proof.Proof.Gen.Ffn.Frame

@[expose] public section

set_option maxRecDepth 16384

noncomputable section

namespace Cert.Proof

open Idealize.ShloMosaic Idealize.SL.Sem

theorem ffnRef_frame : Cert.quiescent_FfnRefIdeal (hFfnRefIdeal := Cert.FfnRefIdeal.Gen.facts) := fun m ρ _ =>
  (θ_run Cert.FfnRefIdeal.defs _ _).mono
    (fun r h => ⟨fun c => (h c).2, sem_eq_zero_of_no_sems (by decide) r.2⟩) (Cert.FfnRefIdeal.Value.run m ρ)

theorem ffn_algebraic : Cert.algebraic_FfnIdeal_FfnRefIdeal (hFfnIdeal := Cert.FfnIdeal.Gen.facts)
    (hFfnRefIdeal := Cert.FfnRefIdeal.Gen.facts) := by
  intro m ρ m' ρ' _ hargs
  refine ⟨fun c => (Cert.FfnIdeal.Gen.dats m 0 c).arrAt 9 Cert.FfnIdeal.cfg0.N, Cert.FfnIdeal.Value.run_blocks m ρ, ?_⟩
  refine (θ_run Cert.FfnRefIdeal.defs _ _).mono (fun r h c => ⟨?_, (h c).2⟩) (Cert.FfnRefIdeal.Value.run m' ρ')
  obtain ⟨h0, h1, h2, h3, h4, h5, h6⟩ := hargs c
  rw [(h c).1, Cert.FfnRefIdeal.Read.val_main_v69_eq]
  refine Eq.trans ?_ (Cert.FfnIdeal.Block.arr_eq m c).symm
  funext y
  obtain ⟨i, k, rfl⟩ : ∃ (i : Fin 32768) (k : Fin 1024), y = ix2 i k := ⟨y 0, y 1, by funext d; match d with | 0 => rfl | 1 => rfl⟩
  refine (Cert.FfnRefIdeal.Layer.res_eq _ _ _ _ _ _ _ i k).trans ?_
  rw [h0, h1, h2, h3, h4, h5, h6]
  rfl

end Cert.Proof
-- ==== Proof.GlaSpec.lean ====
/- One sequence's forward recurrence, written out: 64 chunks of 32 rows, eight heads of 32 key lanes and 64 value lanes. -/
module

public import Idealize.ShloMosaic.PureOps.Ideal

@[expose] public section

noncomputable section

namespace Cert.GlaSpec

open Idealize.ShloMosaic

/-- Row `r` of chunk `g`. -/
def row (g : Fin 64) (r : Fin 32) : Fin 2048 := ⟨32 * g.val + r.val, by omega⟩

/-- Key lane `e` of head `h`. -/
def key (h : Fin 8) (e : Fin 32) : Fin 256 := ⟨32 * h.val + e.val, by omega⟩

/-- Value lane `w` of head `h`. -/
def val (h : Fin 8) (w : Fin 64) : Fin 512 := ⟨64 * h.val + w.val, by omega⟩

variable (Q K : Fin 2048 → Fin 256 → EReal) (V : Fin 2048 → Fin 512 → EReal) (L : Fin 2048 → Fin 256 → EReal)

/-- The logarithm of the decay from the chunk's first row. -/
def sumTo (g : Fin 64) (r : Fin 32) (j : Fin 256) : EReal := ∑ e : Fin 32, if e.val ≤ r.val then L (row g e) j else 0

/-- The logarithm of the chunk's decay. -/
def total (g : Fin 64) (j : Fin 256) : EReal := ∑ e : Fin 32, L (row g e) j

/-- The decayed query. -/
def query (g : Fin 64) (r : Fin 32) (j : Fin 256) : EReal := Q (row g r) j * Ideal.exp (sumTo L g r j) * Ideal.ofBits .f32 0x3E3504F3#32

/-- Row `r` on row `e` of the same chunk. -/
def weight (g : Fin 64) (h : Fin 8) (r e : Fin 32) : EReal :=
  if e.val ≤ r.val then ∑ f : Fin 32, query Q L g r (key h f) * (K (row g e) (key h f) * Ideal.exp (0 - sumTo L g e (key h f))) else 0

/-- The part within the chunk. -/
def within (g : Fin 64) (r : Fin 32) (h : Fin 8) (w : Fin 64) : EReal := ∑ e : Fin 32, weight Q K L g h r e * V (row g e) (val h w)

/-- What the chunk adds to the state. -/
def added (g : Fin 64) (h : Fin 8) (f : Fin 32) (w : Fin 64) : EReal :=
  ∑ e : Fin 32, K (row g e) (key h f) * Ideal.exp (total L g (key h f) - sumTo L g e (key h f)) * V (row g e) (val h w)

/-- The state before chunk `g`. -/
def state : Nat → Fin 8 → Fin 32 → Fin 64 → EReal
  | 0, _, _, _ => 0
  | g + 1, h, f, w => Ideal.exp (total L (Fin.ofNat 64 g) (key h f)) * state g h f w + added K V L (Fin.ofNat 64 g) h f w

/-- The result. -/
def result (g : Fin 64) (r : Fin 32) (h : Fin 8) (w : Fin 64) : EReal :=
  within Q K V L g r h w + ∑ f : Fin 32, query Q L g r (key h f) * state K V L g.val h f w

end Cert.GlaSpec

end
-- ==== Proof.GlaRefStep.lean ====
/- The reference's loop as its step iterated: before each trip the loop's buffers hold a state (the carried values, the set-up
   values, the trip's number); a trip takes the state to its step; and the reference's result is read off state number 64. -/
module

public import proofs.«01_k».proof.Proof.Gen.GlaRefIdeal.Run
public import proofs.«01_k».proof.Proof.Gen.GlaRefIdeal.Step

@[expose] public section

noncomputable section

namespace Cert.GlaRefIdeal.Loop

open Idealize.ShloMosaic Idealize.ShloMosaic.TcCoe Idealize.SL.Sem Idealize.ShloMosaic.StableHlo
open Cert.GlaRefIdeal Cert.GlaRefIdeal.Gen Cert.GlaRefIdeal.Value
open Cert.GlaRefIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v38_5) = s.main_v38_5
  f_6 : V0 (Proc.devRef .tc main_v38_6) = s.main_v38_6
  f_0 : V0 (Proc.devRef .tc main_v38_0) = s.main_v38_0
  f_1 : V0 (Proc.devRef .tc main_v38_1) = s.main_v38_1
  f_2 : V0 (Proc.devRef .tc main_v38_2) = s.main_v38_2
  f_3 : V0 (Proc.devRef .tc main_v38_3) = s.main_v38_3
  n_4 : V0 (Proc.devRef .tc main_v38_4) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.GlaRefIdeal.Step.b0 j s := by
  unfold Cert.GlaRefIdeal.Step.b0
  rfl
set_option maxRecDepth 8192 in
theorem al_1 (h : Holds V0 s j) : (constantI S_ 32 0#32 : (Proc.devRef .tc main_while0b_call3_c_0 : DevRef τ sig).ty.Contents (Elt F)) = Cert.GlaRefIdeal.Step.b1 j s := by
  unfold Cert.GlaRefIdeal.Step.b1
  rfl
set_option maxRecDepth 8192 in
theorem al_2 (h : Holds V0 s j) : (constantI S_ 32 0#32 : (Proc.devRef .tc main_while0b_call3_c_1 : DevRef τ sig).ty.Contents (Elt F)) = Cert.GlaRefIdeal.Step.b2 j s := by
  unfold Cert.GlaRefIdeal.Step.b2
  rfl
set_option maxRecDepth 8192 in
theorem al_3 (h : Holds V0 s j) : (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32 : (Proc.devRef .tc main_while0b_call3_v0 : DevRef τ sig).ty.Contents (Elt F)) = Cert.GlaRefIdeal.Step.b3 j s := by
  unfold Cert.GlaRefIdeal.Step.b3
  rw [← al_0 h, ← al_1 h, ← al_2 h, h.f_0, h.n_4]
  try rfl
set_option maxRecDepth 8192 in
theorem al_4 (h : Holds V0 s j) : (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32 : (Proc.devRef .tc main_while0b_v42 : DevRef τ sig).ty.Contents (Elt F)) = Cert.GlaRefIdeal.Step.b4 j s := by
  unfold Cert.GlaRefIdeal.Step.b4
  rw [← al_3 h]
  try rfl
set_option maxRecDepth 8192 in
theorem al_5 (h : Holds V0 s j) : (constantI S_ 32 0#32 : (Proc.devRef .tc main_while0b_call4_c : DevRef τ sig).ty.Contents (Elt F)) = Cert.GlaRefIdeal.Step.b5 j s := by
  unfold Cert.GlaRefIdeal.Step.b5
  rfl
set_option maxRecDepth 8192 in
theorem al_6 (h : Holds V0 s j) : (constantI S_ 32 0#32 : (Proc.devRef .tc main_while0b_call4_c_0 : DevRef τ sig).ty.Contents (Elt F)) = Cert.GlaRefIdeal.Step.b6 j s := by
  unfold Cert.GlaRefIdeal.Step.b6
  rfl
set_option maxRecDepth 8192 in
theorem al_7 (h : Holds V0 s j) : (constantI S_ 32 0#32 : (Proc.devRef .tc main_while0b_call4_c_1 : DevRef τ sig).ty.Contents (Elt F)) = Cert.GlaRefIdeal.Step.b7 j s := by
  unfold Cert.GlaRefIdeal.Step.b7
  rfl
set_option maxRecDepth 8192 in
theorem al_8 (h : Holds V0 s j) : (constantI S_ 32 0#32 : (Proc.devRef .tc main_while0b_call4_c_2 : DevRef τ sig).ty.Contents (Elt F)) = Cert.GlaRefIdeal.Step.b8 j s := by
  unfold Cert.GlaRefIdeal.Step.b8
  rfl
set_option maxRecDepth 8192 in
theorem al_9 (h : Holds V0 s j) : (Host.dynamicSlice S1x16x8x32x64 (V0 (Proc.devRef .tc main_v38_1)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x8x32x64_S1x16x8x32x64 : (Proc.devRef .tc main_while0b_call4_v0 : DevRef τ sig).ty.Contents (Elt F)) = Cert.GlaRefIdeal.Step.b9 j s := by
  unfold Cert.GlaRefIdeal.Step.b9
  rw [← al_5 h, ← al_6 h, ← al_7 h, ← al_8 h, h.f_1, h.n_4]
  try rfl
set_option maxRecDepth 8192 in
theorem al_10 (h : Holds V0 s j) : (shapeCast S16x8x32x64 (Host.dynamicSlice S1x16x8x32x64 (V0 (Proc.devRef .tc main_v38_1)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x8x32x64_S1x16x8x32x64) shapeCasts_S1x16x8x32x64_S16x8x32x64 : (Proc.devRef .tc main_while0b_v43 : DevRef τ sig).ty.Contents (Elt F)) = Cert.GlaRefIdeal.Step.b10 j s := by
  unfold Cert.GlaRefIdeal.Step.b10
  rw [← al_9 h]
  try rfl
set_option maxRecDepth 8192 in
theorem al_11 (h : Holds V0 s j) : (constantI S_ 32 0#32 : (Proc.devRef .tc main_while0b_call5_c : DevRef τ sig).ty.Contents (Elt F)) = Cert.GlaRefIdeal.Step.b11 j s := by
  unfold Cert.GlaRefIdeal.Step.b11
  rfl
set_option maxRecDepth 8192 in
theorem al_12 (h : Holds V0 s j) : (constantI S_ 32 0#32 : (Proc.devRef .tc main_while0b_call5_c_0 : DevRef τ sig).ty.Contents (Elt F)) = Cert.GlaRefIdeal.Step.b12 j s := by
  unfold Cert.GlaRefIdeal.Step.b12
  rfl
set_option maxRecDepth 8192 in
theorem al_13 (h : Holds V0 s j) : (constantI S_ 32 0#32 : (Proc.devRef .tc main_while0b_call5_c_1 : DevRef τ sig).ty.Contents (Elt F)) = Cert.GlaRefIdeal.Step.b13 j s := by
  unfold Cert.GlaRefIdeal.Step.b13
  rfl
set_option maxRecDepth 8192 in
theorem al_14 (h : Holds V0 s j) : (constantI S_ 32 0#32 : (Proc.devRef .tc main_while0b_call5_c_2 : DevRef τ sig).ty.Contents (Elt F)) = Cert.GlaRefIdeal.Step.b14 j s := by
  unfold Cert.GlaRefIdeal.Step.b14
  rfl
set_option maxRecDepth 8192 in
theorem al_15 (h : Holds V0 s j) : (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32 : (Proc.devRef .tc main_while0b_call5_v0 : DevRef τ sig).ty.Contents (Elt F)) = Cert.GlaRefIdeal.Step.b15 j s := by
  unfold Cert.GlaRefIdeal.Step.b15
  rw [← al_11 h, ← al_12 h, ← al_13 h, ← al_14 h, h.f_2, h.n_4]
  try rfl
set_option maxRecDepth 8192 in
theorem al_16 (h : Holds V0 s j) : (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32 : (Proc.devRef .tc main_while0b_v44 : DevRef τ sig).ty.Contents (Elt F)) = Cert.GlaRefIdeal.Step.b16 j s := by
  unfold Cert.GlaRefIdeal.Step.b16
  rw [← al_15 h]
  try rfl
set_option maxRecDepth 8192 in
theorem al_17 (h : Holds V0 s j) : (constantI S_ 32 0#32 : (Proc.devRef .tc main_while0b_call6_c : DevRef τ sig).ty.Contents (Elt F)) = Cert.GlaRefIdeal.Step.b17 j s := by
  unfold Cert.GlaRefIdeal.Step.b17
  rfl
set_option maxRecDepth 8192 in
theorem al_18 (h : Holds V0 s j) : (constantI S_ 32 0#32 : (Proc.devRef .tc main_while0b_call6_c_0 : DevRef τ sig).ty.Contents (Elt F)) = Cert.GlaRefIdeal.Step.b18 j s := by
  unfold Cert.GlaRefIdeal.Step.b18
  rfl
set_option maxRecDepth 8192 in
theorem al_19 (h : Holds V0 s j) : (constantI S_ 32 0#32 : (Proc.devRef .tc main_while0b_call6_c_1 : DevRef τ sig).ty.Contents (Elt F)) = Cert.GlaRefIdeal.Step.b19 j s := by
  unfold Cert.GlaRefIdeal.Step.b19
  rfl
set_option maxRecDepth 8192 in
theorem al_20 (h : Holds V0 s j) : (constantI S_ 32 0#32 : (Proc.devRef .tc main_while0b_call6_c_2 : DevRef τ sig).ty.Contents (Elt F)) = Cert.GlaRefIdeal.Step.b20 j s := by
  unfold Cert.GlaRefIdeal.Step.b20
  rfl
set_option maxRecDepth 8192 in
theorem al_21 (h : Holds V0 s j) : (Host.dynamicSlice S1x16x32x8x64 (V0 (Proc.devRef .tc main_v38_3)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x64_S1x16x32x8x64 : (Proc.devRef .tc main_while0b_call6_v0 : DevRef τ sig).ty.Contents (Elt F)) = Cert.GlaRefIdeal.Step.b21 j s := by
  unfold Cert.GlaRefIdeal.Step.b21
  rw [← al_17 h, ← al_18 h, ← al_19 h, ← al_20 h, h.f_3, h.n_4]
  try rfl
set_option maxRecDepth 8192 in
theorem al_22 (h : Holds V0 s j) : (shapeCast S16x32x8x64 (Host.dynamicSlice S1x16x32x8x64 (V0 (Proc.devRef .tc main_v38_3)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x64_S1x16x32x8x64) shapeCasts_S1x16x32x8x64_S16x32x8x64 : (Proc.devRef .tc main_while0b_v45 : DevRef τ sig).ty.Contents (Elt F)) = Cert.GlaRefIdeal.Step.b22 j s := by
  unfold Cert.GlaRefIdeal.Step.b22
  rw [← al_21 h]
  try rfl
set_option maxRecDepth 8192 in
theorem al_23 (h : Holds V0 s j) : (broadcastInDim S16x8x32x1 ![0, 1, 2] bcast_S16x8x32_S16x8x32x1_0_1_2 (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32) : (Proc.devRef .tc main_while0b_v46 : DevRef τ sig).ty.Contents (Elt F)) = Cert.GlaRefIdeal.Step.b23 j s := by
  unfold Cert.GlaRefIdeal.Step.b23
  rw [← al_4 h]
  try rfl
set_option maxRecDepth 8192 in
theorem al_24 (h : Holds V0 s j) : (broadcastInDim S16x8x32x64 ![0, 1, 2, 3] bcast_S16x8x32x1_S16x8x32x64_0_1_2_3 (broadcastInDim S16x8x32x1 ![0, 1, 2] bcast_S16x8x32_S16x8x32x1_0_1_2 (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32)) : (Proc.devRef .tc main_while0b_v47 : DevRef τ sig).ty.Contents (Elt F)) = Cert.GlaRefIdeal.Step.b24 j s := by
  unfold Cert.GlaRefIdeal.Step.b24
  rw [← al_23 h]
  try rfl
set_option maxRecDepth 8192 in
theorem al_25 (h : Holds V0 s j) : (mulf (broadcastInDim S16x8x32x64 ![0, 1, 2, 3] bcast_S16x8x32x1_S16x8x32x64_0_1_2_3 (broadcastInDim S16x8x32x1 ![0, 1, 2] bcast_S16x8x32_S16x8x32x1_0_1_2 (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32))) (V0 (Proc.devRef .tc main_v38_5)) : (Proc.devRef .tc main_while0b_v48 : DevRef τ sig).ty.Contents (Elt F)) = Cert.GlaRefIdeal.Step.b25 j s := by
  unfold Cert.GlaRefIdeal.Step.b25
  rw [← al_24 h, h.f_5]
  try rfl
set_option maxRecDepth 8192 in
theorem al_26 (h : Holds V0 s j) : (addf (mulf (broadcastInDim S16x8x32x64 ![0, 1, 2, 3] bcast_S16x8x32x1_S16x8x32x64_0_1_2_3 (broadcastInDim S16x8x32x1 ![0, 1, 2] bcast_S16x8x32_S16x8x32x1_0_1_2 (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32))) (V0 (Proc.devRef .tc main_v38_5))) (shapeCast S16x8x32x64 (Host.dynamicSlice S1x16x8x32x64 (V0 (Proc.devRef .tc main_v38_1)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x8x32x64_S1x16x8x32x64) shapeCasts_S1x16x8x32x64_S16x8x32x64) : (Proc.devRef .tc main_while0b_v49 : DevRef τ sig).ty.Contents (Elt F)) = Cert.GlaRefIdeal.Step.b26 j s := by
  unfold Cert.GlaRefIdeal.Step.b26
  rw [← al_25 h, ← al_10 h]
  try rfl
set_option maxRecDepth 8192 in
theorem al_27 (h : Holds V0 s j) : (Host.dotGeneral dot_S16x8x32x64_S16x32x8x32_S16x8x64x32_2_3_3_1_01_02 none (V0 (Proc.devRef .tc main_v38_5)) (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32) : (Proc.devRef .tc main_while0b_v50 : DevRef τ sig).ty.Contents (Elt F)) = Cert.GlaRefIdeal.Step.b27 j s := by
  unfold Cert.GlaRefIdeal.Step.b27
  rw [← al_16 h, h.f_5]
  try rfl
set_option maxRecDepth 8192 in
theorem al_28 (h : Holds V0 s j) : (transpose S16x32x8x64 [0, 3, 1, 2] (Host.dotGeneral dot_S16x8x32x64_S16x32x8x32_S16x8x64x32_2_3_3_1_01_02 none (V0 (Proc.devRef .tc main_v38_5)) (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32)) transposes_S16x8x64x32_S16x32x8x64_0_3_1_2 : (Proc.devRef .tc main_while0b_v51 : DevRef τ sig).ty.Contents (Elt F)) = Cert.GlaRefIdeal.Step.b28 j s := by
  unfold Cert.GlaRefIdeal.Step.b28
  rw [← al_27 h]
  try rfl
set_option maxRecDepth 8192 in
theorem al_29 (h : Holds V0 s j) : (addf (shapeCast S16x32x8x64 (Host.dynamicSlice S1x16x32x8x64 (V0 (Proc.devRef .tc main_v38_3)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x64_S1x16x32x8x64) shapeCasts_S1x16x32x8x64_S16x32x8x64) (transpose S16x32x8x64 [0, 3, 1, 2] (Host.dotGeneral dot_S16x8x32x64_S16x32x8x32_S16x8x64x32_2_3_3_1_01_02 none (V0 (Proc.devRef .tc main_v38_5)) (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32)) transposes_S16x8x64x32_S16x32x8x64_0_3_1_2) : (Proc.devRef .tc main_while0b_v52 : DevRef τ sig).ty.Contents (Elt F)) = Cert.GlaRefIdeal.Step.b29 j s := by
  unfold Cert.GlaRefIdeal.Step.b29
  rw [← al_22 h, ← al_28 h]
  try rfl
set_option maxRecDepth 8192 in
theorem al_30 (h : Holds V0 s j) : (broadcastInDim S1x16x32x8x64 ![1, 2, 3, 4] bcast_S16x32x8x64_S1x16x32x8x64_1_2_3_4 (addf (shapeCast S16x32x8x64 (Host.dynamicSlice S1x16x32x8x64 (V0 (Proc.devRef .tc main_v38_3)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x64_S1x16x32x8x64) shapeCasts_S1x16x32x8x64_S16x32x8x64) (transpose S16x32x8x64 [0, 3, 1, 2] (Host.dotGeneral dot_S16x8x32x64_S16x32x8x32_S16x8x64x32_2_3_3_1_01_02 none (V0 (Proc.devRef .tc main_v38_5)) (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32)) transposes_S16x8x64x32_S16x32x8x64_0_3_1_2)) : (Proc.devRef .tc main_while0b_call7_v0 : DevRef τ sig).ty.Contents (Elt F)) = Cert.GlaRefIdeal.Step.b30 j s := by
  unfold Cert.GlaRefIdeal.Step.b30
  rw [← al_29 h]
  try rfl
set_option maxRecDepth 8192 in
theorem al_31 (h : Holds V0 s j) : (constantI S_ 32 0#32 : (Proc.devRef .tc main_while0b_call7_c : DevRef τ sig).ty.Contents (Elt F)) = Cert.GlaRefIdeal.Step.b31 j s := by
  unfold Cert.GlaRefIdeal.Step.b31
  rfl
set_option maxRecDepth 8192 in
theorem al_32 (h : Holds V0 s j) : (constantI S_ 32 0#32 : (Proc.devRef .tc main_while0b_call7_c_0 : DevRef τ sig).ty.Contents (Elt F)) = Cert.GlaRefIdeal.Step.b32 j s := by
  unfold Cert.GlaRefIdeal.Step.b32
  rfl
set_option maxRecDepth 8192 in
theorem al_33 (h : Holds V0 s j) : (constantI S_ 32 0#32 : (Proc.devRef .tc main_while0b_call7_c_1 : DevRef τ sig).ty.Contents (Elt F)) = Cert.GlaRefIdeal.Step.b33 j s := by
  unfold Cert.GlaRefIdeal.Step.b33
  rfl
set_option maxRecDepth 8192 in
theorem al_34 (h : Holds V0 s j) : (constantI S_ 32 0#32 : (Proc.devRef .tc main_while0b_call7_c_2 : DevRef τ sig).ty.Contents (Elt F)) = Cert.GlaRefIdeal.Step.b34 j s := by
  unfold Cert.GlaRefIdeal.Step.b34
  rfl
set_option maxRecDepth 8192 in
theorem al_35 (h : Holds V0 s j) : (Host.dynamicUpdateSlice (V0 (Proc.devRef .tc main_v38_6)) (broadcastInDim S1x16x32x8x64 ![1, 2, 3, 4] bcast_S16x32x8x64_S1x16x32x8x64_1_2_3_4 (addf (shapeCast S16x32x8x64 (Host.dynamicSlice S1x16x32x8x64 (V0 (Proc.devRef .tc main_v38_3)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x64_S1x16x32x8x64) shapeCasts_S1x16x32x8x64_S16x32x8x64) (transpose S16x32x8x64 [0, 3, 1, 2] (Host.dotGeneral dot_S16x8x32x64_S16x32x8x32_S16x8x64x32_2_3_3_1_01_02 none (V0 (Proc.devRef .tc main_v38_5)) (shapeCast S16x32x8x32 (Host.dynamicSlice S1x16x32x8x32 (V0 (Proc.devRef .tc main_v38_2)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x32x8x32_S1x16x32x8x32) shapeCasts_S1x16x32x8x32_S16x32x8x32)) transposes_S16x8x64x32_S16x32x8x64_0_3_1_2))) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) updateFits_S64x16x32x8x64_S1x16x32x8x64 : (Proc.devRef .tc main_while0b_v53 : DevRef τ sig).ty.Contents (Elt F)) = Cert.GlaRefIdeal.Step.b35 j s := by
  unfold Cert.GlaRefIdeal.Step.b35
  rw [← al_30 h, ← al_31 h, ← al_32 h, ← al_33 h, ← al_34 h, h.f_6, h.n_4]
  try rfl

/-! One trip's step of the carried values is `step`, field by field; a counter steps to the next number. -/

theorem step_5 (h : Holds V0 s j) : step_main_v38_5 V0 = (step j s).main_v38_5 := by
  unfold step_main_v38_5 Cert.GlaRefIdeal.Step.step
  show id (addf (mulf (broadcastInDim S16x8x32x64 ![0, 1, 2, 3] bcast_S16x8x32x1_S16x8x32x64_0_1_2_3 (broadcastInDim S16x8x32x1 ![0, 1, 2] bcast_S16x8x32_S16x8x32x1_0_1_2 (shapeCast S16x8x32 (Host.dynamicSlice S1x16x8x32 (V0 (Proc.devRef .tc main_v38_0)) (fun k => (((![V0 (Proc.devRef .tc main_v38_4), constantI S_ 32 0#32, constantI S_ 32 0#32, constantI S_ 32 0#32] : Fin 4 → (⟨S_, .i32⟩ : BufTy).Contents (Elt F))) k (Shape.Idx.first h_S_)).toInt) sliceFits_S64x16x8x32_S1x16x8x32) shapeCasts_S1x16x8x32_S16x8x32))) (V0 (Proc.devRef .tc main_v38_5))) (shapeCast S16x8x32x64 (Host.dynamicSlice S1x16x8x32x64 (V0 (Proc.devRef .tc main_v38_1)) (fun k => (((![V0 (Proc.devRef .tc main_v38_4), constantI S_ 32 0#32, constantI S_ 32 0#32, constantI S_ 32 0#32, constantI S_ 32 0#32] : Fin 5 → (⟨S_, .i32⟩ : BufTy).Contents (Elt F))) k (Shape.Idx.first h_S_)).toInt) sliceFits_S64x16x8x32x64_S1x16x8x32x64) shapeCasts_S1x16x8x32x64_S16x8x32x64)) = _
  rw [al_26 h]
  try rfl
set_option maxRecDepth 8192 in
theorem step_6 (h : Holds V0 s j) : step_main_v38_6 V0 = (step j s).main_v38_6 := by
  unfold step_main_v38_6 Cert.GlaRefIdeal.Step.step
  exact al_35 h
theorem step_4 (h : Holds V0 s j) : step_main_v38_4 V0 = constantI S_ 32 (BitVec.ofNat 32 (j + 1)) := by
  unfold step_main_v38_4
  rw [h.n_4]
  funext i
  show BitVec.ofNat 32 j + 1#32 = BitVec.ofNat 32 (j + 1)
  simp only [BitVec.ofNat_add]

set_option maxRecDepth 8192 in
theorem out_main_v41_holds (h : Holds V0 s j) : out_main_v41 V0 = Cert.GlaRefIdeal.Step.R_main_v41 s := by
  unfold out_main_v41 Cert.GlaRefIdeal.Step.R_main_v41
  rw [h.f_6]
  try rfl

/-- One trip keeps the valuation holding: `step` of the state, the same set-up values, the next number. -/
theorem holds_step (h : Holds V0 s j) : Holds (STEP V0) (step j s) (j + 1) where
  f_5 := (STEP_main_v38_5 V0).trans (step_5 h)
  f_6 := (STEP_main_v38_6 V0).trans (step_6 h)
  n_4 := (STEP_main_v38_4 V0).trans (step_4 h)
  f_0 := (STEP_main_v38_0 V0).trans h.f_0
  f_1 := (STEP_main_v38_1 V0).trans h.f_1
  f_2 := (STEP_main_v38_2 V0).trans h.f_2
  f_3 := (STEP_main_v38_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v41) = Cert.GlaRefIdeal.Step.R_main_v41 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v41_holds hk), (h c).2.1, (h c).2.2.1, (h c).2.2.2.1, (h c).2.2.2.2⟩) (Value.run m ρ)

end Cert.GlaRefIdeal.Loop

end
-- ==== Proof.GlaRefRead.lean ====
/- The reference's values, read at an index, and its loop's result, in extended-real arithmetic. -/
module

public import proofs.«01_k».proof.Proof.GlaSpec
public import proofs.«01_k».proof.Proof.Gen.GlaRefIdeal.Step
public import proofs.«01_k».proof.Proof.GlaRefStep
public import Idealize.ShloMosaic.Lib.Pointwise
public import Idealize.ShloMosaic.Lib.WordCmp

@[expose] public section

set_option maxRecDepth 16384
set_option maxHeartbeats 1000000

noncomputable section

namespace Cert.GlaRefIdeal.Math

open Cert.GlaRefIdeal Cert.GlaRefIdeal.Gen Cert.GlaRefIdeal.Step Idealize.ShloMosaic Idealize.ShloMosaic.TcCoe Idealize.SL.Sem Cert.GlaSpec

variable (q k : FVec Ideal S16x2048x256 .f32) (v : FVec Ideal S16x2048x512 .bf16) (la : FVec Ideal S16x2048x256 .f32)
  (b : Fin 16) (g : Fin 64) (r : Fin 32) (h : Fin 8) (e : Fin 32) (w : Fin 64)

theorem row_eq (h' : g.val * 32 + r.val < 2048) : (⟨g.val * 32 + r.val, h'⟩ : Fin 2048) = row g r :=
  Fin.ext (by show g.val * 32 + r.val = 32 * g.val + r.val; omega)

theorem key_eq (h' : h.val * 32 + e.val < 256) : (⟨h.val * 32 + e.val, h'⟩ : Fin 256) = key h e :=
  Fin.ext (by show h.val * 32 + e.val = 32 * h.val + e.val; omega)

theorem val_eq (h' : h.val * 64 + w.val < 512) : (⟨h.val * 64 + w.val, h'⟩ : Fin 512) = val h w :=
  Fin.ext (by show h.val * 64 + w.val = 64 * h.val + w.val; omega)

theorem v7_apply : (A_main_v7 (F := Ideal) q k v la : FVec Ideal S16x64x32x8x32 .f32) (ix5 b g r h e) =
    q (ix3 b (row g r) (key h e)) * Ideal.ofBits .f32 0x3E3504F3#32 := by
  unfold A_main_v7 A_main_v2 A_main_v0 K_main_v1 K_main_cst
  pointwise
  rw [row_eq, key_eq]

theorem v8_apply : (A_main_v8 (F := Ideal) q k v la : FVec Ideal S16x64x32x8x32 .f32) (ix5 b g r h e) = k (ix3 b (row g r) (key h e)) := by
  unfold A_main_v8 A_main_v3
  pointwise
  rw [row_eq, key_eq]

theorem v9_apply : (A_main_v9 (F := Ideal) q k v la : FVec Ideal S16x64x32x8x64 .f32) (ix5 b g r h w) = v (ix3 b (row g r) (val h w)) := by
  unfold A_main_v9 A_main_v5 A_main_v4
  pointwise
  rw [row_eq, val_eq]

theorem v10_apply : (A_main_v10 (F := Ideal) q k v la : FVec Ideal S16x64x32x8x32 .f32) (ix5 b g r h e) = la (ix3 b (row g r) (key h e)) := by
  unfold A_main_v10 A_main_v6
  pointwise
  rw [row_eq, key_eq]

theorem foldl_sum {n : Nat} (f : Fin n → EReal) (x : EReal) : (List.finRange n).foldl (fun a i => a + f i) x = x + ∑ i, f i := by
  have h : ∀ (l : List (Fin n)) (x : EReal), l.foldl (fun a i => a + f i) x = x + (l.map f).sum := by
    intro l
    induction l with
    | nil => intro x; simp
    | cons a l ih => intro x; rw [List.foldl_cons, ih, List.map_cons, List.sum_cons, add_assoc]
  rw [h, ← List.sum_ofFn, List.ofFn_eq_map]

/-- The window of a sum along a chunk's rows: 32 rows, one of everything else. -/
abbrev windowShape : Shape := ⟨5, ![1, 1, 32, 1, 1]⟩

/-- Row `d` of the window. -/
def windowAt (d : Fin 32) : windowShape.Idx := fun a =>
  match a with
  | ⟨0, _⟩ => (0 : Fin 1)
  | ⟨1, _⟩ => (0 : Fin 1)
  | ⟨2, _⟩ => d
  | ⟨3, _⟩ => (0 : Fin 1)
  | ⟨4, _⟩ => (0 : Fin 1)

theorem windowAt_bij : Function.Bijective windowAt := by
  constructor
  · intro c d h
    exact congrFun h 2
  · intro i
    refine ⟨i 2, funext fun a => ?_⟩
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

/-- What the window reads at a place of it: the element there, or zero off the array. -/
def inWindow (x : FVec Ideal S16x64x32x8x32 .f32) (b : Fin 16) (g : Fin 64) (r : Fin 32) (h : Fin 8) (e : Fin 32) (i : windowShape.Idx) : EReal :=
  if hin : ∀ a : Fin 5, (![0, 0, 31, 0, 0] : Fin 5 → Nat) a ≤ (ix5 b g r h e a).val * (![1, 1, 1, 1, 1] : Fin 5 → Nat) a + (i a).val ∧
      (ix5 b g r h e a).val * (![1, 1, 1, 1, 1] : Fin 5 → Nat) a + (i a).val - (![0, 0, 31, 0, 0] : Fin 5 → Nat) a < S16x64x32x8x32.size a then
    x (fun a => ⟨(ix5 b g r h e a).val * (![1, 1, 1, 1, 1] : Fin 5 → Nat) a + (i a).val - (![0, 0, 31, 0, 0] : Fin 5 → Nat) a, (hin a).2⟩) else 0

/-- The sums along a chunk's rows. -/
theorem cumsum_apply (x : FVec Ideal S16x64x32x8x32 .f32) :
    Host.reduceWindowAdd ![1, 1, 32, 1, 1] ![1, 1, 1, 1, 1] ![0, 0, 31, 0, 0] ![0, 0, 0, 0, 0] x
      (broadcastInDim S_ ![] bcast_S_S_ (constant (F := Ideal) S_ .f32 0x00000000#32))
      reduceWindows_S16x64x32x8x32_S16x64x32x8x32_w1s1p0_0_w1s1p0_0_w32s1p31_0_w1s1p0_0_w1s1p0_0 h_S_ (ix5 b g r h e) =
    ∑ d : Fin 32, if d.val ≤ r.val then x (ix5 b g d h e) else 0 := by
  have hz : broadcastInDim S_ ![] bcast_S_S_ (constant (F := Ideal) S_ .f32 0x00000000#32) (Shape.Idx.first h_S_) = (0 : EReal) := by
    show Ideal.ofBits .f32 0x00000000#32 = 0
    exact Ideal.ofBits_zero_f32
  unfold Host.reduceWindowAdd
  rw [hz]
  change Ideal.hostReduceWindowAdd ![1, 1, 32, 1, 1] ![1, 1, 1, 1, 1] ![0, 0, 31, 0, 0] ![0, 0, 0, 0, 0]
    reduceWindows_S16x64x32x8x32_S16x64x32x8x32_w1s1p0_0_w1s1p0_0_w32s1p31_0_w1s1p0_0_w1s1p0_0 x 0 (ix5 b g r h e) = _
  unfold Ideal.hostReduceWindowAdd Host.reduceWindow
  refine (List.foldl_ext _ (fun a n => a + inWindow x b g r h e (windowShape.rowMajor.symm n)) 0 fun a n _ =>
    congrArg (a + ·) (dite_congr rfl (fun _ => rfl) fun _ => rfl)).trans ?_
  refine (foldl_sum (fun n => inWindow x b g r h e (windowShape.rowMajor.symm n)) 0).trans ?_
  rw [zero_add, Equiv.sum_comp windowShape.rowMajor.symm (inWindow x b g r h e)]
  rw [← Fintype.sum_bijective windowAt windowAt_bij (fun d => inWindow x b g r h e (windowAt d)) _ fun _ => rfl]
  refine Fintype.sum_equiv (Equiv.addRight (r + 1)) _ _ fun d => ?_
  have hd := d.isLt
  have hr := r.isLt
  have hv : (Equiv.addRight (r + 1) d).val = (d.val + (r.val + 1) % 32) % 32 := rfl
  unfold inWindow
  by_cases hc : 31 ≤ r.val + d.val
  · have hv' : (Equiv.addRight (r + 1) d).val = r.val + d.val - 31 := by rw [hv]; omega
    rw [dif_pos, if_pos (by omega)]
    · refine congrArg x (funext fun a => Fin.ext ?_)
      match a with
      | ⟨0, _⟩ => show b.val * 1 + 0 - 0 = b.val; omega
      | ⟨1, _⟩ => show g.val * 1 + 0 - 0 = g.val; omega
      | ⟨2, _⟩ => refine Eq.trans ?_ hv'.symm; show r.val * 1 + d.val - 31 = r.val + d.val - 31; omega
      | ⟨3, _⟩ => show h.val * 1 + 0 - 0 = h.val; omega
      | ⟨4, _⟩ => show e.val * 1 + 0 - 0 = e.val; omega
    · intro a
      match a with
      | ⟨0, _⟩ => have := b.isLt; show 0 ≤ b.val * 1 + 0 ∧ b.val * 1 + 0 - 0 < 16; omega
      | ⟨1, _⟩ => have := g.isLt; show 0 ≤ g.val * 1 + 0 ∧ g.val * 1 + 0 - 0 < 64; omega
      | ⟨2, _⟩ => show 31 ≤ r.val * 1 + d.val ∧ r.val * 1 + d.val - 31 < 32; omega
      | ⟨3, _⟩ => have := h.isLt; show 0 ≤ h.val * 1 + 0 ∧ h.val * 1 + 0 - 0 < 8; omega
      | ⟨4, _⟩ => have := e.isLt; show 0 ≤ e.val * 1 + 0 ∧ e.val * 1 + 0 - 0 < 32; omega
  · rw [dif_neg, if_neg (by rw [hv]; omega)]
    intro hin
    have h2 : 31 ≤ r.val * 1 + d.val := (hin 2).1
    omega

theorem sumTo_last (L : Fin 2048 → Fin 256 → EReal) (j : Fin 256) : sumTo L g 31 j = total L g j :=
  Finset.sum_congr rfl fun d _ => if_pos (by have := d.isLt; show d.val ≤ 31; omega)

abbrev at3 {m : Nat} (x : (⟨3, ![16, 2048, m]⟩ : Shape).Idx → EReal) (b : Fin 16) (s : Fin 2048) (j : Fin m) : EReal := x (ix3 b s j)

theorem v11_apply : (A_main_v11 (F := Ideal) q k v la : FVec Ideal S16x64x32x8x32 .f32) (ix5 b g r h e) = sumTo (at3 la b) g r (key h e) := by
  unfold A_main_v11 K_main_call0_call0_v0 K_main_call0_call0_cst
  refine (cumsum_apply b g r h e _).trans ?_
  refine Finset.sum_congr rfl fun d _ => if_congr Iff.rfl (v10_apply q k v la b g d h e) rfl

theorem v15_apply : (A_main_v15 (F := Ideal) q k v la : FVec Ideal S16x64x32x8x32 .f32) (ix5 b g r h e) = query (at3 q b) (at3 la b) g r (key h e) := by
  unfold A_main_v15 A_main_v14
  pointwise
  rw [v7_apply, v11_apply]
  exact mul_right_comm _ _ _

theorem v18_apply : (A_main_v18 (F := Ideal) q k v la : FVec Ideal S16x64x32x8x32 .f32) (ix5 b g r h e) =
    at3 k b (row g r) (key h e) * Ideal.exp (0 - sumTo (at3 la b) g r (key h e)) := by
  unfold A_main_v18 A_main_v17 A_main_v16
  pointwise
  rw [v8_apply, v11_apply, zero_sub]

theorem v23_apply : (A_main_v23 (F := Ideal) q k v la : FVec Ideal S16x64x32x8x32 .f32) (ix5 b g r h e) =
    at3 k b (row g r) (key h e) * Ideal.exp (total (at3 la b) g (key h e) - sumTo (at3 la b) g r (key h e)) := by
  unfold A_main_v23 A_main_v22 A_main_v21 A_main_v20 A_main_v19 A_main_v13 A_main_v12
  pointwise
  rw [v8_apply, v11_apply, v11_apply, sumTo_last]

theorem v25_apply : K_main_v25 (F := Ideal) (ix2 r e) = if e.val ≤ r.val then 1#1 else 0#1 := by
  have h : ∀ r e : Fin 32, Scalar.select (IntOp.cmpi CmpIPredicate.sge (IntOp.addi (BitVec.ofNat 32 r.val) 0#32) (BitVec.ofNat 32 e.val)) 1#1 0#1 =
      if e.val ≤ r.val then 1#1 else 0#1 := by decide +kernel
  unfold K_main_v25 K_main_v24 K_main_call1_v5 K_main_call1_v4 K_main_call1_v2 K_main_call1_v1 K_main_call1_v0 K_main_call1_v3 K_main_c K_main_call1_c K_main_call1_c_0
  pointwise
  exact h r e

theorem v27_apply : (A_main_v27 (F := Ideal) q k v la : FVec Ideal S16x64x8x32x32 .f32) (ix5 b g h r e) =
    weight (at3 q b) (at3 k b) (at3 la b) g h r e := by
  unfold A_main_v27 A_main_v26 K_main_call2_v1 K_main_call2_v2 K_main_call2_v0 K_main_cst_0
  pointwise
  rw [v25_apply]
  unfold weight
  by_cases hr : e.val ≤ r.val
  · rw [if_pos hr, if_pos hr]
    refine Eq.trans (b := ∑ x, A_main_v15 (F := Ideal) q k v la (ix5 b g r h x) * A_main_v18 (F := Ideal) q k v la (ix5 b g e h x)) rfl ?_
    refine Finset.sum_congr rfl fun f _ => ?_
    rw [v15_apply, v18_apply]
  · rw [if_neg hr, if_neg hr]
    exact Ideal.ofBits_zero_f32

theorem v36_apply : (A_main_v36 (F := Ideal) q k v la : FVec Ideal S64x16x32x8x64 .f32) (ix5 g b r h w) =
    GlaSpec.within (at3 q b) (at3 k b) (at3 v b) (at3 la b) g r h w := by
  unfold A_main_v36 A_main_v29 A_main_v28
  pointwise
  unfold GlaSpec.within
  refine Finset.sum_congr rfl fun f _ => ?_
  rw [v9_apply, v27_apply]
  exact mul_comm _ _

theorem v34_apply : (A_main_v34 (F := Ideal) q k v la : FVec Ideal S64x16x8x32x64 .f32) (ix5 g b h e w) =
    added (at3 k b) (at3 v b) (at3 la b) g h e w := by
  unfold A_main_v34 A_main_v30
  pointwise
  unfold added
  refine Finset.sum_congr rfl fun f _ => ?_
  rw [v9_apply, v23_apply]

theorem v33_apply : (A_main_v33 (F := Ideal) q k v la : FVec Ideal S64x16x8x32 .f32) (ix4 g b h e) =
    Ideal.exp (total (at3 la b) g (key h e)) := by
  unfold A_main_v33 A_main_v32 A_main_v13 A_main_v12
  pointwise
  rw [v11_apply, sumTo_last]

theorem v35_apply : (A_main_v35 (F := Ideal) q k v la : FVec Ideal S64x16x32x8x32 .f32) (ix5 g b r h e) =
    query (at3 q b) (at3 la b) g r (key h e) := by
  unfold A_main_v35
  pointwise
  exact v15_apply ..

/-! One trip of the loop. -/

variable (j : Nat) (hj : j < 64) (s : State Ideal)

theorem start_word (hj : j < 64) : (BitVec.ofNat 32 j).toInt = (j : Int) := WordCmp.toInt_ofNat_of_lt (by omega)

theorem b3_eq : (b3 j s : FVec Ideal S1x16x8x32 .f32) = extractStridedSlice S1x16x8x32 ![j, 0, 0, 0] (s.main_v38_0 : FVec Ideal S64x16x8x32 .f32)
    ⟨rfl, fun a => by match a with
      | ⟨0, _⟩ => show j + 1 ≤ 64; omega
      | ⟨1, _⟩ => show 0 + 16 ≤ 16; omega
      | ⟨2, _⟩ => show 0 + 8 ≤ 8; omega
      | ⟨3, _⟩ => show 0 + 32 ≤ 32; omega⟩ :=
  WordCmp.dynamicSlice_eq_extract _ _ _ _ _ _ (fun a => by match a with
      | ⟨0, _⟩ => exact start_word j hj
      | ⟨1, _⟩ => exact rfl
      | ⟨2, _⟩ => exact rfl
      | ⟨3, _⟩ => exact rfl)

theorem b4_apply : (b4 j s : FVec Ideal S16x8x32 .f32) (ix3 b h e) = s.main_v38_0 (ix4 ⟨j, hj⟩ b h e) := by
  unfold b4
  rw [b3_eq j hj s]
  pointwise

theorem b9_eq : (b9 j s : FVec Ideal S1x16x8x32x64 .f32) = extractStridedSlice S1x16x8x32x64 ![j, 0, 0, 0, 0] (s.main_v38_1 : FVec Ideal S64x16x8x32x64 .f32)
    ⟨rfl, fun a => by match a with
      | ⟨0, _⟩ => show j + 1 ≤ 64; omega
      | ⟨1, _⟩ => show 0 + 16 ≤ 16; omega
      | ⟨2, _⟩ => show 0 + 8 ≤ 8; omega
      | ⟨3, _⟩ => show 0 + 32 ≤ 32; omega
      | ⟨4, _⟩ => show 0 + 64 ≤ 64; omega⟩ :=
  WordCmp.dynamicSlice_eq_extract _ _ _ _ _ _ (fun a => by match a with
      | ⟨0, _⟩ => exact start_word j hj
      | ⟨1, _⟩ => exact rfl
      | ⟨2, _⟩ => exact rfl
      | ⟨3, _⟩ => exact rfl
      | ⟨4, _⟩ => exact rfl)

theorem b10_apply : (b10 j s : FVec Ideal S16x8x32x64 .f32) (ix4 b h e w) = s.main_v38_1 (ix5 ⟨j, hj⟩ b h e w) := by
  unfold b10
  rw [b9_eq j hj s]
  pointwise

theorem b15_eq : (b15 j s : FVec Ideal S1x16x32x8x32 .f32) = extractStridedSlice S1x16x32x8x32 ![j, 0, 0, 0, 0] (s.main_v38_2 : FVec Ideal S64x16x32x8x32 .f32)
    ⟨rfl, fun a => by match a with
      | ⟨0, _⟩ => show j + 1 ≤ 64; omega
      | ⟨1, _⟩ => show 0 + 16 ≤ 16; omega
      | ⟨2, _⟩ => show 0 + 32 ≤ 32; omega
      | ⟨3, _⟩ => show 0 + 8 ≤ 8; omega
      | ⟨4, _⟩ => show 0 + 32 ≤ 32; omega⟩ :=
  WordCmp.dynamicSlice_eq_extract _ _ _ _ _ _ (fun a => by match a with
      | ⟨0, _⟩ => exact start_word j hj
      | ⟨1, _⟩ => exact rfl
      | ⟨2, _⟩ => exact rfl
      | ⟨3, _⟩ => exact rfl
      | ⟨4, _⟩ => exact rfl)

theorem b16_apply : (b16 j s : FVec Ideal S16x32x8x32 .f32) (ix4 b r h e) = s.main_v38_2 (ix5 ⟨j, hj⟩ b r h e) := by
  unfold b16
  rw [b15_eq j hj s]
  pointwise

theorem b21_eq : (b21 j s : FVec Ideal S1x16x32x8x64 .f32) = extractStridedSlice S1x16x32x8x64 ![j, 0, 0, 0, 0] (s.main_v38_3 : FVec Ideal S64x16x32x8x64 .f32)
    ⟨rfl, fun a => by match a with
      | ⟨0, _⟩ => show j + 1 ≤ 64; omega
      | ⟨1, _⟩ => show 0 + 16 ≤ 16; omega
      | ⟨2, _⟩ => show 0 + 32 ≤ 32; omega
      | ⟨3, _⟩ => show 0 + 8 ≤ 8; omega
      | ⟨4, _⟩ => show 0 + 64 ≤ 64; omega⟩ :=
  WordCmp.dynamicSlice_eq_extract _ _ _ _ _ _ (fun a => by match a with
      | ⟨0, _⟩ => exact start_word j hj
      | ⟨1, _⟩ => exact rfl
      | ⟨2, _⟩ => exact rfl
      | ⟨3, _⟩ => exact rfl
      | ⟨4, _⟩ => exact rfl)

theorem b22_apply : (b22 j s : FVec Ideal S16x32x8x64 .f32) (ix4 b r h w) = s.main_v38_3 (ix5 ⟨j, hj⟩ b r h w) := by
  unfold b22
  rw [b21_eq j hj s]
  pointwise

/-- The next state of the recurrence. -/
theorem b26_apply : (b26 j s : FVec Ideal S16x8x32x64 .f32) (ix4 b h e w) =
    s.main_v38_0 (ix4 ⟨j, hj⟩ b h e) * s.main_v38_5 (ix4 b h e w) + s.main_v38_1 (ix5 ⟨j, hj⟩ b h e w) := by
  unfold b26 b25 b24 b23
  pointwise
  rw [b4_apply b h e j hj s, b10_apply b h e w j hj s]

/-- The chunk's rows of the output. -/
theorem b29_apply : (b29 j s : FVec Ideal S16x32x8x64 .f32) (ix4 b r h w) =
    s.main_v38_3 (ix5 ⟨j, hj⟩ b r h w) + ∑ f : Fin 32, s.main_v38_5 (ix4 b h f w) * s.main_v38_2 (ix5 ⟨j, hj⟩ b r h f) := by
  unfold b29 b28 b27
  pointwise
  rw [b22_apply b r h w j hj s]
  refine congrArg (_ + ·) (Finset.sum_congr rfl fun f _ => ?_)
  rw [b16_apply b r h f j hj s]

theorem b35_eq : (b35 j s : FVec Ideal S64x16x32x8x64 .f32) = updateSlice (s.main_v38_6 : FVec Ideal S64x16x32x8x64 .f32)
    (b30 j s : FVec Ideal S1x16x32x8x64 .f32) ![j, 0, 0, 0, 0]
    ⟨rfl, fun a => by match a with
      | ⟨0, _⟩ => show j + 1 ≤ 64; omega
      | ⟨1, _⟩ => show 0 + 16 ≤ 16; omega
      | ⟨2, _⟩ => show 0 + 32 ≤ 32; omega
      | ⟨3, _⟩ => show 0 + 8 ≤ 8; omega
      | ⟨4, _⟩ => show 0 + 64 ≤ 64; omega⟩ :=
  WordCmp.dynamicUpdateSlice_eq_update _ _ _ _ _ _ (fun a => by match a with
      | ⟨0, _⟩ => exact start_word j hj
      | ⟨1, _⟩ => exact rfl
      | ⟨2, _⟩ => exact rfl
      | ⟨3, _⟩ => exact rfl
      | ⟨4, _⟩ => exact rfl)

include hj in
theorem b35_apply : (b35 j s : FVec Ideal S64x16x32x8x64 .f32) (ix5 g b r h w) =
    if g.val = j then (b29 j s : FVec Ideal S16x32x8x64 .f32) (ix4 b r h w) else s.main_v38_6 (ix5 g b r h w) := by
  rw [b35_eq j hj s]
  unfold b30
  pointwise
  by_cases hc : g.val = j
  · rw [dif_pos ⟨by omega, by omega⟩, if_pos hc]
  · rw [dif_neg (fun hh => hc (by omega)), if_neg hc]

/-! The loop. -/

/-- The loop's state after `n` trips. -/
def states : Nat → State Ideal
  | 0 => init q k v la
  | n + 1 => step n (states n)

theorem states_succ (n : Nat) : states q k v la (n + 1) = step n (states q k v la n) := rfl

theorem states_fixed (n : Nat) :
    (states q k v la n).main_v38_0 = A_main_v33 q k v la ∧ (states q k v la n).main_v38_1 = A_main_v34 q k v la ∧
    (states q k v la n).main_v38_2 = A_main_v35 q k v la ∧ (states q k v la n).main_v38_3 = A_main_v36 q k v la := by
  induction n with
  | zero => exact ⟨rfl, rfl, rfl, rfl⟩
  | succ n ih => exact ih

theorem states_state (n : Nat) (hn : n ≤ 64) : ∀ (b : Fin 16) (h : Fin 8) (e : Fin 32) (w : Fin 64),
    (states q k v la n).main_v38_5 (ix4 b h e w) = state (at3 k b) (at3 v b) (at3 la b) n h e w := by
  induction n with
  | zero =>
    intro b h e w
    show K_main_v31 (F := Ideal) (ix4 b h e w) = 0
    unfold K_main_v31 K_main_cst_1
    pointwise
  | succ n ih =>
    intro b h e w
    obtain ⟨h0, h1, _, _⟩ := states_fixed q k v la n
    have hg : (⟨n, hn⟩ : Fin 64) = Fin.ofNat 64 n := Fin.ext (Nat.mod_eq_of_lt hn).symm
    refine (b26_apply b h e w n hn _).trans ?_
    rw [h0, h1, ih (by omega), v33_apply, v34_apply, hg]
    rfl

theorem states_out (n : Nat) (hn : n ≤ 64) : ∀ (b : Fin 16) (g : Fin 64) (r : Fin 32) (h : Fin 8) (w : Fin 64), g.val < n →
    (states q k v la n).main_v38_6 (ix5 g b r h w) = result (at3 q b) (at3 k b) (at3 v b) (at3 la b) g r h w := by
  induction n with
  | zero => intro b g r h w hg; omega
  | succ n ih =>
    intro b g r h w hg
    obtain ⟨_, _, h2, h3⟩ := states_fixed q k v la n
    refine (b35_apply b g r h w n hn _).trans ?_
    by_cases hc : g.val = n
    · rw [if_pos hc, b29_apply b r h w n hn]
      have hg' : (⟨n, hn⟩ : Fin 64) = g := Fin.ext hc.symm
      rw [h2, h3, hg', v36_apply]
      unfold result
      refine congrArg (_ + ·) (Finset.sum_congr rfl fun f _ => ?_)
      rw [v35_apply, states_state q k v la n (by omega), hc]
      exact mul_comm _ _
    · rw [if_neg hc]
      exact ih (by omega) b g r h w (by omega)

/-- The reference's result. -/
theorem result_apply (c : Fin 2048) (l : Fin 512) :
    (R_main_v41 (states q k v la 64) : FVec Ideal S16x2048x512 .f32) (ix3 b c l) =
      result (at3 q b) (at3 k b) (at3 v b) (at3 la b) ⟨c.val / 32, by omega⟩ ⟨c.val % 32, by omega⟩ ⟨l.val / 64, by omega⟩ ⟨l.val % 64, by omega⟩ := by
  unfold R_main_v41
  pointwise
  exact states_out q k v la 64 le_rfl b _ _ _ _ (by show c.val / 32 < 64; omega)

end Cert.GlaRefIdeal.Math

end
-- ==== Proof.GlaTile.lean ====
/- One tile of the forward recurrence as the kernel computes it: 256 rows, eight chunks of 32, eight heads worked in four
   pairs, from the tile's blocks and the state before it. Every stage is a function of the stages before it. -/
module

public import proofs.«01_k».proof.Proof.Gen.GlaIdeal.Value
public import Idealize.ShloMosaic.Lib.Pointwise
public import Idealize.ShloMosaic.Lib.Pipeline.ValueKit

@[expose] public section

set_option maxRecDepth 16384

noncomputable section

namespace Cert.GlaIdeal.Tile

open Cert.GlaIdeal Cert.GlaIdeal.Gen Idealize.ShloMosaic Idealize.ShloMosaic.TcCoe Idealize.SL.Sem

variable {F : FTy → Type} [FloatOps F]

/-- A block of a two-dimensional array. -/
theorem slices2 {a b c d o₁ o₂ : Nat} (h₁ : o₁ + c ≤ a) (h₂ : o₂ + d ≤ b) :
    Shape.Slices (⟨2, ![a, b]⟩ : Shape) ![o₁, o₂] ⟨2, ![c, d]⟩ :=
  ⟨rfl, fun x => match x with | 0 => h₁ | 1 => h₂⟩

/-- The quotient rounded down, as printed: the quotient rounded to zero, less one where the signs differ and a rest remains. -/
def fdiv {S : Shape} (x : IVec S 32) (d : BitVec 32) : IVec S 32 :=
  select
    (andi
      (cmpi .ne
        (subi (extui 32 (cmpi .sgt x (broadcast S 0#32)) natLt_1_32) (extui 32 (cmpi .slt x (broadcast S 0#32)) natLt_1_32))
        (broadcast S (Scalar.subi (Scalar.extui (Scalar.cmpi .sgt d 0#32)) (Scalar.extui (Scalar.cmpi .slt d 0#32)))))
      (cmpi .ne (remsi x (broadcast S d)) (broadcast S 0#32)))
    (subi (divsi x (broadcast S d)) (broadcast S 1#32)) (divsi x (broadcast S d))

/-- The head of a key row. -/
def rowHead : IVec S256x1 32 := fdiv (iota .tc S256x1 32 [0] iota_S256x1_d0_w32) 32#32

/-- The lanes of a pair's first head. -/
def firstHalf : IVec S1x128 1 := cmpi .slt (iota .tc S1x128 32 [1] iota_S1x128_d1_w32) (broadcast S1x128 64#32)

/-- Row `i` of half a tile sees column `j` (taken modulo 128): the same chunk, and not later. -/
def causal : IVec S128x256 1 :=
  andi (cmpi .eq (fdiv (iota .tc S128x256 32 [0] iota_S128x256_d0_w32) 32#32) (fdiv k0_pay103 32#32))
    (cmpi .sle k0_pay103 (iota .tc S128x256 32 [0] iota_S128x256_d0_w32))

/-- A pair's key row and value lane belong to the same head. -/
def parity : IVec S64x128 1 :=
  cmpi .eq (fdiv (iota .tc S64x128 32 [0] iota_S64x128_d0_w32) 32#32) (fdiv (iota .tc S64x128 32 [1] iota_S64x128_d1_w32) 64#32)

/-- The pair of a key lane. -/
def lanePair : IVec S1x256 32 := fdiv (iota .tc S1x256 32 [1] iota_S1x256_d1_w32) 64#32

/-- The logarithms of the decays, summed from the chunk's first row (the left half) and over the whole chunk (the right half). -/
def sums (tri : Vec F S256x512 .bf16) (la : Vec F S1x256x256 .f32) : FVec F S256x512 .f32 :=
  addf
    (addf (broadcast S256x512 (Scalar.ofBits .f32 0x00000000#32))
      (matmul dot_S256x256_S256x512_S256x512_1_0_0_1_n_n none
        (truncf .bf16 (transpose S256x256 [1, 0] (shapeCast S256x256 la shapeCasts_S1x256x256_S256x256) transposes_S256x256_p1_0_S256x256)
          bitsLt_bf16_f32)
        (shapeCast S256x512 tri shapeCasts_S256x512_S256x512) (constant S256x512 .f32 0x00000000#32)))
    (matmul dot_S256x256_S256x512_S256x512_1_0_0_1_n_n none
      (truncf .bf16
        (subf (transpose S256x256 [1, 0] (shapeCast S256x256 la shapeCasts_S1x256x256_S256x256) transposes_S256x256_p1_0_S256x256)
          (extf .f32
            (truncf .bf16 (transpose S256x256 [1, 0] (shapeCast S256x256 la shapeCasts_S1x256x256_S256x256) transposes_S256x256_p1_0_S256x256)
              bitsLt_bf16_f32) bitsLt_bf16_f32)) bitsLt_bf16_f32)
      (shapeCast S256x512 tri shapeCasts_S256x512_S256x512) (constant S256x512 .f32 0x00000000#32))

def bT (tri : Vec F S256x512 .bf16) (la : Vec F S1x256x256 .f32) : FVec F S256x256 .f32 :=
  extractStridedSlice S256x256 ![0, 0] (sums tri la) slices_S256x512_o0_0_S256x256

def totT (tri : Vec F S256x512 .bf16) (la : Vec F S1x256x256 .f32) : FVec F S256x256 .f32 :=
  extractStridedSlice S256x256 ![0, 256] (sums tri la) slices_S256x512_o0_256_S256x256

/-- The queries, decayed. -/
def qIn (b : FVec F S256x256 .f32) (q : Vec F S1x256x256 .f32) : FVec F S256x256 .f32 :=
  mulf (mulf (shapeCast S256x256 q shapeCasts_S1x256x256_S256x256) (exp (transpose S256x256 [1, 0] b transposes_S256x256_p1_0_S256x256)))
    (broadcast S256x256 (Scalar.ofBits .f32 0x3E3504F3#32))

def qBf (q : FVec F S256x256 .f32) : FVec F S256x256 .bf16 := truncf .bf16 q bitsLt_bf16_f32

def keysT (k : Vec F S1x256x256 .f32) : FVec F S256x256 .f32 :=
  transpose S256x256 [1, 0] (shapeCast S256x256 k shapeCasts_S1x256x256_S256x256) transposes_S256x256_p1_0_S256x256

/-- The keys within a chunk. -/
def kIntra (kT b : FVec F S256x256 .f32) : FVec F S256x256 .f32 :=
  mulf kT (exp (subf (broadcast S256x256 (Scalar.ofBits .f32 0x00000000#32)) b))

/-- The keys into the state. -/
def kState (kT b tot : FVec F S256x256 .f32) : FVec F S256x256 .bf16 :=
  truncf .bf16 (mulf kT (exp (subf tot b))) bitsLt_bf16_f32

def decayT (tot : FVec F S256x256 .f32) : FVec F S256x256 .f32 := exp tot

def vals (v : Vec F S1x256x512 .bf16) : FVec F S256x512 .bf16 := shapeCast S256x512 v shapeCasts_S1x256x512_S256x512

/-- A pair's part within the chunks, for half a tile. -/
def intra (p : Fin 4) (t : Fin 2) (q : FVec F S256x256 .bf16) (k : FVec F S256x256 .f32) (v : FVec F S256x512 .bf16) :
    FVec F S128x128 .f32 :=
  matmul dot_S128x256_S256x128_S128x128_1_0_0_1_n_n none
    (truncf .bf16
      (select causal
        (matmul dot_S128x256_S256x256_S128x256_1_0_0_1_n_n none
          (extractStridedSlice S128x256 ![128 * t.val, 0] q (slices2 (by omega) (by omega)))
          (truncf .bf16
            (concatenate S256x256 1
              [⟨S256x128, select (broadcastTo S256x128 (shapeCast S256x1 (cmpi .eq rowHead (broadcast S256x1 (BitVec.ofNat 32 (2 * p.val)))) shapeCasts_S256x1_S256x1) broadcasts_S256x1_S256x128)
                  (extractStridedSlice S256x128 ![0, 128 * t.val] k (slices2 (by omega) (by omega))) (broadcast S256x128 (Scalar.ofBits .f32 0x00000000#32))⟩,
               ⟨S256x128, select (broadcastTo S256x128 (shapeCast S256x1 (cmpi .eq rowHead (broadcast S256x1 (BitVec.ofNat 32 (2 * p.val + 1)))) shapeCasts_S256x1_S256x1) broadcasts_S256x1_S256x128)
                  (extractStridedSlice S256x128 ![0, 128 * t.val] k (slices2 (by omega) (by omega))) (broadcast S256x128 (Scalar.ofBits .f32 0x00000000#32))⟩]
              concatenates_S256x128_S256x128_S256x256_d1) bitsLt_bf16_f32)
          (constant S128x256 .f32 0x00000000#32))
        (broadcast S128x256 (Scalar.ofBits .f32 0x00000000#32))) bitsLt_bf16_f32)
    (concatenate S256x128 0
      [⟨S128x128, select (broadcastTo S128x128 (shapeCast S1x128 firstHalf shapeCasts_S1x128_S1x128) broadcasts_S1x128_S128x128)
          (extractStridedSlice S128x128 ![128 * t.val, 128 * p.val] v (slices2 (by omega) (by omega))) (broadcast S128x128 (Scalar.ofBits .bf16 0x0000#16))⟩,
       ⟨S128x128, select (broadcastTo S128x128 (shapeCast S1x128 firstHalf shapeCasts_S1x128_S1x128) broadcasts_S1x128_S128x128)
          (broadcast S128x128 (Scalar.ofBits .bf16 0x0000#16)) (extractStridedSlice S128x128 ![128 * t.val, 128 * p.val] v (slices2 (by omega) (by omega)))⟩]
      concatenates_S128x128_S128x128_S256x128_d0)
    (constant S128x128 .f32 0x00000000#32)

/-- Eight chunks one below the other. -/
def stack8 {α : Type} (f : Fin 8 → S32x128.Idx → α) : S256x128.Idx → α :=
  concatenate S256x128 0
    [⟨S32x128, f 0⟩, ⟨S32x128, f 1⟩, ⟨S32x128, f 2⟩, ⟨S32x128, f 3⟩, ⟨S32x128, f 4⟩, ⟨S32x128, f 5⟩, ⟨S32x128, f 6⟩, ⟨S32x128, f 7⟩]
    concatenates_S32x128_S32x128_S32x128_S32x128_S32x128_S32x128_S32x128_S32x128_S256x128_d0

/-- Eight blocks side by side. -/
def row8 {α : Type} (f : Fin 8 → S256x128.Idx → α) : S256x1024.Idx → α :=
  concatenate S256x1024 1
    [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
    concatenates_S256x128_S256x128_S256x128_S256x128_S256x128_S256x128_S256x128_S256x128_S256x1024_d1

/-- Four pairs' blocks one below the other: key rows. -/
def stack4 {α : Type} (f : Fin 4 → S64x128.Idx → α) : S256x128.Idx → α :=
  concatenate S256x128 0 [⟨S64x128, f 0⟩, ⟨S64x128, f 1⟩, ⟨S64x128, f 2⟩, ⟨S64x128, f 3⟩]
    concatenates_S64x128_S64x128_S64x128_S64x128_S256x128_d0

/-- Four pairs' blocks one below the other: query rows. -/
def stackQ {α : Type} (f : Fin 4 → S32x256.Idx → α) : S128x256.Idx → α :=
  concatenate S128x256 0 [⟨S32x256, f 0⟩, ⟨S32x256, f 1⟩, ⟨S32x256, f 2⟩, ⟨S32x256, f 3⟩]
    concatenates_S32x256_S32x256_S32x256_S32x256_S128x256_d0

/-- Four pairs' blocks side by side. -/
def row4 {α : Type} (f : Fin 4 → S256x128.Idx → α) : S256x512.Idx → α :=
  concatenate S256x512 1 [⟨S256x128, f 0⟩, ⟨S256x128, f 1⟩, ⟨S256x128, f 2⟩, ⟨S256x128, f 3⟩]
    concatenates_S256x128_S256x128_S256x128_S256x128_S256x512_d1

/-- A pair's keys times its values, chunk by chunk side by side. -/
def up (p : Fin 4) (k : FVec F S256x256 .bf16) (v : FVec F S256x512 .bf16) : FVec F S64x1024 .f32 :=
  matmul dot_S64x256_S256x1024_S64x1024_1_0_0_1_n_n none
    (extractStridedSlice S64x256 ![64 * p.val, 0] k (slices2 (by omega) (by omega)))
    (row8 fun n => stack8 fun m =>
      bif m = n then
        extractStridedSlice S32x128 ![32 * m.val, 0] (extractStridedSlice S256x128 ![0, 128 * p.val] v (slices2 (by omega) (by omega)))
          (slices2 (a := 256) (b := 128) (by omega) (by omega))
      else broadcast S32x128 (Scalar.ofBits .bf16 0x0000#16))
    (constant S64x1024 .f32 0x00000000#32)

/-- What a chunk adds to the state. -/
def adds (n : Fin 8) (u : Fin 4 → FVec F S64x1024 .f32) : FVec F S256x128 .f32 :=
  stack4 fun p => select parity (extractStridedSlice S64x128 ![0, 128 * n.val] (u p) (slices2 (by omega) (by omega)))
    (broadcast S64x128 (Scalar.ofBits .f32 0x00000000#32))

/-- The state after a chunk. -/
def next (n : Fin 8) (dec : FVec F S256x256 .f32) (u : Fin 4 → FVec F S64x1024 .f32) (st : Vec F S256x128 .f32) : FVec F S256x128 .f32 :=
  addf
    (mulf
      (broadcastTo S256x128 (shapeCast S256x1 (extractStridedSlice S256x1 ![0, 32 * n.val] dec (slices2 (by omega) (by omega))) shapeCasts_S256x1_S256x1)
        broadcasts_S256x1_S256x128) st)
    (adds n u)

/-- A chunk's queries times the state before it, the four pairs one below the other. -/
def inter (n : Fin 8) (q : FVec F S256x256 .f32) (st : Vec F S256x128 .f32) : FVec F S128x128 .f32 :=
  matmul dot_S128x256_S256x128_S128x128_1_0_0_1_n_n none
    (truncf .bf16
      (stackQ fun p =>
        select (broadcastTo S32x256 (shapeCast S1x256 (cmpi .eq lanePair (broadcast S1x256 (BitVec.ofNat 32 p.val))) shapeCasts_S1x256_S1x256) broadcasts_S1x256_S32x256)
          (extractStridedSlice S32x256 ![32 * n.val, 0] q (slices2 (by omega) (by omega)))
          (broadcast S32x256 (Scalar.ofBits .f32 0x00000000#32))) bitsLt_bf16_f32)
    (truncf .bf16 st bitsLt_bf16_f32)
    (constant S128x128 .f32 0x00000000#32)

/-- The tile's result. -/
def out (i : Fin 4 → Fin 2 → FVec F S128x128 .f32) (r : Fin 8 → FVec F S128x128 .f32) : FVec F S1x256x512 .f32 :=
  k0_pay1 (row4 fun p =>
    addf (concatenate S256x128 0 [⟨S128x128, i p 0⟩, ⟨S128x128, i p 1⟩] concatenates_S128x128_S128x128_S256x128_d0)
      (stack8 fun n => extractStridedSlice S32x128 ![32 * p.val, 0] (r n) (slices2 (by omega) (by omega))))

/-- The tile's 256 rows of a sequence. -/
def rows {α : Type} {n : Nat} (x : (⟨3, ![1, 2048, n]⟩ : Shape).Idx → α) (t : Fin 8) : (⟨3, ![1, 256, n]⟩ : Shape).Idx → α :=
  fun y => x (ix3 0 ⟨256 * t.val + (y 1).val, by have : (y 1).val < 256 := (y 1).isLt; omega⟩ (y 2))

section
variable (tri : Vec F S256x512 .bf16) (q k : Vec F S1x256x256 .f32) (v : Vec F S1x256x512 .bf16) (la : Vec F S1x256x256 .f32)
  (st : Vec F S256x128 .f32)

def tU (p : Fin 4) : FVec F S64x1024 .f32 := up p (kState (keysT k) (bT tri la) (totT tri la)) (vals v)

def tI (p : Fin 4) (t : Fin 2) : FVec F S128x128 .f32 := intra p t (qBf (qIn (bT tri la) q)) (kIntra (keysT k) (bT tri la)) (vals v)

/-- The state before the tile's chunk `n`. -/
def tS : Nat → Vec F S256x128 .f32
  | 0 => st
  | n + 1 => next (Fin.ofNat 8 n) (decayT (totT tri la)) (tU tri k v la) (tS n)

def tR (n : Fin 8) : FVec F S128x128 .f32 := inter n (qIn (bT tri la) q) (tS tri k v la st n.val)

def tOut : FVec F S1x256x512 .f32 := out (tI tri q k v la) (tR tri q k v la st)

end

/-- The state before a sequence's tile `t`. -/
def stateAt (tri : Vec F S256x512 .bf16) (k : Vec F S1x2048x256 .f32) (v : Vec F S1x2048x512 .bf16) (la : Vec F S1x2048x256 .f32) :
    Nat → Vec F S256x128 .f32
  | 0 => k0_pay2
  | t + 1 => tS tri (rows k (Fin.ofNat 8 t)) (rows v (Fin.ofNat 8 t)) (rows la (Fin.ofNat 8 t)) (stateAt tri k v la t) 8

end Cert.GlaIdeal.Tile
-- ==== Proof.GlaWords.lean ====
/- The kernel's words of one grid point as the tile's stages. -/
module

public import proofs.«01_k».proof.Proof.GlaTile
public import Idealize.ShloMosaic.Lib.WholeRead

@[expose] public section

set_option maxRecDepth 65536
set_option maxHeartbeats 4000000

noncomputable section

namespace Cert.GlaIdeal.Tile

open Cert.GlaIdeal Cert.GlaIdeal.Gen Idealize.ShloMosaic Idealize.ShloMosaic.TcCoe Idealize.SL.Sem

variable {F : FTy → Type} [FloatOps F] (c : Dev nD) (arg2 : Memref sig .tc .vmem S256x512 .bf16) (harg2 : arg2.IsWhole)
  (arg3 : Memref sig .tc .vmem S1x2048x256 .f32) (harg3 : arg3.IsWhole) (arg4 : Memref sig .tc .vmem S1x2048x256 .f32) (harg4 : arg4.IsWhole)
  (arg5 : Memref sig .tc .vmem S1x2048x512 .bf16) (harg5 : arg5.IsWhole) (arg6 : Memref sig .tc .vmem S1x2048x256 .f32) (harg6 : arg6.IsWhole)
  (arg8 : Memref sig .tc .vmem S256x128 .f32) (x0 : Vec F S256x512 .bf16) (x1 x2 : Vec F S1x2048x256 .f32) (x3 : Vec F S1x2048x512 .bf16)
  (x4 : Vec F S1x2048x256 .f32)

theorem loadK (A : Memref sig .tc .vmem S1x2048x256 .f32) (h : A.IsWhole) (t : Fin 8) (X : Vec F S1x2048x256 .f32)
    (o : Fin 3 → Nat) (p₁ : ∀ d, o d + S1x256x256.size d ≤ S1x2048x256.size d)
    (p₂ : ∀ d, (Rect.unit (s := S1x2048x256) o S1x256x256.size p₁).stride d = 1) (ho : o = ![0, 256 * t.val, 0]) :
    View.readAt (Elt F) A.view ((Rect.unit (s := S1x2048x256) o S1x256x256.size p₁).withinL
      (Rect.unit (s := S1x256x256) ![0, 0, 0] S1x256x256.size inb_S1x256x256_S1x256x256_0_0_0).toLoadRect p₂) (h.unread X) = rows X t := by
  subst ho
  funext y
  refine (h.readAt_unread X _ y).trans (congrArg X ((Rect.idx_withinL _ _ p₂ y).trans (funext fun d => Fin.ext ?_)))
  have h0 : (y 0).val < 1 := (y 0).isLt
  match d with
  | 0 => show 0 + 1 * (0 + 1 * (y 0).val) = 0; omega
  | 1 => show 256 * t.val + 1 * (0 + 1 * (y 1).val) = 256 * t.val + (y 1).val; omega
  | 2 => show 0 + 1 * (0 + 1 * (y 2).val) = (y 2).val; omega

theorem loadV (A : Memref sig .tc .vmem S1x2048x512 .bf16) (h : A.IsWhole) (t : Fin 8) (X : Vec F S1x2048x512 .bf16)
    (o : Fin 3 → Nat) (p₁ : ∀ d, o d + S1x256x512.size d ≤ S1x2048x512.size d)
    (p₂ : ∀ d, (Rect.unit (s := S1x2048x512) o S1x256x512.size p₁).stride d = 1) (ho : o = ![0, 256 * t.val, 0]) :
    View.readAt (Elt F) A.view ((Rect.unit (s := S1x2048x512) o S1x256x512.size p₁).withinL
      (Rect.unit (s := S1x256x512) ![0, 0, 0] S1x256x512.size inb_S1x256x512_S1x256x512_0_0_0).toLoadRect p₂) (h.unread X) = rows X t := by
  subst ho
  funext y
  refine (h.readAt_unread X _ y).trans (congrArg X ((Rect.idx_withinL _ _ p₂ y).trans (funext fun d => Fin.ext ?_)))
  have h0 : (y 0).val < 1 := (y 0).isLt
  match d with
  | 0 => show 0 + 1 * (0 + 1 * (y 0).val) = 0; omega
  | 1 => show 256 * t.val + 1 * (0 + 1 * (y 1).val) = 256 * t.val + (y 1).val; omega
  | 2 => show 0 + 1 * (0 + 1 * (y 2).val) = (y 2).val; omega

theorem tri_load : View.readAt (Elt F) arg2.view (Rect.unit ![0, 0] S256x512.size inb_S256x512_S256x512_0_0).toLoadRect (harg2.unread x0) = x0 := by
  funext y
  rw [harg2.readAt_unread]
  refine congrArg x0 (funext fun d => Fin.ext ?_)
  match d with
  | 0 => show 0 + 1 * (y 0).val = (y 0).val; omega
  | 1 => show 0 + 1 * (y 1).val = (y 1).val; omega

theorem parity_eq : k0_pay596 k0_pay594 k0_pay595 = parity := rfl

theorem tri_loadL : View.readAt (Elt F) arg2.view (Rect.unit ![0, 0] ![256, 512] inb_S256x512_S256x512_0_0).toLoadRect (harg2.unread x0) = x0 :=
  tri_load arg2 harg2 x0

theorem v27_eq : kernelRun0_A.sl.v27 c arg3 harg3 x1 = rows x1 0 := loadK _ _ (0 : Fin 8) _ _ _ _ rfl
theorem v23_eq : kernelRun0_A.sl.v23 c arg4 harg4 x2 = rows x2 0 := loadK _ _ (0 : Fin 8) _ _ _ _ rfl
theorem v45_eq : kernelRun0_A.sl.v45 c arg5 harg5 x3 = rows x3 0 := loadV _ _ (0 : Fin 8) _ _ _ _ rfl
theorem v4_eq : kernelRun0_A.sl.v4 c arg6 harg6 x4 = rows x4 0 := loadK _ _ (0 : Fin 8) _ _ _ _ rfl
theorem v71_eq : kernelRun0_A.sl.v71 c arg3 harg3 x1 = rows x1 1 := loadK _ _ (1 : Fin 8) _ _ _ _ rfl
theorem v67_eq : kernelRun0_A.sl.v67 c arg4 harg4 x2 = rows x2 1 := loadK _ _ (1 : Fin 8) _ _ _ _ rfl
theorem v89_eq : kernelRun0_A.sl.v89 c arg5 harg5 x3 = rows x3 1 := loadV _ _ (1 : Fin 8) _ _ _ _ rfl
theorem v48_eq : kernelRun0_A.sl.v48 c arg6 harg6 x4 = rows x4 1 := loadK _ _ (1 : Fin 8) _ _ _ _ rfl
theorem v115_eq : kernelRun0_A.sl.v115 c arg3 harg3 x1 = rows x1 2 := loadK _ _ (2 : Fin 8) _ _ _ _ rfl
theorem v111_eq : kernelRun0_A.sl.v111 c arg4 harg4 x2 = rows x2 2 := loadK _ _ (2 : Fin 8) _ _ _ _ rfl
theorem v133_eq : kernelRun0_A.sl.v133 c arg5 harg5 x3 = rows x3 2 := loadV _ _ (2 : Fin 8) _ _ _ _ rfl
theorem v92_eq : kernelRun0_A.sl.v92 c arg6 harg6 x4 = rows x4 2 := loadK _ _ (2 : Fin 8) _ _ _ _ rfl
theorem v159_eq : kernelRun0_A.sl.v159 c arg3 harg3 x1 = rows x1 3 := loadK _ _ (3 : Fin 8) _ _ _ _ rfl
theorem v155_eq : kernelRun0_A.sl.v155 c arg4 harg4 x2 = rows x2 3 := loadK _ _ (3 : Fin 8) _ _ _ _ rfl
theorem v177_eq : kernelRun0_A.sl.v177 c arg5 harg5 x3 = rows x3 3 := loadV _ _ (3 : Fin 8) _ _ _ _ rfl
theorem v136_eq : kernelRun0_A.sl.v136 c arg6 harg6 x4 = rows x4 3 := loadK _ _ (3 : Fin 8) _ _ _ _ rfl
theorem v203_eq : kernelRun0_A.sl.v203 c arg3 harg3 x1 = rows x1 4 := loadK _ _ (4 : Fin 8) _ _ _ _ rfl
theorem v199_eq : kernelRun0_A.sl.v199 c arg4 harg4 x2 = rows x2 4 := loadK _ _ (4 : Fin 8) _ _ _ _ rfl
theorem v221_eq : kernelRun0_A.sl.v221 c arg5 harg5 x3 = rows x3 4 := loadV _ _ (4 : Fin 8) _ _ _ _ rfl
theorem v180_eq : kernelRun0_A.sl.v180 c arg6 harg6 x4 = rows x4 4 := loadK _ _ (4 : Fin 8) _ _ _ _ rfl
theorem v247_eq : kernelRun0_A.sl.v247 c arg3 harg3 x1 = rows x1 5 := loadK _ _ (5 : Fin 8) _ _ _ _ rfl
theorem v243_eq : kernelRun0_A.sl.v243 c arg4 harg4 x2 = rows x2 5 := loadK _ _ (5 : Fin 8) _ _ _ _ rfl
theorem v265_eq : kernelRun0_A.sl.v265 c arg5 harg5 x3 = rows x3 5 := loadV _ _ (5 : Fin 8) _ _ _ _ rfl
theorem v224_eq : kernelRun0_A.sl.v224 c arg6 harg6 x4 = rows x4 5 := loadK _ _ (5 : Fin 8) _ _ _ _ rfl
theorem v291_eq : kernelRun0_A.sl.v291 c arg3 harg3 x1 = rows x1 6 := loadK _ _ (6 : Fin 8) _ _ _ _ rfl
theorem v287_eq : kernelRun0_A.sl.v287 c arg4 harg4 x2 = rows x2 6 := loadK _ _ (6 : Fin 8) _ _ _ _ rfl
theorem v309_eq : kernelRun0_A.sl.v309 c arg5 harg5 x3 = rows x3 6 := loadV _ _ (6 : Fin 8) _ _ _ _ rfl
theorem v268_eq : kernelRun0_A.sl.v268 c arg6 harg6 x4 = rows x4 6 := loadK _ _ (6 : Fin 8) _ _ _ _ rfl
theorem v335_eq : kernelRun0_A.sl.v335 c arg3 harg3 x1 = rows x1 7 := loadK _ _ (7 : Fin 8) _ _ _ _ rfl
theorem v331_eq : kernelRun0_A.sl.v331 c arg4 harg4 x2 = rows x2 7 := loadK _ _ (7 : Fin 8) _ _ _ _ rfl
theorem v353_eq : kernelRun0_A.sl.v353 c arg5 harg5 x3 = rows x3 7 := loadV _ _ (7 : Fin 8) _ _ _ _ rfl
theorem v312_eq : kernelRun0_A.sl.v312 c arg6 harg6 x4 = rows x4 7 := loadK _ _ (7 : Fin 8) _ _ _ _ rfl
theorem r_eq : kernelRun0_A.sl.r c arg2 harg2 arg6 harg6 x0 x4 = (bT x0 (rows x4 0)) := by
  simp only [kernelRun0_A.sl.r, tri_load, tri_loadL, parity_eq, v4_eq]; rfl
theorem r_1_eq : kernelRun0_A.sl.r_1 c arg2 harg2 arg6 harg6 x0 x4 = (totT x0 (rows x4 0)) := by
  simp only [kernelRun0_A.sl.r_1, tri_load, tri_loadL, parity_eq, v4_eq]; rfl
theorem r_2_eq : kernelRun0_A.sl.r_2 c arg4 harg4 x2 = (keysT (rows x2 0)) := by
  simp only [kernelRun0_A.sl.r_2, tri_load, tri_loadL, parity_eq, v23_eq]; rfl
theorem r_5_eq : kernelRun0_A.sl.r_5 c arg2 harg2 arg3 harg3 arg6 harg6 x0 x1 x4 = (qIn (bT x0 (rows x4 0)) (rows x1 0)) := by
  simp only [kernelRun0_A.sl.r_5, kernelRun0_A.sl.r_4, kernelRun0_A.sl.r_3, tri_load, tri_loadL, parity_eq, v4_eq, v27_eq]; rfl
theorem r_6_eq : kernelRun0_A.sl.r_6 c arg2 harg2 arg3 harg3 arg6 harg6 x0 x1 x4 = qBf (qIn (bT x0 (rows x4 0)) (rows x1 0)) := by
  simp only [kernelRun0_A.sl.r_6, kernelRun0_A.sl.r_4, kernelRun0_A.sl.r_3, tri_load, tri_loadL, parity_eq, v4_eq, v27_eq]; rfl
theorem r_7_eq : kernelRun0_A.sl.r_7 c arg2 harg2 arg4 harg4 arg6 harg6 x0 x2 x4 = kIntra (keysT (rows x2 0)) (bT x0 (rows x4 0)) := by
  simp only [kernelRun0_A.sl.r_7, tri_load, tri_loadL, parity_eq, r_2_eq, r_eq]; rfl
theorem r_8_eq : kernelRun0_A.sl.r_8 c arg2 harg2 arg4 harg4 arg6 harg6 x0 x2 x4 = kState (keysT (rows x2 0)) (bT x0 (rows x4 0)) (totT x0 (rows x4 0)) := by
  simp only [kernelRun0_A.sl.r_8, tri_load, tri_loadL, parity_eq, r_2_eq, r_1_eq, r_eq]; rfl
theorem r_9_eq : kernelRun0_A.sl.r_9 c arg2 harg2 arg6 harg6 x0 x4 = decayT (totT x0 (rows x4 0)) := by
  simp only [kernelRun0_A.sl.r_9, tri_load, tri_loadL, parity_eq, r_1_eq]; rfl
theorem r_10_eq : kernelRun0_A.sl.r_10 c arg5 harg5 x3 = vals (rows x3 0) := by
  simp only [kernelRun0_A.sl.r_10, tri_load, tri_loadL, parity_eq, v45_eq]; rfl
theorem r_141_eq : kernelRun0_A.sl.r_141 = causal := by
  simp only [kernelRun0_A.sl.r_141, kernelRun0_A.sl.v390, kernelRun0_A.sl.v402, kernelRun0_A.sl.v401, kernelRun0_A.sl.v388, kernelRun0_A.sl.v385, kernelRun0_A.sl.v400, kernelRun0_A.sl.v391, kernelRun0_A.sl.v397, kernelRun0_A.sl.v395, kernelRun0_A.sl.v393, kernelRun0_A.sl.v425, kernelRun0_A.sl.v384, kernelRun0_A.sl.v424, kernelRun0_A.sl.v416, kernelRun0_A.sl.v421, kernelRun0_A.sl.v417, kernelRun0_A.sl.v409, kernelRun0_A.sl.v406, tri_load, tri_loadL, parity_eq]; rfl
theorem r_74_eq : kernelRun0_A.sl.r_74 = causal := by
  simp only [kernelRun0_A.sl.r_74, kernelRun0_A.sl.v402, kernelRun0_A.sl.v401, kernelRun0_A.sl.v388, kernelRun0_A.sl.v385, kernelRun0_A.sl.v400, kernelRun0_A.sl.v391, kernelRun0_A.sl.v390, kernelRun0_A.sl.v397, kernelRun0_A.sl.v395, kernelRun0_A.sl.v393, kernelRun0_A.sl.v425, kernelRun0_A.sl.v384, kernelRun0_A.sl.v424, kernelRun0_A.sl.v416, kernelRun0_A.sl.v421, kernelRun0_A.sl.v417, kernelRun0_A.sl.v409, kernelRun0_A.sl.v406, tri_load, tri_loadL, parity_eq]; rfl
theorem r_95_eq : kernelRun0_A.sl.r_95 = parity := by
  simp only [kernelRun0_A.sl.r_95, kernelRun0_A.sl.v689, tri_load, tri_loadL, parity_eq]; rfl
theorem r_79_eq : kernelRun0_A.sl.r_79 c arg2 harg2 arg3 harg3 arg4 harg4 arg5 harg5 arg6 harg6 x0 x1 x2 x3 x4 = tI x0 (rows x1 0) (rows x2 0) (rows x3 0) (rows x4 0) 0 0 := by
  simp only [kernelRun0_A.sl.r_79, kernelRun0_A.sl.r_78, kernelRun0_A.sl.r_77, kernelRun0_A.sl.v402, kernelRun0_A.sl.v401, kernelRun0_A.sl.v388, kernelRun0_A.sl.v385, kernelRun0_A.sl.v400, kernelRun0_A.sl.v391, kernelRun0_A.sl.v390, kernelRun0_A.sl.v397, kernelRun0_A.sl.v395, kernelRun0_A.sl.v393, kernelRun0_A.sl.v425, kernelRun0_A.sl.v384, kernelRun0_A.sl.v424, kernelRun0_A.sl.v416, kernelRun0_A.sl.v421, kernelRun0_A.sl.v417, kernelRun0_A.sl.v409, kernelRun0_A.sl.v406, tri_load, tri_loadL, parity_eq, r_10_eq, r_7_eq, r_6_eq]; rfl
theorem r_89_eq : kernelRun0_A.sl.r_89 c arg2 harg2 arg3 harg3 arg4 harg4 arg5 harg5 arg6 harg6 x0 x1 x2 x3 x4 = tI x0 (rows x1 0) (rows x2 0) (rows x3 0) (rows x4 0) 0 1 := by
  simp only [kernelRun0_A.sl.r_89, tri_load, tri_loadL, parity_eq, r_74_eq, r_10_eq, r_7_eq, r_6_eq]; rfl
theorem r_80_eq : kernelRun0_A.sl.r_80 c arg2 harg2 arg3 harg3 arg4 harg4 arg5 harg5 arg6 harg6 x0 x1 x2 x3 x4 = tI x0 (rows x1 0) (rows x2 0) (rows x3 0) (rows x4 0) 1 0 := by
  simp only [kernelRun0_A.sl.r_80, kernelRun0_A.sl.r_76, kernelRun0_A.sl.r_75, tri_load, tri_loadL, parity_eq, r_6_eq, r_7_eq, r_74_eq, r_10_eq]; rfl
theorem r_92_eq : kernelRun0_A.sl.r_92 c arg2 harg2 arg3 harg3 arg4 harg4 arg5 harg5 arg6 harg6 x0 x1 x2 x3 x4 = tI x0 (rows x1 0) (rows x2 0) (rows x3 0) (rows x4 0) 1 1 := by
  simp only [kernelRun0_A.sl.r_92, kernelRun0_A.sl.r_91, kernelRun0_A.sl.r_90, kernelRun0_A.sl.r_88, tri_load, tri_loadL, parity_eq, r_7_eq, r_6_eq, r_74_eq, r_10_eq]; rfl
theorem r_82_eq : kernelRun0_A.sl.r_82 c arg2 harg2 arg3 harg3 arg4 harg4 arg5 harg5 arg6 harg6 x0 x1 x2 x3 x4 = tI x0 (rows x1 0) (rows x2 0) (rows x3 0) (rows x4 0) 2 0 := by
  simp only [kernelRun0_A.sl.r_82, kernelRun0_A.sl.cst_297, kernelRun0_A.sl.r_81, kernelRun0_A.sl.r_75, kernelRun0_A.sl.r_76, tri_load, tri_loadL, parity_eq, r_7_eq, r_6_eq, r_74_eq, r_10_eq]; rfl
theorem r_93_eq : kernelRun0_A.sl.r_93 c arg2 harg2 arg3 harg3 arg4 harg4 arg5 harg5 arg6 harg6 x0 x1 x2 x3 x4 = tI x0 (rows x1 0) (rows x2 0) (rows x3 0) (rows x4 0) 2 1 := by
  simp only [kernelRun0_A.sl.r_93, kernelRun0_A.sl.r_88, kernelRun0_A.sl.r_87, tri_load, tri_loadL, parity_eq, r_6_eq, r_7_eq, r_74_eq, r_10_eq]; rfl
theorem r_86_eq : kernelRun0_A.sl.r_86 c arg2 harg2 arg3 harg3 arg4 harg4 arg5 harg5 arg6 harg6 x0 x1 x2 x3 x4 = tI x0 (rows x1 0) (rows x2 0) (rows x3 0) (rows x4 0) 3 0 := by
  simp only [kernelRun0_A.sl.r_86, kernelRun0_A.sl.r_85, kernelRun0_A.sl.r_84, kernelRun0_A.sl.r_83, kernelRun0_A.sl.r_76, kernelRun0_A.sl.r_75, tri_load, tri_loadL, parity_eq, r_10_eq, r_6_eq, r_7_eq, r_74_eq]; rfl
theorem r_94_eq : kernelRun0_A.sl.r_94 c arg2 harg2 arg3 harg3 arg4 harg4 arg5 harg5 arg6 harg6 x0 x1 x2 x3 x4 = tI x0 (rows x1 0) (rows x2 0) (rows x3 0) (rows x4 0) 3 1 := by
  simp only [kernelRun0_A.sl.r_94, kernelRun0_A.sl.r_88, kernelRun0_A.sl.r_87, tri_load, tri_loadL, parity_eq, r_6_eq, r_7_eq, r_74_eq, r_10_eq]; rfl
theorem r_122_eq : kernelRun0_A.sl.r_122 c arg2 harg2 arg4 harg4 arg5 harg5 arg6 harg6 x0 x2 x3 x4 = tU x0 (rows x2 0) (rows x3 0) (rows x4 0) 2 := by
  simp only [kernelRun0_A.sl.r_122, tri_load, tri_loadL, parity_eq, r_10_eq, r_8_eq]; rfl
theorem r_131_eq : kernelRun0_A.sl.r_131 c arg2 harg2 arg4 harg4 arg5 harg5 arg6 harg6 x0 x2 x3 x4 = tU x0 (rows x2 0) (rows x3 0) (rows x4 0) 3 := by
  simp only [kernelRun0_A.sl.r_131, tri_load, tri_loadL, parity_eq, r_10_eq, r_8_eq]; rfl
theorem r_11_eq : kernelRun0_A.sl.r_11 c arg2 harg2 arg6 harg6 x0 x4 = (bT x0 (rows x4 1)) := by
  simp only [kernelRun0_A.sl.r_11, tri_load, tri_loadL, parity_eq, v48_eq]; rfl
theorem r_12_eq : kernelRun0_A.sl.r_12 c arg2 harg2 arg6 harg6 x0 x4 = (totT x0 (rows x4 1)) := by
  simp only [kernelRun0_A.sl.r_12, tri_load, tri_loadL, parity_eq, v48_eq]; rfl
theorem r_13_eq : kernelRun0_A.sl.r_13 c arg2 harg2 arg3 harg3 arg6 harg6 x0 x1 x4 = (qIn (bT x0 (rows x4 1)) (rows x1 1)) := by
  simp only [kernelRun0_A.sl.r_13, tri_load, tri_loadL, parity_eq, v71_eq, r_11_eq]; rfl
theorem r_14_eq : kernelRun0_A.sl.r_14 c arg2 harg2 arg3 harg3 arg6 harg6 x0 x1 x4 = qBf (qIn (bT x0 (rows x4 1)) (rows x1 1)) := by
  simp only [kernelRun0_A.sl.r_14, tri_load, tri_loadL, parity_eq, v71_eq, r_11_eq]; rfl
theorem r_15_eq : kernelRun0_A.sl.r_15 c arg2 harg2 arg4 harg4 arg6 harg6 x0 x2 x4 = kIntra (keysT (rows x2 1)) (bT x0 (rows x4 1)) := by
  simp only [kernelRun0_A.sl.r_15, tri_load, tri_loadL, parity_eq, v67_eq, r_11_eq]; rfl
theorem r_16_eq : kernelRun0_A.sl.r_16 c arg2 harg2 arg4 harg4 arg6 harg6 x0 x2 x4 = kState (keysT (rows x2 1)) (bT x0 (rows x4 1)) (totT x0 (rows x4 1)) := by
  simp only [kernelRun0_A.sl.r_16, tri_load, tri_loadL, parity_eq, v67_eq, r_12_eq, r_11_eq]; rfl
theorem r_17_eq : kernelRun0_A.sl.r_17 c arg2 harg2 arg6 harg6 x0 x4 = decayT (totT x0 (rows x4 1)) := by
  simp only [kernelRun0_A.sl.r_17, tri_load, tri_loadL, parity_eq, r_12_eq]; rfl
theorem r_18_eq : kernelRun0_A.sl.r_18 c arg5 harg5 x3 = vals (rows x3 1) := by
  simp only [kernelRun0_A.sl.r_18, tri_load, tri_loadL, parity_eq, v89_eq]; rfl
theorem r_146_eq : kernelRun0_A.sl.r_146 c arg2 harg2 arg3 harg3 arg4 harg4 arg5 harg5 arg6 harg6 x0 x1 x2 x3 x4 = tI x0 (rows x1 1) (rows x2 1) (rows x3 1) (rows x4 1) 0 0 := by
  simp only [kernelRun0_A.sl.r_146, kernelRun0_A.sl.r_145, kernelRun0_A.sl.r_144, kernelRun0_A.sl.v390, kernelRun0_A.sl.v402, kernelRun0_A.sl.v401, kernelRun0_A.sl.v388, kernelRun0_A.sl.v385, kernelRun0_A.sl.v400, kernelRun0_A.sl.v391, kernelRun0_A.sl.v397, kernelRun0_A.sl.v395, kernelRun0_A.sl.v393, kernelRun0_A.sl.v425, kernelRun0_A.sl.v384, kernelRun0_A.sl.v424, kernelRun0_A.sl.v416, kernelRun0_A.sl.v421, kernelRun0_A.sl.v417, kernelRun0_A.sl.v409, kernelRun0_A.sl.v406, tri_load, tri_loadL, parity_eq, r_18_eq, r_15_eq, r_14_eq]; rfl
theorem r_156_eq : kernelRun0_A.sl.r_156 c arg2 harg2 arg3 harg3 arg4 harg4 arg5 harg5 arg6 harg6 x0 x1 x2 x3 x4 = tI x0 (rows x1 1) (rows x2 1) (rows x3 1) (rows x4 1) 0 1 := by
  simp only [kernelRun0_A.sl.r_156, tri_load, tri_loadL, parity_eq, r_141_eq, r_18_eq, r_15_eq, r_14_eq]; rfl
theorem r_147_eq : kernelRun0_A.sl.r_147 c arg2 harg2 arg3 harg3 arg4 harg4 arg5 harg5 arg6 harg6 x0 x1 x2 x3 x4 = tI x0 (rows x1 1) (rows x2 1) (rows x3 1) (rows x4 1) 1 0 := by
  simp only [kernelRun0_A.sl.r_147, kernelRun0_A.sl.r_143, kernelRun0_A.sl.r_142, tri_load, tri_loadL, parity_eq, r_14_eq, r_15_eq, r_141_eq, r_18_eq]; rfl
theorem r_158_eq : kernelRun0_A.sl.r_158 c arg2 harg2 arg3 harg3 arg4 harg4 arg5 harg5 arg6 harg6 x0 x1 x2 x3 x4 = tI x0 (rows x1 1) (rows x2 1) (rows x3 1) (rows x4 1) 1 1 := by
  simp only [kernelRun0_A.sl.r_158, kernelRun0_A.sl.r_157, kernelRun0_A.sl.r_155, tri_load, tri_loadL, parity_eq, r_15_eq, r_14_eq, r_141_eq, r_18_eq]; rfl
theorem r_149_eq : kernelRun0_A.sl.r_149 c arg2 harg2 arg3 harg3 arg4 harg4 arg5 harg5 arg6 harg6 x0 x1 x2 x3 x4 = tI x0 (rows x1 1) (rows x2 1) (rows x3 1) (rows x4 1) 2 0 := by
  simp only [kernelRun0_A.sl.r_149, kernelRun0_A.sl.cst_297, kernelRun0_A.sl.r_148, kernelRun0_A.sl.r_142, kernelRun0_A.sl.r_143, tri_load, tri_loadL, parity_eq, r_15_eq, r_14_eq, r_141_eq, r_18_eq]; rfl
theorem r_159_eq : kernelRun0_A.sl.r_159 c arg2 harg2 arg3 harg3 arg4 harg4 arg5 harg5 arg6 harg6 x0 x1 x2 x3 x4 = tI x0 (rows x1 1) (rows x2 1) (rows x3 1) (rows x4 1) 2 1 := by
  simp only [kernelRun0_A.sl.r_159, kernelRun0_A.sl.r_155, kernelRun0_A.sl.r_154, tri_load, tri_loadL, parity_eq, r_14_eq, r_15_eq, r_141_eq, r_18_eq]; rfl
theorem r_153_eq : kernelRun0_A.sl.r_153 c arg2 harg2 arg3 harg3 arg4 harg4 arg5 harg5 arg6 harg6 x0 x1 x2 x3 x4 = tI x0 (rows x1 1) (rows x2 1) (rows x3 1) (rows x4 1) 3 0 := by
  simp only [kernelRun0_A.sl.r_153, kernelRun0_A.sl.r_152, kernelRun0_A.sl.r_151, kernelRun0_A.sl.r_150, kernelRun0_A.sl.r_143, kernelRun0_A.sl.r_142, tri_load, tri_loadL, parity_eq, r_18_eq, r_14_eq, r_15_eq, r_141_eq]; rfl
theorem r_160_eq : kernelRun0_A.sl.r_160 c arg2 harg2 arg3 harg3 arg4 harg4 arg5 harg5 arg6 harg6 x0 x1 x2 x3 x4 = tI x0 (rows x1 1) (rows x2 1) (rows x3 1) (rows x4 1) 3 1 := by
  simp only [kernelRun0_A.sl.r_160, kernelRun0_A.sl.r_155, kernelRun0_A.sl.r_154, tri_load, tri_loadL, parity_eq, r_14_eq, r_15_eq, r_141_eq, r_18_eq]; rfl
theorem r_177_eq : kernelRun0_A.sl.r_177 c arg2 harg2 arg4 harg4 arg5 harg5 arg6 harg6 x0 x2 x3 x4 = tU x0 (rows x2 1) (rows x3 1) (rows x4 1) 1 := by
  simp only [kernelRun0_A.sl.r_177, tri_load, tri_loadL, parity_eq, r_18_eq, r_16_eq]; rfl
theorem r_186_eq : kernelRun0_A.sl.r_186 c arg2 harg2 arg4 harg4 arg5 harg5 arg6 harg6 x0 x2 x3 x4 = tU x0 (rows x2 1) (rows x3 1) (rows x4 1) 2 := by
  simp only [kernelRun0_A.sl.r_186, tri_load, tri_loadL, parity_eq, r_18_eq, r_16_eq]; rfl
theorem r_196_eq : kernelRun0_A.sl.r_196 c arg2 harg2 arg4 harg4 arg5 harg5 arg6 harg6 x0 x2 x3 x4 = tU x0 (rows x2 1) (rows x3 1) (rows x4 1) 3 := by
  simp only [kernelRun0_A.sl.r_196, tri_load, tri_loadL, parity_eq, r_18_eq, r_16_eq]; rfl
theorem r_22_eq : kernelRun0_A.sl.r_22 c arg2 harg2 arg3 harg3 arg6 harg6 x0 x1 x4 = (qIn (bT x0 (rows x4 2)) (rows x1 2)) := by
  simp only [kernelRun0_A.sl.r_22, kernelRun0_A.sl.r_21, kernelRun0_A.sl.r_20, kernelRun0_A.sl.r_19, tri_load, tri_loadL, parity_eq, v115_eq, v92_eq]; rfl
theorem r_23_eq : kernelRun0_A.sl.r_23 c arg2 harg2 arg3 harg3 arg6 harg6 x0 x1 x4 = qBf (qIn (bT x0 (rows x4 2)) (rows x1 2)) := by
  simp only [kernelRun0_A.sl.r_23, kernelRun0_A.sl.r_21, kernelRun0_A.sl.r_20, kernelRun0_A.sl.r_19, tri_load, tri_loadL, parity_eq, v115_eq, v92_eq]; rfl
theorem r_24_eq : kernelRun0_A.sl.r_24 c arg2 harg2 arg4 harg4 arg6 harg6 x0 x2 x4 = kIntra (keysT (rows x2 2)) (bT x0 (rows x4 2)) := by
  simp only [kernelRun0_A.sl.r_24, kernelRun0_A.sl.r_21, kernelRun0_A.sl.r_20, kernelRun0_A.sl.r_19, tri_load, tri_loadL, parity_eq, v111_eq, v92_eq]; rfl
theorem r_25_eq : kernelRun0_A.sl.r_25 c arg2 harg2 arg4 harg4 arg6 harg6 x0 x2 x4 = kState (keysT (rows x2 2)) (bT x0 (rows x4 2)) (totT x0 (rows x4 2)) := by
  simp only [kernelRun0_A.sl.r_25, kernelRun0_A.sl.r_21, kernelRun0_A.sl.r_20, kernelRun0_A.sl.r_19, tri_load, tri_loadL, parity_eq, v111_eq, v92_eq]; rfl
theorem r_26_eq : kernelRun0_A.sl.r_26 c arg2 harg2 arg6 harg6 x0 x4 = decayT (totT x0 (rows x4 2)) := by
  simp only [kernelRun0_A.sl.r_26, kernelRun0_A.sl.r_21, kernelRun0_A.sl.r_20, kernelRun0_A.sl.r_19, tri_load, tri_loadL, parity_eq, v92_eq]; rfl
theorem r_27_eq : kernelRun0_A.sl.r_27 c arg5 harg5 x3 = vals (rows x3 2) := by
  simp only [kernelRun0_A.sl.r_27, tri_load, tri_loadL, parity_eq, v133_eq]; rfl
theorem r_206_eq : kernelRun0_A.sl.r_206 = causal := by
  simp only [kernelRun0_A.sl.r_206, kernelRun0_A.sl.v390, kernelRun0_A.sl.v401, kernelRun0_A.sl.v388, kernelRun0_A.sl.v385, kernelRun0_A.sl.v400, kernelRun0_A.sl.v391, kernelRun0_A.sl.v397, kernelRun0_A.sl.v395, kernelRun0_A.sl.v393, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_292_eq : kernelRun0_A.sl.r_292 = parity := by
  simp only [kernelRun0_A.sl.r_292, tri_load, tri_loadL, parity_eq]; rfl
theorem r_521_eq : kernelRun0_A.sl.r_521 = parity := by
  simp only [kernelRun0_A.sl.r_521, tri_load, tri_loadL, parity_eq]; rfl
theorem r_212_eq : kernelRun0_A.sl.r_212 c arg2 harg2 arg3 harg3 arg4 harg4 arg5 harg5 arg6 harg6 x0 x1 x2 x3 x4 = tI x0 (rows x1 2) (rows x2 2) (rows x3 2) (rows x4 2) 0 0 := by
  simp only [kernelRun0_A.sl.r_212, kernelRun0_A.sl.r_211, kernelRun0_A.sl.r_210, kernelRun0_A.sl.r_209, kernelRun0_A.sl.v390, kernelRun0_A.sl.v401, kernelRun0_A.sl.v388, kernelRun0_A.sl.v385, kernelRun0_A.sl.v400, kernelRun0_A.sl.v391, kernelRun0_A.sl.v397, kernelRun0_A.sl.v395, kernelRun0_A.sl.v393, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_27_eq, r_24_eq, r_23_eq]; rfl
theorem r_221_eq : kernelRun0_A.sl.r_221 c arg2 harg2 arg3 harg3 arg4 harg4 arg5 harg5 arg6 harg6 x0 x1 x2 x3 x4 = tI x0 (rows x1 2) (rows x2 2) (rows x3 2) (rows x4 2) 0 1 := by
  simp only [kernelRun0_A.sl.r_221, tri_load, tri_loadL, parity_eq, r_206_eq, r_27_eq, r_24_eq, r_23_eq]; rfl
theorem r_213_eq : kernelRun0_A.sl.r_213 c arg2 harg2 arg3 harg3 arg4 harg4 arg5 harg5 arg6 harg6 x0 x1 x2 x3 x4 = tI x0 (rows x1 2) (rows x2 2) (rows x3 2) (rows x4 2) 1 0 := by
  simp only [kernelRun0_A.sl.r_213, kernelRun0_A.sl.r_208, kernelRun0_A.sl.r_207, tri_load, tri_loadL, parity_eq, r_23_eq, r_24_eq, r_206_eq, r_27_eq]; rfl
theorem r_223_eq : kernelRun0_A.sl.r_223 c arg2 harg2 arg3 harg3 arg4 harg4 arg5 harg5 arg6 harg6 x0 x1 x2 x3 x4 = tI x0 (rows x1 2) (rows x2 2) (rows x3 2) (rows x4 2) 1 1 := by
  simp only [kernelRun0_A.sl.r_223, kernelRun0_A.sl.r_222, kernelRun0_A.sl.r_220, tri_load, tri_loadL, parity_eq, r_24_eq, r_23_eq, r_206_eq, r_27_eq]; rfl
theorem r_215_eq : kernelRun0_A.sl.r_215 c arg2 harg2 arg3 harg3 arg4 harg4 arg5 harg5 arg6 harg6 x0 x1 x2 x3 x4 = tI x0 (rows x1 2) (rows x2 2) (rows x3 2) (rows x4 2) 2 0 := by
  simp only [kernelRun0_A.sl.r_215, kernelRun0_A.sl.cst_297, kernelRun0_A.sl.r_214, kernelRun0_A.sl.r_207, kernelRun0_A.sl.r_208, tri_load, tri_loadL, parity_eq, r_24_eq, r_23_eq, r_206_eq, r_27_eq]; rfl
theorem r_224_eq : kernelRun0_A.sl.r_224 c arg2 harg2 arg3 harg3 arg4 harg4 arg5 harg5 arg6 harg6 x0 x1 x2 x3 x4 = tI x0 (rows x1 2) (rows x2 2) (rows x3 2) (rows x4 2) 2 1 := by
  simp only [kernelRun0_A.sl.r_224, kernelRun0_A.sl.r_220, kernelRun0_A.sl.r_219, tri_load, tri_loadL, parity_eq, r_23_eq, r_24_eq, r_206_eq, r_27_eq]; rfl
theorem r_218_eq : kernelRun0_A.sl.r_218 c arg2 harg2 arg3 harg3 arg4 harg4 arg5 harg5 arg6 harg6 x0 x1 x2 x3 x4 = tI x0 (rows x1 2) (rows x2 2) (rows x3 2) (rows x4 2) 3 0 := by
  simp only [kernelRun0_A.sl.r_218, kernelRun0_A.sl.r_217, kernelRun0_A.sl.r_216, kernelRun0_A.sl.r_208, kernelRun0_A.sl.r_207, tri_load, tri_loadL, parity_eq, r_27_eq, r_23_eq, r_24_eq, r_206_eq]; rfl
theorem r_225_eq : kernelRun0_A.sl.r_225 c arg2 harg2 arg3 harg3 arg4 harg4 arg5 harg5 arg6 harg6 x0 x1 x2 x3 x4 = tI x0 (rows x1 2) (rows x2 2) (rows x3 2) (rows x4 2) 3 1 := by
  simp only [kernelRun0_A.sl.r_225, kernelRun0_A.sl.r_220, kernelRun0_A.sl.r_219, tri_load, tri_loadL, parity_eq, r_23_eq, r_24_eq, r_206_eq, r_27_eq]; rfl
theorem r_242_eq : kernelRun0_A.sl.r_242 c arg2 harg2 arg4 harg4 arg5 harg5 arg6 harg6 x0 x2 x3 x4 = tU x0 (rows x2 2) (rows x3 2) (rows x4 2) 1 := by
  simp only [kernelRun0_A.sl.r_242, tri_load, tri_loadL, parity_eq, r_27_eq, r_25_eq]; rfl
theorem r_252_eq : kernelRun0_A.sl.r_252 c arg2 harg2 arg4 harg4 arg5 harg5 arg6 harg6 x0 x2 x3 x4 = tU x0 (rows x2 2) (rows x3 2) (rows x4 2) 2 := by
  simp only [kernelRun0_A.sl.r_252, tri_load, tri_loadL, parity_eq, r_27_eq, r_25_eq]; rfl
theorem r_262_eq : kernelRun0_A.sl.r_262 c arg2 harg2 arg4 harg4 arg5 harg5 arg6 harg6 x0 x2 x3 x4 = tU x0 (rows x2 2) (rows x3 2) (rows x4 2) 3 := by
  simp only [kernelRun0_A.sl.r_262, tri_load, tri_loadL, parity_eq, r_27_eq, r_25_eq]; rfl
theorem r_28_eq : kernelRun0_A.sl.r_28 c arg2 harg2 arg6 harg6 x0 x4 = (bT x0 (rows x4 3)) := by
  simp only [kernelRun0_A.sl.r_28, tri_load, tri_loadL, parity_eq, v136_eq]; rfl
theorem r_29_eq : kernelRun0_A.sl.r_29 c arg2 harg2 arg6 harg6 x0 x4 = (totT x0 (rows x4 3)) := by
  simp only [kernelRun0_A.sl.r_29, tri_load, tri_loadL, parity_eq, v136_eq]; rfl
theorem r_30_eq : kernelRun0_A.sl.r_30 c arg4 harg4 x2 = (keysT (rows x2 3)) := by
  simp only [kernelRun0_A.sl.r_30, tri_load, tri_loadL, parity_eq, v155_eq]; rfl
theorem r_31_eq : kernelRun0_A.sl.r_31 c arg2 harg2 arg3 harg3 arg6 harg6 x0 x1 x4 = (qIn (bT x0 (rows x4 3)) (rows x1 3)) := by
  simp only [kernelRun0_A.sl.r_31, tri_load, tri_loadL, parity_eq, v159_eq, v136_eq]; rfl
theorem r_32_eq : kernelRun0_A.sl.r_32 c arg2 harg2 arg3 harg3 arg6 harg6 x0 x1 x4 = qBf (qIn (bT x0 (rows x4 3)) (rows x1 3)) := by
  simp only [kernelRun0_A.sl.r_32, tri_load, tri_loadL, parity_eq, v159_eq, v136_eq]; rfl
theorem r_34_eq : kernelRun0_A.sl.r_34 c arg2 harg2 arg4 harg4 arg6 harg6 x0 x2 x4 = kIntra (keysT (rows x2 3)) (bT x0 (rows x4 3)) := by
  simp only [kernelRun0_A.sl.r_34, kernelRun0_A.sl.r_33, tri_load, tri_loadL, parity_eq, v136_eq, r_30_eq]; rfl
theorem r_35_eq : kernelRun0_A.sl.r_35 c arg2 harg2 arg4 harg4 arg6 harg6 x0 x2 x4 = kState (keysT (rows x2 3)) (bT x0 (rows x4 3)) (totT x0 (rows x4 3)) := by
  simp only [kernelRun0_A.sl.r_35, tri_load, tri_loadL, parity_eq, r_30_eq, r_29_eq, r_28_eq]; rfl
theorem r_36_eq : kernelRun0_A.sl.r_36 c arg2 harg2 arg6 harg6 x0 x4 = decayT (totT x0 (rows x4 3)) := by
  simp only [kernelRun0_A.sl.r_36, tri_load, tri_loadL, parity_eq, r_29_eq]; rfl
theorem r_37_eq : kernelRun0_A.sl.r_37 c arg5 harg5 x3 = vals (rows x3 3) := by
  simp only [kernelRun0_A.sl.r_37, tri_load, tri_loadL, parity_eq, v177_eq]; rfl
theorem r_331_eq : kernelRun0_A.sl.r_331 = causal := by
  simp only [kernelRun0_A.sl.r_331, kernelRun0_A.sl.v2125, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_272_eq : kernelRun0_A.sl.r_272 = causal := by
  simp only [kernelRun0_A.sl.r_272, kernelRun0_A.sl.v2125, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_389_eq : kernelRun0_A.sl.r_389 = causal := by
  simp only [kernelRun0_A.sl.r_389, kernelRun0_A.sl.v390, kernelRun0_A.sl.v2125, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_278_eq : kernelRun0_A.sl.r_278 c arg2 harg2 arg3 harg3 arg4 harg4 arg5 harg5 arg6 harg6 x0 x1 x2 x3 x4 = tI x0 (rows x1 3) (rows x2 3) (rows x3 3) (rows x4 3) 0 0 := by
  simp only [kernelRun0_A.sl.r_278, kernelRun0_A.sl.cst_743, kernelRun0_A.sl.r_277, kernelRun0_A.sl.r_276, kernelRun0_A.sl.r_275, kernelRun0_A.sl.v2125, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_37_eq, r_34_eq, r_32_eq]; rfl
theorem r_287_eq : kernelRun0_A.sl.r_287 c arg2 harg2 arg3 harg3 arg4 harg4 arg5 harg5 arg6 harg6 x0 x1 x2 x3 x4 = tI x0 (rows x1 3) (rows x2 3) (rows x3 3) (rows x4 3) 0 1 := by
  simp only [kernelRun0_A.sl.r_287, tri_load, tri_loadL, parity_eq, r_272_eq, r_37_eq, r_34_eq, r_32_eq]; rfl
theorem r_279_eq : kernelRun0_A.sl.r_279 c arg2 harg2 arg3 harg3 arg4 harg4 arg5 harg5 arg6 harg6 x0 x1 x2 x3 x4 = tI x0 (rows x1 3) (rows x2 3) (rows x3 3) (rows x4 3) 1 0 := by
  simp only [kernelRun0_A.sl.r_279, kernelRun0_A.sl.r_274, kernelRun0_A.sl.r_273, tri_load, tri_loadL, parity_eq, r_32_eq, r_34_eq, r_272_eq, r_37_eq]; rfl
theorem r_289_eq : kernelRun0_A.sl.r_289 c arg2 harg2 arg3 harg3 arg4 harg4 arg5 harg5 arg6 harg6 x0 x1 x2 x3 x4 = tI x0 (rows x1 3) (rows x2 3) (rows x3 3) (rows x4 3) 1 1 := by
  simp only [kernelRun0_A.sl.r_289, kernelRun0_A.sl.cst_785, kernelRun0_A.sl.r_288, kernelRun0_A.sl.r_286, tri_load, tri_loadL, parity_eq, r_34_eq, r_32_eq, r_272_eq, r_37_eq]; rfl
theorem r_281_eq : kernelRun0_A.sl.r_281 c arg2 harg2 arg3 harg3 arg4 harg4 arg5 harg5 arg6 harg6 x0 x1 x2 x3 x4 = tI x0 (rows x1 3) (rows x2 3) (rows x3 3) (rows x4 3) 2 0 := by
  simp only [kernelRun0_A.sl.r_281, kernelRun0_A.sl.r_280, kernelRun0_A.sl.r_273, kernelRun0_A.sl.r_274, tri_load, tri_loadL, parity_eq, r_34_eq, r_32_eq, r_272_eq, r_37_eq]; rfl
theorem r_290_eq : kernelRun0_A.sl.r_290 c arg2 harg2 arg3 harg3 arg4 harg4 arg5 harg5 arg6 harg6 x0 x1 x2 x3 x4 = tI x0 (rows x1 3) (rows x2 3) (rows x3 3) (rows x4 3) 2 1 := by
  simp only [kernelRun0_A.sl.r_290, kernelRun0_A.sl.r_286, kernelRun0_A.sl.r_285, tri_load, tri_loadL, parity_eq, r_32_eq, r_34_eq, r_272_eq, r_37_eq]; rfl
theorem r_284_eq : kernelRun0_A.sl.r_284 c arg2 harg2 arg3 harg3 arg4 harg4 arg5 harg5 arg6 harg6 x0 x1 x2 x3 x4 = tI x0 (rows x1 3) (rows x2 3) (rows x3 3) (rows x4 3) 3 0 := by
  simp only [kernelRun0_A.sl.r_284, kernelRun0_A.sl.cst_771, kernelRun0_A.sl.r_283, kernelRun0_A.sl.r_282, kernelRun0_A.sl.r_274, kernelRun0_A.sl.r_273, tri_load, tri_loadL, parity_eq, r_37_eq, r_32_eq, r_34_eq, r_272_eq]; rfl
theorem r_291_eq : kernelRun0_A.sl.r_291 c arg2 harg2 arg3 harg3 arg4 harg4 arg5 harg5 arg6 harg6 x0 x1 x2 x3 x4 = tI x0 (rows x1 3) (rows x2 3) (rows x3 3) (rows x4 3) 3 1 := by
  simp only [kernelRun0_A.sl.r_291, kernelRun0_A.sl.r_286, kernelRun0_A.sl.r_285, tri_load, tri_loadL, parity_eq, r_32_eq, r_34_eq, r_272_eq, r_37_eq]; rfl
theorem r_302_eq : kernelRun0_A.sl.r_302 c arg2 harg2 arg4 harg4 arg5 harg5 arg6 harg6 x0 x2 x3 x4 = tU x0 (rows x2 3) (rows x3 3) (rows x4 3) 1 := by
  simp only [kernelRun0_A.sl.r_302, tri_load, tri_loadL, parity_eq, r_37_eq, r_35_eq]; rfl
theorem r_312_eq : kernelRun0_A.sl.r_312 c arg2 harg2 arg4 harg4 arg5 harg5 arg6 harg6 x0 x2 x3 x4 = tU x0 (rows x2 3) (rows x3 3) (rows x4 3) 2 := by
  simp only [kernelRun0_A.sl.r_312, tri_load, tri_loadL, parity_eq, r_37_eq, r_35_eq]; rfl
theorem r_322_eq : kernelRun0_A.sl.r_322 c arg2 harg2 arg4 harg4 arg5 harg5 arg6 harg6 x0 x2 x3 x4 = tU x0 (rows x2 3) (rows x3 3) (rows x4 3) 3 := by
  simp only [kernelRun0_A.sl.r_322, tri_load, tri_loadL, parity_eq, r_37_eq, r_35_eq]; rfl
theorem r_38_eq : kernelRun0_A.sl.r_38 c arg2 harg2 arg6 harg6 x0 x4 = (bT x0 (rows x4 4)) := by
  simp only [kernelRun0_A.sl.r_38, tri_load, tri_loadL, parity_eq, v180_eq]; rfl
theorem r_39_eq : kernelRun0_A.sl.r_39 c arg2 harg2 arg6 harg6 x0 x4 = (totT x0 (rows x4 4)) := by
  simp only [kernelRun0_A.sl.r_39, tri_load, tri_loadL, parity_eq, v180_eq]; rfl
theorem r_40_eq : kernelRun0_A.sl.r_40 c arg4 harg4 x2 = (keysT (rows x2 4)) := by
  simp only [kernelRun0_A.sl.r_40, tri_load, tri_loadL, parity_eq, v199_eq]; rfl
theorem r_41_eq : kernelRun0_A.sl.r_41 c arg2 harg2 arg3 harg3 arg6 harg6 x0 x1 x4 = (qIn (bT x0 (rows x4 4)) (rows x1 4)) := by
  simp only [kernelRun0_A.sl.r_41, tri_load, tri_loadL, parity_eq, v203_eq, r_38_eq]; rfl
theorem r_42_eq : kernelRun0_A.sl.r_42 c arg2 harg2 arg3 harg3 arg6 harg6 x0 x1 x4 = qBf (qIn (bT x0 (rows x4 4)) (rows x1 4)) := by
  simp only [kernelRun0_A.sl.r_42, tri_load, tri_loadL, parity_eq, v203_eq, r_38_eq]; rfl
theorem r_43_eq : kernelRun0_A.sl.r_43 c arg2 harg2 arg4 harg4 arg6 harg6 x0 x2 x4 = kIntra (keysT (rows x2 4)) (bT x0 (rows x4 4)) := by
  simp only [kernelRun0_A.sl.r_43, tri_load, tri_loadL, parity_eq, r_40_eq, r_38_eq]; rfl
theorem r_44_eq : kernelRun0_A.sl.r_44 c arg2 harg2 arg4 harg4 arg6 harg6 x0 x2 x4 = kState (keysT (rows x2 4)) (bT x0 (rows x4 4)) (totT x0 (rows x4 4)) := by
  simp only [kernelRun0_A.sl.r_44, tri_load, tri_loadL, parity_eq, r_40_eq, r_39_eq, r_38_eq]; rfl
theorem r_45_eq : kernelRun0_A.sl.r_45 c arg2 harg2 arg6 harg6 x0 x4 = decayT (totT x0 (rows x4 4)) := by
  simp only [kernelRun0_A.sl.r_45, tri_load, tri_loadL, parity_eq, r_39_eq]; rfl
theorem r_46_eq : kernelRun0_A.sl.r_46 c arg5 harg5 x3 = vals (rows x3 4) := by
  simp only [kernelRun0_A.sl.r_46, tri_load, tri_loadL, parity_eq, v221_eq]; rfl
theorem r_337_eq : kernelRun0_A.sl.r_337 c arg2 harg2 arg3 harg3 arg4 harg4 arg5 harg5 arg6 harg6 x0 x1 x2 x3 x4 = tI x0 (rows x1 4) (rows x2 4) (rows x3 4) (rows x4 4) 0 0 := by
  simp only [kernelRun0_A.sl.r_337, kernelRun0_A.sl.r_336, kernelRun0_A.sl.r_335, kernelRun0_A.sl.r_334, kernelRun0_A.sl.v2125, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_46_eq, r_43_eq, r_42_eq]; rfl
theorem r_345_eq : kernelRun0_A.sl.r_345 c arg2 harg2 arg3 harg3 arg4 harg4 arg5 harg5 arg6 harg6 x0 x1 x2 x3 x4 = tI x0 (rows x1 4) (rows x2 4) (rows x3 4) (rows x4 4) 0 1 := by
  simp only [kernelRun0_A.sl.r_345, tri_load, tri_loadL, parity_eq, r_331_eq, r_46_eq, r_43_eq, r_42_eq]; rfl
theorem r_338_eq : kernelRun0_A.sl.r_338 c arg2 harg2 arg3 harg3 arg4 harg4 arg5 harg5 arg6 harg6 x0 x1 x2 x3 x4 = tI x0 (rows x1 4) (rows x2 4) (rows x3 4) (rows x4 4) 1 0 := by
  simp only [kernelRun0_A.sl.r_338, kernelRun0_A.sl.r_333, kernelRun0_A.sl.r_332, tri_load, tri_loadL, parity_eq, r_42_eq, r_43_eq, r_331_eq, r_46_eq]; rfl
theorem r_347_eq : kernelRun0_A.sl.r_347 c arg2 harg2 arg3 harg3 arg4 harg4 arg5 harg5 arg6 harg6 x0 x1 x2 x3 x4 = tI x0 (rows x1 4) (rows x2 4) (rows x3 4) (rows x4 4) 1 1 := by
  simp only [kernelRun0_A.sl.r_347, kernelRun0_A.sl.r_346, tri_load, tri_loadL, parity_eq, r_43_eq, r_42_eq, r_331_eq, r_46_eq]; rfl
theorem r_341_eq : kernelRun0_A.sl.r_341 c arg2 harg2 arg3 harg3 arg4 harg4 arg5 harg5 arg6 harg6 x0 x1 x2 x3 x4 = tI x0 (rows x1 4) (rows x2 4) (rows x3 4) (rows x4 4) 2 0 := by
  simp only [kernelRun0_A.sl.r_341, kernelRun0_A.sl.r_340, kernelRun0_A.sl.r_332, kernelRun0_A.sl.r_339, kernelRun0_A.sl.r_333, tri_load, tri_loadL, parity_eq, r_43_eq, r_42_eq, r_331_eq, r_46_eq]; rfl
theorem r_348_eq : kernelRun0_A.sl.r_348 c arg2 harg2 arg3 harg3 arg4 harg4 arg5 harg5 arg6 harg6 x0 x1 x2 x3 x4 = tI x0 (rows x1 4) (rows x2 4) (rows x3 4) (rows x4 4) 2 1 := by
  simp only [kernelRun0_A.sl.r_348, kernelRun0_A.sl.r_344, kernelRun0_A.sl.r_343, tri_load, tri_loadL, parity_eq, r_42_eq, r_43_eq, r_331_eq, r_46_eq]; rfl
theorem r_342_eq : kernelRun0_A.sl.r_342 c arg2 harg2 arg3 harg3 arg4 harg4 arg5 harg5 arg6 harg6 x0 x1 x2 x3 x4 = tI x0 (rows x1 4) (rows x2 4) (rows x3 4) (rows x4 4) 3 0 := by
  simp only [kernelRun0_A.sl.r_342, kernelRun0_A.sl.r_333, kernelRun0_A.sl.r_332, tri_load, tri_loadL, parity_eq, r_42_eq, r_43_eq, r_331_eq, r_46_eq]; rfl
theorem r_349_eq : kernelRun0_A.sl.r_349 c arg2 harg2 arg3 harg3 arg4 harg4 arg5 harg5 arg6 harg6 x0 x1 x2 x3 x4 = tI x0 (rows x1 4) (rows x2 4) (rows x3 4) (rows x4 4) 3 1 := by
  simp only [kernelRun0_A.sl.r_349, kernelRun0_A.sl.cst_297, kernelRun0_A.sl.r_344, kernelRun0_A.sl.r_343, tri_load, tri_loadL, parity_eq, r_42_eq, r_43_eq, r_331_eq, r_46_eq]; rfl
theorem r_360_eq : kernelRun0_A.sl.r_360 c arg2 harg2 arg4 harg4 arg5 harg5 arg6 harg6 x0 x2 x3 x4 = tU x0 (rows x2 4) (rows x3 4) (rows x4 4) 1 := by
  simp only [kernelRun0_A.sl.r_360, tri_load, tri_loadL, parity_eq, r_46_eq, r_44_eq]; rfl
theorem r_370_eq : kernelRun0_A.sl.r_370 c arg2 harg2 arg4 harg4 arg5 harg5 arg6 harg6 x0 x2 x3 x4 = tU x0 (rows x2 4) (rows x3 4) (rows x4 4) 2 := by
  simp only [kernelRun0_A.sl.r_370, tri_load, tri_loadL, parity_eq, r_46_eq, r_44_eq]; rfl
theorem r_379_eq : kernelRun0_A.sl.r_379 c arg2 harg2 arg4 harg4 arg5 harg5 arg6 harg6 x0 x2 x3 x4 = tU x0 (rows x2 4) (rows x3 4) (rows x4 4) 3 := by
  simp only [kernelRun0_A.sl.r_379, tri_load, tri_loadL, parity_eq, r_46_eq, r_44_eq]; rfl
theorem r_50_eq : kernelRun0_A.sl.r_50 c arg2 harg2 arg3 harg3 arg6 harg6 x0 x1 x4 = (qIn (bT x0 (rows x4 5)) (rows x1 5)) := by
  simp only [kernelRun0_A.sl.r_50, kernelRun0_A.sl.r_49, kernelRun0_A.sl.r_48, kernelRun0_A.sl.r_47, tri_load, tri_loadL, parity_eq, v247_eq, v224_eq]; rfl
theorem r_51_eq : kernelRun0_A.sl.r_51 c arg2 harg2 arg3 harg3 arg6 harg6 x0 x1 x4 = qBf (qIn (bT x0 (rows x4 5)) (rows x1 5)) := by
  simp only [kernelRun0_A.sl.r_51, kernelRun0_A.sl.r_49, kernelRun0_A.sl.r_48, kernelRun0_A.sl.r_47, tri_load, tri_loadL, parity_eq, v247_eq, v224_eq]; rfl
theorem r_52_eq : kernelRun0_A.sl.r_52 c arg2 harg2 arg4 harg4 arg6 harg6 x0 x2 x4 = kIntra (keysT (rows x2 5)) (bT x0 (rows x4 5)) := by
  simp only [kernelRun0_A.sl.r_52, kernelRun0_A.sl.r_49, kernelRun0_A.sl.r_48, kernelRun0_A.sl.r_47, tri_load, tri_loadL, parity_eq, v243_eq, v224_eq]; rfl
theorem r_53_eq : kernelRun0_A.sl.r_53 c arg2 harg2 arg4 harg4 arg6 harg6 x0 x2 x4 = kState (keysT (rows x2 5)) (bT x0 (rows x4 5)) (totT x0 (rows x4 5)) := by
  simp only [kernelRun0_A.sl.r_53, kernelRun0_A.sl.r_49, kernelRun0_A.sl.r_48, kernelRun0_A.sl.r_47, tri_load, tri_loadL, parity_eq, v243_eq, v224_eq]; rfl
theorem r_54_eq : kernelRun0_A.sl.r_54 c arg2 harg2 arg6 harg6 x0 x4 = decayT (totT x0 (rows x4 5)) := by
  simp only [kernelRun0_A.sl.r_54, kernelRun0_A.sl.r_49, kernelRun0_A.sl.r_48, kernelRun0_A.sl.r_47, tri_load, tri_loadL, parity_eq, v224_eq]; rfl
theorem r_55_eq : kernelRun0_A.sl.r_55 c arg5 harg5 x3 = vals (rows x3 5) := by
  simp only [kernelRun0_A.sl.r_55, tri_load, tri_loadL, parity_eq, v265_eq]; rfl
theorem r_395_eq : kernelRun0_A.sl.r_395 c arg2 harg2 arg3 harg3 arg4 harg4 arg5 harg5 arg6 harg6 x0 x1 x2 x3 x4 = tI x0 (rows x1 5) (rows x2 5) (rows x3 5) (rows x4 5) 0 0 := by
  simp only [kernelRun0_A.sl.r_395, kernelRun0_A.sl.r_394, kernelRun0_A.sl.r_393, kernelRun0_A.sl.r_392, kernelRun0_A.sl.v390, kernelRun0_A.sl.v2125, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_55_eq, r_52_eq, r_51_eq]; rfl
theorem r_402_eq : kernelRun0_A.sl.r_402 c arg2 harg2 arg3 harg3 arg4 harg4 arg5 harg5 arg6 harg6 x0 x1 x2 x3 x4 = tI x0 (rows x1 5) (rows x2 5) (rows x3 5) (rows x4 5) 0 1 := by
  simp only [kernelRun0_A.sl.r_402, kernelRun0_A.sl.r_400, tri_load, tri_loadL, parity_eq, r_52_eq, r_389_eq, r_55_eq, r_51_eq]; rfl
theorem r_396_eq : kernelRun0_A.sl.r_396 c arg2 harg2 arg3 harg3 arg4 harg4 arg5 harg5 arg6 harg6 x0 x1 x2 x3 x4 = tI x0 (rows x1 5) (rows x2 5) (rows x3 5) (rows x4 5) 1 0 := by
  simp only [kernelRun0_A.sl.r_396, kernelRun0_A.sl.r_391, kernelRun0_A.sl.r_390, tri_load, tri_loadL, parity_eq, r_51_eq, r_52_eq, r_389_eq, r_55_eq]; rfl
theorem r_404_eq : kernelRun0_A.sl.r_404 c arg2 harg2 arg3 harg3 arg4 harg4 arg5 harg5 arg6 harg6 x0 x1 x2 x3 x4 = tI x0 (rows x1 5) (rows x2 5) (rows x3 5) (rows x4 5) 1 1 := by
  simp only [kernelRun0_A.sl.r_404, kernelRun0_A.sl.cst_297, kernelRun0_A.sl.r_403, kernelRun0_A.sl.r_400, tri_load, tri_loadL, parity_eq, r_52_eq, r_51_eq, r_389_eq, r_55_eq]; rfl
theorem r_398_eq : kernelRun0_A.sl.r_398 c arg2 harg2 arg3 harg3 arg4 harg4 arg5 harg5 arg6 harg6 x0 x1 x2 x3 x4 = tI x0 (rows x1 5) (rows x2 5) (rows x3 5) (rows x4 5) 2 0 := by
  simp only [kernelRun0_A.sl.r_398, kernelRun0_A.sl.r_397, kernelRun0_A.sl.r_390, kernelRun0_A.sl.r_391, tri_load, tri_loadL, parity_eq, r_52_eq, r_51_eq, r_389_eq, r_55_eq]; rfl
theorem r_405_eq : kernelRun0_A.sl.r_405 c arg2 harg2 arg3 harg3 arg4 harg4 arg5 harg5 arg6 harg6 x0 x1 x2 x3 x4 = tI x0 (rows x1 5) (rows x2 5) (rows x3 5) (rows x4 5) 2 1 := by
  simp only [kernelRun0_A.sl.r_405, kernelRun0_A.sl.r_401, kernelRun0_A.sl.r_400, tri_load, tri_loadL, parity_eq, r_51_eq, r_52_eq, r_389_eq, r_55_eq]; rfl
theorem r_399_eq : kernelRun0_A.sl.r_399 c arg2 harg2 arg3 harg3 arg4 harg4 arg5 harg5 arg6 harg6 x0 x1 x2 x3 x4 = tI x0 (rows x1 5) (rows x2 5) (rows x3 5) (rows x4 5) 3 0 := by
  simp only [kernelRun0_A.sl.r_399, kernelRun0_A.sl.r_391, kernelRun0_A.sl.r_390, tri_load, tri_loadL, parity_eq, r_51_eq, r_52_eq, r_389_eq, r_55_eq]; rfl
theorem r_406_eq : kernelRun0_A.sl.r_406 c arg2 harg2 arg3 harg3 arg4 harg4 arg5 harg5 arg6 harg6 x0 x1 x2 x3 x4 = tI x0 (rows x1 5) (rows x2 5) (rows x3 5) (rows x4 5) 3 1 := by
  simp only [kernelRun0_A.sl.r_406, kernelRun0_A.sl.cst_297, kernelRun0_A.sl.r_401, kernelRun0_A.sl.r_400, tri_load, tri_loadL, parity_eq, r_51_eq, r_52_eq, r_389_eq, r_55_eq]; rfl
theorem r_417_eq : kernelRun0_A.sl.r_417 c arg2 harg2 arg4 harg4 arg5 harg5 arg6 harg6 x0 x2 x3 x4 = tU x0 (rows x2 5) (rows x3 5) (rows x4 5) 1 := by
  simp only [kernelRun0_A.sl.r_417, tri_load, tri_loadL, parity_eq, r_55_eq, r_53_eq]; rfl
theorem r_426_eq : kernelRun0_A.sl.r_426 c arg2 harg2 arg4 harg4 arg5 harg5 arg6 harg6 x0 x2 x3 x4 = tU x0 (rows x2 5) (rows x3 5) (rows x4 5) 2 := by
  simp only [kernelRun0_A.sl.r_426, tri_load, tri_loadL, parity_eq, r_55_eq, r_53_eq]; rfl
theorem r_436_eq : kernelRun0_A.sl.r_436 c arg2 harg2 arg4 harg4 arg5 harg5 arg6 harg6 x0 x2 x3 x4 = tU x0 (rows x2 5) (rows x3 5) (rows x4 5) 3 := by
  simp only [kernelRun0_A.sl.r_436, tri_load, tri_loadL, parity_eq, r_55_eq, r_53_eq]; rfl
theorem r_57_eq : kernelRun0_A.sl.r_57 c arg2 harg2 arg3 harg3 arg6 harg6 x0 x1 x4 = (qIn (bT x0 (rows x4 6)) (rows x1 6)) := by
  simp only [kernelRun0_A.sl.r_57, kernelRun0_A.sl.r_56, tri_load, tri_loadL, parity_eq, v291_eq, v268_eq]; rfl
theorem r_58_eq : kernelRun0_A.sl.r_58 c arg2 harg2 arg3 harg3 arg6 harg6 x0 x1 x4 = qBf (qIn (bT x0 (rows x4 6)) (rows x1 6)) := by
  simp only [kernelRun0_A.sl.r_58, kernelRun0_A.sl.r_56, tri_load, tri_loadL, parity_eq, v291_eq, v268_eq]; rfl
theorem r_59_eq : kernelRun0_A.sl.r_59 c arg2 harg2 arg4 harg4 arg6 harg6 x0 x2 x4 = kIntra (keysT (rows x2 6)) (bT x0 (rows x4 6)) := by
  simp only [kernelRun0_A.sl.r_59, kernelRun0_A.sl.r_56, tri_load, tri_loadL, parity_eq, v287_eq, v268_eq]; rfl
theorem r_60_eq : kernelRun0_A.sl.r_60 c arg2 harg2 arg4 harg4 arg6 harg6 x0 x2 x4 = kState (keysT (rows x2 6)) (bT x0 (rows x4 6)) (totT x0 (rows x4 6)) := by
  simp only [kernelRun0_A.sl.r_60, kernelRun0_A.sl.r_56, tri_load, tri_loadL, parity_eq, v287_eq, v268_eq]; rfl
theorem r_61_eq : kernelRun0_A.sl.r_61 c arg2 harg2 arg6 harg6 x0 x4 = decayT (totT x0 (rows x4 6)) := by
  simp only [kernelRun0_A.sl.r_61, kernelRun0_A.sl.r_56, tri_load, tri_loadL, parity_eq, v268_eq]; rfl
theorem r_62_eq : kernelRun0_A.sl.r_62 c arg5 harg5 x3 = vals (rows x3 6) := by
  simp only [kernelRun0_A.sl.r_62, tri_load, tri_loadL, parity_eq, v309_eq]; rfl
theorem r_446_eq : kernelRun0_A.sl.r_446 = causal := by
  simp only [kernelRun0_A.sl.r_446, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v2125, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_452_eq : kernelRun0_A.sl.r_452 c arg2 harg2 arg3 harg3 arg4 harg4 arg5 harg5 arg6 harg6 x0 x1 x2 x3 x4 = tI x0 (rows x1 6) (rows x2 6) (rows x3 6) (rows x4 6) 0 0 := by
  simp only [kernelRun0_A.sl.r_452, kernelRun0_A.sl.r_451, kernelRun0_A.sl.r_450, kernelRun0_A.sl.r_449, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v2125, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_62_eq, r_59_eq, r_58_eq]; rfl
theorem r_459_eq : kernelRun0_A.sl.r_459 c arg2 harg2 arg3 harg3 arg4 harg4 arg5 harg5 arg6 harg6 x0 x1 x2 x3 x4 = tI x0 (rows x1 6) (rows x2 6) (rows x3 6) (rows x4 6) 0 1 := by
  simp only [kernelRun0_A.sl.r_459, kernelRun0_A.sl.r_458, kernelRun0_A.sl.r_457, tri_load, tri_loadL, parity_eq, r_58_eq, r_59_eq, r_446_eq, r_62_eq]; rfl
theorem r_453_eq : kernelRun0_A.sl.r_453 c arg2 harg2 arg3 harg3 arg4 harg4 arg5 harg5 arg6 harg6 x0 x1 x2 x3 x4 = tI x0 (rows x1 6) (rows x2 6) (rows x3 6) (rows x4 6) 1 0 := by
  simp only [kernelRun0_A.sl.r_453, kernelRun0_A.sl.r_448, kernelRun0_A.sl.r_447, tri_load, tri_loadL, parity_eq, r_58_eq, r_59_eq, r_446_eq, r_62_eq]; rfl
theorem r_461_eq : kernelRun0_A.sl.r_461 c arg2 harg2 arg3 harg3 arg4 harg4 arg5 harg5 arg6 harg6 x0 x1 x2 x3 x4 = tI x0 (rows x1 6) (rows x2 6) (rows x3 6) (rows x4 6) 1 1 := by
  simp only [kernelRun0_A.sl.r_461, kernelRun0_A.sl.r_460, kernelRun0_A.sl.r_458, kernelRun0_A.sl.r_457, tri_load, tri_loadL, parity_eq, r_58_eq, r_59_eq, r_446_eq, r_62_eq]; rfl
theorem r_455_eq : kernelRun0_A.sl.r_455 c arg2 harg2 arg3 harg3 arg4 harg4 arg5 harg5 arg6 harg6 x0 x1 x2 x3 x4 = tI x0 (rows x1 6) (rows x2 6) (rows x3 6) (rows x4 6) 2 0 := by
  simp only [kernelRun0_A.sl.r_455, kernelRun0_A.sl.r_454, kernelRun0_A.sl.r_447, kernelRun0_A.sl.r_448, tri_load, tri_loadL, parity_eq, r_59_eq, r_58_eq, r_446_eq, r_62_eq]; rfl
theorem r_462_eq : kernelRun0_A.sl.r_462 c arg2 harg2 arg3 harg3 arg4 harg4 arg5 harg5 arg6 harg6 x0 x1 x2 x3 x4 = tI x0 (rows x1 6) (rows x2 6) (rows x3 6) (rows x4 6) 2 1 := by
  simp only [kernelRun0_A.sl.r_462, kernelRun0_A.sl.r_458, kernelRun0_A.sl.r_457, tri_load, tri_loadL, parity_eq, r_58_eq, r_59_eq, r_446_eq, r_62_eq]; rfl
theorem r_456_eq : kernelRun0_A.sl.r_456 c arg2 harg2 arg3 harg3 arg4 harg4 arg5 harg5 arg6 harg6 x0 x1 x2 x3 x4 = tI x0 (rows x1 6) (rows x2 6) (rows x3 6) (rows x4 6) 3 0 := by
  simp only [kernelRun0_A.sl.r_456, kernelRun0_A.sl.r_448, kernelRun0_A.sl.r_447, tri_load, tri_loadL, parity_eq, r_58_eq, r_59_eq, r_446_eq, r_62_eq]; rfl
theorem r_463_eq : kernelRun0_A.sl.r_463 c arg2 harg2 arg3 harg3 arg4 harg4 arg5 harg5 arg6 harg6 x0 x1 x2 x3 x4 = tI x0 (rows x1 6) (rows x2 6) (rows x3 6) (rows x4 6) 3 1 := by
  simp only [kernelRun0_A.sl.r_463, kernelRun0_A.sl.cst_297, kernelRun0_A.sl.r_458, kernelRun0_A.sl.r_457, tri_load, tri_loadL, parity_eq, r_58_eq, r_59_eq, r_446_eq, r_62_eq]; rfl
theorem r_464_eq : kernelRun0_A.sl.r_464 c arg2 harg2 arg4 harg4 arg5 harg5 arg6 harg6 x0 x2 x3 x4 = tU x0 (rows x2 6) (rows x3 6) (rows x4 6) 0 := by
  simp only [kernelRun0_A.sl.r_464, tri_load, tri_loadL, parity_eq, r_62_eq, r_60_eq]; rfl
theorem r_473_eq : kernelRun0_A.sl.r_473 c arg2 harg2 arg4 harg4 arg5 harg5 arg6 harg6 x0 x2 x3 x4 = tU x0 (rows x2 6) (rows x3 6) (rows x4 6) 1 := by
  simp only [kernelRun0_A.sl.r_473, tri_load, tri_loadL, parity_eq, r_62_eq, r_60_eq]; rfl
theorem r_483_eq : kernelRun0_A.sl.r_483 c arg2 harg2 arg4 harg4 arg5 harg5 arg6 harg6 x0 x2 x3 x4 = tU x0 (rows x2 6) (rows x3 6) (rows x4 6) 2 := by
  simp only [kernelRun0_A.sl.r_483, tri_load, tri_loadL, parity_eq, r_62_eq, r_60_eq]; rfl
theorem r_493_eq : kernelRun0_A.sl.r_493 c arg2 harg2 arg4 harg4 arg5 harg5 arg6 harg6 x0 x2 x3 x4 = tU x0 (rows x2 6) (rows x3 6) (rows x4 6) 3 := by
  simp only [kernelRun0_A.sl.r_493, tri_load, tri_loadL, parity_eq, r_62_eq, r_60_eq]; rfl
theorem r_63_eq : kernelRun0_A.sl.r_63 c arg2 harg2 arg6 harg6 x0 x4 = (bT x0 (rows x4 7)) := by
  simp only [kernelRun0_A.sl.r_63, tri_load, tri_loadL, parity_eq, v312_eq]; rfl
theorem r_64_eq : kernelRun0_A.sl.r_64 c arg2 harg2 arg6 harg6 x0 x4 = (totT x0 (rows x4 7)) := by
  simp only [kernelRun0_A.sl.r_64, tri_load, tri_loadL, parity_eq, v312_eq]; rfl
theorem r_65_eq : kernelRun0_A.sl.r_65 c arg4 harg4 x2 = (keysT (rows x2 7)) := by
  simp only [kernelRun0_A.sl.r_65, tri_load, tri_loadL, parity_eq, v331_eq]; rfl
theorem r_68_eq : kernelRun0_A.sl.r_68 c arg2 harg2 arg3 harg3 arg6 harg6 x0 x1 x4 = (qIn (bT x0 (rows x4 7)) (rows x1 7)) := by
  simp only [kernelRun0_A.sl.r_68, kernelRun0_A.sl.r_67, kernelRun0_A.sl.r_66, tri_load, tri_loadL, parity_eq, v312_eq, v335_eq]; rfl
theorem r_69_eq : kernelRun0_A.sl.r_69 c arg2 harg2 arg3 harg3 arg6 harg6 x0 x1 x4 = qBf (qIn (bT x0 (rows x4 7)) (rows x1 7)) := by
  simp only [kernelRun0_A.sl.r_69, kernelRun0_A.sl.r_67, kernelRun0_A.sl.r_66, tri_load, tri_loadL, parity_eq, v312_eq, v335_eq]; rfl
theorem r_70_eq : kernelRun0_A.sl.r_70 c arg2 harg2 arg4 harg4 arg6 harg6 x0 x2 x4 = kIntra (keysT (rows x2 7)) (bT x0 (rows x4 7)) := by
  simp only [kernelRun0_A.sl.r_70, tri_load, tri_loadL, parity_eq, r_65_eq, r_63_eq]; rfl
theorem r_71_eq : kernelRun0_A.sl.r_71 c arg2 harg2 arg4 harg4 arg6 harg6 x0 x2 x4 = kState (keysT (rows x2 7)) (bT x0 (rows x4 7)) (totT x0 (rows x4 7)) := by
  simp only [kernelRun0_A.sl.r_71, tri_load, tri_loadL, parity_eq, r_65_eq, r_64_eq, r_63_eq]; rfl
theorem r_72_eq : kernelRun0_A.sl.r_72 c arg2 harg2 arg6 harg6 x0 x4 = decayT (totT x0 (rows x4 7)) := by
  simp only [kernelRun0_A.sl.r_72, tri_load, tri_loadL, parity_eq, r_64_eq]; rfl
theorem r_73_eq : kernelRun0_A.sl.r_73 c arg5 harg5 x3 = vals (rows x3 7) := by
  simp only [kernelRun0_A.sl.r_73, tri_load, tri_loadL, parity_eq, v353_eq]; rfl
theorem r_503_eq : kernelRun0_A.sl.r_503 = causal := by
  simp only [kernelRun0_A.sl.r_503, kernelRun0_A.sl.v4388, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v2125, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq]; rfl
theorem r_509_eq : kernelRun0_A.sl.r_509 c arg2 harg2 arg3 harg3 arg4 harg4 arg5 harg5 arg6 harg6 x0 x1 x2 x3 x4 = tI x0 (rows x1 7) (rows x2 7) (rows x3 7) (rows x4 7) 0 0 := by
  simp only [kernelRun0_A.sl.r_509, kernelRun0_A.sl.r_508, kernelRun0_A.sl.r_507, kernelRun0_A.sl.r_506, kernelRun0_A.sl.v4388, kernelRun0_A.sl.v390, kernelRun0_A.sl.v2096, kernelRun0_A.sl.v388, kernelRun0_A.sl.v2080, kernelRun0_A.sl.v2095, kernelRun0_A.sl.v2086, kernelRun0_A.sl.v2092, kernelRun0_A.sl.v395, kernelRun0_A.sl.v2088, kernelRun0_A.sl.v2125, kernelRun0_A.sl.v402, kernelRun0_A.sl.v1555, kernelRun0_A.sl.v1514, kernelRun0_A.sl.v1554, kernelRun0_A.sl.v416, kernelRun0_A.sl.v1551, kernelRun0_A.sl.v1547, kernelRun0_A.sl.v1539, kernelRun0_A.sl.v1536, tri_load, tri_loadL, parity_eq, r_73_eq, r_70_eq, r_69_eq]; rfl
theorem r_516_eq : kernelRun0_A.sl.r_516 c arg2 harg2 arg3 harg3 arg4 harg4 arg5 harg5 arg6 harg6 x0 x1 x2 x3 x4 = tI x0 (rows x1 7) (rows x2 7) (rows x3 7) (rows x4 7) 0 1 := by
  simp only [kernelRun0_A.sl.r_516, kernelRun0_A.sl.r_515, kernelRun0_A.sl.r_514, tri_load, tri_loadL, parity_eq, r_69_eq, r_70_eq, r_503_eq, r_73_eq]; rfl
theorem r_510_eq : kernelRun0_A.sl.r_510 c arg2 harg2 arg3 harg3 arg4 harg4 arg5 harg5 arg6 harg6 x0 x1 x2 x3 x4 = tI x0 (rows x1 7) (rows x2 7) (rows x3 7) (rows x4 7) 1 0 := by
  simp only [kernelRun0_A.sl.r_510, kernelRun0_A.sl.r_505, kernelRun0_A.sl.r_504, tri_load, tri_loadL, parity_eq, r_69_eq, r_70_eq, r_503_eq, r_73_eq]; rfl
theorem r_518_eq : kernelRun0_A.sl.r_518 c arg2 harg2 arg3 harg3 arg4 harg4 arg5 harg5 arg6 harg6 x0 x1 x2 x3 x4 = tI x0 (rows x1 7) (rows x2 7) (rows x3 7) (rows x4 7) 1 1 := by
  simp only [kernelRun0_A.sl.r_518, kernelRun0_A.sl.r_517, kernelRun0_A.sl.r_515, kernelRun0_A.sl.r_514, tri_load, tri_loadL, parity_eq, r_69_eq, r_70_eq, r_503_eq, r_73_eq]; rfl
theorem r_512_eq : kernelRun0_A.sl.r_512 c arg2 harg2 arg3 harg3 arg4 harg4 arg5 harg5 arg6 harg6 x0 x1 x2 x3 x4 = tI x0 (rows x1 7) (rows x2 7) (rows x3 7) (rows x4 7) 2 0 := by
  simp only [kernelRun0_A.sl.r_512, kernelRun0_A.sl.cst_785, kernelRun0_A.sl.r_511, kernelRun0_A.sl.r_504, kernelRun0_A.sl.r_505, tri_load, tri_loadL, parity_eq, r_70_eq, r_69_eq, r_503_eq, r_73_eq]; rfl
theorem r_519_eq : kernelRun0_A.sl.r_519 c arg2 harg2 arg3 harg3 arg4 harg4 arg5 harg5 arg6 harg6 x0 x1 x2 x3 x4 = tI x0 (rows x1 7) (rows x2 7) (rows x3 7) (rows x4 7) 2 1 := by
  simp only [kernelRun0_A.sl.r_519, kernelRun0_A.sl.r_515, kernelRun0_A.sl.r_514, tri_load, tri_loadL, parity_eq, r_69_eq, r_70_eq, r_503_eq, r_73_eq]; rfl
theorem r_513_eq : kernelRun0_A.sl.r_513 c arg2 harg2 arg3 harg3 arg4 harg4 arg5 harg5 arg6 harg6 x0 x1 x2 x3 x4 = tI x0 (rows x1 7) (rows x2 7) (rows x3 7) (rows x4 7) 3 0 := by
  simp only [kernelRun0_A.sl.r_513, kernelRun0_A.sl.r_505, kernelRun0_A.sl.r_504, tri_load, tri_loadL, parity_eq, r_69_eq, r_70_eq, r_503_eq, r_73_eq]; rfl
theorem r_520_eq : kernelRun0_A.sl.r_520 c arg2 harg2 arg3 harg3 arg4 harg4 arg5 harg5 arg6 harg6 x0 x1 x2 x3 x4 = tI x0 (rows x1 7) (rows x2 7) (rows x3 7) (rows x4 7) 3 1 := by
  simp only [kernelRun0_A.sl.r_520, kernelRun0_A.sl.r_515, kernelRun0_A.sl.r_514, tri_load, tri_loadL, parity_eq, r_69_eq, r_70_eq, r_503_eq, r_73_eq]; rfl
theorem r_522_eq : kernelRun0_A.sl.r_522 c arg2 harg2 arg4 harg4 arg5 harg5 arg6 harg6 x0 x2 x3 x4 = tU x0 (rows x2 7) (rows x3 7) (rows x4 7) 0 := by
  simp only [kernelRun0_A.sl.r_522, tri_load, tri_loadL, parity_eq, r_73_eq, r_71_eq]; rfl
theorem r_532_eq : kernelRun0_A.sl.r_532 c arg2 harg2 arg4 harg4 arg5 harg5 arg6 harg6 x0 x2 x3 x4 = tU x0 (rows x2 7) (rows x3 7) (rows x4 7) 1 := by
  simp only [kernelRun0_A.sl.r_532, tri_load, tri_loadL, parity_eq, r_73_eq, r_71_eq]; rfl
theorem r_542_eq : kernelRun0_A.sl.r_542 c arg2 harg2 arg4 harg4 arg5 harg5 arg6 harg6 x0 x2 x3 x4 = tU x0 (rows x2 7) (rows x3 7) (rows x4 7) 2 := by
  simp only [kernelRun0_A.sl.r_542, tri_load, tri_loadL, parity_eq, r_73_eq, r_71_eq]; rfl
theorem r_552_eq : kernelRun0_A.sl.r_552 c arg2 harg2 arg4 harg4 arg5 harg5 arg6 harg6 x0 x2 x3 x4 = tU x0 (rows x2 7) (rows x3 7) (rows x4 7) 3 := by
  simp only [kernelRun0_A.sl.r_552, tri_load, tri_loadL, parity_eq, r_73_eq, r_71_eq]; rfl
theorem v4875_eq : kernelRun0_A.sl.v4875 c arg8 = (k0_pay2 : Vec F S256x128 .f32) := by
  simp only [kernelRun0_A.sl.v4875, kernelRun0_A.sl.HS0_1]; exact View.readCov_cons_toLoadRect _ _ _ _
theorem piece0 : k0_pay839 (kernelRun0_A.sl.r_79 c arg2 harg2 arg3 harg3 arg4 harg4 arg5 harg5 arg6 harg6 x0 x1 x2 x3 x4) (kernelRun0_A.sl.r_80 c arg2 harg2 arg3 harg3 arg4 harg4 arg5 harg5 arg6 harg6 x0 x1 x2 x3 x4) (kernelRun0_A.sl.r_82 c arg2 harg2 arg3 harg3 arg4 harg4 arg5 harg5 arg6 harg6 x0 x1 x2 x3 x4) (kernelRun0_A.sl.r_86 c arg2 harg2 arg3 harg3 arg4 harg4 arg5 harg5 arg6 harg6 x0 x1 x2 x3 x4) (kernelRun0_A.sl.r_89 c arg2 harg2 arg3 harg3 arg4 harg4 arg5 harg5 arg6 harg6 x0 x1 x2 x3 x4) (kernelRun0_A.sl.r_92 c arg2 harg2 arg3 harg3 arg4 harg4 arg5 harg5 arg6 harg6 x0 x1 x2 x3 x4) (kernelRun0_A.sl.r_93 c arg2 harg2 arg3 harg3 arg4 harg4 arg5 harg5 arg6 harg6 x0 x1 x2 x3 x4) (kernelRun0_A.sl.r_94 c arg2 harg2 arg3 harg3 arg4 harg4 arg5 harg5 arg6 harg6 x0 x1 x2 x3 x4) (kernelRun0_A.sl.r_570 c arg2 harg2 arg4 harg4 arg5 harg5 arg6 harg6 arg8 x0 x2 x3 x4) (kernelRun0_A.sl.r_575 c arg2 harg2 arg3 harg3 arg6 harg6 arg8 x0 x1 x4) (kernelRun0_A.sl.r_576 c arg2 harg2 arg3 harg3 arg6 harg6 arg8 x0 x1 x4) (kernelRun0_A.sl.r_577 c arg2 harg2 arg3 harg3 arg6 harg6 arg8 x0 x1 x4) (kernelRun0_A.sl.r_578 c arg2 harg2 arg3 harg3 arg6 harg6 arg8 x0 x1 x4) (kernelRun0_A.sl.r_582 c arg2 harg2 arg3 harg3 arg4 harg4 arg5 harg5 arg6 harg6 arg8 x0 x1 x2 x3 x4) (kernelRun0_A.sl.r_583 c arg2 harg2 arg3 harg3 arg4 harg4 arg5 harg5 arg6 harg6 arg8 x0 x1 x2 x3 x4) (kernelRun0_A.sl.r_584 c arg2 harg2 arg3 harg3 arg4 harg4 arg5 harg5 arg6 harg6 arg8 x0 x1 x2 x3 x4) (kernelRun0_A.sl.r_585 c arg2 harg2 arg3 harg3 arg4 harg4 arg5 harg5 arg6 harg6 arg8 x0 x1 x2 x3 x4) (kernelRun0_A.sl.r_590 c arg2 harg2 arg3 harg3 arg4 harg4 arg5 harg5 arg6 harg6 arg8 x0 x1 x2 x3 x4) (kernelRun0_A.sl.r_591 c arg2 harg2 arg3 harg3 arg4 harg4 arg5 harg5 arg6 harg6 arg8 x0 x1 x2 x3 x4) (kernelRun0_A.sl.r_592 c arg2 harg2 arg3 harg3 arg4 harg4 arg5 harg5 arg6 harg6 arg8 x0 x1 x2 x3 x4) (kernelRun0_A.sl.r_593 c arg2 harg2 arg3 harg3 arg4 harg4 arg5 harg5 arg6 harg6 arg8 x0 x1 x2 x3 x4) (kernelRun0_A.sl.r_598 c arg2 harg2 arg3 harg3 arg4 harg4 arg5 harg5 arg6 harg6 arg8 x0 x1 x2 x3 x4) (kernelRun0_A.sl.r_599 c arg2 harg2 arg3 harg3 arg4 harg4 arg5 harg5 arg6 harg6 arg8 x0 x1 x2 x3 x4) (kernelRun0_A.sl.r_600 c arg2 harg2 arg3 harg3 arg4 harg4 arg5 harg5 arg6 harg6 arg8 x0 x1 x2 x3 x4) (kernelRun0_A.sl.r_601 c arg2 harg2 arg3 harg3 arg4 harg4 arg5 harg5 arg6 harg6 arg8 x0 x1 x2 x3 x4) (kernelRun0_A.sl.r_606 c arg2 harg2 arg3 harg3 arg4 harg4 arg5 harg5 arg6 harg6 arg8 x0 x1 x2 x3 x4) (kernelRun0_A.sl.r_607 c arg2 harg2 arg3 harg3 arg4 harg4 arg5 harg5 arg6 harg6 arg8 x0 x1 x2 x3 x4) (kernelRun0_A.sl.r_608 c arg2 harg2 arg3 harg3 arg4 harg4 arg5 harg5 arg6 harg6 arg8 x0 x1 x2 x3 x4) (kernelRun0_A.sl.r_609 c arg2 harg2 arg3 harg3 arg4 harg4 arg5 harg5 arg6 harg6 arg8 x0 x1 x2 x3 x4) (kernelRun0_A.sl.r_613 c arg2 harg2 arg3 harg3 arg4 harg4 arg5 harg5 arg6 harg6 arg8 x0 x1 x2 x3 x4) (kernelRun0_A.sl.r_614 c arg2 harg2 arg3 harg3 arg4 harg4 arg5 harg5 arg6 harg6 arg8 x0 x1 x2 x3 x4) (kernelRun0_A.sl.r_615 c arg2 harg2 arg3 harg3 arg4 harg4 arg5 harg5 arg6 harg6 arg8 x0 x1 x2 x3 x4) (kernelRun0_A.sl.r_616 c arg2 harg2 arg3 harg3 arg4 harg4 arg5 harg5 arg6 harg6 arg8 x0 x1 x2 x3 x4) (kernelRun0_A.sl.r_621 c arg2 harg2 arg3 harg3 arg4 harg4 arg5 harg5 arg6 harg6 arg8 x0 x1 x2 x3 x4) (kernelRun0_A.sl.r_622 c arg2 harg2 arg3 harg3 arg4 harg4 arg5 harg5 arg6 harg6 arg8 x0 x1 x2 x3 x4) (kernelRun0_A.sl.r_623 c arg2 harg2 arg3 harg3 arg4 harg4 arg5 harg5 arg6 harg6 arg8 x0 x1 x2 x3 x4) (kernelRun0_A.sl.r_624 c arg2 harg2 arg3 harg3 arg4 harg4 arg5 harg5 arg6 harg6 arg8 x0 x1 x2 x3 x4) (kernelRun0_A.sl.r_625 c arg2 harg2 arg3 harg3 arg6 harg6 x0 x1 x4) (kernelRun0_A.sl.r_626 c arg2 harg2 arg3 harg3 arg6 harg6 x0 x1 x4) (kernelRun0_A.sl.r_627 c arg2 harg2 arg3 harg3 arg6 harg6 x0 x1 x4) (kernelRun0_A.sl.r_628 c arg2 harg2 arg3 harg3 arg6 harg6 x0 x1 x4) (k0_pay836 kernelRun0_A.sl.v355) (k0_pay837 kernelRun0_A.sl.v355) (k0_pay838 kernelRun0_A.sl.v355) = tOut x0 (rows x1 0) (rows x2 0) (rows x3 0) (rows x4 0) (stateAt x0 x2 x3 x4 0) := by
  simp only [kernelRun0_A.sl.r_570, kernelRun0_A.sl.r_568, kernelRun0_A.sl.r_138, kernelRun0_A.sl.r_128, kernelRun0_A.sl.r_119, kernelRun0_A.sl.cst_371, kernelRun0_A.sl.r_113, kernelRun0_A.sl.r_112, kernelRun0_A.sl.r_109, kernelRun0_A.sl.r_103, kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_567, kernelRun0_A.sl.r_137, kernelRun0_A.sl.r_136, kernelRun0_A.sl.r_135, kernelRun0_A.sl.r_134, kernelRun0_A.sl.r_133, kernelRun0_A.sl.r_132, kernelRun0_A.sl.r_127, kernelRun0_A.sl.r_126, kernelRun0_A.sl.r_125, kernelRun0_A.sl.r_124, kernelRun0_A.sl.r_123, kernelRun0_A.sl.r_118, kernelRun0_A.sl.r_117, kernelRun0_A.sl.r_116, kernelRun0_A.sl.r_115, kernelRun0_A.sl.r_114, kernelRun0_A.sl.r_108, kernelRun0_A.sl.r_107, kernelRun0_A.sl.r_106, kernelRun0_A.sl.r_105, kernelRun0_A.sl.r_104, kernelRun0_A.sl.r_139, kernelRun0_A.sl.r_129, kernelRun0_A.sl.r_120, kernelRun0_A.sl.r_110, kernelRun0_A.sl.r_575, kernelRun0_A.sl.r_574, kernelRun0_A.sl.v355, kernelRun0_A.sl.r_573, kernelRun0_A.sl.r_571, kernelRun0_A.sl.r_572, kernelRun0_A.sl.r_561, kernelRun0_A.sl.r_576, kernelRun0_A.sl.r_577, kernelRun0_A.sl.r_578, kernelRun0_A.sl.r_582, kernelRun0_A.sl.cst_297, kernelRun0_A.sl.r_581, kernelRun0_A.sl.r_579, kernelRun0_A.sl.r_580, kernelRun0_A.sl.r_562, kernelRun0_A.sl.r_583, kernelRun0_A.sl.r_584, kernelRun0_A.sl.r_585, kernelRun0_A.sl.r_590, kernelRun0_A.sl.r_589, kernelRun0_A.sl.r_586, kernelRun0_A.sl.r_588, kernelRun0_A.sl.r_587, kernelRun0_A.sl.r_563, kernelRun0_A.sl.r_591, kernelRun0_A.sl.r_592, kernelRun0_A.sl.r_593, kernelRun0_A.sl.r_598, kernelRun0_A.sl.r_597, kernelRun0_A.sl.r_594, kernelRun0_A.sl.r_596, kernelRun0_A.sl.r_595, kernelRun0_A.sl.r_564, kernelRun0_A.sl.r_599, kernelRun0_A.sl.r_600, kernelRun0_A.sl.r_601, kernelRun0_A.sl.r_606, kernelRun0_A.sl.r_605, kernelRun0_A.sl.r_604, kernelRun0_A.sl.r_602, kernelRun0_A.sl.r_603, kernelRun0_A.sl.r_565, kernelRun0_A.sl.r_607, kernelRun0_A.sl.r_608, kernelRun0_A.sl.r_609, kernelRun0_A.sl.r_613, kernelRun0_A.sl.r_612, kernelRun0_A.sl.r_610, kernelRun0_A.sl.r_611, kernelRun0_A.sl.r_566, kernelRun0_A.sl.r_614, kernelRun0_A.sl.r_615, kernelRun0_A.sl.r_616, kernelRun0_A.sl.r_621, kernelRun0_A.sl.r_620, kernelRun0_A.sl.r_617, kernelRun0_A.sl.r_619, kernelRun0_A.sl.r_618, kernelRun0_A.sl.r_569, kernelRun0_A.sl.r_622, kernelRun0_A.sl.r_623, kernelRun0_A.sl.r_624, kernelRun0_A.sl.r_625, kernelRun0_A.sl.r_626, kernelRun0_A.sl.r_627, kernelRun0_A.sl.r_628, r_79_eq, r_80_eq, r_82_eq, r_86_eq, r_89_eq, r_92_eq, r_93_eq, r_94_eq, r_131_eq, r_95_eq, r_122_eq, r_8_eq, r_10_eq, v4875_eq, r_9_eq, r_5_eq, tri_load, tri_loadL, parity_eq]; rfl
theorem v5976_eq : kernelRun0_A.sl.v5976 c arg2 harg2 arg4 harg4 arg5 harg5 arg6 harg6 arg8 x0 x2 x3 x4 = stateAt x0 x2 x3 x4 1 := by
  show _ = tS x0 (rows x2 0) (rows x3 0) (rows x4 0) (stateAt x0 x2 x3 x4 0) 8
  simp only [kernelRun0_A.sl.v5976, kernelRun0_A.sl.HS0_2]
  refine (View.readCov_cons_toLoadRect _ _ _ _).trans ?_
  simp only [kernelRun0_A.sl.r_110, kernelRun0_A.sl.r_103, kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_111, kernelRun0_A.sl.r_120, kernelRun0_A.sl.cst_371, kernelRun0_A.sl.r_113, kernelRun0_A.sl.r_112, kernelRun0_A.sl.r_121, kernelRun0_A.sl.r_129, kernelRun0_A.sl.r_130, kernelRun0_A.sl.r_139, kernelRun0_A.sl.r_140, kernelRun0_A.sl.r_567, kernelRun0_A.sl.r_137, kernelRun0_A.sl.r_136, kernelRun0_A.sl.r_135, kernelRun0_A.sl.r_134, kernelRun0_A.sl.r_133, kernelRun0_A.sl.r_132, kernelRun0_A.sl.r_127, kernelRun0_A.sl.r_126, kernelRun0_A.sl.r_125, kernelRun0_A.sl.r_124, kernelRun0_A.sl.r_123, kernelRun0_A.sl.r_118, kernelRun0_A.sl.r_117, kernelRun0_A.sl.r_116, kernelRun0_A.sl.r_115, kernelRun0_A.sl.r_114, kernelRun0_A.sl.r_108, kernelRun0_A.sl.r_107, kernelRun0_A.sl.r_106, kernelRun0_A.sl.r_105, kernelRun0_A.sl.r_104, kernelRun0_A.sl.r_568, kernelRun0_A.sl.r_138, kernelRun0_A.sl.r_128, kernelRun0_A.sl.r_119, kernelRun0_A.sl.r_109, r_9_eq, r_10_eq, r_95_eq, r_8_eq, r_122_eq, r_131_eq, v4875_eq, tri_load, tri_loadL, parity_eq]
  exact (shapeCast_id (s := S256x128) _ _).trans rfl
theorem piece1 : k0_pay968 (kernelRun0_A.sl.r_645 c arg2 harg2 arg3 harg3 arg4 harg4 arg5 harg5 arg6 harg6 arg8 x0 x1 x2 x3 x4) (kernelRun0_A.sl.r_653 c arg2 harg2 arg3 harg3 arg4 harg4 arg5 harg5 arg6 harg6 arg8 x0 x1 x2 x3 x4) (kernelRun0_A.sl.r_661 c arg2 harg2 arg3 harg3 arg4 harg4 arg5 harg5 arg6 harg6 arg8 x0 x1 x2 x3 x4) (kernelRun0_A.sl.r_668 c arg2 harg2 arg3 harg3 arg4 harg4 arg5 harg5 arg6 harg6 arg8 x0 x1 x2 x3 x4) (kernelRun0_A.sl.r_676 c arg2 harg2 arg3 harg3 arg4 harg4 arg5 harg5 arg6 harg6 arg8 x0 x1 x2 x3 x4) (kernelRun0_A.sl.r_684 c arg2 harg2 arg3 harg3 arg4 harg4 arg5 harg5 arg6 harg6 arg8 x0 x1 x2 x3 x4) (kernelRun0_A.sl.r_692 c arg2 harg2 arg3 harg3 arg4 harg4 arg5 harg5 arg6 harg6 arg8 x0 x1 x2 x3 x4) (kernelRun0_A.sl.r_696 c arg2 harg2 arg3 harg3 arg4 harg4 arg5 harg5 arg6 harg6 arg8 x0 x1 x2 x3 x4) (kernelRun0_A.sl.r_697 c arg2 harg2 arg3 harg3 arg4 harg4 arg5 harg5 arg6 harg6 arg8 x0 x1 x2 x3 x4) (kernelRun0_A.sl.r_698 c arg2 harg2 arg3 harg3 arg4 harg4 arg5 harg5 arg6 harg6 arg8 x0 x1 x2 x3 x4) (kernelRun0_A.sl.r_699 c arg2 harg2 arg3 harg3 arg4 harg4 arg5 harg5 arg6 harg6 arg8 x0 x1 x2 x3 x4) (kernelRun0_A.sl.r_700 c arg2 harg2 arg3 harg3 arg4 harg4 arg5 harg5 arg6 harg6 x0 x1 x2 x3 x4) = tOut x0 (rows x1 1) (rows x2 1) (rows x3 1) (rows x4 1) (stateAt x0 x2 x3 x4 1) := by
  simp only [kernelRun0_A.sl.r_645, kernelRun0_A.sl.v355, kernelRun0_A.sl.r_641, kernelRun0_A.sl.r_638, kernelRun0_A.sl.r_640, kernelRun0_A.sl.r_639, kernelRun0_A.sl.r_629, kernelRun0_A.sl.r_653, kernelRun0_A.sl.r_649, kernelRun0_A.sl.r_646, kernelRun0_A.sl.r_648, kernelRun0_A.sl.r_647, kernelRun0_A.sl.r_630, kernelRun0_A.sl.r_197, kernelRun0_A.sl.v689, kernelRun0_A.sl.r_187, kernelRun0_A.sl.r_178, kernelRun0_A.sl.r_169, kernelRun0_A.sl.r_168, kernelRun0_A.sl.r_167, kernelRun0_A.sl.r_166, kernelRun0_A.sl.r_165, kernelRun0_A.sl.r_164, kernelRun0_A.sl.r_163, kernelRun0_A.sl.r_162, kernelRun0_A.sl.r_161, kernelRun0_A.sl.r_661, kernelRun0_A.sl.cst_771, kernelRun0_A.sl.r_657, kernelRun0_A.sl.r_656, kernelRun0_A.sl.r_654, kernelRun0_A.sl.r_655, kernelRun0_A.sl.r_632, kernelRun0_A.sl.r_631, kernelRun0_A.sl.r_198, kernelRun0_A.sl.r_189, kernelRun0_A.sl.r_188, kernelRun0_A.sl.r_179, kernelRun0_A.sl.r_170, kernelRun0_A.sl.r_668, kernelRun0_A.sl.cst_297, kernelRun0_A.sl.r_664, kernelRun0_A.sl.r_662, kernelRun0_A.sl.r_663, kernelRun0_A.sl.r_633, kernelRun0_A.sl.r_200, kernelRun0_A.sl.r_199, kernelRun0_A.sl.r_190, kernelRun0_A.sl.r_180, kernelRun0_A.sl.r_171, kernelRun0_A.sl.r_676, kernelRun0_A.sl.r_672, kernelRun0_A.sl.r_669, kernelRun0_A.sl.r_671, kernelRun0_A.sl.r_670, kernelRun0_A.sl.r_634, kernelRun0_A.sl.r_201, kernelRun0_A.sl.r_191, kernelRun0_A.sl.r_181, kernelRun0_A.sl.r_172, kernelRun0_A.sl.r_684, kernelRun0_A.sl.r_680, kernelRun0_A.sl.r_677, kernelRun0_A.sl.r_679, kernelRun0_A.sl.r_678, kernelRun0_A.sl.r_635, kernelRun0_A.sl.r_202, kernelRun0_A.sl.r_192, kernelRun0_A.sl.r_182, kernelRun0_A.sl.r_173, kernelRun0_A.sl.r_692, kernelRun0_A.sl.r_688, kernelRun0_A.sl.r_687, kernelRun0_A.sl.r_685, kernelRun0_A.sl.r_686, kernelRun0_A.sl.r_636, kernelRun0_A.sl.r_203, kernelRun0_A.sl.r_193, kernelRun0_A.sl.r_183, kernelRun0_A.sl.r_174, kernelRun0_A.sl.r_696, kernelRun0_A.sl.r_695, kernelRun0_A.sl.r_693, kernelRun0_A.sl.r_694, kernelRun0_A.sl.r_637, kernelRun0_A.sl.r_204, kernelRun0_A.sl.r_194, kernelRun0_A.sl.r_184, kernelRun0_A.sl.r_175, kernelRun0_A.sl.r_697, kernelRun0_A.sl.r_689, kernelRun0_A.sl.r_681, kernelRun0_A.sl.r_673, kernelRun0_A.sl.r_665, kernelRun0_A.sl.r_658, kernelRun0_A.sl.r_650, kernelRun0_A.sl.r_642, kernelRun0_A.sl.r_698, kernelRun0_A.sl.r_690, kernelRun0_A.sl.r_682, kernelRun0_A.sl.r_674, kernelRun0_A.sl.r_666, kernelRun0_A.sl.r_659, kernelRun0_A.sl.r_651, kernelRun0_A.sl.r_643, kernelRun0_A.sl.r_699, kernelRun0_A.sl.r_691, kernelRun0_A.sl.r_683, kernelRun0_A.sl.r_675, kernelRun0_A.sl.r_667, kernelRun0_A.sl.r_660, kernelRun0_A.sl.r_652, kernelRun0_A.sl.r_644, kernelRun0_A.sl.r_700, r_13_eq, v5976_eq, r_18_eq, r_16_eq, r_177_eq, r_17_eq, r_186_eq, r_196_eq, r_156_eq, r_146_eq, r_158_eq, r_147_eq, r_159_eq, r_149_eq, r_160_eq, r_153_eq, tri_load, tri_loadL, parity_eq]; rfl
theorem v7077_eq : kernelRun0_A.sl.v7077 c arg2 harg2 arg4 harg4 arg5 harg5 arg6 harg6 arg8 x0 x2 x3 x4 = stateAt x0 x2 x3 x4 2 := by
  show _ = tS x0 (rows x2 1) (rows x3 1) (rows x4 1) (stateAt x0 x2 x3 x4 1) 8
  simp only [kernelRun0_A.sl.v7077, kernelRun0_A.sl.HS0_3]
  refine (View.readCov_cons_toLoadRect _ _ _ _).trans ?_
  simp only [kernelRun0_A.sl.r_170, kernelRun0_A.sl.r_168, kernelRun0_A.sl.r_167, kernelRun0_A.sl.r_166, kernelRun0_A.sl.r_165, kernelRun0_A.sl.r_164, kernelRun0_A.sl.r_163, kernelRun0_A.sl.r_162, kernelRun0_A.sl.r_161, kernelRun0_A.sl.v689, kernelRun0_A.sl.r_171, kernelRun0_A.sl.r_172, kernelRun0_A.sl.r_173, kernelRun0_A.sl.r_174, kernelRun0_A.sl.r_175, kernelRun0_A.sl.r_176, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_189, kernelRun0_A.sl.r_188, kernelRun0_A.sl.r_190, kernelRun0_A.sl.r_191, kernelRun0_A.sl.r_192, kernelRun0_A.sl.r_193, kernelRun0_A.sl.r_194, kernelRun0_A.sl.r_195, kernelRun0_A.sl.r_198, kernelRun0_A.sl.r_200, kernelRun0_A.sl.cst_297, kernelRun0_A.sl.r_199, kernelRun0_A.sl.r_201, kernelRun0_A.sl.r_202, kernelRun0_A.sl.r_203, kernelRun0_A.sl.r_204, kernelRun0_A.sl.r_205, kernelRun0_A.sl.r_631, kernelRun0_A.sl.r_197, kernelRun0_A.sl.r_187, kernelRun0_A.sl.r_178, kernelRun0_A.sl.r_169, r_17_eq, r_18_eq, r_16_eq, r_177_eq, r_186_eq, r_196_eq, v5976_eq, tri_load, tri_loadL, parity_eq]
  exact (shapeCast_id (s := S256x128) _ _).trans rfl
theorem piece2 : k0_pay1088 (kernelRun0_A.sl.r_212 c arg2 harg2 arg3 harg3 arg4 harg4 arg5 harg5 arg6 harg6 x0 x1 x2 x3 x4) (kernelRun0_A.sl.r_213 c arg2 harg2 arg3 harg3 arg4 harg4 arg5 harg5 arg6 harg6 x0 x1 x2 x3 x4) (kernelRun0_A.sl.r_215 c arg2 harg2 arg3 harg3 arg4 harg4 arg5 harg5 arg6 harg6 x0 x1 x2 x3 x4) (kernelRun0_A.sl.r_218 c arg2 harg2 arg3 harg3 arg4 harg4 arg5 harg5 arg6 harg6 x0 x1 x2 x3 x4) (kernelRun0_A.sl.r_221 c arg2 harg2 arg3 harg3 arg4 harg4 arg5 harg5 arg6 harg6 x0 x1 x2 x3 x4) (kernelRun0_A.sl.r_223 c arg2 harg2 arg3 harg3 arg4 harg4 arg5 harg5 arg6 harg6 x0 x1 x2 x3 x4) (kernelRun0_A.sl.r_224 c arg2 harg2 arg3 harg3 arg4 harg4 arg5 harg5 arg6 harg6 x0 x1 x2 x3 x4) (kernelRun0_A.sl.r_225 c arg2 harg2 arg3 harg3 arg4 harg4 arg5 harg5 arg6 harg6 x0 x1 x2 x3 x4) (kernelRun0_A.sl.r_709 c arg2 harg2 arg4 harg4 arg5 harg5 arg6 harg6 arg8 x0 x2 x3 x4) (kernelRun0_A.sl.r_714 c arg2 harg2 arg3 harg3 arg4 harg4 arg5 harg5 arg6 harg6 arg8 x0 x1 x2 x3 x4) (kernelRun0_A.sl.r_715 c arg2 harg2 arg3 harg3 arg4 harg4 arg5 harg5 arg6 harg6 arg8 x0 x1 x2 x3 x4) (kernelRun0_A.sl.r_716 c arg2 harg2 arg3 harg3 arg4 harg4 arg5 harg5 arg6 harg6 arg8 x0 x1 x2 x3 x4) (kernelRun0_A.sl.r_717 c arg2 harg2 arg3 harg3 arg4 harg4 arg5 harg5 arg6 harg6 arg8 x0 x1 x2 x3 x4) (kernelRun0_A.sl.r_721 c arg2 harg2 arg3 harg3 arg4 harg4 arg5 harg5 arg6 harg6 arg8 x0 x1 x2 x3 x4) (kernelRun0_A.sl.r_722 c arg2 harg2 arg3 harg3 arg4 harg4 arg5 harg5 arg6 harg6 arg8 x0 x1 x2 x3 x4) (kernelRun0_A.sl.r_723 c arg2 harg2 arg3 harg3 arg4 harg4 arg5 harg5 arg6 harg6 arg8 x0 x1 x2 x3 x4) (kernelRun0_A.sl.r_724 c arg2 harg2 arg3 harg3 arg4 harg4 arg5 harg5 arg6 harg6 arg8 x0 x1 x2 x3 x4) (kernelRun0_A.sl.r_729 c arg2 harg2 arg3 harg3 arg4 harg4 arg5 harg5 arg6 harg6 arg8 x0 x1 x2 x3 x4) (kernelRun0_A.sl.r_730 c arg2 harg2 arg3 harg3 arg4 harg4 arg5 harg5 arg6 harg6 arg8 x0 x1 x2 x3 x4) (kernelRun0_A.sl.r_731 c arg2 harg2 arg3 harg3 arg4 harg4 arg5 harg5 arg6 harg6 arg8 x0 x1 x2 x3 x4) (kernelRun0_A.sl.r_732 c arg2 harg2 arg3 harg3 arg4 harg4 arg5 harg5 arg6 harg6 arg8 x0 x1 x2 x3 x4) (kernelRun0_A.sl.r_737 c arg2 harg2 arg3 harg3 arg4 harg4 arg5 harg5 arg6 harg6 arg8 x0 x1 x2 x3 x4) (kernelRun0_A.sl.r_738 c arg2 harg2 arg3 harg3 arg4 harg4 arg5 harg5 arg6 harg6 arg8 x0 x1 x2 x3 x4) (kernelRun0_A.sl.r_739 c arg2 harg2 arg3 harg3 arg4 harg4 arg5 harg5 arg6 harg6 arg8 x0 x1 x2 x3 x4) (kernelRun0_A.sl.r_740 c arg2 harg2 arg3 harg3 arg4 harg4 arg5 harg5 arg6 harg6 arg8 x0 x1 x2 x3 x4) (kernelRun0_A.sl.r_745 c arg2 harg2 arg3 harg3 arg4 harg4 arg5 harg5 arg6 harg6 arg8 x0 x1 x2 x3 x4) (kernelRun0_A.sl.r_746 c arg2 harg2 arg3 harg3 arg4 harg4 arg5 harg5 arg6 harg6 arg8 x0 x1 x2 x3 x4) (kernelRun0_A.sl.r_747 c arg2 harg2 arg3 harg3 arg4 harg4 arg5 harg5 arg6 harg6 arg8 x0 x1 x2 x3 x4) (kernelRun0_A.sl.r_748 c arg2 harg2 arg3 harg3 arg4 harg4 arg5 harg5 arg6 harg6 arg8 x0 x1 x2 x3 x4) (kernelRun0_A.sl.r_752 c arg2 harg2 arg3 harg3 arg4 harg4 arg5 harg5 arg6 harg6 arg8 x0 x1 x2 x3 x4) (kernelRun0_A.sl.r_753 c arg2 harg2 arg3 harg3 arg4 harg4 arg5 harg5 arg6 harg6 arg8 x0 x1 x2 x3 x4) (kernelRun0_A.sl.r_754 c arg2 harg2 arg3 harg3 arg4 harg4 arg5 harg5 arg6 harg6 arg8 x0 x1 x2 x3 x4) (kernelRun0_A.sl.r_755 c arg2 harg2 arg3 harg3 arg4 harg4 arg5 harg5 arg6 harg6 arg8 x0 x1 x2 x3 x4) (kernelRun0_A.sl.r_760 c arg2 harg2 arg3 harg3 arg4 harg4 arg5 harg5 arg6 harg6 arg8 x0 x1 x2 x3 x4) (kernelRun0_A.sl.r_761 c arg2 harg2 arg3 harg3 arg4 harg4 arg5 harg5 arg6 harg6 arg8 x0 x1 x2 x3 x4) (kernelRun0_A.sl.r_762 c arg2 harg2 arg3 harg3 arg4 harg4 arg5 harg5 arg6 harg6 arg8 x0 x1 x2 x3 x4) (kernelRun0_A.sl.r_763 c arg2 harg2 arg3 harg3 arg4 harg4 arg5 harg5 arg6 harg6 arg8 x0 x1 x2 x3 x4) (kernelRun0_A.sl.r_764 c arg2 harg2 arg3 harg3 arg6 harg6 x0 x1 x4) (kernelRun0_A.sl.r_765 c arg2 harg2 arg3 harg3 arg6 harg6 x0 x1 x4) (kernelRun0_A.sl.r_766 c arg2 harg2 arg3 harg3 arg6 harg6 x0 x1 x4) (kernelRun0_A.sl.r_767 c arg2 harg2 arg3 harg3 arg6 harg6 x0 x1 x4) (k0_pay1086 kernelRun0_A.sl.v355) (k0_pay1087 kernelRun0_A.sl.v355) 1#32 = tOut x0 (rows x1 2) (rows x2 2) (rows x3 2) (rows x4 2) (stateAt x0 x2 x3 x4 2) := by
  simp only [kernelRun0_A.sl.r_709, kernelRun0_A.sl.r_707, kernelRun0_A.sl.r_269, kernelRun0_A.sl.r_268, kernelRun0_A.sl.r_267, kernelRun0_A.sl.r_266, kernelRun0_A.sl.r_265, kernelRun0_A.sl.r_264, kernelRun0_A.sl.r_263, kernelRun0_A.sl.r_259, kernelRun0_A.sl.r_258, kernelRun0_A.sl.r_257, kernelRun0_A.sl.r_256, kernelRun0_A.sl.r_255, kernelRun0_A.sl.cst_297, kernelRun0_A.sl.r_254, kernelRun0_A.sl.r_253, kernelRun0_A.sl.r_249, kernelRun0_A.sl.r_248, kernelRun0_A.sl.r_247, kernelRun0_A.sl.r_246, kernelRun0_A.sl.r_245, kernelRun0_A.sl.r_244, kernelRun0_A.sl.r_243, kernelRun0_A.sl.r_239, kernelRun0_A.sl.r_233, kernelRun0_A.sl.r_232, kernelRun0_A.sl.r_231, kernelRun0_A.sl.r_230, kernelRun0_A.sl.r_229, kernelRun0_A.sl.r_228, kernelRun0_A.sl.r_227, kernelRun0_A.sl.r_226, kernelRun0_A.sl.r_238, kernelRun0_A.sl.r_237, kernelRun0_A.sl.r_236, kernelRun0_A.sl.r_235, kernelRun0_A.sl.r_234, kernelRun0_A.sl.r_270, kernelRun0_A.sl.r_260, kernelRun0_A.sl.r_250, kernelRun0_A.sl.r_240, kernelRun0_A.sl.r_714, kernelRun0_A.sl.r_713, kernelRun0_A.sl.v355, kernelRun0_A.sl.r_712, kernelRun0_A.sl.r_710, kernelRun0_A.sl.r_711, kernelRun0_A.sl.r_701, kernelRun0_A.sl.r_715, kernelRun0_A.sl.r_716, kernelRun0_A.sl.r_717, kernelRun0_A.sl.r_721, kernelRun0_A.sl.r_720, kernelRun0_A.sl.r_718, kernelRun0_A.sl.r_719, kernelRun0_A.sl.r_702, kernelRun0_A.sl.r_722, kernelRun0_A.sl.r_723, kernelRun0_A.sl.r_724, kernelRun0_A.sl.r_729, kernelRun0_A.sl.r_728, kernelRun0_A.sl.r_725, kernelRun0_A.sl.r_727, kernelRun0_A.sl.r_726, kernelRun0_A.sl.r_703, kernelRun0_A.sl.r_730, kernelRun0_A.sl.r_731, kernelRun0_A.sl.r_732, kernelRun0_A.sl.r_737, kernelRun0_A.sl.r_736, kernelRun0_A.sl.r_733, kernelRun0_A.sl.r_735, kernelRun0_A.sl.r_734, kernelRun0_A.sl.r_704, kernelRun0_A.sl.r_738, kernelRun0_A.sl.r_739, kernelRun0_A.sl.r_740, kernelRun0_A.sl.r_745, kernelRun0_A.sl.r_744, kernelRun0_A.sl.r_743, kernelRun0_A.sl.r_741, kernelRun0_A.sl.r_742, kernelRun0_A.sl.r_705, kernelRun0_A.sl.r_746, kernelRun0_A.sl.r_747, kernelRun0_A.sl.r_748, kernelRun0_A.sl.r_752, kernelRun0_A.sl.r_751, kernelRun0_A.sl.r_749, kernelRun0_A.sl.r_750, kernelRun0_A.sl.r_706, kernelRun0_A.sl.r_753, kernelRun0_A.sl.r_754, kernelRun0_A.sl.r_755, kernelRun0_A.sl.r_760, kernelRun0_A.sl.r_759, kernelRun0_A.sl.r_756, kernelRun0_A.sl.r_758, kernelRun0_A.sl.r_757, kernelRun0_A.sl.r_708, kernelRun0_A.sl.r_761, kernelRun0_A.sl.r_762, kernelRun0_A.sl.r_763, kernelRun0_A.sl.r_764, kernelRun0_A.sl.r_765, kernelRun0_A.sl.r_766, kernelRun0_A.sl.r_767, r_212_eq, r_213_eq, r_215_eq, r_218_eq, r_221_eq, r_223_eq, r_224_eq, r_225_eq, v7077_eq, r_262_eq, r_27_eq, r_25_eq, r_252_eq, r_242_eq, r_26_eq, r_22_eq, tri_load, tri_loadL, parity_eq]; rfl
theorem v8178_eq : kernelRun0_A.sl.v8178 c arg2 harg2 arg4 harg4 arg5 harg5 arg6 harg6 arg8 x0 x2 x3 x4 = stateAt x0 x2 x3 x4 3 := by
  show _ = tS x0 (rows x2 2) (rows x3 2) (rows x4 2) (stateAt x0 x2 x3 x4 2) 8
  simp only [kernelRun0_A.sl.v8178, kernelRun0_A.sl.HS0_4]
  refine (View.readCov_cons_toLoadRect _ _ _ _).trans ?_
  simp only [kernelRun0_A.sl.r_240, kernelRun0_A.sl.r_233, kernelRun0_A.sl.r_232, kernelRun0_A.sl.r_231, kernelRun0_A.sl.r_230, kernelRun0_A.sl.r_229, kernelRun0_A.sl.r_228, kernelRun0_A.sl.r_227, kernelRun0_A.sl.r_226, kernelRun0_A.sl.r_241, kernelRun0_A.sl.r_250, kernelRun0_A.sl.r_251, kernelRun0_A.sl.r_260, kernelRun0_A.sl.r_261, kernelRun0_A.sl.r_270, kernelRun0_A.sl.r_271, kernelRun0_A.sl.r_707, kernelRun0_A.sl.r_269, kernelRun0_A.sl.r_268, kernelRun0_A.sl.r_267, kernelRun0_A.sl.r_266, kernelRun0_A.sl.r_265, kernelRun0_A.sl.r_264, kernelRun0_A.sl.r_263, kernelRun0_A.sl.r_259, kernelRun0_A.sl.r_258, kernelRun0_A.sl.r_257, kernelRun0_A.sl.r_256, kernelRun0_A.sl.r_255, kernelRun0_A.sl.cst_297, kernelRun0_A.sl.r_254, kernelRun0_A.sl.r_253, kernelRun0_A.sl.r_249, kernelRun0_A.sl.r_248, kernelRun0_A.sl.r_247, kernelRun0_A.sl.r_246, kernelRun0_A.sl.r_245, kernelRun0_A.sl.r_244, kernelRun0_A.sl.r_243, kernelRun0_A.sl.r_239, kernelRun0_A.sl.r_238, kernelRun0_A.sl.r_237, kernelRun0_A.sl.r_236, kernelRun0_A.sl.r_235, kernelRun0_A.sl.r_234, r_26_eq, r_27_eq, r_25_eq, r_242_eq, r_252_eq, r_262_eq, v7077_eq, tri_load, tri_loadL, parity_eq]
  exact (shapeCast_id (s := S256x128) _ _).trans rfl
theorem piece3 : k0_pay1217 (kernelRun0_A.sl.r_835 c arg2 harg2 arg3 harg3 arg4 harg4 arg5 harg5 arg6 harg6 arg8 x0 x1 x2 x3 x4) (kernelRun0_A.sl.r_836 c arg2 harg2 arg3 harg3 arg4 harg4 arg5 harg5 arg6 harg6 arg8 x0 x1 x2 x3 x4) (kernelRun0_A.sl.r_837 c arg2 harg2 arg3 harg3 arg4 harg4 arg5 harg5 arg6 harg6 arg8 x0 x1 x2 x3 x4) (kernelRun0_A.sl.r_838 c arg2 harg2 arg3 harg3 arg4 harg4 arg5 harg5 arg6 harg6 arg8 x0 x1 x2 x3 x4) = tOut x0 (rows x1 3) (rows x2 3) (rows x3 3) (rows x4 3) (stateAt x0 x2 x3 x4 3) := by
  simp only [kernelRun0_A.sl.r_835, kernelRun0_A.sl.v355, kernelRun0_A.sl.r_834, kernelRun0_A.sl.r_832, kernelRun0_A.sl.r_833, kernelRun0_A.sl.r_828, kernelRun0_A.sl.r_826, kernelRun0_A.sl.r_824, kernelRun0_A.sl.r_825, kernelRun0_A.sl.r_775, kernelRun0_A.sl.r_770, kernelRun0_A.sl.r_324, kernelRun0_A.sl.r_323, kernelRun0_A.sl.r_315, kernelRun0_A.sl.r_314, kernelRun0_A.sl.r_313, kernelRun0_A.sl.r_305, kernelRun0_A.sl.r_304, kernelRun0_A.sl.cst_297, kernelRun0_A.sl.r_303, kernelRun0_A.sl.r_295, kernelRun0_A.sl.r_293, kernelRun0_A.sl.r_294, kernelRun0_A.sl.r_328, kernelRun0_A.sl.r_327, kernelRun0_A.sl.r_326, kernelRun0_A.sl.r_325, kernelRun0_A.sl.r_319, kernelRun0_A.sl.r_318, kernelRun0_A.sl.r_317, kernelRun0_A.sl.r_316, kernelRun0_A.sl.r_309, kernelRun0_A.sl.r_308, kernelRun0_A.sl.r_307, kernelRun0_A.sl.r_306, kernelRun0_A.sl.r_299, kernelRun0_A.sl.r_298, kernelRun0_A.sl.r_297, kernelRun0_A.sl.r_296, kernelRun0_A.sl.r_820, kernelRun0_A.sl.r_819, kernelRun0_A.sl.r_816, kernelRun0_A.sl.r_818, kernelRun0_A.sl.r_817, kernelRun0_A.sl.r_774, kernelRun0_A.sl.r_812, kernelRun0_A.sl.r_811, kernelRun0_A.sl.r_808, kernelRun0_A.sl.r_810, kernelRun0_A.sl.r_809, kernelRun0_A.sl.r_773, kernelRun0_A.sl.r_804, kernelRun0_A.sl.r_803, kernelRun0_A.sl.r_801, kernelRun0_A.sl.r_802, kernelRun0_A.sl.r_772, kernelRun0_A.sl.r_797, kernelRun0_A.sl.r_795, kernelRun0_A.sl.r_793, kernelRun0_A.sl.r_794, kernelRun0_A.sl.r_771, kernelRun0_A.sl.r_789, kernelRun0_A.sl.r_788, kernelRun0_A.sl.r_785, kernelRun0_A.sl.r_787, kernelRun0_A.sl.r_786, kernelRun0_A.sl.r_769, kernelRun0_A.sl.r_781, kernelRun0_A.sl.r_780, kernelRun0_A.sl.r_777, kernelRun0_A.sl.r_779, kernelRun0_A.sl.r_778, kernelRun0_A.sl.r_768, kernelRun0_A.sl.r_776, kernelRun0_A.sl.r_329, kernelRun0_A.sl.r_320, kernelRun0_A.sl.r_310, kernelRun0_A.sl.r_300, kernelRun0_A.sl.r_836, kernelRun0_A.sl.r_829, kernelRun0_A.sl.r_827, kernelRun0_A.sl.r_821, kernelRun0_A.sl.r_813, kernelRun0_A.sl.r_805, kernelRun0_A.sl.r_798, kernelRun0_A.sl.r_796, kernelRun0_A.sl.r_790, kernelRun0_A.sl.r_782, kernelRun0_A.sl.r_837, kernelRun0_A.sl.r_830, kernelRun0_A.sl.r_822, kernelRun0_A.sl.r_814, kernelRun0_A.sl.r_806, kernelRun0_A.sl.r_799, kernelRun0_A.sl.r_791, kernelRun0_A.sl.r_783, kernelRun0_A.sl.r_838, kernelRun0_A.sl.r_831, kernelRun0_A.sl.r_823, kernelRun0_A.sl.r_815, kernelRun0_A.sl.r_807, kernelRun0_A.sl.r_800, kernelRun0_A.sl.r_792, kernelRun0_A.sl.r_784, r_31_eq, v8178_eq, r_292_eq, r_37_eq, r_35_eq, r_302_eq, r_36_eq, r_322_eq, r_312_eq, r_287_eq, r_278_eq, r_289_eq, r_279_eq, r_290_eq, r_281_eq, r_291_eq, r_284_eq, tri_load, tri_loadL, parity_eq]; rfl
theorem v9279_eq : kernelRun0_A.sl.v9279 c arg2 harg2 arg4 harg4 arg5 harg5 arg6 harg6 arg8 x0 x2 x3 x4 = stateAt x0 x2 x3 x4 4 := by
  show _ = tS x0 (rows x2 3) (rows x3 3) (rows x4 3) (stateAt x0 x2 x3 x4 3) 8
  simp only [kernelRun0_A.sl.v9279, kernelRun0_A.sl.HS0_5]
  refine (View.readCov_cons_toLoadRect _ _ _ _).trans ?_
  simp only [kernelRun0_A.sl.r_296, kernelRun0_A.sl.r_293, kernelRun0_A.sl.r_297, kernelRun0_A.sl.r_298, kernelRun0_A.sl.r_299, kernelRun0_A.sl.r_300, kernelRun0_A.sl.r_301, kernelRun0_A.sl.r_306, kernelRun0_A.sl.r_307, kernelRun0_A.sl.r_308, kernelRun0_A.sl.r_309, kernelRun0_A.sl.r_310, kernelRun0_A.sl.r_311, kernelRun0_A.sl.r_316, kernelRun0_A.sl.r_317, kernelRun0_A.sl.r_318, kernelRun0_A.sl.r_319, kernelRun0_A.sl.r_320, kernelRun0_A.sl.r_321, kernelRun0_A.sl.r_325, kernelRun0_A.sl.r_326, kernelRun0_A.sl.r_327, kernelRun0_A.sl.r_328, kernelRun0_A.sl.r_329, kernelRun0_A.sl.r_330, kernelRun0_A.sl.r_770, kernelRun0_A.sl.r_324, kernelRun0_A.sl.r_323, kernelRun0_A.sl.r_315, kernelRun0_A.sl.r_314, kernelRun0_A.sl.r_313, kernelRun0_A.sl.r_305, kernelRun0_A.sl.r_304, kernelRun0_A.sl.cst_297, kernelRun0_A.sl.r_303, kernelRun0_A.sl.r_295, kernelRun0_A.sl.r_294, r_36_eq, r_37_eq, r_292_eq, r_35_eq, r_302_eq, r_312_eq, r_322_eq, v8178_eq, tri_load, tri_loadL, parity_eq]
  exact (shapeCast_id (s := S256x128) _ _).trans rfl
theorem piece4 : k0_pay1340 (kernelRun0_A.sl.r_337 c arg2 harg2 arg3 harg3 arg4 harg4 arg5 harg5 arg6 harg6 x0 x1 x2 x3 x4) (kernelRun0_A.sl.r_338 c arg2 harg2 arg3 harg3 arg4 harg4 arg5 harg5 arg6 harg6 x0 x1 x2 x3 x4) (kernelRun0_A.sl.r_341 c arg2 harg2 arg3 harg3 arg4 harg4 arg5 harg5 arg6 harg6 x0 x1 x2 x3 x4) (kernelRun0_A.sl.r_342 c arg2 harg2 arg3 harg3 arg4 harg4 arg5 harg5 arg6 harg6 x0 x1 x2 x3 x4) (kernelRun0_A.sl.r_345 c arg2 harg2 arg3 harg3 arg4 harg4 arg5 harg5 arg6 harg6 x0 x1 x2 x3 x4) (kernelRun0_A.sl.r_347 c arg2 harg2 arg3 harg3 arg4 harg4 arg5 harg5 arg6 harg6 x0 x1 x2 x3 x4) (kernelRun0_A.sl.r_348 c arg2 harg2 arg3 harg3 arg4 harg4 arg5 harg5 arg6 harg6 x0 x1 x2 x3 x4) (kernelRun0_A.sl.r_349 c arg2 harg2 arg3 harg3 arg4 harg4 arg5 harg5 arg6 harg6 x0 x1 x2 x3 x4) (kernelRun0_A.sl.r_848 c arg2 harg2 arg4 harg4 arg5 harg5 arg6 harg6 arg8 x0 x2 x3 x4) (kernelRun0_A.sl.r_853 c arg2 harg2 arg3 harg3 arg4 harg4 arg5 harg5 arg6 harg6 arg8 x0 x1 x2 x3 x4) (kernelRun0_A.sl.r_854 c arg2 harg2 arg3 harg3 arg4 harg4 arg5 harg5 arg6 harg6 arg8 x0 x1 x2 x3 x4) (kernelRun0_A.sl.r_855 c arg2 harg2 arg3 harg3 arg4 harg4 arg5 harg5 arg6 harg6 arg8 x0 x1 x2 x3 x4) (kernelRun0_A.sl.r_856 c arg2 harg2 arg3 harg3 arg4 harg4 arg5 harg5 arg6 harg6 arg8 x0 x1 x2 x3 x4) (kernelRun0_A.sl.r_861 c arg2 harg2 arg3 harg3 arg4 harg4 arg5 harg5 arg6 harg6 arg8 x0 x1 x2 x3 x4) (kernelRun0_A.sl.r_862 c arg2 harg2 arg3 harg3 arg4 harg4 arg5 harg5 arg6 harg6 arg8 x0 x1 x2 x3 x4) (kernelRun0_A.sl.r_863 c arg2 harg2 arg3 harg3 arg4 harg4 arg5 harg5 arg6 harg6 arg8 x0 x1 x2 x3 x4) (kernelRun0_A.sl.r_864 c arg2 harg2 arg3 harg3 arg4 harg4 arg5 harg5 arg6 harg6 arg8 x0 x1 x2 x3 x4) (kernelRun0_A.sl.r_869 c arg2 harg2 arg3 harg3 arg4 harg4 arg5 harg5 arg6 harg6 arg8 x0 x1 x2 x3 x4) (kernelRun0_A.sl.r_870 c arg2 harg2 arg3 harg3 arg4 harg4 arg5 harg5 arg6 harg6 arg8 x0 x1 x2 x3 x4) (kernelRun0_A.sl.r_871 c arg2 harg2 arg3 harg3 arg4 harg4 arg5 harg5 arg6 harg6 arg8 x0 x1 x2 x3 x4) (kernelRun0_A.sl.r_872 c arg2 harg2 arg3 harg3 arg4 harg4 arg5 harg5 arg6 harg6 arg8 x0 x1 x2 x3 x4) (kernelRun0_A.sl.r_877 c arg2 harg2 arg3 harg3 arg4 harg4 arg5 harg5 arg6 harg6 arg8 x0 x1 x2 x3 x4) (kernelRun0_A.sl.r_878 c arg2 harg2 arg3 harg3 arg4 harg4 arg5 harg5 arg6 harg6 arg8 x0 x1 x2 x3 x4) (kernelRun0_A.sl.r_879 c arg2 harg2 arg3 harg3 arg4 harg4 arg5 harg5 arg6 harg6 arg8 x0 x1 x2 x3 x4) (kernelRun0_A.sl.r_880 c arg2 harg2 arg3 harg3 arg4 harg4 arg5 harg5 arg6 harg6 arg8 x0 x1 x2 x3 x4) (kernelRun0_A.sl.r_885 c arg2 harg2 arg3 harg3 arg4 harg4 arg5 harg5 arg6 harg6 arg8 x0 x1 x2 x3 x4) (kernelRun0_A.sl.r_886 c arg2 harg2 arg3 harg3 arg4 harg4 arg5 harg5 arg6 harg6 arg8 x0 x1 x2 x3 x4) (kernelRun0_A.sl.r_887 c arg2 harg2 arg3 harg3 arg4 harg4 arg5 harg5 arg6 harg6 arg8 x0 x1 x2 x3 x4) (kernelRun0_A.sl.r_888 c arg2 harg2 arg3 harg3 arg4 harg4 arg5 harg5 arg6 harg6 arg8 x0 x1 x2 x3 x4) (kernelRun0_A.sl.r_893 c arg2 harg2 arg3 harg3 arg4 harg4 arg5 harg5 arg6 harg6 arg8 x0 x1 x2 x3 x4) (kernelRun0_A.sl.r_894 c arg2 harg2 arg3 harg3 arg4 harg4 arg5 harg5 arg6 harg6 arg8 x0 x1 x2 x3 x4) (kernelRun0_A.sl.r_895 c arg2 harg2 arg3 harg3 arg4 harg4 arg5 harg5 arg6 harg6 arg8 x0 x1 x2 x3 x4) (kernelRun0_A.sl.r_896 c arg2 harg2 arg3 harg3 arg4 harg4 arg5 harg5 arg6 harg6 arg8 x0 x1 x2 x3 x4) (kernelRun0_A.sl.r_901 c arg2 harg2 arg3 harg3 arg4 harg4 arg5 harg5 arg6 harg6 arg8 x0 x1 x2 x3 x4) (kernelRun0_A.sl.r_902 c arg2 harg2 arg3 harg3 arg4 harg4 arg5 harg5 arg6 harg6 arg8 x0 x1 x2 x3 x4) (kernelRun0_A.sl.r_903 c arg2 harg2 arg3 harg3 arg4 harg4 arg5 harg5 arg6 harg6 arg8 x0 x1 x2 x3 x4) (kernelRun0_A.sl.r_904 c arg2 harg2 arg3 harg3 arg4 harg4 arg5 harg5 arg6 harg6 arg8 x0 x1 x2 x3 x4) (kernelRun0_A.sl.r_905 c arg2 harg2 arg3 harg3 arg6 harg6 x0 x1 x4) (kernelRun0_A.sl.r_906 c arg2 harg2 arg3 harg3 arg6 harg6 x0 x1 x4) (kernelRun0_A.sl.r_907 c arg2 harg2 arg3 harg3 arg6 harg6 x0 x1 x4) (kernelRun0_A.sl.r_908 c arg2 harg2 arg3 harg3 arg6 harg6 x0 x1 x4) (k0_pay1337 kernelRun0_A.sl.v355) (k0_pay1338 kernelRun0_A.sl.v355) (k0_pay1339 kernelRun0_A.sl.v355) = tOut x0 (rows x1 4) (rows x2 4) (rows x3 4) (rows x4 4) (stateAt x0 x2 x3 x4 4) := by
  simp only [kernelRun0_A.sl.r_848, kernelRun0_A.sl.r_847, kernelRun0_A.sl.r_845, kernelRun0_A.sl.r_386, kernelRun0_A.sl.r_385, kernelRun0_A.sl.r_384, kernelRun0_A.sl.r_383, kernelRun0_A.sl.r_382, kernelRun0_A.sl.r_381, kernelRun0_A.sl.r_380, kernelRun0_A.sl.r_376, kernelRun0_A.sl.r_375, kernelRun0_A.sl.r_374, kernelRun0_A.sl.r_373, kernelRun0_A.sl.r_372, kernelRun0_A.sl.r_371, kernelRun0_A.sl.r_367, kernelRun0_A.sl.r_366, kernelRun0_A.sl.r_365, kernelRun0_A.sl.r_364, kernelRun0_A.sl.r_363, kernelRun0_A.sl.r_362, kernelRun0_A.sl.r_361, kernelRun0_A.sl.r_357, kernelRun0_A.sl.r_351, kernelRun0_A.sl.r_350, kernelRun0_A.sl.r_356, kernelRun0_A.sl.r_355, kernelRun0_A.sl.r_354, kernelRun0_A.sl.r_353, kernelRun0_A.sl.r_352, kernelRun0_A.sl.r_387, kernelRun0_A.sl.r_377, kernelRun0_A.sl.r_368, kernelRun0_A.sl.r_358, kernelRun0_A.sl.r_853, kernelRun0_A.sl.v355, kernelRun0_A.sl.r_851, kernelRun0_A.sl.r_849, kernelRun0_A.sl.r_850, kernelRun0_A.sl.r_839, kernelRun0_A.sl.r_854, kernelRun0_A.sl.r_855, kernelRun0_A.sl.r_852, kernelRun0_A.sl.r_856, kernelRun0_A.sl.r_861, kernelRun0_A.sl.r_860, kernelRun0_A.sl.r_857, kernelRun0_A.sl.r_859, kernelRun0_A.sl.r_858, kernelRun0_A.sl.r_840, kernelRun0_A.sl.r_862, kernelRun0_A.sl.r_863, kernelRun0_A.sl.r_864, kernelRun0_A.sl.r_869, kernelRun0_A.sl.r_868, kernelRun0_A.sl.r_865, kernelRun0_A.sl.r_867, kernelRun0_A.sl.r_866, kernelRun0_A.sl.r_841, kernelRun0_A.sl.r_870, kernelRun0_A.sl.r_871, kernelRun0_A.sl.r_872, kernelRun0_A.sl.r_877, kernelRun0_A.sl.r_876, kernelRun0_A.sl.r_873, kernelRun0_A.sl.r_875, kernelRun0_A.sl.r_874, kernelRun0_A.sl.r_842, kernelRun0_A.sl.r_878, kernelRun0_A.sl.r_879, kernelRun0_A.sl.r_880, kernelRun0_A.sl.r_885, kernelRun0_A.sl.r_883, kernelRun0_A.sl.r_881, kernelRun0_A.sl.r_882, kernelRun0_A.sl.r_843, kernelRun0_A.sl.r_886, kernelRun0_A.sl.r_887, kernelRun0_A.sl.r_884, kernelRun0_A.sl.r_888, kernelRun0_A.sl.r_893, kernelRun0_A.sl.r_892, kernelRun0_A.sl.r_889, kernelRun0_A.sl.r_891, kernelRun0_A.sl.r_890, kernelRun0_A.sl.r_844, kernelRun0_A.sl.r_894, kernelRun0_A.sl.r_895, kernelRun0_A.sl.r_896, kernelRun0_A.sl.r_901, kernelRun0_A.sl.r_900, kernelRun0_A.sl.r_897, kernelRun0_A.sl.r_899, kernelRun0_A.sl.r_898, kernelRun0_A.sl.r_846, kernelRun0_A.sl.r_902, kernelRun0_A.sl.r_903, kernelRun0_A.sl.r_904, kernelRun0_A.sl.r_905, kernelRun0_A.sl.r_906, kernelRun0_A.sl.r_907, kernelRun0_A.sl.r_908, r_337_eq, r_338_eq, r_341_eq, r_342_eq, r_345_eq, r_347_eq, r_348_eq, r_349_eq, r_45_eq, v9279_eq, r_379_eq, r_46_eq, r_44_eq, r_370_eq, r_360_eq, r_41_eq, tri_load, tri_loadL, parity_eq]; rfl
theorem v10380_eq : kernelRun0_A.sl.v10380 c arg2 harg2 arg4 harg4 arg5 harg5 arg6 harg6 arg8 x0 x2 x3 x4 = stateAt x0 x2 x3 x4 5 := by
  show _ = tS x0 (rows x2 4) (rows x3 4) (rows x4 4) (stateAt x0 x2 x3 x4 4) 8
  simp only [kernelRun0_A.sl.v10380, kernelRun0_A.sl.HS0_6]
  refine (View.readCov_cons_toLoadRect _ _ _ _).trans ?_
  simp only [kernelRun0_A.sl.r_358, kernelRun0_A.sl.r_351, kernelRun0_A.sl.r_350, kernelRun0_A.sl.r_359, kernelRun0_A.sl.r_368, kernelRun0_A.sl.r_369, kernelRun0_A.sl.r_377, kernelRun0_A.sl.r_378, kernelRun0_A.sl.r_387, kernelRun0_A.sl.r_388, kernelRun0_A.sl.r_845, kernelRun0_A.sl.r_386, kernelRun0_A.sl.r_385, kernelRun0_A.sl.r_384, kernelRun0_A.sl.r_383, kernelRun0_A.sl.r_382, kernelRun0_A.sl.r_381, kernelRun0_A.sl.r_380, kernelRun0_A.sl.r_376, kernelRun0_A.sl.r_375, kernelRun0_A.sl.r_374, kernelRun0_A.sl.r_373, kernelRun0_A.sl.r_372, kernelRun0_A.sl.r_371, kernelRun0_A.sl.r_367, kernelRun0_A.sl.r_366, kernelRun0_A.sl.r_365, kernelRun0_A.sl.r_364, kernelRun0_A.sl.r_363, kernelRun0_A.sl.r_362, kernelRun0_A.sl.r_361, kernelRun0_A.sl.r_357, kernelRun0_A.sl.r_356, kernelRun0_A.sl.r_355, kernelRun0_A.sl.r_354, kernelRun0_A.sl.r_353, kernelRun0_A.sl.r_352, kernelRun0_A.sl.r_847, r_45_eq, r_44_eq, r_46_eq, r_360_eq, r_370_eq, r_379_eq, v9279_eq, tri_load, tri_loadL, parity_eq]
  exact (shapeCast_id (s := S256x128) _ _).trans rfl
theorem piece5 : k0_pay1460 (kernelRun0_A.sl.r_979 c arg2 harg2 arg3 harg3 arg4 harg4 arg5 harg5 arg6 harg6 arg8 x0 x1 x2 x3 x4) = tOut x0 (rows x1 5) (rows x2 5) (rows x3 5) (rows x4 5) (stateAt x0 x2 x3 x4 5) := by
  simp only [kernelRun0_A.sl.r_979, kernelRun0_A.sl.r_978, kernelRun0_A.sl.r_975, kernelRun0_A.sl.v355, kernelRun0_A.sl.r_977, kernelRun0_A.sl.r_976, kernelRun0_A.sl.r_974, kernelRun0_A.sl.r_970, kernelRun0_A.sl.r_969, kernelRun0_A.sl.r_967, kernelRun0_A.sl.r_968, kernelRun0_A.sl.r_917, kernelRun0_A.sl.r_913, kernelRun0_A.sl.r_911, kernelRun0_A.sl.r_438, kernelRun0_A.sl.r_437, kernelRun0_A.sl.r_428, kernelRun0_A.sl.r_427, kernelRun0_A.sl.r_419, kernelRun0_A.sl.r_418, kernelRun0_A.sl.r_410, kernelRun0_A.sl.cst_371, kernelRun0_A.sl.r_408, kernelRun0_A.sl.r_407, kernelRun0_A.sl.r_409, kernelRun0_A.sl.r_443, kernelRun0_A.sl.r_442, kernelRun0_A.sl.r_441, kernelRun0_A.sl.cst_297, kernelRun0_A.sl.r_440, kernelRun0_A.sl.r_439, kernelRun0_A.sl.r_433, kernelRun0_A.sl.r_432, kernelRun0_A.sl.r_431, kernelRun0_A.sl.r_430, kernelRun0_A.sl.r_429, kernelRun0_A.sl.r_423, kernelRun0_A.sl.r_422, kernelRun0_A.sl.r_421, kernelRun0_A.sl.r_420, kernelRun0_A.sl.r_414, kernelRun0_A.sl.r_413, kernelRun0_A.sl.r_412, kernelRun0_A.sl.r_411, kernelRun0_A.sl.r_973, kernelRun0_A.sl.r_972, kernelRun0_A.sl.r_971, kernelRun0_A.sl.r_966, kernelRun0_A.sl.r_962, kernelRun0_A.sl.r_959, kernelRun0_A.sl.r_961, kernelRun0_A.sl.r_960, kernelRun0_A.sl.r_916, kernelRun0_A.sl.r_965, kernelRun0_A.sl.r_964, kernelRun0_A.sl.r_963, kernelRun0_A.sl.r_958, kernelRun0_A.sl.r_954, kernelRun0_A.sl.r_951, kernelRun0_A.sl.r_953, kernelRun0_A.sl.r_952, kernelRun0_A.sl.r_915, kernelRun0_A.sl.r_957, kernelRun0_A.sl.r_956, kernelRun0_A.sl.r_955, kernelRun0_A.sl.r_950, kernelRun0_A.sl.r_946, kernelRun0_A.sl.r_943, kernelRun0_A.sl.r_945, kernelRun0_A.sl.r_944, kernelRun0_A.sl.r_914, kernelRun0_A.sl.r_949, kernelRun0_A.sl.r_948, kernelRun0_A.sl.r_947, kernelRun0_A.sl.r_942, kernelRun0_A.sl.r_938, kernelRun0_A.sl.r_937, kernelRun0_A.sl.r_935, kernelRun0_A.sl.r_936, kernelRun0_A.sl.r_912, kernelRun0_A.sl.r_941, kernelRun0_A.sl.r_940, kernelRun0_A.sl.r_939, kernelRun0_A.sl.r_934, kernelRun0_A.sl.r_930, kernelRun0_A.sl.r_927, kernelRun0_A.sl.r_929, kernelRun0_A.sl.r_928, kernelRun0_A.sl.r_910, kernelRun0_A.sl.r_933, kernelRun0_A.sl.r_932, kernelRun0_A.sl.r_931, kernelRun0_A.sl.r_926, kernelRun0_A.sl.r_922, kernelRun0_A.sl.r_919, kernelRun0_A.sl.r_921, kernelRun0_A.sl.r_920, kernelRun0_A.sl.r_909, kernelRun0_A.sl.r_925, kernelRun0_A.sl.r_924, kernelRun0_A.sl.r_923, kernelRun0_A.sl.r_918, kernelRun0_A.sl.r_444, kernelRun0_A.sl.r_434, kernelRun0_A.sl.r_424, kernelRun0_A.sl.r_415, r_50_eq, r_54_eq, v10380_eq, r_55_eq, r_53_eq, r_417_eq, r_436_eq, r_426_eq, r_406_eq, r_405_eq, r_404_eq, r_402_eq, r_399_eq, r_398_eq, r_396_eq, r_395_eq, tri_load, tri_loadL, parity_eq]; rfl
theorem v11481_eq : kernelRun0_A.sl.v11481 c arg2 harg2 arg4 harg4 arg5 harg5 arg6 harg6 arg8 x0 x2 x3 x4 = stateAt x0 x2 x3 x4 6 := by
  show _ = tS x0 (rows x2 5) (rows x3 5) (rows x4 5) (stateAt x0 x2 x3 x4 5) 8
  simp only [kernelRun0_A.sl.v11481, kernelRun0_A.sl.HS0_7]
  refine (View.readCov_cons_toLoadRect _ _ _ _).trans ?_
  simp only [kernelRun0_A.sl.r_411, kernelRun0_A.sl.cst_371, kernelRun0_A.sl.r_408, kernelRun0_A.sl.r_407, kernelRun0_A.sl.r_412, kernelRun0_A.sl.r_413, kernelRun0_A.sl.r_414, kernelRun0_A.sl.r_415, kernelRun0_A.sl.r_416, kernelRun0_A.sl.r_420, kernelRun0_A.sl.r_421, kernelRun0_A.sl.r_422, kernelRun0_A.sl.r_423, kernelRun0_A.sl.r_424, kernelRun0_A.sl.r_425, kernelRun0_A.sl.r_430, kernelRun0_A.sl.r_429, kernelRun0_A.sl.r_431, kernelRun0_A.sl.r_432, kernelRun0_A.sl.r_433, kernelRun0_A.sl.r_434, kernelRun0_A.sl.r_435, kernelRun0_A.sl.r_439, kernelRun0_A.sl.r_441, kernelRun0_A.sl.cst_297, kernelRun0_A.sl.r_440, kernelRun0_A.sl.r_442, kernelRun0_A.sl.r_443, kernelRun0_A.sl.r_444, kernelRun0_A.sl.r_445, kernelRun0_A.sl.r_911, kernelRun0_A.sl.r_438, kernelRun0_A.sl.r_437, kernelRun0_A.sl.r_428, kernelRun0_A.sl.r_427, kernelRun0_A.sl.r_419, kernelRun0_A.sl.r_418, kernelRun0_A.sl.r_410, kernelRun0_A.sl.r_409, kernelRun0_A.sl.r_913, r_54_eq, r_53_eq, r_55_eq, r_417_eq, r_426_eq, r_436_eq, v10380_eq, tri_load, tri_loadL, parity_eq]
  exact (shapeCast_id (s := S256x128) _ _).trans rfl
theorem piece6 : k0_pay1585 (kernelRun0_A.sl.r_452 c arg2 harg2 arg3 harg3 arg4 harg4 arg5 harg5 arg6 harg6 x0 x1 x2 x3 x4) (kernelRun0_A.sl.r_453 c arg2 harg2 arg3 harg3 arg4 harg4 arg5 harg5 arg6 harg6 x0 x1 x2 x3 x4) (kernelRun0_A.sl.r_455 c arg2 harg2 arg3 harg3 arg4 harg4 arg5 harg5 arg6 harg6 x0 x1 x2 x3 x4) (kernelRun0_A.sl.r_456 c arg2 harg2 arg3 harg3 arg4 harg4 arg5 harg5 arg6 harg6 x0 x1 x2 x3 x4) (kernelRun0_A.sl.r_459 c arg2 harg2 arg3 harg3 arg4 harg4 arg5 harg5 arg6 harg6 x0 x1 x2 x3 x4) (kernelRun0_A.sl.r_461 c arg2 harg2 arg3 harg3 arg4 harg4 arg5 harg5 arg6 harg6 x0 x1 x2 x3 x4) (kernelRun0_A.sl.r_462 c arg2 harg2 arg3 harg3 arg4 harg4 arg5 harg5 arg6 harg6 x0 x1 x2 x3 x4) (kernelRun0_A.sl.r_463 c arg2 harg2 arg3 harg3 arg4 harg4 arg5 harg5 arg6 harg6 x0 x1 x2 x3 x4) (kernelRun0_A.sl.r_988 c arg2 harg2 arg4 harg4 arg5 harg5 arg6 harg6 arg8 x0 x2 x3 x4) (kernelRun0_A.sl.r_992 c arg2 harg2 arg3 harg3 arg4 harg4 arg5 harg5 arg6 harg6 arg8 x0 x1 x2 x3 x4) (kernelRun0_A.sl.r_993 c arg2 harg2 arg3 harg3 arg4 harg4 arg5 harg5 arg6 harg6 arg8 x0 x1 x2 x3 x4) (kernelRun0_A.sl.r_994 c arg2 harg2 arg3 harg3 arg4 harg4 arg5 harg5 arg6 harg6 arg8 x0 x1 x2 x3 x4) (kernelRun0_A.sl.r_995 c arg2 harg2 arg3 harg3 arg4 harg4 arg5 harg5 arg6 harg6 arg8 x0 x1 x2 x3 x4) (kernelRun0_A.sl.r_1000 c arg2 harg2 arg3 harg3 arg4 harg4 arg5 harg5 arg6 harg6 arg8 x0 x1 x2 x3 x4) (kernelRun0_A.sl.r_1001 c arg2 harg2 arg3 harg3 arg4 harg4 arg5 harg5 arg6 harg6 arg8 x0 x1 x2 x3 x4) (kernelRun0_A.sl.r_1002 c arg2 harg2 arg3 harg3 arg4 harg4 arg5 harg5 arg6 harg6 arg8 x0 x1 x2 x3 x4) (kernelRun0_A.sl.r_1003 c arg2 harg2 arg3 harg3 arg4 harg4 arg5 harg5 arg6 harg6 arg8 x0 x1 x2 x3 x4) (kernelRun0_A.sl.r_1008 c arg2 harg2 arg3 harg3 arg4 harg4 arg5 harg5 arg6 harg6 arg8 x0 x1 x2 x3 x4) (kernelRun0_A.sl.r_1009 c arg2 harg2 arg3 harg3 arg4 harg4 arg5 harg5 arg6 harg6 arg8 x0 x1 x2 x3 x4) (kernelRun0_A.sl.r_1010 c arg2 harg2 arg3 harg3 arg4 harg4 arg5 harg5 arg6 harg6 arg8 x0 x1 x2 x3 x4) (kernelRun0_A.sl.r_1011 c arg2 harg2 arg3 harg3 arg4 harg4 arg5 harg5 arg6 harg6 arg8 x0 x1 x2 x3 x4) (kernelRun0_A.sl.r_1016 c arg2 harg2 arg3 harg3 arg4 harg4 arg5 harg5 arg6 harg6 arg8 x0 x1 x2 x3 x4) (kernelRun0_A.sl.r_1017 c arg2 harg2 arg3 harg3 arg4 harg4 arg5 harg5 arg6 harg6 arg8 x0 x1 x2 x3 x4) (kernelRun0_A.sl.r_1018 c arg2 harg2 arg3 harg3 arg4 harg4 arg5 harg5 arg6 harg6 arg8 x0 x1 x2 x3 x4) (kernelRun0_A.sl.r_1019 c arg2 harg2 arg3 harg3 arg4 harg4 arg5 harg5 arg6 harg6 arg8 x0 x1 x2 x3 x4) (kernelRun0_A.sl.r_1023 c arg2 harg2 arg3 harg3 arg4 harg4 arg5 harg5 arg6 harg6 arg8 x0 x1 x2 x3 x4) (kernelRun0_A.sl.r_1024 c arg2 harg2 arg3 harg3 arg4 harg4 arg5 harg5 arg6 harg6 arg8 x0 x1 x2 x3 x4) (kernelRun0_A.sl.r_1025 c arg2 harg2 arg3 harg3 arg4 harg4 arg5 harg5 arg6 harg6 arg8 x0 x1 x2 x3 x4) (kernelRun0_A.sl.r_1026 c arg2 harg2 arg3 harg3 arg4 harg4 arg5 harg5 arg6 harg6 arg8 x0 x1 x2 x3 x4) (kernelRun0_A.sl.r_1031 c arg2 harg2 arg3 harg3 arg4 harg4 arg5 harg5 arg6 harg6 arg8 x0 x1 x2 x3 x4) (kernelRun0_A.sl.r_1032 c arg2 harg2 arg3 harg3 arg4 harg4 arg5 harg5 arg6 harg6 arg8 x0 x1 x2 x3 x4) (kernelRun0_A.sl.r_1033 c arg2 harg2 arg3 harg3 arg4 harg4 arg5 harg5 arg6 harg6 arg8 x0 x1 x2 x3 x4) (kernelRun0_A.sl.r_1034 c arg2 harg2 arg3 harg3 arg4 harg4 arg5 harg5 arg6 harg6 arg8 x0 x1 x2 x3 x4) (kernelRun0_A.sl.r_1039 c arg2 harg2 arg3 harg3 arg4 harg4 arg5 harg5 arg6 harg6 arg8 x0 x1 x2 x3 x4) (kernelRun0_A.sl.r_1040 c arg2 harg2 arg3 harg3 arg4 harg4 arg5 harg5 arg6 harg6 arg8 x0 x1 x2 x3 x4) (kernelRun0_A.sl.r_1041 c arg2 harg2 arg3 harg3 arg4 harg4 arg5 harg5 arg6 harg6 arg8 x0 x1 x2 x3 x4) (kernelRun0_A.sl.r_1042 c arg2 harg2 arg3 harg3 arg4 harg4 arg5 harg5 arg6 harg6 arg8 x0 x1 x2 x3 x4) (kernelRun0_A.sl.r_1043 c arg2 harg2 arg3 harg3 arg6 harg6 x0 x1 x4) (kernelRun0_A.sl.r_1044 c arg2 harg2 arg3 harg3 arg6 harg6 x0 x1 x4) (kernelRun0_A.sl.r_1045 c arg2 harg2 arg3 harg3 arg6 harg6 x0 x1 x4) (kernelRun0_A.sl.r_1046 c arg2 harg2 arg3 harg3 arg6 harg6 x0 x1 x4) (k0_pay1584 kernelRun0_A.sl.v355) 3#32 = tOut x0 (rows x1 6) (rows x2 6) (rows x3 6) (rows x4 6) (stateAt x0 x2 x3 x4 6) := by
  simp only [kernelRun0_A.sl.r_988, kernelRun0_A.sl.r_987, kernelRun0_A.sl.r_500, kernelRun0_A.sl.r_499, kernelRun0_A.sl.r_498, kernelRun0_A.sl.r_497, kernelRun0_A.sl.r_496, kernelRun0_A.sl.r_495, kernelRun0_A.sl.r_494, kernelRun0_A.sl.r_490, kernelRun0_A.sl.r_489, kernelRun0_A.sl.r_488, kernelRun0_A.sl.r_487, kernelRun0_A.sl.cst_297, kernelRun0_A.sl.r_486, kernelRun0_A.sl.r_485, kernelRun0_A.sl.r_484, kernelRun0_A.sl.r_480, kernelRun0_A.sl.r_479, kernelRun0_A.sl.r_478, kernelRun0_A.sl.r_477, kernelRun0_A.sl.r_476, kernelRun0_A.sl.r_475, kernelRun0_A.sl.r_474, kernelRun0_A.sl.r_470, kernelRun0_A.sl.r_469, kernelRun0_A.sl.r_468, kernelRun0_A.sl.r_467, kernelRun0_A.sl.r_466, kernelRun0_A.sl.r_465, kernelRun0_A.sl.r_501, kernelRun0_A.sl.r_491, kernelRun0_A.sl.r_481, kernelRun0_A.sl.r_471, kernelRun0_A.sl.r_992, kernelRun0_A.sl.v355, kernelRun0_A.sl.r_991, kernelRun0_A.sl.r_989, kernelRun0_A.sl.r_990, kernelRun0_A.sl.r_980, kernelRun0_A.sl.r_993, kernelRun0_A.sl.r_994, kernelRun0_A.sl.r_995, kernelRun0_A.sl.r_1000, kernelRun0_A.sl.r_999, kernelRun0_A.sl.r_996, kernelRun0_A.sl.r_998, kernelRun0_A.sl.r_997, kernelRun0_A.sl.r_981, kernelRun0_A.sl.r_1001, kernelRun0_A.sl.r_1002, kernelRun0_A.sl.r_1003, kernelRun0_A.sl.r_1008, kernelRun0_A.sl.r_1007, kernelRun0_A.sl.r_1004, kernelRun0_A.sl.r_1006, kernelRun0_A.sl.r_1005, kernelRun0_A.sl.r_982, kernelRun0_A.sl.r_1009, kernelRun0_A.sl.r_1010, kernelRun0_A.sl.r_1011, kernelRun0_A.sl.r_1016, kernelRun0_A.sl.r_1015, kernelRun0_A.sl.r_1012, kernelRun0_A.sl.r_1014, kernelRun0_A.sl.r_1013, kernelRun0_A.sl.r_983, kernelRun0_A.sl.r_1017, kernelRun0_A.sl.r_1018, kernelRun0_A.sl.r_1019, kernelRun0_A.sl.r_1023, kernelRun0_A.sl.r_1022, kernelRun0_A.sl.r_1020, kernelRun0_A.sl.r_1021, kernelRun0_A.sl.r_984, kernelRun0_A.sl.r_1024, kernelRun0_A.sl.r_1025, kernelRun0_A.sl.r_1026, kernelRun0_A.sl.r_1031, kernelRun0_A.sl.r_1030, kernelRun0_A.sl.r_1027, kernelRun0_A.sl.r_1029, kernelRun0_A.sl.r_1028, kernelRun0_A.sl.r_985, kernelRun0_A.sl.r_1032, kernelRun0_A.sl.r_1033, kernelRun0_A.sl.r_1034, kernelRun0_A.sl.r_1039, kernelRun0_A.sl.r_1038, kernelRun0_A.sl.r_1035, kernelRun0_A.sl.r_1037, kernelRun0_A.sl.r_1036, kernelRun0_A.sl.r_986, kernelRun0_A.sl.r_1040, kernelRun0_A.sl.r_1041, kernelRun0_A.sl.r_1042, kernelRun0_A.sl.r_1043, kernelRun0_A.sl.r_1044, kernelRun0_A.sl.r_1045, kernelRun0_A.sl.r_1046, r_452_eq, r_453_eq, r_455_eq, r_456_eq, r_459_eq, r_461_eq, r_462_eq, r_463_eq, v11481_eq, r_493_eq, r_62_eq, r_60_eq, r_483_eq, r_473_eq, r_464_eq, r_61_eq, r_57_eq, tri_load, tri_loadL, parity_eq]; rfl
theorem v12582_eq : kernelRun0_A.sl.v12582 c arg2 harg2 arg4 harg4 arg5 harg5 arg6 harg6 arg8 x0 x2 x3 x4 = stateAt x0 x2 x3 x4 7 := by
  show _ = tS x0 (rows x2 6) (rows x3 6) (rows x4 6) (stateAt x0 x2 x3 x4 6) 8
  simp only [kernelRun0_A.sl.v12582, kernelRun0_A.sl.HS0_8]
  refine (View.readCov_cons_toLoadRect _ _ _ _).trans ?_
  simp only [kernelRun0_A.sl.r_471, kernelRun0_A.sl.r_472, kernelRun0_A.sl.r_481, kernelRun0_A.sl.r_482, kernelRun0_A.sl.r_491, kernelRun0_A.sl.r_492, kernelRun0_A.sl.r_501, kernelRun0_A.sl.r_502, kernelRun0_A.sl.r_987, kernelRun0_A.sl.r_500, kernelRun0_A.sl.r_499, kernelRun0_A.sl.r_498, kernelRun0_A.sl.r_497, kernelRun0_A.sl.r_496, kernelRun0_A.sl.r_495, kernelRun0_A.sl.r_494, kernelRun0_A.sl.r_490, kernelRun0_A.sl.r_489, kernelRun0_A.sl.r_488, kernelRun0_A.sl.r_487, kernelRun0_A.sl.cst_297, kernelRun0_A.sl.r_486, kernelRun0_A.sl.r_485, kernelRun0_A.sl.r_484, kernelRun0_A.sl.r_480, kernelRun0_A.sl.r_479, kernelRun0_A.sl.r_478, kernelRun0_A.sl.r_477, kernelRun0_A.sl.r_476, kernelRun0_A.sl.r_475, kernelRun0_A.sl.r_474, kernelRun0_A.sl.r_470, kernelRun0_A.sl.r_469, kernelRun0_A.sl.r_468, kernelRun0_A.sl.r_467, kernelRun0_A.sl.r_466, kernelRun0_A.sl.r_465, r_61_eq, r_464_eq, r_473_eq, r_483_eq, r_493_eq, v11481_eq, r_62_eq, r_60_eq, tri_load, tri_loadL, parity_eq]
  exact (shapeCast_id (s := S256x128) _ _).trans rfl
theorem piece7 : k0_pay1 (kernelRun0_A.sl.r_1115 c arg2 harg2 arg3 harg3 arg4 harg4 arg5 harg5 arg6 harg6 arg8 x0 x1 x2 x3 x4) = tOut x0 (rows x1 7) (rows x2 7) (rows x3 7) (rows x4 7) (stateAt x0 x2 x3 x4 7) := by
  simp only [kernelRun0_A.sl.r_1115, kernelRun0_A.sl.v355, kernelRun0_A.sl.r_1114, kernelRun0_A.sl.r_1111, kernelRun0_A.sl.r_1113, kernelRun0_A.sl.r_1112, kernelRun0_A.sl.r_1110, kernelRun0_A.sl.r_1106, kernelRun0_A.sl.r_1104, kernelRun0_A.sl.r_1105, kernelRun0_A.sl.r_1055, kernelRun0_A.sl.r_1051, kernelRun0_A.sl.r_1049, kernelRun0_A.sl.r_554, kernelRun0_A.sl.r_553, kernelRun0_A.sl.r_544, kernelRun0_A.sl.r_543, kernelRun0_A.sl.r_535, kernelRun0_A.sl.cst_297, kernelRun0_A.sl.r_534, kernelRun0_A.sl.r_533, kernelRun0_A.sl.r_525, kernelRun0_A.sl.r_524, kernelRun0_A.sl.r_523, kernelRun0_A.sl.r_558, kernelRun0_A.sl.r_557, kernelRun0_A.sl.r_556, kernelRun0_A.sl.r_555, kernelRun0_A.sl.r_549, kernelRun0_A.sl.r_548, kernelRun0_A.sl.r_547, kernelRun0_A.sl.r_546, kernelRun0_A.sl.r_545, kernelRun0_A.sl.r_539, kernelRun0_A.sl.r_538, kernelRun0_A.sl.r_537, kernelRun0_A.sl.r_536, kernelRun0_A.sl.r_529, kernelRun0_A.sl.r_528, kernelRun0_A.sl.r_527, kernelRun0_A.sl.r_526, kernelRun0_A.sl.r_1109, kernelRun0_A.sl.r_1108, kernelRun0_A.sl.r_1107, kernelRun0_A.sl.r_1103, kernelRun0_A.sl.r_1099, kernelRun0_A.sl.r_1096, kernelRun0_A.sl.r_1098, kernelRun0_A.sl.r_1097, kernelRun0_A.sl.r_1054, kernelRun0_A.sl.r_1102, kernelRun0_A.sl.r_1101, kernelRun0_A.sl.r_1100, kernelRun0_A.sl.r_1095, kernelRun0_A.sl.r_1091, kernelRun0_A.sl.r_1088, kernelRun0_A.sl.r_1090, kernelRun0_A.sl.r_1089, kernelRun0_A.sl.r_1053, kernelRun0_A.sl.r_1094, kernelRun0_A.sl.r_1093, kernelRun0_A.sl.r_1092, kernelRun0_A.sl.r_1087, kernelRun0_A.sl.r_1083, kernelRun0_A.sl.r_1080, kernelRun0_A.sl.r_1082, kernelRun0_A.sl.r_1081, kernelRun0_A.sl.r_1052, kernelRun0_A.sl.r_1086, kernelRun0_A.sl.r_1085, kernelRun0_A.sl.r_1084, kernelRun0_A.sl.r_1079, kernelRun0_A.sl.r_1075, kernelRun0_A.sl.r_1073, kernelRun0_A.sl.r_1074, kernelRun0_A.sl.r_1050, kernelRun0_A.sl.r_1078, kernelRun0_A.sl.r_1077, kernelRun0_A.sl.r_1076, kernelRun0_A.sl.r_1072, kernelRun0_A.sl.r_1068, kernelRun0_A.sl.r_1065, kernelRun0_A.sl.r_1067, kernelRun0_A.sl.r_1066, kernelRun0_A.sl.r_1048, kernelRun0_A.sl.r_1071, kernelRun0_A.sl.r_1070, kernelRun0_A.sl.r_1069, kernelRun0_A.sl.r_1064, kernelRun0_A.sl.r_1060, kernelRun0_A.sl.r_1057, kernelRun0_A.sl.r_1059, kernelRun0_A.sl.r_1058, kernelRun0_A.sl.r_1047, kernelRun0_A.sl.r_1063, kernelRun0_A.sl.r_1062, kernelRun0_A.sl.r_1061, kernelRun0_A.sl.r_1056, kernelRun0_A.sl.r_559, kernelRun0_A.sl.r_550, kernelRun0_A.sl.r_540, kernelRun0_A.sl.r_530, r_68_eq, r_72_eq, v12582_eq, r_521_eq, r_73_eq, r_71_eq, r_522_eq, r_552_eq, r_542_eq, r_532_eq, r_520_eq, r_519_eq, r_518_eq, r_516_eq, r_513_eq, r_512_eq, r_510_eq, r_509_eq, tri_load, tri_loadL, parity_eq]; rfl

end Cert.GlaIdeal.Tile

end
-- ==== Proof.GlaSeq.lean ====
/- A sequence's result: the eight tiles' results, one below the other. -/
module

public import proofs.«01_k».proof.Proof.GlaWords
public import Idealize.ShloMosaic.Lib.WholeRead

@[expose] public section

set_option maxRecDepth 65536
set_option maxHeartbeats 4000000

noncomputable section

namespace Cert.GlaIdeal.Tile

open Cert.GlaIdeal Cert.GlaIdeal.Gen Idealize.ShloMosaic Idealize.ShloMosaic.TcCoe Idealize.SL.Sem

variable {F : FTy → Type} [FloatOps F] (c : Dev nD) (arg2 : Memref sig .tc .vmem S256x512 .bf16) (harg2 : arg2.IsWhole)
  (arg3 : Memref sig .tc .vmem S1x2048x256 .f32) (harg3 : arg3.IsWhole) (arg4 : Memref sig .tc .vmem S1x2048x256 .f32) (harg4 : arg4.IsWhole)
  (arg5 : Memref sig .tc .vmem S1x2048x512 .bf16) (harg5 : arg5.IsWhole) (arg6 : Memref sig .tc .vmem S1x2048x256 .f32) (harg6 : arg6.IsWhole)
  (arg8 : Memref sig .tc .vmem S256x128 .f32) (x0 : Vec F S256x512 .bf16) (x1 x2 : Vec F S1x2048x256 .f32) (x3 : Vec F S1x2048x512 .bf16)
  (x4 : Vec F S1x2048x256 .f32)
  (i : grid0.Coords) (arg7 : Memref sig .tc .vmem S1x2048x512 .f32) (harg7 : arg7.IsWhole) (harg8 : arg8.IsWhole) (hc0 : cond0_0 i)

/-- A tile's place in the result. -/
def tileRect (t : Fin 8) : Rect S1x2048x512 :=
  (Rect.unit (s := S1x2048x512) ![0, 256 * t.val, 0] ![1, 256, 512]
    (fun d => match d with | 0 => Nat.le_refl 1 | 1 => (by omega : 256 * t.val + 256 ≤ 2048) | 2 => Nat.le_refl 512)).within
    (Rect.unit (s := S1x256x512) ![0, 0, 0] ![1, 256, 512] inb_S1x256x512_S1x256x512_0_0_0) (fun _ => rfl)

/-- The sequence's result. -/
def seqOut (x0 : Vec F S256x512 .bf16) (x1 x2 : Vec F S1x2048x256 .f32) (x3 : Vec F S1x2048x512 .bf16) (x4 : Vec F S1x2048x256 .f32)
    (t : Fin 8) : FVec F S1x256x512 .f32 :=
  tOut x0 (rows x1 t) (rows x2 t) (rows x3 t) (rows x4 t) (stateAt x0 x2 x3 x4 t.val)

theorem tile_at (t : Fin 8) (y : S1x2048x512.Idx) :
    View.RectAt (Val := Elt F) (e := .f32) y (tileRect t) (seqOut x0 x1 x2 x3 x4 t)
      (seqOut x0 x1 x2 x3 x4 ⟨(y 1).val / 256, by have : (y 1).val < 2048 := (y 1).isLt; omega⟩
        (ix3 0 ⟨(y 1).val % 256, by omega⟩ (y 2))) := by
  intro x hx
  have e1 : (y 1).val = 256 * t.val + (x 1).val := by
    rw [← hx]; show 256 * t.val + 0 + 1 * (x 1).val = _; omega
  have e2 : (y 2).val = (x 2).val := by
    rw [← hx]; show 0 + 0 + 1 * (x 2).val = _; omega
  have h1 : (x 1).val < 256 := (x 1).isLt
  have h0 : (x 0).val < 1 := (x 0).isLt
  have et : (⟨(y 1).val / 256, by have : (y 1).val < 2048 := (y 1).isLt; omega⟩ : Fin 8) = t := Fin.ext (by simp only; omega)
  rw [et]
  refine congrArg (seqOut x0 x1 x2 x3 x4 t) (funext fun d => Fin.ext ?_)
  match d with
  | 0 => show (x 0).val = 0; omega
  | 1 => show (x 1).val = (y 1).val % 256; omega
  | 2 => exact e2.symm

theorem pieces_eq : (kernelRun0_A c i arg2 harg2 arg3 harg3 arg4 harg4 arg5 harg5 arg6 harg6 arg7 harg7 arg8 harg8 hc0 x0 x1 x2 x3 x4).1 =
    [⟨tileRect 7, seqOut x0 x1 x2 x3 x4 7⟩,
      ⟨tileRect 6, seqOut x0 x1 x2 x3 x4 6⟩,
      ⟨tileRect 5, seqOut x0 x1 x2 x3 x4 5⟩,
      ⟨tileRect 4, seqOut x0 x1 x2 x3 x4 4⟩,
      ⟨tileRect 3, seqOut x0 x1 x2 x3 x4 3⟩,
      ⟨tileRect 2, seqOut x0 x1 x2 x3 x4 2⟩,
      ⟨tileRect 1, seqOut x0 x1 x2 x3 x4 1⟩,
      ⟨tileRect 0, seqOut x0 x1 x2 x3 x4 0⟩] := by
  have h : (kernelRun0_A c i arg2 harg2 arg3 harg3 arg4 harg4 arg5 harg5 arg6 harg6 arg7 harg7 arg8 harg8 hc0 x0 x1 x2 x3 x4).1 =
    [⟨tileRect 7, k0_pay1 (kernelRun0_A.sl.r_1115 c arg2 harg2 arg3 harg3 arg4 harg4 arg5 harg5 arg6 harg6 arg8 x0 x1 x2 x3 x4)⟩,
      ⟨tileRect 6, k0_pay1585 (kernelRun0_A.sl.r_452 c arg2 harg2 arg3 harg3 arg4 harg4 arg5 harg5 arg6 harg6 x0 x1 x2 x3 x4) (kernelRun0_A.sl.r_453 c arg2 harg2 arg3 harg3 arg4 harg4 arg5 harg5 arg6 harg6 x0 x1 x2 x3 x4) (kernelRun0_A.sl.r_455 c arg2 harg2 arg3 harg3 arg4 harg4 arg5 harg5 arg6 harg6 x0 x1 x2 x3 x4) (kernelRun0_A.sl.r_456 c arg2 harg2 arg3 harg3 arg4 harg4 arg5 harg5 arg6 harg6 x0 x1 x2 x3 x4) (kernelRun0_A.sl.r_459 c arg2 harg2 arg3 harg3 arg4 harg4 arg5 harg5 arg6 harg6 x0 x1 x2 x3 x4) (kernelRun0_A.sl.r_461 c arg2 harg2 arg3 harg3 arg4 harg4 arg5 harg5 arg6 harg6 x0 x1 x2 x3 x4) (kernelRun0_A.sl.r_462 c arg2 harg2 arg3 harg3 arg4 harg4 arg5 harg5 arg6 harg6 x0 x1 x2 x3 x4) (kernelRun0_A.sl.r_463 c arg2 harg2 arg3 harg3 arg4 harg4 arg5 harg5 arg6 harg6 x0 x1 x2 x3 x4) (kernelRun0_A.sl.r_988 c arg2 harg2 arg4 harg4 arg5 harg5 arg6 harg6 arg8 x0 x2 x3 x4) (kernelRun0_A.sl.r_992 c arg2 harg2 arg3 harg3 arg4 harg4 arg5 harg5 arg6 harg6 arg8 x0 x1 x2 x3 x4) (kernelRun0_A.sl.r_993 c arg2 harg2 arg3 harg3 arg4 harg4 arg5 harg5 arg6 harg6 arg8 x0 x1 x2 x3 x4) (kernelRun0_A.sl.r_994 c arg2 harg2 arg3 harg3 arg4 harg4 arg5 harg5 arg6 harg6 arg8 x0 x1 x2 x3 x4) (kernelRun0_A.sl.r_995 c arg2 harg2 arg3 harg3 arg4 harg4 arg5 harg5 arg6 harg6 arg8 x0 x1 x2 x3 x4) (kernelRun0_A.sl.r_1000 c arg2 harg2 arg3 harg3 arg4 harg4 arg5 harg5 arg6 harg6 arg8 x0 x1 x2 x3 x4) (kernelRun0_A.sl.r_1001 c arg2 harg2 arg3 harg3 arg4 harg4 arg5 harg5 arg6 harg6 arg8 x0 x1 x2 x3 x4) (kernelRun0_A.sl.r_1002 c arg2 harg2 arg3 harg3 arg4 harg4 arg5 harg5 arg6 harg6 arg8 x0 x1 x2 x3 x4) (kernelRun0_A.sl.r_1003 c arg2 harg2 arg3 harg3 arg4 harg4 arg5 harg5 arg6 harg6 arg8 x0 x1 x2 x3 x4) (kernelRun0_A.sl.r_1008 c arg2 harg2 arg3 harg3 arg4 harg4 arg5 harg5 arg6 harg6 arg8 x0 x1 x2 x3 x4) (kernelRun0_A.sl.r_1009 c arg2 harg2 arg3 harg3 arg4 harg4 arg5 harg5 arg6 harg6 arg8 x0 x1 x2 x3 x4) (kernelRun0_A.sl.r_1010 c arg2 harg2 arg3 harg3 arg4 harg4 arg5 harg5 arg6 harg6 arg8 x0 x1 x2 x3 x4) (kernelRun0_A.sl.r_1011 c arg2 harg2 arg3 harg3 arg4 harg4 arg5 harg5 arg6 harg6 arg8 x0 x1 x2 x3 x4) (kernelRun0_A.sl.r_1016 c arg2 harg2 arg3 harg3 arg4 harg4 arg5 harg5 arg6 harg6 arg8 x0 x1 x2 x3 x4) (kernelRun0_A.sl.r_1017 c arg2 harg2 arg3 harg3 arg4 harg4 arg5 harg5 arg6 harg6 arg8 x0 x1 x2 x3 x4) (kernelRun0_A.sl.r_1018 c arg2 harg2 arg3 harg3 arg4 harg4 arg5 harg5 arg6 harg6 arg8 x0 x1 x2 x3 x4) (kernelRun0_A.sl.r_1019 c arg2 harg2 arg3 harg3 arg4 harg4 arg5 harg5 arg6 harg6 arg8 x0 x1 x2 x3 x4) (kernelRun0_A.sl.r_1023 c arg2 harg2 arg3 harg3 arg4 harg4 arg5 harg5 arg6 harg6 arg8 x0 x1 x2 x3 x4) (kernelRun0_A.sl.r_1024 c arg2 harg2 arg3 harg3 arg4 harg4 arg5 harg5 arg6 harg6 arg8 x0 x1 x2 x3 x4) (kernelRun0_A.sl.r_1025 c arg2 harg2 arg3 harg3 arg4 harg4 arg5 harg5 arg6 harg6 arg8 x0 x1 x2 x3 x4) (kernelRun0_A.sl.r_1026 c arg2 harg2 arg3 harg3 arg4 harg4 arg5 harg5 arg6 harg6 arg8 x0 x1 x2 x3 x4) (kernelRun0_A.sl.r_1031 c arg2 harg2 arg3 harg3 arg4 harg4 arg5 harg5 arg6 harg6 arg8 x0 x1 x2 x3 x4) (kernelRun0_A.sl.r_1032 c arg2 harg2 arg3 harg3 arg4 harg4 arg5 harg5 arg6 harg6 arg8 x0 x1 x2 x3 x4) (kernelRun0_A.sl.r_1033 c arg2 harg2 arg3 harg3 arg4 harg4 arg5 harg5 arg6 harg6 arg8 x0 x1 x2 x3 x4) (kernelRun0_A.sl.r_1034 c arg2 harg2 arg3 harg3 arg4 harg4 arg5 harg5 arg6 harg6 arg8 x0 x1 x2 x3 x4) (kernelRun0_A.sl.r_1039 c arg2 harg2 arg3 harg3 arg4 harg4 arg5 harg5 arg6 harg6 arg8 x0 x1 x2 x3 x4) (kernelRun0_A.sl.r_1040 c arg2 harg2 arg3 harg3 arg4 harg4 arg5 harg5 arg6 harg6 arg8 x0 x1 x2 x3 x4) (kernelRun0_A.sl.r_1041 c arg2 harg2 arg3 harg3 arg4 harg4 arg5 harg5 arg6 harg6 arg8 x0 x1 x2 x3 x4) (kernelRun0_A.sl.r_1042 c arg2 harg2 arg3 harg3 arg4 harg4 arg5 harg5 arg6 harg6 arg8 x0 x1 x2 x3 x4) (kernelRun0_A.sl.r_1043 c arg2 harg2 arg3 harg3 arg6 harg6 x0 x1 x4) (kernelRun0_A.sl.r_1044 c arg2 harg2 arg3 harg3 arg6 harg6 x0 x1 x4) (kernelRun0_A.sl.r_1045 c arg2 harg2 arg3 harg3 arg6 harg6 x0 x1 x4) (kernelRun0_A.sl.r_1046 c arg2 harg2 arg3 harg3 arg6 harg6 x0 x1 x4) (k0_pay1584 kernelRun0_A.sl.v355) 3#32⟩,
      ⟨tileRect 5, k0_pay1460 (kernelRun0_A.sl.r_979 c arg2 harg2 arg3 harg3 arg4 harg4 arg5 harg5 arg6 harg6 arg8 x0 x1 x2 x3 x4)⟩,
      ⟨tileRect 4, k0_pay1340 (kernelRun0_A.sl.r_337 c arg2 harg2 arg3 harg3 arg4 harg4 arg5 harg5 arg6 harg6 x0 x1 x2 x3 x4) (kernelRun0_A.sl.r_338 c arg2 harg2 arg3 harg3 arg4 harg4 arg5 harg5 arg6 harg6 x0 x1 x2 x3 x4) (kernelRun0_A.sl.r_341 c arg2 harg2 arg3 harg3 arg4 harg4 arg5 harg5 arg6 harg6 x0 x1 x2 x3 x4) (kernelRun0_A.sl.r_342 c arg2 harg2 arg3 harg3 arg4 harg4 arg5 harg5 arg6 harg6 x0 x1 x2 x3 x4) (kernelRun0_A.sl.r_345 c arg2 harg2 arg3 harg3 arg4 harg4 arg5 harg5 arg6 harg6 x0 x1 x2 x3 x4) (kernelRun0_A.sl.r_347 c arg2 harg2 arg3 harg3 arg4 harg4 arg5 harg5 arg6 harg6 x0 x1 x2 x3 x4) (kernelRun0_A.sl.r_348 c arg2 harg2 arg3 harg3 arg4 harg4 arg5 harg5 arg6 harg6 x0 x1 x2 x3 x4) (kernelRun0_A.sl.r_349 c arg2 harg2 arg3 harg3 arg4 harg4 arg5 harg5 arg6 harg6 x0 x1 x2 x3 x4) (kernelRun0_A.sl.r_848 c arg2 harg2 arg4 harg4 arg5 harg5 arg6 harg6 arg8 x0 x2 x3 x4) (kernelRun0_A.sl.r_853 c arg2 harg2 arg3 harg3 arg4 harg4 arg5 harg5 arg6 harg6 arg8 x0 x1 x2 x3 x4) (kernelRun0_A.sl.r_854 c arg2 harg2 arg3 harg3 arg4 harg4 arg5 harg5 arg6 harg6 arg8 x0 x1 x2 x3 x4) (kernelRun0_A.sl.r_855 c arg2 harg2 arg3 harg3 arg4 harg4 arg5 harg5 arg6 harg6 arg8 x0 x1 x2 x3 x4) (kernelRun0_A.sl.r_856 c arg2 harg2 arg3 harg3 arg4 harg4 arg5 harg5 arg6 harg6 arg8 x0 x1 x2 x3 x4) (kernelRun0_A.sl.r_861 c arg2 harg2 arg3 harg3 arg4 harg4 arg5 harg5 arg6 harg6 arg8 x0 x1 x2 x3 x4) (kernelRun0_A.sl.r_862 c arg2 harg2 arg3 harg3 arg4 harg4 arg5 harg5 arg6 harg6 arg8 x0 x1 x2 x3 x4) (kernelRun0_A.sl.r_863 c arg2 harg2 arg3 harg3 arg4 harg4 arg5 harg5 arg6 harg6 arg8 x0 x1 x2 x3 x4) (kernelRun0_A.sl.r_864 c arg2 harg2 arg3 harg3 arg4 harg4 arg5 harg5 arg6 harg6 arg8 x0 x1 x2 x3 x4) (kernelRun0_A.sl.r_869 c arg2 harg2 arg3 harg3 arg4 harg4 arg5 harg5 arg6 harg6 arg8 x0 x1 x2 x3 x4) (kernelRun0_A.sl.r_870 c arg2 harg2 arg3 harg3 arg4 harg4 arg5 harg5 arg6 harg6 arg8 x0 x1 x2 x3 x4) (kernelRun0_A.sl.r_871 c arg2 harg2 arg3 harg3 arg4 harg4 arg5 harg5 arg6 harg6 arg8 x0 x1 x2 x3 x4) (kernelRun0_A.sl.r_872 c arg2 harg2 arg3 harg3 arg4 harg4 arg5 harg5 arg6 harg6 arg8 x0 x1 x2 x3 x4) (kernelRun0_A.sl.r_877 c arg2 harg2 arg3 harg3 arg4 harg4 arg5 harg5 arg6 harg6 arg8 x0 x1 x2 x3 x4) (kernelRun0_A.sl.r_878 c arg2 harg2 arg3 harg3 arg4 harg4 arg5 harg5 arg6 harg6 arg8 x0 x1 x2 x3 x4) (kernelRun0_A.sl.r_879 c arg2 harg2 arg3 harg3 arg4 harg4 arg5 harg5 arg6 harg6 arg8 x0 x1 x2 x3 x4) (kernelRun0_A.sl.r_880 c arg2 harg2 arg3 harg3 arg4 harg4 arg5 harg5 arg6 harg6 arg8 x0 x1 x2 x3 x4) (kernelRun0_A.sl.r_885 c arg2 harg2 arg3 harg3 arg4 harg4 arg5 harg5 arg6 harg6 arg8 x0 x1 x2 x3 x4) (kernelRun0_A.sl.r_886 c arg2 harg2 arg3 harg3 arg4 harg4 arg5 harg5 arg6 harg6 arg8 x0 x1 x2 x3 x4) (kernelRun0_A.sl.r_887 c arg2 harg2 arg3 harg3 arg4 harg4 arg5 harg5 arg6 harg6 arg8 x0 x1 x2 x3 x4) (kernelRun0_A.sl.r_888 c arg2 harg2 arg3 harg3 arg4 harg4 arg5 harg5 arg6 harg6 arg8 x0 x1 x2 x3 x4) (kernelRun0_A.sl.r_893 c arg2 harg2 arg3 harg3 arg4 harg4 arg5 harg5 arg6 harg6 arg8 x0 x1 x2 x3 x4) (kernelRun0_A.sl.r_894 c arg2 harg2 arg3 harg3 arg4 harg4 arg5 harg5 arg6 harg6 arg8 x0 x1 x2 x3 x4) (kernelRun0_A.sl.r_895 c arg2 harg2 arg3 harg3 arg4 harg4 arg5 harg5 arg6 harg6 arg8 x0 x1 x2 x3 x4) (kernelRun0_A.sl.r_896 c arg2 harg2 arg3 harg3 arg4 harg4 arg5 harg5 arg6 harg6 arg8 x0 x1 x2 x3 x4) (kernelRun0_A.sl.r_901 c arg2 harg2 arg3 harg3 arg4 harg4 arg5 harg5 arg6 harg6 arg8 x0 x1 x2 x3 x4) (kernelRun0_A.sl.r_902 c arg2 harg2 arg3 harg3 arg4 harg4 arg5 harg5 arg6 harg6 arg8 x0 x1 x2 x3 x4) (kernelRun0_A.sl.r_903 c arg2 harg2 arg3 harg3 arg4 harg4 arg5 harg5 arg6 harg6 arg8 x0 x1 x2 x3 x4) (kernelRun0_A.sl.r_904 c arg2 harg2 arg3 harg3 arg4 harg4 arg5 harg5 arg6 harg6 arg8 x0 x1 x2 x3 x4) (kernelRun0_A.sl.r_905 c arg2 harg2 arg3 harg3 arg6 harg6 x0 x1 x4) (kernelRun0_A.sl.r_906 c arg2 harg2 arg3 harg3 arg6 harg6 x0 x1 x4) (kernelRun0_A.sl.r_907 c arg2 harg2 arg3 harg3 arg6 harg6 x0 x1 x4) (kernelRun0_A.sl.r_908 c arg2 harg2 arg3 harg3 arg6 harg6 x0 x1 x4) (k0_pay1337 kernelRun0_A.sl.v355) (k0_pay1338 kernelRun0_A.sl.v355) (k0_pay1339 kernelRun0_A.sl.v355)⟩,
      ⟨tileRect 3, k0_pay1217 (kernelRun0_A.sl.r_835 c arg2 harg2 arg3 harg3 arg4 harg4 arg5 harg5 arg6 harg6 arg8 x0 x1 x2 x3 x4) (kernelRun0_A.sl.r_836 c arg2 harg2 arg3 harg3 arg4 harg4 arg5 harg5 arg6 harg6 arg8 x0 x1 x2 x3 x4) (kernelRun0_A.sl.r_837 c arg2 harg2 arg3 harg3 arg4 harg4 arg5 harg5 arg6 harg6 arg8 x0 x1 x2 x3 x4) (kernelRun0_A.sl.r_838 c arg2 harg2 arg3 harg3 arg4 harg4 arg5 harg5 arg6 harg6 arg8 x0 x1 x2 x3 x4)⟩,
      ⟨tileRect 2, k0_pay1088 (kernelRun0_A.sl.r_212 c arg2 harg2 arg3 harg3 arg4 harg4 arg5 harg5 arg6 harg6 x0 x1 x2 x3 x4) (kernelRun0_A.sl.r_213 c arg2 harg2 arg3 harg3 arg4 harg4 arg5 harg5 arg6 harg6 x0 x1 x2 x3 x4) (kernelRun0_A.sl.r_215 c arg2 harg2 arg3 harg3 arg4 harg4 arg5 harg5 arg6 harg6 x0 x1 x2 x3 x4) (kernelRun0_A.sl.r_218 c arg2 harg2 arg3 harg3 arg4 harg4 arg5 harg5 arg6 harg6 x0 x1 x2 x3 x4) (kernelRun0_A.sl.r_221 c arg2 harg2 arg3 harg3 arg4 harg4 arg5 harg5 arg6 harg6 x0 x1 x2 x3 x4) (kernelRun0_A.sl.r_223 c arg2 harg2 arg3 harg3 arg4 harg4 arg5 harg5 arg6 harg6 x0 x1 x2 x3 x4) (kernelRun0_A.sl.r_224 c arg2 harg2 arg3 harg3 arg4 harg4 arg5 harg5 arg6 harg6 x0 x1 x2 x3 x4) (kernelRun0_A.sl.r_225 c arg2 harg2 arg3 harg3 arg4 harg4 arg5 harg5 arg6 harg6 x0 x1 x2 x3 x4) (kernelRun0_A.sl.r_709 c arg2 harg2 arg4 harg4 arg5 harg5 arg6 harg6 arg8 x0 x2 x3 x4) (kernelRun0_A.sl.r_714 c arg2 harg2 arg3 harg3 arg4 harg4 arg5 harg5 arg6 harg6 arg8 x0 x1 x2 x3 x4) (kernelRun0_A.sl.r_715 c arg2 harg2 arg3 harg3 arg4 harg4 arg5 harg5 arg6 harg6 arg8 x0 x1 x2 x3 x4) (kernelRun0_A.sl.r_716 c arg2 harg2 arg3 harg3 arg4 harg4 arg5 harg5 arg6 harg6 arg8 x0 x1 x2 x3 x4) (kernelRun0_A.sl.r_717 c arg2 harg2 arg3 harg3 arg4 harg4 arg5 harg5 arg6 harg6 arg8 x0 x1 x2 x3 x4) (kernelRun0_A.sl.r_721 c arg2 harg2 arg3 harg3 arg4 harg4 arg5 harg5 arg6 harg6 arg8 x0 x1 x2 x3 x4) (kernelRun0_A.sl.r_722 c arg2 harg2 arg3 harg3 arg4 harg4 arg5 harg5 arg6 harg6 arg8 x0 x1 x2 x3 x4) (kernelRun0_A.sl.r_723 c arg2 harg2 arg3 harg3 arg4 harg4 arg5 harg5 arg6 harg6 arg8 x0 x1 x2 x3 x4) (kernelRun0_A.sl.r_724 c arg2 harg2 arg3 harg3 arg4 harg4 arg5 harg5 arg6 harg6 arg8 x0 x1 x2 x3 x4) (kernelRun0_A.sl.r_729 c arg2 harg2 arg3 harg3 arg4 harg4 arg5 harg5 arg6 harg6 arg8 x0 x1 x2 x3 x4) (kernelRun0_A.sl.r_730 c arg2 harg2 arg3 harg3 arg4 harg4 arg5 harg5 arg6 harg6 arg8 x0 x1 x2 x3 x4) (kernelRun0_A.sl.r_731 c arg2 harg2 arg3 harg3 arg4 harg4 arg5 harg5 arg6 harg6 arg8 x0 x1 x2 x3 x4) (kernelRun0_A.sl.r_732 c arg2 harg2 arg3 harg3 arg4 harg4 arg5 harg5 arg6 harg6 arg8 x0 x1 x2 x3 x4) (kernelRun0_A.sl.r_737 c arg2 harg2 arg3 harg3 arg4 harg4 arg5 harg5 arg6 harg6 arg8 x0 x1 x2 x3 x4) (kernelRun0_A.sl.r_738 c arg2 harg2 arg3 harg3 arg4 harg4 arg5 harg5 arg6 harg6 arg8 x0 x1 x2 x3 x4) (kernelRun0_A.sl.r_739 c arg2 harg2 arg3 harg3 arg4 harg4 arg5 harg5 arg6 harg6 arg8 x0 x1 x2 x3 x4) (kernelRun0_A.sl.r_740 c arg2 harg2 arg3 harg3 arg4 harg4 arg5 harg5 arg6 harg6 arg8 x0 x1 x2 x3 x4) (kernelRun0_A.sl.r_745 c arg2 harg2 arg3 harg3 arg4 harg4 arg5 harg5 arg6 harg6 arg8 x0 x1 x2 x3 x4) (kernelRun0_A.sl.r_746 c arg2 harg2 arg3 harg3 arg4 harg4 arg5 harg5 arg6 harg6 arg8 x0 x1 x2 x3 x4) (kernelRun0_A.sl.r_747 c arg2 harg2 arg3 harg3 arg4 harg4 arg5 harg5 arg6 harg6 arg8 x0 x1 x2 x3 x4) (kernelRun0_A.sl.r_748 c arg2 harg2 arg3 harg3 arg4 harg4 arg5 harg5 arg6 harg6 arg8 x0 x1 x2 x3 x4) (kernelRun0_A.sl.r_752 c arg2 harg2 arg3 harg3 arg4 harg4 arg5 harg5 arg6 harg6 arg8 x0 x1 x2 x3 x4) (kernelRun0_A.sl.r_753 c arg2 harg2 arg3 harg3 arg4 harg4 arg5 harg5 arg6 harg6 arg8 x0 x1 x2 x3 x4) (kernelRun0_A.sl.r_754 c arg2 harg2 arg3 harg3 arg4 harg4 arg5 harg5 arg6 harg6 arg8 x0 x1 x2 x3 x4) (kernelRun0_A.sl.r_755 c arg2 harg2 arg3 harg3 arg4 harg4 arg5 harg5 arg6 harg6 arg8 x0 x1 x2 x3 x4) (kernelRun0_A.sl.r_760 c arg2 harg2 arg3 harg3 arg4 harg4 arg5 harg5 arg6 harg6 arg8 x0 x1 x2 x3 x4) (kernelRun0_A.sl.r_761 c arg2 harg2 arg3 harg3 arg4 harg4 arg5 harg5 arg6 harg6 arg8 x0 x1 x2 x3 x4) (kernelRun0_A.sl.r_762 c arg2 harg2 arg3 harg3 arg4 harg4 arg5 harg5 arg6 harg6 arg8 x0 x1 x2 x3 x4) (kernelRun0_A.sl.r_763 c arg2 harg2 arg3 harg3 arg4 harg4 arg5 harg5 arg6 harg6 arg8 x0 x1 x2 x3 x4) (kernelRun0_A.sl.r_764 c arg2 harg2 arg3 harg3 arg6 harg6 x0 x1 x4) (kernelRun0_A.sl.r_765 c arg2 harg2 arg3 harg3 arg6 harg6 x0 x1 x4) (kernelRun0_A.sl.r_766 c arg2 harg2 arg3 harg3 arg6 harg6 x0 x1 x4) (kernelRun0_A.sl.r_767 c arg2 harg2 arg3 harg3 arg6 harg6 x0 x1 x4) (k0_pay1086 kernelRun0_A.sl.v355) (k0_pay1087 kernelRun0_A.sl.v355) 1#32⟩,
      ⟨tileRect 1, k0_pay968 (kernelRun0_A.sl.r_645 c arg2 harg2 arg3 harg3 arg4 harg4 arg5 harg5 arg6 harg6 arg8 x0 x1 x2 x3 x4) (kernelRun0_A.sl.r_653 c arg2 harg2 arg3 harg3 arg4 harg4 arg5 harg5 arg6 harg6 arg8 x0 x1 x2 x3 x4) (kernelRun0_A.sl.r_661 c arg2 harg2 arg3 harg3 arg4 harg4 arg5 harg5 arg6 harg6 arg8 x0 x1 x2 x3 x4) (kernelRun0_A.sl.r_668 c arg2 harg2 arg3 harg3 arg4 harg4 arg5 harg5 arg6 harg6 arg8 x0 x1 x2 x3 x4) (kernelRun0_A.sl.r_676 c arg2 harg2 arg3 harg3 arg4 harg4 arg5 harg5 arg6 harg6 arg8 x0 x1 x2 x3 x4) (kernelRun0_A.sl.r_684 c arg2 harg2 arg3 harg3 arg4 harg4 arg5 harg5 arg6 harg6 arg8 x0 x1 x2 x3 x4) (kernelRun0_A.sl.r_692 c arg2 harg2 arg3 harg3 arg4 harg4 arg5 harg5 arg6 harg6 arg8 x0 x1 x2 x3 x4) (kernelRun0_A.sl.r_696 c arg2 harg2 arg3 harg3 arg4 harg4 arg5 harg5 arg6 harg6 arg8 x0 x1 x2 x3 x4) (kernelRun0_A.sl.r_697 c arg2 harg2 arg3 harg3 arg4 harg4 arg5 harg5 arg6 harg6 arg8 x0 x1 x2 x3 x4) (kernelRun0_A.sl.r_698 c arg2 harg2 arg3 harg3 arg4 harg4 arg5 harg5 arg6 harg6 arg8 x0 x1 x2 x3 x4) (kernelRun0_A.sl.r_699 c arg2 harg2 arg3 harg3 arg4 harg4 arg5 harg5 arg6 harg6 arg8 x0 x1 x2 x3 x4) (kernelRun0_A.sl.r_700 c arg2 harg2 arg3 harg3 arg4 harg4 arg5 harg5 arg6 harg6 x0 x1 x2 x3 x4)⟩,
      ⟨tileRect 0, k0_pay839 (kernelRun0_A.sl.r_79 c arg2 harg2 arg3 harg3 arg4 harg4 arg5 harg5 arg6 harg6 x0 x1 x2 x3 x4) (kernelRun0_A.sl.r_80 c arg2 harg2 arg3 harg3 arg4 harg4 arg5 harg5 arg6 harg6 x0 x1 x2 x3 x4) (kernelRun0_A.sl.r_82 c arg2 harg2 arg3 harg3 arg4 harg4 arg5 harg5 arg6 harg6 x0 x1 x2 x3 x4) (kernelRun0_A.sl.r_86 c arg2 harg2 arg3 harg3 arg4 harg4 arg5 harg5 arg6 harg6 x0 x1 x2 x3 x4) (kernelRun0_A.sl.r_89 c arg2 harg2 arg3 harg3 arg4 harg4 arg5 harg5 arg6 harg6 x0 x1 x2 x3 x4) (kernelRun0_A.sl.r_92 c arg2 harg2 arg3 harg3 arg4 harg4 arg5 harg5 arg6 harg6 x0 x1 x2 x3 x4) (kernelRun0_A.sl.r_93 c arg2 harg2 arg3 harg3 arg4 harg4 arg5 harg5 arg6 harg6 x0 x1 x2 x3 x4) (kernelRun0_A.sl.r_94 c arg2 harg2 arg3 harg3 arg4 harg4 arg5 harg5 arg6 harg6 x0 x1 x2 x3 x4) (kernelRun0_A.sl.r_570 c arg2 harg2 arg4 harg4 arg5 harg5 arg6 harg6 arg8 x0 x2 x3 x4) (kernelRun0_A.sl.r_575 c arg2 harg2 arg3 harg3 arg6 harg6 arg8 x0 x1 x4) (kernelRun0_A.sl.r_576 c arg2 harg2 arg3 harg3 arg6 harg6 arg8 x0 x1 x4) (kernelRun0_A.sl.r_577 c arg2 harg2 arg3 harg3 arg6 harg6 arg8 x0 x1 x4) (kernelRun0_A.sl.r_578 c arg2 harg2 arg3 harg3 arg6 harg6 arg8 x0 x1 x4) (kernelRun0_A.sl.r_582 c arg2 harg2 arg3 harg3 arg4 harg4 arg5 harg5 arg6 harg6 arg8 x0 x1 x2 x3 x4) (kernelRun0_A.sl.r_583 c arg2 harg2 arg3 harg3 arg4 harg4 arg5 harg5 arg6 harg6 arg8 x0 x1 x2 x3 x4) (kernelRun0_A.sl.r_584 c arg2 harg2 arg3 harg3 arg4 harg4 arg5 harg5 arg6 harg6 arg8 x0 x1 x2 x3 x4) (kernelRun0_A.sl.r_585 c arg2 harg2 arg3 harg3 arg4 harg4 arg5 harg5 arg6 harg6 arg8 x0 x1 x2 x3 x4) (kernelRun0_A.sl.r_590 c arg2 harg2 arg3 harg3 arg4 harg4 arg5 harg5 arg6 harg6 arg8 x0 x1 x2 x3 x4) (kernelRun0_A.sl.r_591 c arg2 harg2 arg3 harg3 arg4 harg4 arg5 harg5 arg6 harg6 arg8 x0 x1 x2 x3 x4) (kernelRun0_A.sl.r_592 c arg2 harg2 arg3 harg3 arg4 harg4 arg5 harg5 arg6 harg6 arg8 x0 x1 x2 x3 x4) (kernelRun0_A.sl.r_593 c arg2 harg2 arg3 harg3 arg4 harg4 arg5 harg5 arg6 harg6 arg8 x0 x1 x2 x3 x4) (kernelRun0_A.sl.r_598 c arg2 harg2 arg3 harg3 arg4 harg4 arg5 harg5 arg6 harg6 arg8 x0 x1 x2 x3 x4) (kernelRun0_A.sl.r_599 c arg2 harg2 arg3 harg3 arg4 harg4 arg5 harg5 arg6 harg6 arg8 x0 x1 x2 x3 x4) (kernelRun0_A.sl.r_600 c arg2 harg2 arg3 harg3 arg4 harg4 arg5 harg5 arg6 harg6 arg8 x0 x1 x2 x3 x4) (kernelRun0_A.sl.r_601 c arg2 harg2 arg3 harg3 arg4 harg4 arg5 harg5 arg6 harg6 arg8 x0 x1 x2 x3 x4) (kernelRun0_A.sl.r_606 c arg2 harg2 arg3 harg3 arg4 harg4 arg5 harg5 arg6 harg6 arg8 x0 x1 x2 x3 x4) (kernelRun0_A.sl.r_607 c arg2 harg2 arg3 harg3 arg4 harg4 arg5 harg5 arg6 harg6 arg8 x0 x1 x2 x3 x4) (kernelRun0_A.sl.r_608 c arg2 harg2 arg3 harg3 arg4 harg4 arg5 harg5 arg6 harg6 arg8 x0 x1 x2 x3 x4) (kernelRun0_A.sl.r_609 c arg2 harg2 arg3 harg3 arg4 harg4 arg5 harg5 arg6 harg6 arg8 x0 x1 x2 x3 x4) (kernelRun0_A.sl.r_613 c arg2 harg2 arg3 harg3 arg4 harg4 arg5 harg5 arg6 harg6 arg8 x0 x1 x2 x3 x4) (kernelRun0_A.sl.r_614 c arg2 harg2 arg3 harg3 arg4 harg4 arg5 harg5 arg6 harg6 arg8 x0 x1 x2 x3 x4) (kernelRun0_A.sl.r_615 c arg2 harg2 arg3 harg3 arg4 harg4 arg5 harg5 arg6 harg6 arg8 x0 x1 x2 x3 x4) (kernelRun0_A.sl.r_616 c arg2 harg2 arg3 harg3 arg4 harg4 arg5 harg5 arg6 harg6 arg8 x0 x1 x2 x3 x4) (kernelRun0_A.sl.r_621 c arg2 harg2 arg3 harg3 arg4 harg4 arg5 harg5 arg6 harg6 arg8 x0 x1 x2 x3 x4) (kernelRun0_A.sl.r_622 c arg2 harg2 arg3 harg3 arg4 harg4 arg5 harg5 arg6 harg6 arg8 x0 x1 x2 x3 x4) (kernelRun0_A.sl.r_623 c arg2 harg2 arg3 harg3 arg4 harg4 arg5 harg5 arg6 harg6 arg8 x0 x1 x2 x3 x4) (kernelRun0_A.sl.r_624 c arg2 harg2 arg3 harg3 arg4 harg4 arg5 harg5 arg6 harg6 arg8 x0 x1 x2 x3 x4) (kernelRun0_A.sl.r_625 c arg2 harg2 arg3 harg3 arg6 harg6 x0 x1 x4) (kernelRun0_A.sl.r_626 c arg2 harg2 arg3 harg3 arg6 harg6 x0 x1 x4) (kernelRun0_A.sl.r_627 c arg2 harg2 arg3 harg3 arg6 harg6 x0 x1 x4) (kernelRun0_A.sl.r_628 c arg2 harg2 arg3 harg3 arg6 harg6 x0 x1 x4) (k0_pay836 kernelRun0_A.sl.v355) (k0_pay837 kernelRun0_A.sl.v355) (k0_pay838 kernelRun0_A.sl.v355)⟩] := rfl
  rw [h, piece0, piece1, piece2, piece3, piece4, piece5, piece6, piece7]; rfl

theorem out_eq (y : S1x2048x512.Idx) :
    out0_A_5 c i arg2 harg2 arg3 harg3 arg4 harg4 arg5 harg5 arg6 harg6 arg7 harg7 arg8 harg8 hc0 x0 x1 x2 x3 x4 y
      = seqOut x0 x1 x2 x3 x4 ⟨(y 1).val / 256, by have : (y 1).val < 2048 := (y 1).isLt; omega⟩
        (ix3 0 ⟨(y 1).val % 256, by omega⟩ (y 2)) := by
  unfold out0_A_5
  rw [View.read_writes_junk_eq_canon]
  refine View.canon_eq_of_allAt _ _ _ (cover0_A_5 c i arg2 harg2 arg3 harg3 arg4 harg4 arg5 harg5 arg6 harg6 arg7 harg7 arg8 harg8 hc0 x0 x1 x2 x3 x4 y) ?_
  rw [pieces_eq]
  repeat' (first | exact View.allAt_nil _ _ | refine View.allAt_cons _ _ _ (tile_at x0 x1 x2 x3 x4 _ y) ?_)

end Cert.GlaIdeal.Tile

end
-- ==== Proof.GlaRead.lean ====
/- The tile's stages read at an index, in extended-real arithmetic. -/
module

public import proofs.«01_k».proof.Proof.GlaTile

@[expose] public section

set_option maxRecDepth 16384

noncomputable section

namespace Cert.GlaIdeal.Tile

open Cert.GlaIdeal Cert.GlaIdeal.Gen Idealize.ShloMosaic Idealize.ShloMosaic.TcCoe Idealize.SL.Sem

theorem rowHead_apply (j : Fin 256) : rowHead (ix2 j 0) = BitVec.ofNat 32 (j.val / 32) := by
  revert j
  decide +kernel

theorem stack8_apply {α : Type} (f : Fin 8 → S32x128.Idx → α) (n : Fin 8) (r : Fin 32) (l : Fin 128) (s : Fin 256)
    (hs : s.val = 32 * n.val + r.val) : stack8 f (ix2 s l) = f n (ix2 r l) := by
  have hr := r.isLt
  pointwise [stack8]
  split_ifs <;> first
    | exact absurd rfl ‹_›
    | (exfalso; omega)
    | (refine congr (congrArg f (Fin.ext ?_)) (congrArg (ix2 · l) (Fin.ext ?_)) <;> first | omega | (simp only; omega) | (show (_ : Nat) = _; simp; omega))

theorem row8_apply {α : Type} (f : Fin 8 → S256x128.Idx → α) (n : Fin 8) (r : Fin 256) (l : Fin 128) (s : Fin 1024)
    (hs : s.val = 128 * n.val + l.val) : row8 f (ix2 r s) = f n (ix2 r l) := by
  have hr := l.isLt
  pointwise [row8]
  split_ifs <;> first
    | exact absurd rfl ‹_›
    | (exfalso; omega)
    | (refine congr (congrArg f (Fin.ext ?_)) (congrArg (ix2 r ·) (Fin.ext ?_)) <;> first | omega | (simp only; omega) | (show (_ : Nat) = _; simp; omega))

theorem stack4_apply {α : Type} (f : Fin 4 → S64x128.Idx → α) (n : Fin 4) (r : Fin 64) (l : Fin 128) (s : Fin 256)
    (hs : s.val = 64 * n.val + r.val) : stack4 f (ix2 s l) = f n (ix2 r l) := by
  have hr := r.isLt
  pointwise [stack4]
  split_ifs <;> first
    | exact absurd rfl ‹_›
    | (exfalso; omega)
    | (refine congr (congrArg f (Fin.ext ?_)) (congrArg (ix2 · l) (Fin.ext ?_)) <;> first | omega | (simp only; omega) | (show (_ : Nat) = _; simp; omega))

theorem stackQ_apply {α : Type} (f : Fin 4 → S32x256.Idx → α) (n : Fin 4) (r : Fin 32) (l : Fin 256) (s : Fin 128)
    (hs : s.val = 32 * n.val + r.val) : stackQ f (ix2 s l) = f n (ix2 r l) := by
  have hr := r.isLt
  pointwise [stackQ]
  split_ifs <;> first
    | exact absurd rfl ‹_›
    | (exfalso; omega)
    | (refine congr (congrArg f (Fin.ext ?_)) (congrArg (ix2 · l) (Fin.ext ?_)) <;> first | omega | (simp only; omega) | (show (_ : Nat) = _; simp; omega))

theorem row4_apply {α : Type} (f : Fin 4 → S256x128.Idx → α) (n : Fin 4) (r : Fin 256) (l : Fin 128) (s : Fin 512)
    (hs : s.val = 128 * n.val + l.val) : row4 f (ix2 r s) = f n (ix2 r l) := by
  have hr := l.isLt
  pointwise [row4]
  split_ifs <;> first
    | exact absurd rfl ‹_›
    | (exfalso; omega)
    | (refine congr (congrArg f (Fin.ext ?_)) (congrArg (ix2 r ·) (Fin.ext ?_)) <;> first | omega | (simp only; omega) | (show (_ : Nat) = _; simp; omega))

theorem two_apply {α : Type} (f : Fin 2 → S128x128.Idx → α) (n : Fin 2) (r l : Fin 128) (s : Fin 256)
    (hs : s.val = 128 * n.val + r.val) :
    concatenate S256x128 0 [⟨S128x128, f 0⟩, ⟨S128x128, f 1⟩] concatenates_S128x128_S128x128_S256x128_d0 (ix2 s l) = f n (ix2 r l) := by
  have hr := r.isLt
  pointwise
  split_ifs <;> first
    | exact absurd rfl ‹_›
    | (exfalso; omega)
    | (refine congr (congrArg f (Fin.ext ?_)) (congrArg (ix2 · l) (Fin.ext ?_)) <;> first | omega | (simp only; omega) | (show (_ : Nat) = _; simp; omega))

theorem lanePair_apply (j : Fin 256) : lanePair (ix2 0 j) = BitVec.ofNat 32 (j.val / 64) := by
  revert j; decide +kernel

theorem firstHalf_apply (l : Fin 128) : firstHalf (ix2 0 l) = if l.val < 64 then 1#1 else 0#1 := by
  revert l; decide +kernel

theorem eq_bit (a b : Fin 8) : IntOp.cmpi .eq (BitVec.ofNat 32 a.val) (BitVec.ofNat 32 b.val) = if a = b then 1#1 else 0#1 := by
  revert a b; decide +kernel

theorem le_bit (a b : Fin 128) : IntOp.cmpi .sle (BitVec.ofNat 32 a.val) (BitVec.ofNat 32 b.val) = if a.val ≤ b.val then 1#1 else 0#1 := by
  have ha := a.isLt
  have hb := b.isLt
  have e : ∀ c : Fin 128, (BitVec.ofNat 32 c.val).toInt = (c.val : Int) := by decide +kernel
  have h : (BitVec.ofNat 32 a.val).sle (BitVec.ofNat 32 b.val) = decide (a.val ≤ b.val) := by
    simp only [BitVec.sle, e, Nat.cast_le]
  show BitVec.ofBool ((BitVec.ofNat 32 a.val).sle (BitVec.ofNat 32 b.val)) = _
  rw [h]
  by_cases h' : a.val ≤ b.val
  · rw [if_pos h', decide_eq_true h']; rfl
  · rw [if_neg h', decide_eq_false h']; rfl

/-- `fdiv` of one word. -/
def fdivS (b d : BitVec 32) : BitVec 32 := fdiv (S := S1x128) (fun _ => b) d (ix2 0 0)

theorem fdiv_apply {S : Shape} (x : IVec S 32) (d : BitVec 32) (y : S.Idx) : fdiv x d y = fdivS (x y) d := rfl

theorem fdivS_32 (n : Fin 256) : fdivS (BitVec.ofNat 32 n.val) 32#32 = BitVec.ofNat 32 (n.val / 32) := by
  revert n; decide +kernel

theorem fdivS_64 (n : Fin 256) : fdivS (BitVec.ofNat 32 n.val) 64#32 = BitVec.ofNat 32 (n.val / 64) := by
  revert n; decide +kernel

theorem pay103_apply (i : Fin 128) (s : Fin 256) : k0_pay103 (ix2 i s) = BitVec.ofNat 32 (s.val % 128) := by
  have h : k0_pay103 (ix2 i s) = k0_pay103 (ix2 0 s) := by
    pointwise [k0_pay103]
  rw [h]
  clear h
  revert s; decide +kernel

theorem parity_apply (j : Fin 64) (l : Fin 128) : parity (ix2 j l) = if j.val / 32 = l.val / 64 then 1#1 else 0#1 := by
  have hj := j.isLt
  have hl := l.isLt
  unfold parity
  pointwise
  rw [fdiv_apply, fdiv_apply]
  pointwise
  have e1 := fdivS_32 ⟨j.val, by omega⟩
  have e2 := fdivS_64 ⟨l.val, by omega⟩
  simp only at e1 e2
  rw [e1, e2]
  refine (eq_bit ⟨j.val / 32, by omega⟩ ⟨l.val / 64, by omega⟩).trans ?_
  simp only [Fin.mk.injEq]

theorem causal_apply (i : Fin 128) (j : Fin 128) (s : Fin 256) (hs : s.val % 128 = j.val) :
    causal (ix2 i s) = if i.val / 32 = j.val / 32 ∧ j.val ≤ i.val then 1#1 else 0#1 := by
  have hi := i.isLt
  have hj := j.isLt
  unfold causal
  pointwise
  rw [fdiv_apply, fdiv_apply, pay103_apply, hs]
  pointwise
  have e1 := fdivS_32 ⟨i.val, by omega⟩
  have e2 := fdivS_32 ⟨j.val, by omega⟩
  simp only at e1 e2
  rw [e1, e2, le_bit]
  have e3 := eq_bit ⟨i.val / 32, by omega⟩ ⟨j.val / 32, by omega⟩
  simp only [Fin.mk.injEq] at e3
  rw [e3]
  by_cases h1 : i.val / 32 = j.val / 32 <;> by_cases h2 : j.val ≤ i.val <;> simp [h1, h2] <;> decide

theorem sum_chunk {α : Type} [AddCommMonoid α] {m c N : Nat} (hN : N = c * m) (hc : 0 < c) (n : Nat) (hn : n < m) (f : Fin N → α) :
    (∑ x : Fin N, if x.val / c = n then f x else 0) = ∑ e : Fin c, f ⟨c * n + e.val, by
      have h : c * n + c ≤ c * m := by rw [← Nat.mul_succ]; exact Nat.mul_le_mul_left c hn
      have := e.isLt
      omega⟩ := by
  rw [← Finset.sum_filter]
  symm
  refine Finset.sum_bij (fun e _ => ⟨c * n + e.val, by
      have h : c * n + c ≤ c * m := by rw [← Nat.mul_succ]; exact Nat.mul_le_mul_left c hn
      have := e.isLt
      omega⟩) ?_ ?_ ?_ ?_
  · intro e _
    simp only [Finset.mem_filter, Finset.mem_univ, true_and]
    rw [Nat.mul_add_div hc, Nat.div_eq_of_lt e.isLt, Nat.add_zero]
  · intro a _ b _ h
    have := congrArg Fin.val h
    simp only at this
    exact Fin.ext (by omega)
  · intro x hx
    simp only [Finset.mem_filter, Finset.mem_univ, true_and] at hx
    refine ⟨⟨x.val % c, Nat.mod_lt _ hc⟩, Finset.mem_univ _, Fin.ext ?_⟩
    simp only
    rw [← hx]; exact Nat.div_add_mod _ _
  · intro e _; rfl

theorem adds_apply (n : Fin 8) (u : Fin 4 → FVec Ideal S64x1024 .f32) (p : Fin 4) (r : Fin 64) (j : Fin 256) (l : Fin 128)
    (hj : j.val = 64 * p.val + r.val) :
    adds n u (ix2 j l) = if r.val / 32 = l.val / 64 then u p (ix2 r ⟨128 * n.val + l.val, by omega⟩) else 0 := by
  unfold adds
  rw [stack4_apply _ p r l j hj]
  pointwise
  rw [parity_apply]
  split_ifs <;> rfl

theorem up_apply (p : Fin 4) (k : FVec Ideal S256x256 .bf16) (v : FVec Ideal S256x512 .bf16) (r : Fin 64) (n : Fin 8) (l : Fin 128) :
    up p k v (ix2 r ⟨128 * n.val + l.val, by omega⟩) =
      ∑ e : Fin 32, k (ix2 ⟨64 * p.val + r.val, by omega⟩ ⟨32 * n.val + e.val, by omega⟩) *
        v (ix2 ⟨32 * n.val + e.val, by omega⟩ ⟨128 * p.val + l.val, by omega⟩) := by
  pointwise [up]
  rw [← sum_chunk (m := 8) (by rfl) (by omega) n.val n.isLt (fun x : Fin 256 => k (ix2 ⟨64 * p.val + r.val, by omega⟩ x) *
        v (ix2 x ⟨128 * p.val + l.val, by omega⟩))]
  refine Finset.sum_congr rfl fun x _ => ?_
  have hx := x.isLt
  rw [row8_apply _ n x l _ rfl, stack8_apply _ ⟨x.val / 32, by omega⟩ ⟨x.val % 32, by omega⟩ l x (by simp only; omega)]
  by_cases h : x.val / 32 = n.val
  · rw [if_pos h, decide_eq_true (Fin.ext h)]
    refine Eq.trans (b := k _ * extractStridedSlice S32x128 ![32 * (x.val / 32), 0] (extractStridedSlice S256x128 ![0, 128 * p.val] v (slices2 (by omega) (by omega))) (slices2 (a := 256) (b := 128) (by omega) (by omega)) (ix2 ⟨x.val % 32, by omega⟩ l)) rfl ?_
    pointwise
    refine congrArg (k _ * v ·) (congrArg (ix2 · _) (Fin.ext ?_))
    simp only
    omega
  · rw [if_neg h, decide_eq_false (fun e => h (congrArg Fin.val e))]
    exact mul_zero _

theorem inter_apply (n : Fin 8) (q : FVec Ideal S256x256 .f32) (st : Vec Ideal S256x128 .f32) (p : Fin 4) (r : Fin 32) (i l : Fin 128)
    (hi : i.val = 32 * p.val + r.val) (hst : ∀ j : Fin 256, j.val % 64 / 32 ≠ l.val / 64 → st (ix2 j l) = 0) :
    inter n q st (ix2 i l) = ∑ e : Fin 32, q (ix2 ⟨32 * n.val + r.val, by omega⟩ ⟨32 * (2 * p.val + l.val / 64) + e.val, by omega⟩) *
      st (ix2 ⟨32 * (2 * p.val + l.val / 64) + e.val, by omega⟩ l) := by
  have hl := l.isLt
  pointwise [inter]
  rw [← sum_chunk (m := 8) (by rfl) (by omega) (2 * p.val + l.val / 64) (by omega) (fun x : Fin 256 => q (ix2 ⟨32 * n.val + r.val, by omega⟩ x) *
        st (ix2 x l))]
  refine Finset.sum_congr rfl fun x _ => ?_
  have hx := x.isLt
  rw [stackQ_apply _ p r x i hi]
  pointwise
  rw [lanePair_apply, show x.val / 64 = (⟨x.val / 64, by omega⟩ : Fin 8).val from rfl, show p.val = (⟨p.val, by omega⟩ : Fin 8).val from rfl, eq_bit]
  by_cases h : x.val / 32 = 2 * p.val + l.val / 64
  · rw [if_pos h, if_pos (Fin.ext (by simp only; omega))]
    rfl
  · rw [if_neg h]
    by_cases h2 : x.val / 64 = p.val
    · rw [hst x (by omega), mul_zero]
      split_ifs <;> rfl
    · rw [if_neg (fun e => h2 (congrArg Fin.val e))]
      rfl

theorem out_apply (i : Fin 4 → Fin 2 → FVec Ideal S128x128 .f32) (r : Fin 8 → FVec Ideal S128x128 .f32) (s : Fin 256) (l : Fin 512)
    (n : Fin 8) (a : Fin 32) (p : Fin 4) (b : Fin 128) (hs : s.val = 32 * n.val + a.val) (hl : l.val = 128 * p.val + b.val) :
    out i r (ix3 0 s l) = i p ⟨s.val / 128, by omega⟩ (ix2 ⟨s.val % 128, by omega⟩ b) + r n (ix2 ⟨32 * p.val + a.val, by omega⟩ b) := by
  pointwise [out, k0_pay1]
  rw [row4_apply _ p s b l hl]
  pointwise
  rw [stack8_apply _ n a b s hs]
  pointwise
  have hs' := s.isLt
  by_cases h : s.val < 128
  · rw [dif_pos h]
    exact congrArg (· + _) (congr (congrArg (i p) (Fin.ext (by show 0 = s.val / 128; omega))) (congrArg (ix2 · b) (Fin.ext (by show s.val = s.val % 128; omega))))
  · rw [dif_neg h]
    exact congrArg (· + _) (congr (congrArg (i p) (Fin.ext (by show 1 = s.val / 128; omega))) (congrArg (ix2 · b) (Fin.ext (by show s.val - 128 = s.val % 128; omega))))

theorem sums_read (tri : Vec Ideal S256x512 .bf16) (la : Vec Ideal S1x256x256 .f32) (j : Fin 256) (s : Fin 512) :
    sums tri la (ix2 j s) = ∑ x : Fin 256, la (ix3 0 x j) * tri (ix2 x s) + ∑ x : Fin 256, (la (ix3 0 x j) - la (ix3 0 x j)) * tri (ix2 x s) := by
  pointwise [sums]

theorem bT_read (tri : Vec Ideal S256x512 .bf16) (la : Vec Ideal S1x256x256 .f32) (j s : Fin 256) :
    bT tri la (ix2 j s) = sums tri la (ix2 j ⟨s.val, by omega⟩) := by
  pointwise [bT]

theorem totT_read (tri : Vec Ideal S256x512 .bf16) (la : Vec Ideal S1x256x256 .f32) (j s : Fin 256) :
    totT tri la (ix2 j s) = sums tri la (ix2 j ⟨256 + s.val, by omega⟩) := by
  pointwise [totT]

theorem qIn_read (b : FVec Ideal S256x256 .f32) (q : Vec Ideal S1x256x256 .f32) (s j : Fin 256) :
    qIn b q (ix2 s j) = q (ix3 0 s j) * Ideal.exp (b (ix2 j s)) * Ideal.ofBits .f32 0x3E3504F3#32 := by
  pointwise [qIn]

theorem kIntra_read (b : FVec Ideal S256x256 .f32) (k : Vec Ideal S1x256x256 .f32) (s j : Fin 256) :
    kIntra (keysT k) b (ix2 j s) = k (ix3 0 s j) * Ideal.exp (0 - b (ix2 j s)) := by
  pointwise [kIntra, keysT]

theorem kState_read (b t : FVec Ideal S256x256 .f32) (k : Vec Ideal S1x256x256 .f32) (s j : Fin 256) :
    kState (keysT k) b t (ix2 j s) = k (ix3 0 s j) * Ideal.exp (t (ix2 j s) - b (ix2 j s)) := by
  pointwise [kState, keysT]

theorem decayT_read (t : FVec Ideal S256x256 .f32) (s j : Fin 256) : decayT t (ix2 j s) = Ideal.exp (t (ix2 j s)) := by
  pointwise [decayT]

theorem vals_read (v : Vec Ideal S1x256x512 .bf16) (s : Fin 256) (l : Fin 512) : vals v (ix2 s l) = v (ix3 0 s l) := by
  pointwise [vals]

theorem qBf_read (q : FVec Ideal S256x256 .f32) (s j : Fin 256) : qBf q (ix2 s j) = q (ix2 s j) := by
  pointwise [qBf]

theorem intra_read (p : Fin 4) (t : Fin 2) (q : FVec Ideal S256x256 .bf16) (k : FVec Ideal S256x256 .f32) (v : FVec Ideal S256x512 .bf16)
    (a : Fin 4) (r : Fin 32) (i l : Fin 128) (hi : i.val = 32 * a.val + r.val) :
    intra p t q k v (ix2 i l) =
      ∑ e : Fin 32, (if e.val ≤ r.val then
          ∑ f : Fin 32, q (ix2 ⟨128 * t.val + i.val, by omega⟩ ⟨32 * (2 * p.val + l.val / 64) + f.val, by omega⟩) *
            k (ix2 ⟨32 * (2 * p.val + l.val / 64) + f.val, by omega⟩ ⟨128 * t.val + (32 * a.val + e.val), by omega⟩)
        else 0) * v (ix2 ⟨128 * t.val + (32 * a.val + e.val), by omega⟩ ⟨128 * p.val + l.val, by omega⟩) := by
  have hl := l.isLt
  have hr := r.isLt
  have hi' := i.isLt
  pointwise [intra]
  have key : ∀ (c : Nat) (hc : c < 8) (x : Fin 128),
      (∑ y : Fin 256, Scalar.select (IntOp.cmpi .eq (rowHead (ix2 y 0)) (BitVec.ofNat 32 c))
        (q (ix2 ⟨128 * t.val + i.val, by omega⟩ y) * k (ix2 y ⟨128 * t.val + x.val, by omega⟩)) 0) =
      ∑ f : Fin 32, q (ix2 ⟨128 * t.val + i.val, by omega⟩ ⟨32 * c + f.val, by omega⟩) *
            k (ix2 ⟨32 * c + f.val, by omega⟩ ⟨128 * t.val + x.val, by omega⟩) := by
    intro c hc x
    rw [← sum_chunk (m := 8) (by rfl) (by omega) c hc (fun y : Fin 256 => q (ix2 ⟨128 * t.val + i.val, by omega⟩ y) * k (ix2 y ⟨128 * t.val + x.val, by omega⟩))]
    refine Finset.sum_congr rfl fun y _ => ?_
    have hy := y.isLt
    have e := eq_bit ⟨y.val / 32, by omega⟩ ⟨c, hc⟩
    simp only [Fin.mk.injEq] at e
    rw [rowHead_apply, e]
    split_ifs <;> rfl
  have half : ∀ (c : Nat) (hc : c < 8),
      (∑ x : Fin 128, if i.val / 32 = x.val / 32 ∧ x.val ≤ i.val then
        (∑ f : Fin 32, q (ix2 ⟨128 * t.val + i.val, by omega⟩ ⟨32 * c + f.val, by omega⟩) *
            k (ix2 ⟨32 * c + f.val, by omega⟩ ⟨128 * t.val + x.val, by omega⟩)) * v (ix2 ⟨128 * t.val + x.val, by omega⟩ ⟨128 * p.val + l.val, by omega⟩)
        else 0) =
      ∑ e : Fin 32, (if e.val ≤ r.val then
          ∑ f : Fin 32, q (ix2 ⟨128 * t.val + i.val, by omega⟩ ⟨32 * c + f.val, by omega⟩) *
            k (ix2 ⟨32 * c + f.val, by omega⟩ ⟨128 * t.val + (32 * a.val + e.val), by omega⟩)
        else 0) * v (ix2 ⟨128 * t.val + (32 * a.val + e.val), by omega⟩ ⟨128 * p.val + l.val, by omega⟩) := by
    intro c hc
    refine Eq.trans ?_ ((sum_chunk (m := 4) (c := 32) (N := 128) (by rfl) (by omega) a.val a.isLt (fun x : Fin 128 => (if x.val ≤ i.val then
        (∑ f : Fin 32, q (ix2 ⟨128 * t.val + i.val, by omega⟩ ⟨32 * c + f.val, by omega⟩) *
            k (ix2 ⟨32 * c + f.val, by omega⟩ ⟨128 * t.val + x.val, by omega⟩)) else 0) * v (ix2 ⟨128 * t.val + x.val, by omega⟩ ⟨128 * p.val + l.val, by omega⟩))).trans ?_)
    · refine Finset.sum_congr rfl fun x _ => ?_
      have hx := x.isLt
      by_cases h1 : x.val / 32 = a.val
      · rw [if_pos h1]
        by_cases h2 : x.val ≤ i.val
        · rw [if_pos h2, if_pos ⟨by omega, h2⟩]
        · rw [if_neg h2, if_neg (fun h => h2 h.2), zero_mul]
      · rw [if_neg h1, if_neg (fun h => h1 (by omega))]
    · refine Finset.sum_congr rfl fun e _ => ?_
      have he := e.isLt
      refine congrArg (· * _) ?_
      by_cases h : e.val ≤ r.val
      · rw [if_pos h, if_pos (by simp only; omega)]
      · rw [if_neg h, if_neg (by simp only; omega)]
  by_cases h : l.val < 64
  · have h0 : l.val / 64 = 0 := by omega
    simp only [h0, Nat.add_zero]
    rw [← half (2 * p.val) (by omega)]
    refine (congrArg₂ (· + ·) (Finset.sum_congr rfl fun x _ => ?_) (Finset.sum_eq_zero fun x _ => ?_)).trans (add_zero _)
    · rw [causal_apply i x _ (by simp only; omega), firstHalf_apply, if_pos h, key _ (by omega)]
      split_ifs <;> rfl
    · rw [causal_apply i x _ (by simp only; omega), firstHalf_apply, if_pos h]
      split_ifs <;> rfl
  · have h0 : l.val / 64 = 1 := by omega
    simp only [h0]
    rw [← half (2 * p.val + 1) (by omega)]
    refine (congrArg₂ (· + ·) (Finset.sum_eq_zero fun x _ => ?_) (Finset.sum_congr rfl fun x _ => ?_)).trans (zero_add _)
    · rw [causal_apply i x _ (by simp only; omega), firstHalf_apply, if_neg h]
      split_ifs <;> rfl
    · rw [causal_apply i x _ (by simp only; omega), firstHalf_apply, if_neg h, key _ (by omega)]
      split_ifs <;> rfl

theorem next_apply (n : Fin 8) (dec : FVec Ideal S256x256 .f32) (u : Fin 4 → FVec Ideal S64x1024 .f32) (st : Vec Ideal S256x128 .f32)
    (j : Fin 256) (l : Fin 128) :
    next n dec u st (ix2 j l) = dec (ix2 j ⟨32 * n.val, by omega⟩) * st (ix2 j l) + adds n u (ix2 j l) := by
  pointwise [next]

end Cert.GlaIdeal.Tile

end
-- ==== Proof.GlaMath.lean ====
/- The kernel's tiles compute the recurrence of GlaSpec.lean, in extended-real arithmetic. -/
module

public import proofs.«01_k».proof.Proof.GlaRead
public import proofs.«01_k».proof.Proof.GlaSpec

@[expose] public section

set_option maxRecDepth 16384
set_option maxHeartbeats 1000000

noncomputable section

namespace Cert.GlaIdeal.Tile

open Cert.GlaIdeal Cert.GlaIdeal.Gen Idealize.ShloMosaic Idealize.ShloMosaic.TcCoe Idealize.SL.Sem Cert.GlaSpec

/-- The table of ones: the left half marks the rows of the chunk up to the column's own, the right half the whole chunk. -/
structure IsTri (tri : Vec Ideal S256x512 .bf16) : Prop where
  left : ∀ x s : Fin 256, tri (ix2 x ⟨s.val, by omega⟩) = if x.val / 32 = s.val / 32 ∧ x.val ≤ s.val then 1 else 0
  right : ∀ x s : Fin 256, tri (ix2 x ⟨256 + s.val, by omega⟩) = if x.val / 32 = s.val / 32 then 1 else 0

theorem split_one (a : EReal) (h : a ≠ ⊤) : a * 1 + (a - a) * 1 = a := by
  rw [mul_one, mul_one]
  induction a with
  | bot => rfl
  | top => exact absurd rfl h
  | coe x => rw [← EReal.coe_sub, sub_self, EReal.coe_zero, add_zero]

section
variable {tri : Vec Ideal S256x512 .bf16} (htri : IsTri tri) (q k : Vec Ideal S1x2048x256 .f32) (v : Vec Ideal S1x2048x512 .bf16)
  (la : Vec Ideal S1x2048x256 .f32) (hla : ∀ y, la y ≠ ⊤) (t n : Fin 8)

/-- A sequence's rows. -/
def at3 {m : Nat} (x : (⟨3, ![1, 2048, m]⟩ : Shape).Idx → EReal) (s : Fin 2048) (j : Fin m) : EReal := x (ix3 0 s j)

def chunk (t n : Fin 8) : Fin 64 := ⟨8 * t.val + n.val, by omega⟩

theorem rows_apply {m : Nat} (x : (⟨3, ![1, 2048, m]⟩ : Shape).Idx → EReal) (r : Fin 32) (s : Fin 256) (hs : s.val = 32 * n.val + r.val) (j : Fin m) :
    rows x t (ix3 0 s j) = at3 x (row (chunk t n) r) j := by
  show x (ix3 0 ⟨256 * t.val + s.val, _⟩ j) = x (ix3 0 _ j)
  refine congrArg (fun a => x (ix3 0 a j)) (Fin.ext ?_)
  show 256 * t.val + s.val = 32 * (8 * t.val + n.val) + r.val
  omega

include hla in
theorem sums_apply (j : Fin 256) (s : Fin 512) (P : Fin 32 → Prop) [DecidablePred P]
    (h : ∀ x : Fin 256, tri (ix2 x s) = if x.val / 32 = n.val ∧ P ⟨x.val % 32, by omega⟩ then 1 else 0) :
    sums tri (rows la t) (ix2 j s) = ∑ e : Fin 32, if P e then at3 la (row (chunk t n) e) j else 0 := by
  rw [sums_read, ← Finset.sum_add_distrib]
  refine Eq.trans ?_ ((sum_chunk (m := 8) (c := 32) (N := 256) (by rfl) (by omega) n.val n.isLt (fun x : Fin 256 => if P ⟨x.val % 32, by omega⟩ then rows la t (ix3 0 x j) else 0)).trans ?_)
  · refine Finset.sum_congr rfl fun x _ => ?_
    rw [h x]
    by_cases h1 : x.val / 32 = n.val
    · by_cases h2 : P ⟨x.val % 32, by omega⟩
      · rw [if_pos ⟨h1, h2⟩, if_pos h1, if_pos h2]
        exact split_one _ (hla _)
      · rw [if_neg (fun h => h2 h.2), if_pos h1, if_neg h2, mul_zero, mul_zero, add_zero]
    · rw [if_neg (fun h => h1 h.1), if_neg h1, mul_zero, mul_zero, add_zero]
  · refine Finset.sum_congr rfl fun e _ => ?_
    have he := e.isLt
    have : (⟨(32 * n.val + e.val) % 32, by omega⟩ : Fin 32) = e := Fin.ext (by simp only; omega)
    simp only [this]
    rw [rows_apply t n la e _ rfl]

include htri hla in
theorem bT_apply (r : Fin 32) (s : Fin 256) (hs : s.val = 32 * n.val + r.val) (j : Fin 256) :
    bT tri (rows la t) (ix2 j s) = sumTo (at3 la) (chunk t n) r j := by
  rw [bT_read, sums_apply la hla t n j _ (fun e => e.val ≤ r.val) (fun x => ?_)]
  · rfl
  · have hx := x.isLt
    have hr := r.isLt
    rw [htri.left x s]
    refine if_congr ?_ rfl rfl
    simp only
    omega

include htri hla in
theorem totT_apply (r : Fin 32) (s : Fin 256) (hs : s.val = 32 * n.val + r.val) (j : Fin 256) :
    totT tri (rows la t) (ix2 j s) = total (at3 la) (chunk t n) j := by
  rw [totT_read, sums_apply la hla t n j _ (fun _ => True) (fun x => ?_)]
  · exact Finset.sum_congr rfl fun e _ => if_pos trivial
  · have hx := x.isLt
    have hr := r.isLt
    rw [htri.right x s]
    refine if_congr ?_ rfl rfl
    simp only [and_true]
    omega

include htri hla in
theorem qIn_apply (r : Fin 32) (s : Fin 256) (hs : s.val = 32 * n.val + r.val) (j : Fin 256) :
    qIn (bT tri (rows la t)) (rows q t) (ix2 s j) = query (at3 q) (at3 la) (chunk t n) r j := by
  rw [qIn_read, bT_apply htri la hla t n r s hs, rows_apply t n q r s hs]; rfl

include htri hla in
theorem kIntra_apply (r : Fin 32) (s : Fin 256) (hs : s.val = 32 * n.val + r.val) (j : Fin 256) :
    kIntra (keysT (rows k t)) (bT tri (rows la t)) (ix2 j s) =
      at3 k (row (chunk t n) r) j * Ideal.exp (0 - sumTo (at3 la) (chunk t n) r j) := by
  rw [kIntra_read, bT_apply htri la hla t n r s hs, rows_apply t n k r s hs]

include htri hla in
theorem kState_apply (r : Fin 32) (s : Fin 256) (hs : s.val = 32 * n.val + r.val) (j : Fin 256) :
    kState (keysT (rows k t)) (bT tri (rows la t)) (totT tri (rows la t)) (ix2 j s) =
      at3 k (row (chunk t n) r) j * Ideal.exp (total (at3 la) (chunk t n) j - sumTo (at3 la) (chunk t n) r j) := by
  rw [kState_read, bT_apply htri la hla t n r s hs, totT_apply htri la hla t n r s hs, rows_apply t n k r s hs]

/-- The head of a pair's value lane. -/
def headOf (p : Fin 4) (l : Fin 128) : Fin 8 := ⟨2 * p.val + l.val / 64, by omega⟩

def laneOf (l : Fin 128) : Fin 64 := ⟨l.val % 64, by omega⟩

theorem val_headOf (p : Fin 4) (l : Fin 128) (h : 128 * p.val + l.val < 512) : (⟨128 * p.val + l.val, h⟩ : Fin 512) = val (headOf p l) (laneOf l) :=
  Fin.ext (by show 128 * p.val + l.val = 64 * (2 * p.val + l.val / 64) + l.val % 64; omega)

include htri hla in
theorem tI_apply (p : Fin 4) (r : Fin 32) (s : Fin 256) (hs : s.val = 32 * n.val + r.val) (l : Fin 128) :
    tI tri (rows q t) (rows k t) (rows v t) (rows la t) p ⟨s.val / 128, by omega⟩ (ix2 ⟨s.val % 128, by omega⟩ l) =
      within (at3 q) (at3 k) (at3 v) (at3 la) (chunk t n) r (headOf p l) (laneOf l) := by
  have hr := r.isLt
  have hn := n.isLt
  unfold tI
  rw [intra_read p _ _ _ _ ⟨n.val % 4, by omega⟩ r _ l (by simp only; omega)]
  unfold GlaSpec.within
  refine Finset.sum_congr rfl fun e _ => ?_
  have he := e.isLt
  rw [vals_read, rows_apply t n v e _ (by simp only; omega), val_headOf]
  refine congrArg (· * _) ?_
  unfold weight
  refine if_congr Iff.rfl (Finset.sum_congr rfl fun f _ => ?_) rfl
  rw [qBf_read, qIn_apply htri q la hla t n r _ (by simp only; omega), kIntra_apply htri k la hla t n e _ (by simp only; omega)]
  rfl

include htri hla in
theorem adds_tU (p : Fin 4) (r : Fin 64) (j : Fin 256) (hj : j.val = 64 * p.val + r.val) (l : Fin 128) :
    adds n (tU tri (rows k t) (rows v t) (rows la t)) (ix2 j l) =
      if j.val % 64 / 32 = l.val / 64 then
        added (at3 k) (at3 v) (at3 la) (chunk t n) (headOf p l) ⟨j.val % 32, by omega⟩ (laneOf l)
      else 0 := by
  have hr := r.isLt
  rw [adds_apply n _ p r j l hj]
  by_cases h : j.val % 64 / 32 = l.val / 64
  · rw [if_pos h, if_pos (by omega)]
    unfold tU
    rw [up_apply]
    unfold added
    refine Finset.sum_congr rfl fun e _ => ?_
    have he := e.isLt
    rw [kState_apply htri k la hla t n e _ rfl, vals_read, rows_apply t n v e _ rfl, val_headOf,
      show (⟨64 * p.val + r.val, by omega⟩ : Fin 256) = key (headOf p l) ⟨j.val % 32, by omega⟩ from
        Fin.ext (by show 64 * p.val + r.val = 32 * (2 * p.val + l.val / 64) + j.val % 32; omega)]
  · rw [if_neg h, if_neg (by omega)]

/-- The kernel's state: a head's block where the key row and the value lane belong to the same head of a pair, zero elsewhere. -/
def Holds (g : Nat) (st : Vec Ideal S256x128 .f32) : Prop :=
  ∀ (p : Fin 4) (r : Fin 64) (j : Fin 256) (_ : j.val = 64 * p.val + r.val) (l : Fin 128), st (ix2 j l) =
    if j.val % 64 / 32 = l.val / 64 then state (at3 k) (at3 v) (at3 la) g (headOf p l) ⟨j.val % 32, by omega⟩ (laneOf l) else 0

include htri hla in
theorem tS_holds (st : Vec Ideal S256x128 .f32) (h : Holds k v la (8 * t.val) st) (m : Nat) (hm : m ≤ 8) :
    Holds k v la (8 * t.val + m) (tS tri (rows k t) (rows v t) (rows la t) st m) := by
  induction m with
  | zero => exact h
  | succ m ih =>
    have ih := ih (by omega)
    intro p r j hj l
    have hr := r.isLt
    have ht := t.isLt
    have hm' : (Fin.ofNat 8 m).val = m := Nat.mod_eq_of_lt (by omega)
    have hg : chunk t (Fin.ofNat 8 m) = Fin.ofNat 64 (8 * t.val + m) := Fin.ext (by
      show 8 * t.val + (Fin.ofNat 8 m).val = (8 * t.val + m) % 64
      rw [hm']; omega)
    show next (Fin.ofNat 8 m) _ _ _ (ix2 j l) = _
    rw [next_apply, ih p r j hj l, adds_tU htri k v la hla t _ p r j hj l, decayT_read,
      totT_apply htri la hla t (Fin.ofNat 8 m) 0 _ rfl, hg]
    by_cases hp : j.val % 64 / 32 = l.val / 64
    · rw [if_pos hp, if_pos hp, if_pos hp]
      have hk : j = key (headOf p l) ⟨j.val % 32, by omega⟩ :=
        Fin.ext (by show j.val = 32 * (2 * p.val + l.val / 64) + j.val % 32; omega)
      exact congrArg₂ (· + ·) (congrArg (fun a => Ideal.exp (total (at3 la) (Fin.ofNat 64 (8 * t.val + m)) a) * _) hk) rfl
    · rw [if_neg hp, if_neg hp, if_neg hp, mul_zero, add_zero]

include htri hla in
theorem stateAt_holds (m : Nat) (hm : m ≤ 8) : Holds k v la (8 * m) (stateAt tri k v la m) := by
  induction m with
  | zero =>
    intro p r j hj l
    show k0_pay2 (F := Ideal) (ix2 j l) = _
    have : k0_pay2 (F := Ideal) (ix2 j l) = 0 := by pointwise [k0_pay2]
    rw [this]
    split_ifs <;> rfl
  | succ m ih =>
    have hm' : (Fin.ofNat 8 m).val = m := Nat.mod_eq_of_lt (by omega)
    have := tS_holds htri k v la hla (Fin.ofNat 8 m) (stateAt tri k v la m) (by rw [hm']; exact ih (by omega)) 8 (by omega)
    rw [hm'] at this
    exact this

include htri hla in
/-- A tile's result. -/
theorem tOut_apply (p : Fin 4) (r : Fin 32) (s : Fin 256) (hs : s.val = 32 * n.val + r.val) (l : Fin 128) (c : Fin 512) (hc : c.val = 128 * p.val + l.val) :
    tOut tri (rows q t) (rows k t) (rows v t) (rows la t) (stateAt tri k v la t.val) (ix3 0 s c) =
      result (at3 q) (at3 k) (at3 v) (at3 la) (chunk t n) r (headOf p l) (laneOf l) := by
  have hr := r.isLt
  have hn := n.isLt
  have hl := l.isLt
  have hS := tS_holds htri k v la hla t _ (stateAt_holds htri k v la hla t.val (by omega)) n.val (by omega)
  unfold tOut
  rw [out_apply _ _ s c n r p l hs hc, tI_apply htri q k v la hla t n p r s hs l]
  unfold result
  refine congrArg (_ + ·) ?_
  unfold tR
  rw [inter_apply n _ _ p r _ l rfl (fun j hj => by
    rw [hS ⟨j.val / 64, by omega⟩ ⟨j.val % 64, by omega⟩ j (by simp only; omega) l, if_neg hj])]
  refine Finset.sum_congr rfl fun f _ => ?_
  have hf := f.isLt
  rw [qIn_apply htri q la hla t n r _ rfl, hS p ⟨32 * (l.val / 64) + f.val, by omega⟩ _ (by simp only; omega) l, if_pos (by simp only; omega)]
  refine congrArg₂ (· * ·) rfl ?_
  refine congrArg (fun a => state (at3 k) (at3 v) (at3 la) (8 * t.val + n.val) (headOf p l) a (laneOf l)) (Fin.ext ?_)
  simp only
  omega

end

end Cert.GlaIdeal.Tile

end
-- ==== Proof.GlaArray.lean ====
/- The forward recurrence's result array, as its mathematics over the kernel's arguments. -/
module

public import proofs.«01_k».proof.Proof.GlaSeq
public import proofs.«01_k».proof.Proof.GlaMath
public import Idealize.ShloMosaic.Lib.Pointwise
public import Idealize.ShloMosaic.Lib.Pipeline.ValueKit
public import Idealize.ShloMosaic.Lib.StableHlo.RunRead
public import Idealize.ShloMosaic.Lib.WordCmp

@[expose] public section

set_option maxRecDepth 16384

noncomputable section

namespace Cert.GlaIdeal.Tile

open Cert.GlaIdeal Cert.GlaIdeal.Gen Idealize.ShloMosaic Idealize.ShloMosaic.TcCoe Idealize.SL.Sem Cert.GlaSpec
open Idealize.ShloMosaic.Pipeline (Dat)

variable (m : (ℓ : Loc nD τ sig) → Buf (Elt Ideal) ℓ) (c : Dev nD)

def qArr : Vec Ideal S16x2048x256 .f32 := m ((c : Thread nD τ).loc main_arg0)
def kArr : Vec Ideal S16x2048x256 .f32 := m ((c : Thread nD τ).loc main_arg1)
def vArr : Vec Ideal S16x2048x512 .bf16 := m ((c : Thread nD τ).loc main_arg2)
def laArr : Vec Ideal S16x2048x256 .f32 := m ((c : Thread nD τ).loc main_arg3)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)

theorem blk1 (t : Fin cfg0.N) (b : Fin 16) (hb : b.val = t.val) (s : Fin 2048) (j : Fin 256) :
    (iblk m c 1 t : Vec Ideal S1x2048x256 .f32) (ix3 0 s j) = qArr m c (ix3 b s j) := by
  unfold qArr
  blk_ext! [iblk, idx1 t]

theorem blk2 (t : Fin cfg0.N) (b : Fin 16) (hb : b.val = t.val) (s : Fin 2048) (j : Fin 256) :
    (iblk m c 2 t : Vec Ideal S1x2048x256 .f32) (ix3 0 s j) = kArr m c (ix3 b s j) := by
  unfold kArr
  blk_ext! [iblk, idx2 t]

theorem blk3 (t : Fin cfg0.N) (b : Fin 16) (hb : b.val = t.val) (s : Fin 2048) (j : Fin 512) :
    (iblk m c 3 t : Vec Ideal S1x2048x512 .bf16) (ix3 0 s j) = vArr m c (ix3 b s j) := by
  unfold vArr
  blk_ext! [iblk, idx3 t]

theorem blk4 (t : Fin cfg0.N) (b : Fin 16) (hb : b.val = t.val) (s : Fin 2048) (j : Fin 256) :
    (iblk m c 4 t : Vec Ideal S1x2048x256 .f32) (ix3 0 s j) = laArr m c (ix3 b s j) := by
  unfold laArr
  blk_ext! [iblk, idx4 t]

theorem bit_of (p : Prop) [Decidable p] : BitVec.ofBool (decide p) = if p then 1#1 else 0#1 := by
  by_cases h : p
  · rw [decide_eq_true h, if_pos h]; rfl
  · rw [decide_eq_false h, if_neg h]; rfl

/-- The floored quotient of a row's number by a chunk's length, as the host computes it. -/
def quot (w : BitVec 32) : BitVec 32 :=
  Scalar.select
    (IntOp.andi
      (IntOp.cmpi CmpIPredicate.ne (if w = 0 then (0 : BitVec 32) else if w.msb = true then -1 else 1)
        (if 32#32 = 0 then (0 : BitVec 32) else if (32#32).msb = true then -1 else 1))
      (IntOp.cmpi CmpIPredicate.ne (IntOp.remsi ArithUnit.host w 32#32) 0#32))
    (IntOp.subi (IntOp.divsi ArithUnit.host w 32#32) 1#32)
    (IntOp.divsi ArithUnit.host w 32#32)

theorem quot_ofNat (a : Nat) (ha : a < 256) : quot (BitVec.ofNat 32 a) = BitVec.ofNat 32 (a / 32) := by
  have h : ∀ a : Fin 256, quot (BitVec.ofNat 32 a.val) = BitVec.ofNat 32 (a.val / 32) := by decide +kernel
  exact h ⟨a, ha⟩

/-- The table's bits: in the left half a row and a later row of its chunk, in the right half two rows of a chunk. -/
theorem tri_entry (i : Fin 256) (k : Fin 512) : (V m c main_v16 : Vec Ideal S256x512 .bf16) (ix2 i k) =
    FloatOps.uitofp (F := Ideal) FTy.bf16 (if k.val < 256 then
      IntOp.andi (IntOp.cmpi CmpIPredicate.eq (quot (BitVec.ofNat 32 k.val)) (quot (BitVec.ofNat 32 i.val)))
        (IntOp.cmpi CmpIPredicate.sle (BitVec.ofNat 32 i.val) (BitVec.ofNat 32 k.val))
      else IntOp.cmpi CmpIPredicate.eq (quot (BitVec.ofNat 32 i.val)) (quot (BitVec.ofNat 32 (k.val - 256)))) := by
  unfold V
  simp only [List.flatten_cons, List.flatten_nil, List.append_nil, hostOps0, hostOps0_1, hostOps0_2, hostOps0_3, hostOps0_4, List.cons_append, List.nil_append]
  after_reads_simp
  pointwise
  after_reads_simp
  simp only [StableHlo.TRef.ofBuf, StableHlo.TRef.toBuf, cast_eq, id_eq]
  pointwise
  by_cases hk : k.val < 256
  · rw [dif_pos hk, if_pos hk]
    rfl
  · rw [dif_neg hk, if_neg hk]
    rfl

theorem uitofp_bit (p : Prop) [Decidable p] : (FloatOps.uitofp (F := Ideal) FTy.bf16 (if p then 1#1 else 0#1) : EReal) = if p then 1 else 0 := by
  by_cases h : p
  · rw [if_pos h, if_pos h]
    show (((1#1 : BitVec 1).toNat : ℝ) : EReal) = 1
    simp
  · rw [if_neg h, if_neg h]
    show (((0#1 : BitVec 1).toNat : ℝ) : EReal) = 0
    simp

theorem blk0 (t : Fin cfg0.N) (i : Fin 256) (k : Fin 512) :
    (iblk m c 0 t : Vec Ideal S256x512 .bf16) (ix2 i k) = V m c main_v16 (ix2 i k) := by
  blk_ext [iblk, idx0 t]

theorem isTri (t : Fin cfg0.N) : IsTri (iblk m c 0 t : Vec Ideal S256x512 .bf16) where
  left x s := by
    rw [blk0, tri_entry, if_pos (show s.val < 256 from s.isLt), quot_ofNat _ s.isLt, quot_ofNat _ x.isLt,
      WordCmp.cmpi_eq_ofNat (by omega) (by omega), WordCmp.cmpi_sle_ofNat (by omega) (by omega), bit_of, bit_of,
      show IntOp.andi (if s.val / 32 = x.val / 32 then 1#1 else 0#1) (if x.val ≤ s.val then 1#1 else 0#1) =
        if x.val / 32 = s.val / 32 ∧ x.val ≤ s.val then 1#1 else 0#1 by
          by_cases h1 : s.val / 32 = x.val / 32
          · by_cases h2 : x.val ≤ s.val
            · rw [if_pos h1, if_pos h2, if_pos ⟨h1.symm, h2⟩]; rfl
            · rw [if_pos h1, if_neg h2, if_neg fun h => h2 h.2]; rfl
          · by_cases h2 : x.val ≤ s.val
            · rw [if_neg h1, if_pos h2, if_neg fun h => h1 h.1.symm]; rfl
            · rw [if_neg h1, if_neg h2, if_neg fun h => h1 h.1.symm]; rfl]
    exact uitofp_bit _
  right x s := by
    have hs : (256 + s.val) - 256 = s.val := by omega
    rw [blk0, tri_entry, if_neg (show ¬256 + s.val < 256 by omega)]
    simp only [hs]
    rw [quot_ofNat _ s.isLt, quot_ofNat _ x.isLt, WordCmp.cmpi_eq_ofNat (by omega) (by omega), bit_of]
    exact uitofp_bit _

/-- The result over the kernel's arguments. -/
def G (b : Fin 16) (s : Fin 2048) (l : Fin 512) : EReal :=
  result (fun s j => qArr m c (ix3 b s j)) (fun s j => kArr m c (ix3 b s j)) (fun s j => vArr m c (ix3 b s j)) (fun s j => laArr m c (ix3 b s j))
    ⟨s.val / 32, by omega⟩ ⟨s.val % 32, by omega⟩ ⟨l.val / 64, by omega⟩ ⟨l.val % 64, by omega⟩

/-- The kernel's result array is the recurrence. -/
theorem arr_eq (hla : ∀ y, laArr m c y ≠ ⊤) : (dats m 0 c).arrAt 5 cfg0.N = (fun y => G m c (y 0) (y 1) (y 2) : S16x2048x512.Idx → EReal) := by
  refine (dats m 0 c).arrAt_eq_of_covers 5 _ (by decide +kernel) fun t hf y => ?_
  blk_simp
  rw [after0_5]
  unfold outsAt0
  obtain ⟨z, s, l, rfl⟩ : ∃ (z : Fin 1) (s : Fin 2048) (l : Fin 512), y = ix3 z s l :=
    ⟨y 0, y 1, y 2, by funext d; match d with | 0 => rfl | 1 => rfl | 2 => rfl⟩
  have hz : z = 0 := Subsingleton.elim _ _
  subst hz
  have hN : t.val < 16 := t.isLt
  have hs := s.isLt
  have hl := l.isLt
  have hr : (((cfg0.win 5).blk t).view.emb (ix3 0 s l) : S16x2048x512.Idx) = ix3 (⟨t.val, hN⟩ : Fin 16) s l := by
    blk_ext [idx5 t]
  have h0 := congrFun hr 0
  have h1 := congrFun hr 1
  have h2 := congrFun hr 2
  refine Eq.trans ?_ (congr (congrArg₂ (G m c) h0.symm h1.symm) h2.symm)
  have e1 : at3 (iblk m c 1 t : Vec Ideal S1x2048x256 .f32) = fun s j => qArr m c (ix3 (⟨t.val, hN⟩ : Fin 16) s j) :=
    funext fun s => funext fun j => blk1 m c t ⟨t.val, hN⟩ rfl s j
  have e2 : at3 (iblk m c 2 t : Vec Ideal S1x2048x256 .f32) = fun s j => kArr m c (ix3 (⟨t.val, hN⟩ : Fin 16) s j) :=
    funext fun s => funext fun j => blk2 m c t ⟨t.val, hN⟩ rfl s j
  have e3 : at3 (iblk m c 3 t : Vec Ideal S1x2048x512 .bf16) = fun s j => vArr m c (ix3 (⟨t.val, hN⟩ : Fin 16) s j) :=
    funext fun s => funext fun j => blk3 m c t ⟨t.val, hN⟩ rfl s j
  have e4 : at3 (iblk m c 4 t : Vec Ideal S1x2048x256 .f32) = fun s j => laArr m c (ix3 (⟨t.val, hN⟩ : Fin 16) s j) :=
    funext fun s => funext fun j => blk4 m c t ⟨t.val, hN⟩ rfl s j
  have hla' : ∀ y, (iblk m c 4 t : Vec Ideal S1x2048x256 .f32) y ≠ (⊤ : EReal) := by
    intro y
    obtain ⟨z, s, l, rfl⟩ : ∃ (z : Fin 1) (s : Fin 2048) (l : Fin 256), y = ix3 z s l :=
      ⟨y 0, y 1, y 2, by funext d; match d with | 0 => rfl | 1 => rfl | 2 => rfl⟩
    have hz : z = 0 := Subsingleton.elim _ _
    subst hz
    rw [blk4 m c t ⟨t.val, hN⟩ rfl s l]
    exact hla _
  refine (out_eq _ _ _ _ _ _ _ _ _ _ _ _ _ _ _ _ _ _ _ _ _ _ _).trans ?_
  unfold seqOut
  refine (tOut_apply (isTri m c t) _ _ _ _ hla' (⟨s.val / 256, by omega⟩ : Fin 8) (⟨s.val % 256 / 32, by omega⟩ : Fin 8) (⟨l.val / 128, by omega⟩ : Fin 4)
    (⟨s.val % 32, by omega⟩ : Fin 32) (⟨s.val % 256, by omega⟩ : Fin 256) (by show s.val % 256 = 32 * (s.val % 256 / 32) + s.val % 32; omega)
    (⟨l.val % 128, by omega⟩ : Fin 128) l (by show l.val = 128 * (l.val / 128) + l.val % 128; omega)).trans ?_
  rw [e1, e2, e3, e4]
  unfold G
  refine congr (congr (congr (congrArg _ (Fin.ext ?_)) rfl) (Fin.ext ?_)) (Fin.ext ?_)
  · show 8 * (s.val / 256) + s.val % 256 / 32 = s.val / 32; omega
  · show 2 * (l.val / 128) + l.val % 128 / 64 = l.val / 64; omega
  · show l.val % 128 % 64 = l.val % 64; omega

end Cert.GlaIdeal.Tile

end
-- ==== Proof.GlaClaims.lean ====
/- The forward recurrence's claims: its reference's frame, and the one array both programs end with where every decay's
   logarithm is below +inf. -/
module

public import proofs.«01_k».proof.Defs
public import proofs.«01_k».proof.Proof.Gen.GlaRefIdeal
public import proofs.«01_k».proof.Proof.Gen.GlaRefIdeal.Run
public import proofs.«01_k».proof.Proof.Gen.Gla.Frame
public import proofs.«01_k».proof.Proof.Gen.GlaIdeal.Value
public import proofs.«01_k».proof.Proof.Gen.Pre_decays_below_inf
public import proofs.«01_k».proof.Proof.GlaRefRead
public import proofs.«01_k».proof.Proof.GlaRefStep
public import proofs.«01_k».proof.Proof.GlaArray
public import Idealize.ShloMosaic.Lib.KernelVsHost
public import Idealize.ShloMosaic.Adequacy
public import Idealize.ShloMosaic.Init

@[expose] public section

noncomputable section

namespace Cert.Proof

open Idealize.ShloMosaic Idealize.SL.Sem

theorem glaRef_frame : Cert.quiescent_GlaRefIdeal (hGlaRefIdeal := Cert.GlaRefIdeal.Gen.facts) := fun m ρ _ =>
  (θ_run Cert.GlaRefIdeal.defs _ _).mono
    (fun r h => ⟨fun c => (h c).2, sem_eq_zero_of_no_sems (by decide) r.2⟩) (Cert.GlaRefIdeal.Value.run m ρ)

/-- The precondition says that no decay's logarithm is `⊤`. -/
theorem decays_ne_top (m : (ℓ : Loc Cert.GlaIdeal.nD Cert.GlaIdeal.τ Cert.GlaIdeal.sig) → Buf (Elt Ideal) ℓ)
    (h : Cert.Pre_GlaIdeal_decays_below_inf (hPre_decays_below_inf := Cert.Pre_decays_below_inf.Gen.facts) m) (c : Dev Cert.GlaIdeal.nD)
    (y : Cert.GlaIdeal.S16x2048x256.Idx) : (Cert.GlaIdeal.Tile.laArr m c y : EReal) ≠ ⊤ := fun hy => by
  have e := congrFun (h c) y
  simp only [Cert.Pre_decays_below_inf.fn, cmpf, broadcastInDim, constant] at e
  have e' : FloatOps.cmpf (F := Ideal) (φ := .f32) .olt (Cert.GlaIdeal.Tile.laArr m c y) (FloatOps.ofBits .f32 0x7F800000#32) = 1#1 := e
  rw [hy] at e'
  simp [FloatOps.cmpf, Ideal.cmp] at e'

theorem gla_algebraic : Cert.algebraic_GlaIdeal_GlaRefIdeal_pre_decays_below_inf (hGlaIdeal := Cert.GlaIdeal.Gen.facts)
    (hGlaRefIdeal := Cert.GlaRefIdeal.Gen.facts) (hPre_decays_below_inf := Cert.Pre_decays_below_inf.Gen.facts) := by
  intro m ρ m' ρ' hpre hargs
  refine ⟨fun c => (Cert.GlaIdeal.Gen.dats m 0 c).arrAt 5 Cert.GlaIdeal.cfg0.N, Cert.GlaIdeal.Value.run_blocks m ρ, ?_⟩
  refine (θ_run Cert.GlaRefIdeal.defs _ _).mono (fun r h c => ⟨?_, (h c).2⟩)
    (Cert.GlaRefIdeal.Loop.run_iter m' ρ' (fun c => Cert.GlaRefIdeal.Math.states
      (m' ((c.tc : Thread Cert.GlaRefIdeal.nD Cert.GlaRefIdeal.τ).loc Cert.GlaRefIdeal.main_arg0))
      (m' ((c.tc : Thread Cert.GlaRefIdeal.nD Cert.GlaRefIdeal.τ).loc Cert.GlaRefIdeal.main_arg1))
      (m' ((c.tc : Thread Cert.GlaRefIdeal.nD Cert.GlaRefIdeal.τ).loc Cert.GlaRefIdeal.main_arg2))
      (m' ((c.tc : Thread Cert.GlaRefIdeal.nD Cert.GlaRefIdeal.τ).loc Cert.GlaRefIdeal.main_arg3))) (fun _ => rfl) (fun _ _ => rfl))
  obtain ⟨h0, h1, h2, h3⟩ := hargs c
  rw [(h c).1]
  refine Eq.trans ?_ (Cert.GlaIdeal.Tile.arr_eq m c (decays_ne_top m hpre c)).symm
  funext y
  obtain ⟨b, s, l, rfl⟩ : ∃ (b : Fin 16) (s : Fin 2048) (l : Fin 512), y = ix3 b s l :=
    ⟨y 0, y 1, y 2, by funext d; match d with | 0 => rfl | 1 => rfl | 2 => rfl⟩
  refine (Cert.GlaRefIdeal.Math.result_apply _ _ _ _ b 0 s l).trans ?_
  rw [h0, h1, h2, h3]
  rfl

end Cert.Proof

end
-- ==== Proof.FfnSBlock.lean ====
/- The feed-forward kernel's block: what one grid point leaves in its output tile, as one term over the tile's input
   blocks. The 2816 hidden columns are worked in eleven chunks of 256, every chunk by the same function of its columns. -/
module

public import proofs.«01_k».proof.Proof.Gen.FfnSIdeal.Value
public import Idealize.ShloMosaic.Lib.Pointwise
public import Idealize.ShloMosaic.Lib.Pipeline.ValueKit

@[expose] public section

set_option maxRecDepth 16384

noncomputable section

namespace Cert.FfnSIdeal.Block

open Cert.FfnSIdeal Cert.FfnSIdeal.Gen Idealize.ShloMosaic Idealize.ShloMosaic.TcCoe Idealize.SL.Sem
open Idealize.ShloMosaic.Pipeline (Dat)

variable {F : FTy → Type} [FloatOps F]

/-- One chunk of 256 hidden columns: the gated activation of the tile's rows, from the normalised rows `hb`, the
    normalised rows before and after the tile `halo` (rows 7 and 8 are the two neighbours), the chunk's columns of the
    two halves of the up-projection, and of the convolution's weights and bias. -/
def chunk (b0 b1 : BitVec 1) (hb : FVec F S1024x1024 .bf16) (halo : FVec F S16x1024 .bf16) (wa wg : Vec F S1024x256 .bf16)
    (cw : Vec F S3x256 .f32) (cb : Vec F S1x256 .f32) : FVec F S1024x256 .bf16 :=
  k0_pay20 (k0_pay16 hb wg)
    (k0_pay17 b0 b1 halo (iota .tc S1024x1 32 [0] iota_S1024x1_d0_w32) (k0_pay14 wa) (k0_pay15 hb wa) cw cb)
    (k0_pay18 b0 b1 halo (iota .tc S1024x1 32 [0] iota_S1024x1_d0_w32) (k0_pay14 wa) (k0_pay15 hb wa) cw cb)
    (k0_pay19 b0 b1 halo (iota .tc S1024x1 32 [0] iota_S1024x1_d0_w32) (k0_pay14 wa) (k0_pay15 hb wa) cw cb)

/-- Whether the tile's first row is the first row of its sequence. -/
def firstBit (i : BitVec 32) : BitVec 1 :=
  Scalar.cmpi .eq
    (Scalar.select
      (Scalar.andi (Scalar.xori (Scalar.cmpi .slt (Scalar.remsi i 4#32) 0#32) 0#1) (Scalar.cmpi .ne (Scalar.remsi i 4#32) 0#32))
      (Scalar.addi (Scalar.remsi i 4#32) 4#32) (Scalar.remsi i 4#32)) 0#32

/-- Whether the tile's last row is the last row of its sequence. -/
def lastBit (i : BitVec 32) : BitVec 1 :=
  Scalar.cmpi .eq
    (Scalar.select
      (Scalar.andi (Scalar.xori (Scalar.cmpi .slt (Scalar.remsi i 4#32) 0#32) 0#1) (Scalar.cmpi .ne (Scalar.remsi i 4#32) 0#32))
      (Scalar.addi (Scalar.remsi i 4#32) 4#32) (Scalar.remsi i 4#32)) 3#32

section
variable (b0 b1 : BitVec 1) (x0 : Vec F S1024x1024 .f32) (x1 x2 : Vec F S8x1024 .f32) (x3 : Vec F S1x1024 .f32)
  (x4 : Vec F S1024x5632 .bf16) (x5 : Vec F S3x2816 .f32) (x6 : Vec F S1x2816 .f32)

/-- The chunk at hidden columns `o … o + 255`. -/
def chunkAt (o : Nat) (h : o + 256 ≤ 2816) : FVec F S1024x256 .bf16 :=
  chunk b0 b1 (k0_pay5 (k0_pay4 x0 x3)) (k0_pay6 (k0_pay3 x3) x1 x2)
    (View.ld x4 (Rect.unit ![0, o] ![1024, 256] (fun a => match a with | 0 => (by decide : 0 + 1024 ≤ 1024) | 1 => (by show o + 256 ≤ 5632; omega))))
    (View.ld x4 (Rect.unit ![0, 2816 + o] ![1024, 256] (fun a => match a with | 0 => (by decide : 0 + 1024 ≤ 1024) | 1 => (by show 2816 + o + 256 ≤ 5632; omega))))
    (View.ld x5 (Rect.unit ![0, o] ![3, 256] (fun a => match a with | 0 => (by decide : 0 + 3 ≤ 3) | 1 => h)))
    (View.ld x6 (Rect.unit ![0, o] ![1, 256] (fun a => match a with | 0 => (by decide : 0 + 1 ≤ 1) | 1 => h)))

/-- The store of the chunk at hidden columns `o … o + 255` into the activation buffer. -/
def chunkPiece (o : Nat) (h : o + 256 ≤ 2816) : View.Piece (Elt F) S1024x2816 .bf16 :=
  ⟨Rect.unit ![0, o] ![1024, 256] (fun a => match a with | 0 => (by decide : 0 + 1024 ≤ 1024) | 1 => h),
    chunkAt b0 b1 x0 x1 x2 x3 x4 x5 x6 o h⟩

/-- The eleven chunk stores, the last first. -/
def chunkPieces : List (View.Piece (Elt F) S1024x2816 .bf16) :=
  List.ofFn fun k : Fin 11 => chunkPiece b0 b1 x0 x1 x2 x3 x4 x5 x6 (256 * (10 - k.val)) (by omega)

end

/-- The output tile from the activations `act`. -/
def tileOf (x0 : Vec F S1024x1024 .f32) (act : Vec F S1024x2816 .bf16) (x7 : Vec F S2816x1024 .bf16) (x8 : Vec F S1x1024 .f32) :
    FVec F S1024x1024 .f32 :=
  k0_pay1 (k0_pay2 x0) (k0_pay91 act x7) (k0_pay92 x8) (k0_pay93 act x7) (k0_pay94 (F := F))

variable (m : (ℓ : Loc nD τ sig) → Buf (Elt F) ℓ) (ρ : Dev nD → PrngReg)

set_option maxHeartbeats 4000000 in
theorem out_eq (c : Dev nD) (t : Fin cfg0.N) : outsAt0 m c t =
    tileOf (iblk m c 0 t) (View.canon (chunkPieces (firstBit (BitVec.ofNat 32 (grid0.coords t 0))) (lastBit (BitVec.ofNat 32 (grid0.coords t 0)))
      (iblk m c 0 t) (iblk m c 1 t) (iblk m c 2 t) (iblk m c 3 t) (iblk m c 4 t) (iblk m c 5 t) (iblk m c 6 t)))
      (iblk m c 7 t) (iblk m c 8 t) := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  simp only [View.readCov_eq_canon', View.ld_unit_lit', View.canon_cons_unit_lit']
  show tileOf x0 (View.ld (View.canon _) (Rect.unit ![0, 0] S1024x2816.size inb_S1024x2816_S1024x2816_0_0)) x7 x8 = _
  rw [View.ld_unit_lit _ _ (by decide)]
  refine congrArg (fun L => tileOf x0 (View.canon L) x7 x8) ?_
  unfold chunkPieces
  rfl

end Cert.FfnSIdeal.Block
-- ==== Proof.FfnSMath.lean ====
/- The feed-forward layer's rows for a batch of 4 sequences of 4096 rows. -/
module

public import proofs.«01_k».proof.Proof.FfnMath

@[expose] public section

noncomputable section

namespace FfnSMath

open Idealize.ShloMosaic
open FfnMath hiding row hid hidPrev hidNext act out

/-- The residual stream's row `r`, rows counted through all sequences. -/
def row (X : (⟨3, ![4, 4096, 1024]⟩ : Shape).Idx → EReal) (r : Fin 16384) (k : Fin 1024) : EReal :=
  X (ix3 (⟨r.val / 4096, by omega⟩ : Fin 4) (⟨r.val % 4096, by omega⟩ : Fin 4096) k)

section
variable (X : Fin 16384 → Fin 1024 → EReal) (g : Fin 1024 → EReal) (wup : Fin 1024 → Fin 5632 → EReal)
  (cw : Fin 3 → Fin 2816 → EReal) (cb : Fin 2816 → EReal) (wdn : Fin 2816 → Fin 1024 → EReal) (gp : Fin 1024 → EReal)

/-- The up-projection at row `r` and hidden column `f`; rows count through all sequences, 4096 to a sequence. -/
def hid (r : Fin 16384) (f : Fin 5632) : EReal := upAt (X r) g (fun k => wup k f)

/-- … at the row before, zero at the start of a sequence. -/
def hidPrev (r : Fin 16384) (f : Fin 5632) : EReal :=
  if h : r.val % 4096 = 0 then 0 else hid X g wup ⟨r.val - 1, by omega⟩ f

/-- … at the row after, zero at the end of a sequence. -/
def hidNext (r : Fin 16384) (f : Fin 5632) : EReal :=
  if h : r.val % 4096 = 4095 then 0 else hid X g wup ⟨r.val + 1, by omega⟩ f

/-- The gated activation at row `r` and hidden column `f`. -/
def act (r : Fin 16384) (f : Fin 2816) : EReal :=
  gelu (conv (cb f) (hidPrev X g wup r ⟨f.val, by omega⟩) (hid X g wup r ⟨f.val, by omega⟩) (hidNext X g wup r ⟨f.val, by omega⟩)
      (cw 0 f) (cw 1 f) (cw 2 f)) * hid X g wup r ⟨2816 + f.val, by omega⟩

/-- The layer's result at row `r` and column `c`. -/
def out (r : Fin 16384) (c : Fin 1024) : EReal := outRow (X r) gp (act X g wup cw cb r) wdn c

end

end FfnSMath
-- ==== Proof.FfnSRead.lean ====
/- The feed-forward kernel's tile read at an index, in extended-real arithmetic. -/
module

public import proofs.«01_k».proof.Proof.FfnSBlock
public import proofs.«01_k».proof.Proof.FfnSMath

@[expose] public section

set_option maxRecDepth 16384

noncomputable section

namespace Cert.FfnSIdeal.Block

open Cert.FfnSIdeal Cert.FfnSIdeal.Gen Idealize.ShloMosaic Idealize.ShloMosaic.TcCoe Idealize.SL.Sem FfnSMath
open FfnMath hiding row hid hidPrev hidNext act out

theorem pay4_apply (x0 : Vec Ideal S1024x1024 .f32) (x3 : Vec Ideal S1x1024 .f32) (i k : Fin 1024) :
    k0_pay5 (k0_pay4 x0 x3) (ix2 i k) = rmsRow (fun k => x0 (ix2 i k)) (fun k => x3 (ix2 0 k)) k := by
  unfold rmsRow
  pointwise [k0_pay5, k0_pay4, k0_pay2, k0_pay3]

theorem pay6_apply7 (x1 x2 : Vec Ideal S8x1024 .f32) (x3 : Vec Ideal S1x1024 .f32) (k : Fin 1024) :
    k0_pay6 (k0_pay3 x3) x1 x2 (ix2 7 k) = rmsRow (fun k => x1 (ix2 7 k)) (fun k => x3 (ix2 0 k)) k := by
  unfold rmsRow
  pointwise [k0_pay6, k0_pay3]

theorem pay6_apply8 (x1 x2 : Vec Ideal S8x1024 .f32) (x3 : Vec Ideal S1x1024 .f32) (k : Fin 1024) :
    k0_pay6 (k0_pay3 x3) x1 x2 (ix2 8 k) = rmsRow (fun k => x2 (ix2 0 k)) (fun k => x3 (ix2 0 k)) k := by
  unfold rmsRow
  pointwise [k0_pay6, k0_pay3]

/-- A 32-bit comparison of a row number below 1024 with a constant below 1024. -/
theorem select_row {α : Type} (i : Fin 1024) (n : Nat) (hn : n < 1024) (a b : α) :
    Scalar.select (IntOp.cmpi CmpIPredicate.eq (BitVec.ofNat 32 i.val) (BitVec.ofNat 32 n)) a b = if i.val = n then a else b := by
  have h : (BitVec.ofNat 32 i.val == BitVec.ofNat 32 n) = decide (i.val = n) := by
    rw [Bool.eq_iff_iff]
    simp only [beq_iff_eq, decide_eq_true_eq]
    constructor
    · intro h
      have := congrArg BitVec.toNat h
      simp only [BitVec.toNat_ofNat] at this
      omega
    · intro h; rw [h]
  show Scalar.select (BitVec.ofBool (BitVec.ofNat 32 i.val == BitVec.ofNat 32 n)) a b = _
  rw [h, Scalar.select_ofBool]
  simp

theorem chunk_apply (b0 b1 : BitVec 1) (hb : FVec Ideal S1024x1024 .bf16) (halo : FVec Ideal S16x1024 .bf16)
    (wa wg : Vec Ideal S1024x256 .bf16) (cw : Vec Ideal S3x256 .f32) (cb : Vec Ideal S1x256 .f32) (i : Fin 1024) (k : Fin 256) :
    chunk b0 b1 hb halo wa wg cw cb (ix2 i k) =
      gelu (conv (cb (ix2 0 k))
        (if i.val = 0 then (if b0 = 1 then 0 else ∑ x, halo (ix2 7 x) * wa (ix2 x k))
          else ∑ x, hb (ix2 ⟨(i.val + 1024 - 1) % 1024, by omega⟩ x) * wa (ix2 x k))
        (∑ x, hb (ix2 i x) * wa (ix2 x k))
        (if i.val = 1023 then (if b1 = 1 then 0 else ∑ x, halo (ix2 8 x) * wa (ix2 x k))
          else ∑ x, hb (ix2 ⟨(i.val + 1024 - 1023) % 1024, by omega⟩ x) * wa (ix2 x k))
        (cw (ix2 0 k)) (cw (ix2 1 k)) (cw (ix2 2 k))) * ∑ x, hb (ix2 i x) * wg (ix2 x k) := by
  rw [← select_row i 0 (by omega), ← select_row i 1023 (by omega), ← Scalar.select_def, ← Scalar.select_def]
  unfold gelu conv
  pointwise [chunk, k0_pay20, k0_pay16, k0_pay17, k0_pay18, k0_pay19, k0_pay14, k0_pay15]

section
variable (b0 b1 : BitVec 1) (x0 : Vec Ideal S1024x1024 .f32) (x1 x2 : Vec Ideal S8x1024 .f32) (x3 : Vec Ideal S1x1024 .f32)
  (x4 : Vec Ideal S1024x5632 .bf16) (x5 : Vec Ideal S3x2816 .f32) (x6 : Vec Ideal S1x2816 .f32)

/-- The activation of a tile's row `i` at hidden column `f`, from the tile's blocks. -/
def actT (i : Fin 1024) (f : Fin 2816) : EReal :=
  gelu (conv (x6 (ix2 0 f))
    (if i.val = 0 then (if b0 = 1 then 0 else upAt (fun k => x1 (ix2 7 k)) (fun k => x3 (ix2 0 k)) (fun k => x4 (ix2 k ⟨f.val, by omega⟩)))
      else upAt (fun k => x0 (ix2 ⟨(i.val + 1024 - 1) % 1024, by omega⟩ k)) (fun k => x3 (ix2 0 k)) (fun k => x4 (ix2 k ⟨f.val, by omega⟩)))
    (upAt (fun k => x0 (ix2 i k)) (fun k => x3 (ix2 0 k)) (fun k => x4 (ix2 k ⟨f.val, by omega⟩)))
    (if i.val = 1023 then (if b1 = 1 then 0 else upAt (fun k => x2 (ix2 0 k)) (fun k => x3 (ix2 0 k)) (fun k => x4 (ix2 k ⟨f.val, by omega⟩)))
      else upAt (fun k => x0 (ix2 ⟨(i.val + 1024 - 1023) % 1024, by omega⟩ k)) (fun k => x3 (ix2 0 k)) (fun k => x4 (ix2 k ⟨f.val, by omega⟩)))
    (x5 (ix2 0 f)) (x5 (ix2 1 f)) (x5 (ix2 2 f))) * upAt (fun k => x0 (ix2 i k)) (fun k => x3 (ix2 0 k)) (fun k => x4 (ix2 k ⟨2816 + f.val, by omega⟩))

theorem chunkAt_apply (o : Nat) (h : o + 256 ≤ 2816) (i : Fin 1024) (k : Fin 256) :
    chunkAt b0 b1 x0 x1 x2 x3 x4 x5 x6 o h (ix2 i k) = actT b0 b1 x0 x1 x2 x3 x4 x5 x6 i ⟨o + k.val, by omega⟩ := by
  unfold chunkAt actT upAt
  rw [chunk_apply]
  have e4 : ∀ (x : Fin 1024) (inb), View.ld x4 (Rect.unit ![0, o] ![1024, 256] inb) (ix2 x k) = x4 (ix2 x ⟨o + k.val, by omega⟩) :=
    fun x inb => View.ld_unit_apply_of x4 _ _ inb _ _ (fun a => match a with | 0 => by simp [ix2] | 1 => by simp [ix2])
  have e4' : ∀ (x : Fin 1024) (inb), View.ld x4 (Rect.unit ![0, 2816 + o] ![1024, 256] inb) (ix2 x k) = x4 (ix2 x ⟨2816 + (o + k.val), by omega⟩) :=
    fun x inb => View.ld_unit_apply_of x4 _ _ inb _ _ (fun a => match a with | 0 => by simp [ix2] | 1 => by simp [ix2]; omega)
  have e5 : ∀ (x : Fin 3) (inb), View.ld x5 (Rect.unit ![0, o] ![3, 256] inb) (ix2 x k) = x5 (ix2 x ⟨o + k.val, by omega⟩) :=
    fun x inb => View.ld_unit_apply_of x5 _ _ inb _ _ (fun a => match a with | 0 => by simp [ix2] | 1 => by simp [ix2])
  have e6 : ∀ (inb), View.ld x6 (Rect.unit ![0, o] ![1, 256] inb) (ix2 0 k) = x6 (ix2 0 ⟨o + k.val, by omega⟩) :=
    fun inb => View.ld_unit_apply_of x6 _ _ inb _ _ (fun a => match a with | 0 => by simp [ix2] | 1 => by simp [ix2])
  simp only [e4, e4', e5, e6, pay4_apply, pay6_apply7, pay6_apply8]

theorem act_apply (i : Fin 1024) (f : Fin 2816) :
    View.canon (chunkPieces b0 b1 x0 x1 x2 x3 x4 x5 x6) (ix2 i f) = actT b0 b1 x0 x1 x2 x3 x4 x5 x6 i f := by
  unfold chunkPieces chunkPiece
  refine View.canon_ofFn_unit_eq_of_forall (S := S1024x2816) (Val := Elt Ideal) (e := .bf16) (fun k : Fin 11 => ![0, 256 * (10 - k.val)]) ![1024, 256] _
    (fun k => chunkAt b0 b1 x0 x1 x2 x3 x4 x5 x6 (256 * (10 - k.val)) (by omega)) _ _ ?_ ?_
  · refine ⟨⟨10 - f.val / 256, by omega⟩, fun a => ?_⟩
    match a with
    | 0 => exact ⟨Nat.zero_le _, by show i.val < 0 + 1024; omega⟩
    | 1 => exact ⟨by show 256 * (10 - (10 - f.val / 256)) ≤ f.val; omega, by show f.val < 256 * (10 - (10 - f.val / 256)) + 256; omega⟩
  · intro k
    tile_intro x hx
    obtain ⟨a, b, rfl⟩ : ∃ (a : Fin 1024) (b : Fin 256), x = ix2 a b := ⟨x 0, x 1, by funext d; match d with | 0 => rfl | 1 => rfl⟩
    rw [chunkAt_apply]
    have e0 : a = i := Fin.ext hx0.symm
    have e1 : (⟨256 * (10 - k.val) + b.val, by omega⟩ : Fin 2816) = f := Fin.ext hx1.symm
    rw [e0, e1]

/-- The tile's result at row `i` and column `c`. -/
theorem tileOf_apply (act : Vec Ideal S1024x2816 .bf16) (x7 : Vec Ideal S2816x1024 .bf16) (x8 : Vec Ideal S1x1024 .f32) (i c : Fin 1024) :
    tileOf x0 act x7 x8 (ix2 i c) =
      outRow (fun k => x0 (ix2 i k)) (fun k => x8 (ix2 0 k)) (fun f => act (ix2 i f)) (fun f c => x7 (ix2 f c)) c := by
  unfold outRow rmsRow
  pointwise [tileOf, k0_pay1, k0_pay2, k0_pay91, k0_pay92, k0_pay93, k0_pay94]

end

end Cert.FfnSIdeal.Block
-- ==== Proof.FfnSArray.lean ====
/- The feed-forward kernel's result array, as the layer's mathematics over its arguments. -/
module

public import proofs.«01_k».proof.Proof.FfnSRead

@[expose] public section

set_option maxRecDepth 16384

noncomputable section

namespace Cert.FfnSIdeal.Block

open Cert.FfnSIdeal Cert.FfnSIdeal.Gen Idealize.ShloMosaic Idealize.ShloMosaic.TcCoe Idealize.SL.Sem FfnSMath
open FfnMath hiding row hid hidPrev hidNext act out
open Idealize.ShloMosaic.Pipeline (Dat)

variable (m : (ℓ : Loc nD τ sig) → Buf (Elt Ideal) ℓ) (c : Dev nD)

/-! ## The arguments at coordinates -/

def xArr : Vec Ideal S4x4096x1024 .f32 := m ((c : Thread nD τ).loc main_arg0)
def gArr : Vec Ideal S1024 .f32 := m ((c : Thread nD τ).loc main_arg1)
def wupArr : Vec Ideal S1024x5632 .f32 := m ((c : Thread nD τ).loc main_arg2)
def cwArr : Vec Ideal S3x2816 .f32 := m ((c : Thread nD τ).loc main_arg3)
def cbArr : Vec Ideal S2816 .f32 := m ((c : Thread nD τ).loc main_arg4)
def wdnArr : Vec Ideal S2816x1024 .f32 := m ((c : Thread nD τ).loc main_arg5)
def gpArr : Vec Ideal S1024 .f32 := m ((c : Thread nD τ).loc main_arg6)

theorem idx0 : ∀ t : Fin cfg0.N, win0_0.index t = ![t.val, 0] := (by decide +kernel : ∀ t : Fin grid0.N, _)
theorem idx1 : ∀ t : Fin cfg0.N, win0_1.index t = ![t.val * 128 - 1, 0] := (by decide +kernel : ∀ t : Fin grid0.N, _)
theorem idx2 : ∀ t : Fin cfg0.N, win0_2.index t = ![min (t.val * 128 + 128) 2047, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)

theorem V_v0 (r : Fin 16384) (k : Fin 1024) : (V m c main_v0 : Vec Ideal S16384x1024 .f32) (ix2 r k) = row (xArr m c) r k := by
  dsimp only [V, hostOps0]; after_results
  unfold row xArr
  pointwise

theorem blk0 (t : Fin cfg0.N) (i k : Fin 1024) (r : Fin 16384) (hr : r.val = t.val * 1024 + i.val) :
    (iblk m c 0 t : Vec Ideal S1024x1024 .f32) (ix2 i k) = row (xArr m c) r k := by
  unfold row xArr
  blk_ext! [iblk, idx0 t]

theorem blk4 (t : Fin cfg0.N) (i : Fin 1024) (k : Fin 5632) :
    (iblk m c 4 t : Vec Ideal S1024x5632 .bf16) (ix2 i k) = wupArr m c (ix2 i k) := by
  unfold wupArr
  blk_ext! [iblk, idx4 t]
theorem blk5 (t : Fin cfg0.N) (i : Fin 3) (k : Fin 2816) :
    (iblk m c 5 t : Vec Ideal S3x2816 .f32) (ix2 i k) = cwArr m c (ix2 i k) := by
  unfold cwArr
  blk_ext! [iblk, idx5 t]
theorem blk6 (t : Fin cfg0.N) (k : Fin 2816) :
    (iblk m c 6 t : Vec Ideal S1x2816 .f32) (ix2 0 k) = cbArr m c (ix1 k) := by
  unfold cbArr
  blk_ext! [iblk, idx6 t]
theorem blk7 (t : Fin cfg0.N) (i : Fin 2816) (k : Fin 1024) :
    (iblk m c 7 t : Vec Ideal S2816x1024 .bf16) (ix2 i k) = wdnArr m c (ix2 i k) := by
  unfold wdnArr
  blk_ext! [iblk, idx7 t]
theorem blk3 (t : Fin cfg0.N) (k : Fin 1024) :
    (iblk m c 3 t : Vec Ideal S1x1024 .f32) (ix2 0 k) = gArr m c (ix1 k) := by
  unfold gArr
  blk_ext! [iblk, idx3 t]
theorem blk8 (t : Fin cfg0.N) (k : Fin 1024) :
    (iblk m c 8 t : Vec Ideal S1x1024 .f32) (ix2 0 k) = gpArr m c (ix1 k) := by
  unfold gpArr
  blk_ext! [iblk, idx8 t]
theorem blk1 (t : Fin cfg0.N) (k : Fin 1024) (r : Fin 16384) (ht : 0 < t.val) (hr : r.val = t.val * 1024 - 1) :
    (iblk m c 1 t : Vec Ideal S8x1024 .f32) (ix2 7 k) = row (xArr m c) r k := by
  rw [← V_v0 m c]
  blk_ext [iblk, idx1 t]

theorem blk2 (t : Fin cfg0.N) (k : Fin 1024) (r : Fin 16384) (ht : t.val < 15) (hr : r.val = t.val * 1024 + 1024) :
    (iblk m c 2 t : Vec Ideal S8x1024 .f32) (ix2 0 k) = row (xArr m c) r k := by
  rw [← V_v0 m c]
  blk_ext [iblk, idx2 t]

theorem first_iff : ∀ t : Fin cfg0.N, firstBit (BitVec.ofNat 32 (grid0.coords t 0)) = 1 ↔ t.val % 4 = 0 :=
  (by decide +kernel : ∀ t : Fin grid0.N, firstBit (BitVec.ofNat 32 (grid0.coords t 0)) = 1 ↔ t.val % 4 = 0)

theorem last_iff : ∀ t : Fin cfg0.N, lastBit (BitVec.ofNat 32 (grid0.coords t 0)) = 1 ↔ t.val % 4 = 3 :=
  (by decide +kernel : ∀ t : Fin grid0.N, lastBit (BitVec.ofNat 32 (grid0.coords t 0)) = 1 ↔ t.val % 4 = 3)

/-- The layer's result over the kernel's arguments. -/
def G (r : Fin 16384) (k : Fin 1024) : EReal :=
  out (row (xArr m c)) (fun k => gArr m c (ix1 k)) (fun k f => wupArr m c (ix2 k f)) (fun j f => cwArr m c (ix2 j f))
    (fun f => cbArr m c (ix1 f)) (fun f k => wdnArr m c (ix2 f k)) (fun k => gpArr m c (ix1 k)) r k

theorem act_blk (t : Fin cfg0.N) (i : Fin 1024) (f : Fin 2816) (r : Fin 16384) (hr : r.val = t.val * 1024 + i.val) :
    actT (firstBit (BitVec.ofNat 32 (grid0.coords t 0))) (lastBit (BitVec.ofNat 32 (grid0.coords t 0)))
      (iblk m c 0 t) (iblk m c 1 t) (iblk m c 2 t) (iblk m c 3 t) (iblk m c 4 t) (iblk m c 5 t) (iblk m c 6 t) i f =
    act (row (xArr m c)) (fun k => gArr m c (ix1 k)) (fun k f => wupArr m c (ix2 k f)) (fun j f => cwArr m c (ix2 j f))
      (fun f => cbArr m c (ix1 f)) r f := by
  have hN : t.val < 16 := t.isLt
  have e0 : ∀ k, (iblk m c 0 t : Vec Ideal S1024x1024 .f32) (ix2 i k) = row (xArr m c) r k := fun k => blk0 m c t i k r hr
  unfold actT act hidPrev hidNext hid
  simp only [first_iff t, last_iff t]
  congr 2
  · congr 1
    · exact blk6 m c t f
    · by_cases hi : i.val = 0
      · rw [if_pos hi]
        by_cases h2 : t.val % 4 = 0
        · rw [if_pos h2, dif_pos (by omega)]
        · rw [if_neg h2, dif_neg (by omega)]
          simp only [blk1 m c t _ ⟨r.val - 1, by omega⟩ (by omega) (by show r.val - 1 = _; omega), blk3 m c t, blk4 m c t]
      · rw [if_neg hi, dif_neg (by omega)]
        simp only [blk0 m c t ⟨(i.val + 1024 - 1) % 1024, by omega⟩ _ ⟨r.val - 1, by omega⟩ (by show r.val - 1 = t.val * 1024 + (i.val + 1024 - 1) % 1024; omega), blk3 m c t, blk4 m c t]
    · simp only [e0, blk3 m c t, blk4 m c t]
    · by_cases hi : i.val = 1023
      · rw [if_pos hi]
        by_cases h2 : t.val % 4 = 3
        · rw [if_pos h2, dif_pos (by omega)]
        · rw [if_neg h2, dif_neg (by omega)]
          simp only [blk2 m c t _ ⟨r.val + 1, by omega⟩ (by omega) (by show r.val + 1 = _; omega), blk3 m c t, blk4 m c t]
      · rw [if_neg hi, dif_neg (by omega)]
        simp only [blk0 m c t ⟨(i.val + 1024 - 1023) % 1024, by omega⟩ _ ⟨r.val + 1, by omega⟩ (by show r.val + 1 = t.val * 1024 + (i.val + 1024 - 1023) % 1024; omega), blk3 m c t, blk4 m c t]
    · exact blk5 m c t 0 f
    · exact blk5 m c t 1 f
    · exact blk5 m c t 2 f
  · simp only [e0]
  · simp only [blk3 m c t]
  · simp only [blk4 m c t]

/-- The kernel's result array is the layer. -/
theorem arr_eq : (dats m 0 c).arrAt 9 cfg0.N = (fun y => G m c (y 0) (y 1) : S16384x1024.Idx → EReal) := by
  refine (dats m 0 c).arrAt_eq_of_covers 9 _ (by decide +kernel) fun t hf y => ?_
  blk_simp
  rw [after0_9, out_eq]
  obtain ⟨i, k, rfl⟩ : ∃ (i : Fin 1024) (k : Fin 1024), y = ix2 i k := ⟨y 0, y 1, by funext d; match d with | 0 => rfl | 1 => rfl⟩
  rw [tileOf_apply]
  have hN : t.val < 16 := t.isLt
  have hr : (((cfg0.win 9).blk t).view.emb (ix2 i k) : S16384x1024.Idx) = ix2 (⟨t.val * 1024 + i.val, by omega⟩ : Fin 16384) k := by
    blk_ext [idx9 t]
  have h0 := congrFun hr 0
  have h1 := congrFun hr 1
  refine Eq.trans ?_ (congrArg₂ (G m c) h0.symm h1.symm)
  unfold G out
  refine congr (congr (congr (congr (congrArg outRow ?_) ?_) ?_) ?_) rfl
  · exact funext fun k => blk0 m c t i k ⟨t.val * 1024 + i.val, by omega⟩ rfl
  · exact funext fun k => blk8 m c t k
  · exact funext fun f => (act_apply _ _ _ _ _ _ _ _ _ i f).trans (act_blk m c t i f ⟨t.val * 1024 + i.val, by omega⟩ rfl)
  · exact funext fun f => funext fun k => blk7 m c t f k

end Cert.FfnSIdeal.Block
-- ==== Proof.FfnSRefRead.lean ====
/- The feed-forward reference read at an index, in extended-real arithmetic. -/
module

public import proofs.«01_k».proof.Proof.Gen.FfnSRefIdeal.Read
public import proofs.«01_k».proof.Proof.FfnSMath
public import Idealize.ShloMosaic.Lib.KernelVsHost

@[expose] public section

set_option maxRecDepth 16384

noncomputable section

namespace Cert.FfnSRefIdeal.Layer

open Cert.FfnSRefIdeal Cert.FfnSRefIdeal.Read Idealize.ShloMosaic FfnSMath
open FfnMath hiding row hid hidPrev hidNext act out

variable (x0 : Vec Ideal S4x4096x1024 .f32) (x1 : Vec Ideal S1024 .f32) (x2 : Vec Ideal S1024x5632 .f32)
  (x3 : Vec Ideal S3x2816 .f32) (x4 : Vec Ideal S2816 .f32) (x5 : Vec Ideal S2816x1024 .f32) (x6 : Vec Ideal S1024 .f32)

theorem v13_eq (b : Fin 4) (s : Fin 4096) (f : Fin 5632) :
    val_main_v13 x0 x1 x2 (ix3 b s f) = upAt (fun k => x0 (ix3 b s k)) (fun k => x1 (ix1 k)) (fun k => x2 (ix2 k f)) := by
  unfold upAt rmsRow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem zero_word : FloatOps.sitofp (F := Ideal) FTy.f32 (0#32) = (0 : EReal) := by
  show ((((0#32 : BitVec 32).toInt : ℤ) : ℝ) : EReal) = 0
  simp

theorem v16_eq (b : Fin 4) (s : Fin 4098) (f : Fin 2816) :
    val_main_v16 x0 x1 x2 (ix3 b s f) = if h : 1 ≤ s.val ∧ s.val - 1 < 4096 then val_main_v13 x0 x1 x2 (ix3 b (⟨s.val - 1, h.2⟩ : Fin 4096) (⟨f.val, by omega⟩ : Fin 5632)) else 0 := by
  rw [← zero_word]
  pointwise [val_main_v16, val_main_v14, val_main_call0_v0, val_main_c]

/-- The up-projection at row `r`, from the reference's stage. -/
theorem hid_eq (r : Fin 16384) (f : Fin 5632) :
    val_main_v13 x0 x1 x2 (ix3 (⟨r.val / 4096, by omega⟩ : Fin 4) (⟨r.val % 4096, by omega⟩ : Fin 4096) f) =
      hid (row x0) (fun k => x1 (ix1 k)) (fun k f => x2 (ix2 k f)) r f := v13_eq x0 x1 x2 _ _ _

theorem v39_eq (b : Fin 4) (s : Fin 4096) (f : Fin 2816) :
    val_main_v39 x0 x1 x2 x3 x4 (ix3 b s f) = conv (x4 (ix1 f)) (val_main_v16 x0 x1 x2 (ix3 b (⟨s.val, by omega⟩ : Fin 4098) f))
      (val_main_v16 x0 x1 x2 (ix3 b (⟨1 + s.val, by omega⟩ : Fin 4098) f)) (val_main_v16 x0 x1 x2 (ix3 b (⟨2 + s.val, by omega⟩ : Fin 4098) f))
      (x3 (ix2 0 f)) (x3 (ix2 1 f)) (x3 (ix2 2 f)) := by
  unfold conv
  pointwise [val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39]

theorem v53_eq (b : Fin 4) (s : Fin 4096) (f : Fin 2816) :
    val_main_v53 x0 x1 x2 x3 x4 (ix3 b s f) = gelu (val_main_v39 x0 x1 x2 x3 x4 (ix3 b s f)) * val_main_v13 x0 x1 x2 (ix3 b s (⟨2816 + f.val, by omega⟩ : Fin 5632)) := by
  unfold gelu
  pointwise! [val_main_v15, val_main_v40, val_main_v41, val_main_v42, val_main_v43, val_main_v44, val_main_v45, val_main_v46, val_main_v47, val_main_v48, val_main_v49, val_main_v50, val_main_v51, val_main_v52, val_main_v53, val_main_cst_2, val_main_cst_3, val_main_cst_4, val_main_cst_5]

theorem v69_eq (r : Fin 16384) (k : Fin 1024) :
    val_main_v69 x0 x1 x2 x3 x4 x5 x6 (ix2 r k) = outRow (row x0 r) (fun k => x6 (ix1 k))
      (fun f => val_main_v53 x0 x1 x2 x3 x4 (ix3 (⟨r.val / 4096, by omega⟩ : Fin 4) (⟨r.val % 4096, by omega⟩ : Fin 4096) f)) (fun f k => x5 (ix2 f k)) k := by
  unfold outRow rmsRow row
  pointwise [val_main_v54, val_main_v55, val_main_v56, val_main_v57, val_main_v58, val_main_v59, val_main_v60, val_main_v61, val_main_v62, val_main_v63, val_main_v64, val_main_v65, val_main_v66, val_main_v67, val_main_v68, val_main_v69, val_main_cst_6, val_main_cst_7, val_main_cst_8]

theorem act_eq (r : Fin 16384) (f : Fin 2816) :
    val_main_v53 x0 x1 x2 x3 x4 (ix3 (⟨r.val / 4096, by omega⟩ : Fin 4) (⟨r.val % 4096, by omega⟩ : Fin 4096) f) =
      act (row x0) (fun k => x1 (ix1 k)) (fun k f => x2 (ix2 k f)) (fun j f => x3 (ix2 j f)) (fun f => x4 (ix1 f)) r f := by
  rw [v53_eq, v39_eq, v16_eq, v16_eq, v16_eq]
  unfold act hidPrev hidNext
  have e (s : Nat) (h : s < 4096) (r' : Fin 16384) (e1 : r.val / 4096 = r'.val / 4096) (e2 : s = r'.val % 4096) :
      (ix3 (⟨r.val / 4096, by omega⟩ : Fin 4) (⟨s, h⟩ : Fin 4096) (⟨f.val, by omega⟩ : Fin 5632) : S4x4096x5632.Idx) =
        ix3 (⟨r'.val / 4096, by omega⟩ : Fin 4) (⟨r'.val % 4096, by omega⟩ : Fin 4096) (⟨f.val, by omega⟩ : Fin 5632) := by
    subst e2
    congr 1
    exact Fin.ext e1
  refine congrArg₂ (· * ·) (congrArg gelu ?_) (hid_eq x0 x1 x2 r _)
  refine congr (congr (congr (congr (congr (congr (congrArg conv rfl) ?_) ?_) ?_) rfl) rfl) rfl
  · by_cases h : r.val % 4096 = 0
    · rw [dif_pos h, dif_neg (by dsimp only; omega)]
    · rw [dif_neg h, dif_pos (by dsimp only; omega), ← hid_eq]
      exact congrArg _ (e _ _ ⟨r.val - 1, by omega⟩ (by dsimp only; omega) (by dsimp only; omega))
  · rw [dif_pos (by dsimp only; omega), ← hid_eq]
    exact congrArg _ (e _ _ r rfl (by dsimp only; omega))
  · by_cases h : r.val % 4096 = 4095
    · rw [dif_pos h, dif_neg (by dsimp only; omega)]
    · rw [dif_neg h, dif_pos (by dsimp only; omega), ← hid_eq]
      exact congrArg _ (e _ _ ⟨r.val + 1, by omega⟩ (by dsimp only; omega) (by dsimp only; omega))

/-- The reference's result is the layer. -/
theorem res_eq (r : Fin 16384) (k : Fin 1024) :
    val_main_v69 x0 x1 x2 x3 x4 x5 x6 (ix2 r k) =
      out (row x0) (fun k => x1 (ix1 k)) (fun k f => x2 (ix2 k f)) (fun j f => x3 (ix2 j f)) (fun f => x4 (ix1 f))
        (fun f k => x5 (ix2 f k)) (fun k => x6 (ix1 k)) r k := by
  rw [v69_eq]
  unfold out
  exact congrArg (fun a => outRow (row x0 r) _ a _ k) (funext fun f => act_eq x0 x1 x2 x3 x4 r f)

end Cert.FfnSRefIdeal.Layer
-- ==== Proof.FfnSClaims.lean ====
/- The feed-forward layer's claims: the reference's frame, and the kernel equal to the reference in extended-real
   arithmetic. -/
module

public import proofs.«01_k».proof.Defs
public import proofs.«01_k».proof.Proof.FfnSArray
public import proofs.«01_k».proof.Proof.FfnSRefRead
public import proofs.«01_k».proof.Proof.Gen.FfnS.Frame

@[expose] public section

set_option maxRecDepth 16384

noncomputable section

namespace Cert.Proof

open Idealize.ShloMosaic Idealize.SL.Sem

theorem ffnSRef_frame : Cert.quiescent_FfnSRefIdeal (hFfnSRefIdeal := Cert.FfnSRefIdeal.Gen.facts) := fun m ρ _ =>
  (θ_run Cert.FfnSRefIdeal.defs _ _).mono
    (fun r h => ⟨fun c => (h c).2, sem_eq_zero_of_no_sems (by decide) r.2⟩) (Cert.FfnSRefIdeal.Value.run m ρ)

theorem ffnS_algebraic : Cert.algebraic_FfnSIdeal_FfnSRefIdeal (hFfnSIdeal := Cert.FfnSIdeal.Gen.facts)
    (hFfnSRefIdeal := Cert.FfnSRefIdeal.Gen.facts) := by
  intro m ρ m' ρ' _ hargs
  refine ⟨fun c => (Cert.FfnSIdeal.Gen.dats m 0 c).arrAt 9 Cert.FfnSIdeal.cfg0.N, Cert.FfnSIdeal.Value.run_blocks m ρ, ?_⟩
  refine (θ_run Cert.FfnSRefIdeal.defs _ _).mono (fun r h c => ⟨?_, (h c).2⟩) (Cert.FfnSRefIdeal.Value.run m' ρ')
  obtain ⟨h0, h1, h2, h3, h4, h5, h6⟩ := hargs c
  rw [(h c).1, Cert.FfnSRefIdeal.Read.val_main_v69_eq]
  refine Eq.trans ?_ (Cert.FfnSIdeal.Block.arr_eq m c).symm
  funext y
  obtain ⟨i, k, rfl⟩ : ∃ (i : Fin 16384) (k : Fin 1024), y = ix2 i k := ⟨y 0, y 1, by funext d; match d with | 0 => rfl | 1 => rfl⟩
  refine (Cert.FfnSRefIdeal.Layer.res_eq _ _ _ _ _ _ _ i k).trans ?_
  rw [h0, h1, h2, h3, h4, h5, h6]
  rfl

end Cert.Proof
-- ==== Proof.ProjMath.lean ====
/- The projections' mathematics: rows of the residual stream normalised and projected, the mixers' results projected back. -/
module

public import proofs.«01_k».proof.Proof.FfnMath

@[expose] public section

noncomputable section

namespace ProjMath

open Idealize.ShloMosaic FfnMath

/-- Row `r` of a batch of 16 sequences of 2048 rows, 512 wide. -/
def row512 (X : (⟨3, ![16, 2048, 512]⟩ : Shape).Idx → EReal) (r : Fin 32768) (k : Fin 512) : EReal :=
  X (ix3 (⟨r.val / 2048, by omega⟩ : Fin 16) (⟨r.val % 2048, by omega⟩ : Fin 2048) k)

/-- Two rows of 512 against the upper and the lower half of a weight column. -/
def mixAt (a b : Fin 512 → EReal) (wa wb : Fin 512 → EReal) : EReal := ∑ j, a j * wa j + ∑ j, b j * wb j

/-- The residual's row plus the normalised projection of the two mixers' rows. -/
def outpRow (x : Fin 1024 → EReal) (a b : Fin 512 → EReal) (wa wb : Fin 512 → Fin 1024 → EReal) (g : Fin 1024 → EReal) (k : Fin 1024) : EReal :=
  x k + rmsRow (fun c => mixAt a b (fun j => wa j c) (fun j => wb j c)) g k

theorem sum_halves (f : Fin 1024 → EReal) :
    ∑ k, f k = ∑ j : Fin 512, f ⟨j.val, by omega⟩ + ∑ j : Fin 512, f ⟨512 + j.val, by omega⟩ :=
  Fin.sum_univ_add (a := 512) (b := 512) f

/-! ## The decay's logarithm, from the gate's preactivation -/

/-- The logarithm of the logistic function, over 16, from the smaller of the preactivation and zero. -/
def gate (x : EReal) : EReal :=
  (min x 0 - Ideal.log (1 + Ideal.exp (0 - max x (-x)))) * Ideal.ofBits .f32 0x3D800000#32

/-- The same as minus the soft maximum of minus the preactivation and zero, over 16. -/
def softGate (x : EReal) : EReal :=
  Ideal.div (-(Scalar.select (Ideal.cmp .une (-x - 0) (-x - 0)) (-x + 0)
    (max (-x) 0 + Ideal.log1p (Ideal.exp (-(max (-x - 0) (-(-x - 0)))))))) (Ideal.ofBits .f32 0x41800000#32)

theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = (((16 : ℝ)⁻¹ : ℝ) : EReal) := by
  simp [Ideal.ofBits, Ideal.ieee, -EReal.coe_mul]; norm_num

/-- One plus an exponential of a value below zero has a real logarithm. -/
theorem log_one_exp (x : EReal) (hx : x ≤ 0) : ∃ r : ℝ, Ideal.log (1 + Ideal.exp x) = (r : EReal) := by
  have key : ∀ y : ℝ, 0 < y → Ideal.log (y : EReal) = (Real.log y : EReal) := fun y hy => by
    rw [Ideal.log_coe, if_neg (not_le.mpr hy)]
  induction x with
  | bot => exact ⟨Real.log 1, by rw [Ideal.exp_bot, add_zero, ← key 1 one_pos, EReal.coe_one]⟩
  | top => simp at hx
  | coe r =>
    refine ⟨Real.log (1 + Real.exp r), ?_⟩
    rw [← key _ (by positivity), Ideal.exp_coe, EReal.coe_add, EReal.coe_one]

theorem softGate_eq (x : EReal) : softGate x = gate x := by
  have hs : ∀ a b c : EReal, Scalar.select (Ideal.cmp .une a a) b c = c := by
    intro a b c
    simp [Ideal.cmp, Scalar.select]
  unfold softGate gate
  rw [hs, ofBits_sixteen, ofBits_sixteenth]
  have h0 : (-x - 0 : EReal) = -x := by rw [sub_eq_add_neg, neg_zero, add_zero]
  rw [h0, neg_neg, max_comm (-x) x]
  have h1 : (0 : EReal) - max x (-x) = -(max x (-x)) := by rw [sub_eq_add_neg, zero_add]
  have hle : -(max x (-x)) ≤ (0 : EReal) := by
    rw [EReal.neg_le, neg_zero]
    rcases le_total (0 : EReal) x with h | h
    · exact le_max_of_le_left h
    · exact le_max_of_le_right (by rw [EReal.le_neg, neg_zero]; exact h)
  rw [h1]
  unfold Ideal.log1p
  obtain ⟨l, hl⟩ := log_one_exp _ hle
  rw [hl]
  have hd : ∀ y : EReal, Ideal.div y ((16 : ℝ) : EReal) = y * (((16 : ℝ)⁻¹ : ℝ) : EReal) := by
    intro y
    have hne : ((16 : ℝ) : EReal) ≠ 0 := by norm_num
    unfold Ideal.div
    rw [if_neg hne, EReal.coe_inv]
  rw [hd, EReal.neg_add (Or.inr (EReal.coe_ne_top l)) (Or.inr (EReal.coe_ne_bot l))]
  congr 2
  rcases le_total (0 : EReal) x with h | h
  · rw [min_eq_right h, max_eq_right (by rw [EReal.neg_le, neg_zero]; exact h), neg_zero]
  · rw [min_eq_left h, max_eq_left (by rw [EReal.le_neg, neg_zero]; exact h), neg_neg]

/-- The gate's preactivation: the bias plus the 16 low-rank values times a column of the gate's weights. -/
def gatePre (x g : Fin 1024 → EReal) (wlr : Fin 16 → Fin 1024 → EReal) (wg : Fin 16 → EReal) (b : EReal) : EReal :=
  b + ∑ j, upAt x g (wlr j) * wg j

/-- A sum over 128 places of which only the first 16 are not zero. -/
theorem sum_first (f : Fin 128 → EReal) (h : ∀ j : Fin 128, 16 ≤ j.val → f j = 0) :
    ∑ j, f j = ∑ j : Fin 16, f ⟨j.val, by omega⟩ := by
  refine (Fin.sum_univ_add (a := 16) (b := 112) f).trans ?_
  rw [Finset.sum_eq_zero (s := Finset.univ) (f := fun j : Fin 112 => f (Fin.natAdd 16 j)) (fun j _ => h _ (Nat.le_add_right _ _)), add_zero]
  rfl

section
variable (X : (⟨3, ![16, 2048, 1024]⟩ : Shape).Idx → EReal) (g : (⟨1, ![1024]⟩ : Shape).Idx → EReal)
  (w : (⟨2, ![1024, 3088]⟩ : Shape).Idx → EReal)

/-- Row `r` normalised, times column `o + k` of the input projection. -/
def colAt (o W : Nat) (h : o + W ≤ 3088) (r : Fin 32768) (k : Fin W) : EReal :=
  upAt (row X r) (fun j => g (ix1 j)) (fun j => w (ix2 j (⟨o + k.val, by omega⟩ : Fin 3088)))

/-- The decay's logarithm at row `r` and column `n`, from the projection's last 16 columns. -/
def decayAt (wg : (⟨2, ![16, 256]⟩ : Shape).Idx → EReal) (b : (⟨1, ![256]⟩ : Shape).Idx → EReal) (r : Fin 32768) (n : Fin 256) : EReal :=
  gate (gatePre (row X r) (fun j => g (ix1 j)) (fun j k => w (ix2 k (⟨3072 + j.val, by omega⟩ : Fin 3088))) (fun j => wg (ix2 j n)) (b (ix1 n)))

end

end ProjMath
-- ==== Proof.InpRead.lean ====
/- The input projection's result arrays, as the layer's mathematics over its arguments. -/
module

public import proofs.«01_k».proof.Proof.Gen.InpIdeal.Value
public import proofs.«01_k».proof.Proof.ProjMath
public import Idealize.ShloMosaic.Lib.Pointwise
public import Idealize.ShloMosaic.Lib.Pipeline.ValueKit

@[expose] public section

set_option maxRecDepth 16384

noncomputable section

namespace Cert.InpIdeal.Block

open Cert.InpIdeal Cert.InpIdeal.Gen Idealize.ShloMosaic Idealize.ShloMosaic.TcCoe Idealize.SL.Sem FfnMath ProjMath
open Idealize.ShloMosaic.Pipeline (Dat)

section
variable (x0 : Vec Ideal S1024x1024 .f32) (x1 : Vec Ideal S1x1024 .f32) (x2 : Vec Ideal S1024x3072 .bf16)
  (x3 : Vec Ideal S1024x128 .bf16) (x4 : Vec Ideal S128x512 .bf16) (x5 : Vec Ideal S1x512 .f32)

theorem pay4_apply (i k : Fin 1024) :
    k0_pay4 x0 x1 (ix2 i k) = rmsRow (fun k => x0 (ix2 i k)) (fun k => x1 (ix2 0 k)) k := by
  unfold rmsRow
  pointwise [k0_pay4]

theorem pay15_eq : k0_pay15 x0 x1 x2 x3 x4 x5 = k0_pay4 x0 x1 := by
  show k0_pay4 (View.ld x0 (Rect.unit ![0, 0] S1024x1024.size inb_S1024x1024_S1024x1024_0_0))
    (View.ld x1 (Rect.unit ![0, 0] S1x1024.size inb_S1x1024_S1x1024_0_0)) = _
  rw [View.ld_unit_lit _ _ (by decide), View.ld_unit_lit _ _ (by decide)]

theorem pay16_eq : k0_pay16 x0 x1 x2 x3 x4 x5 = k0_pay5 x0 x1 x3 := by
  show k0_pay5 (View.ld x0 (Rect.unit ![0, 0] S1024x1024.size inb_S1024x1024_S1024x1024_0_0))
    (View.ld x1 (Rect.unit ![0, 0] S1x1024.size inb_S1x1024_S1x1024_0_0))
    (View.ld x3 (Rect.unit ![0, 0] S1024x128.size inb_S1024x128_S1024x128_0_0)) = _
  rw [View.ld_unit_lit _ _ (by decide), View.ld_unit_lit _ _ (by decide), View.ld_unit_lit _ _ (by decide)]

theorem ld512 (o : Nat) (h : o + 512 ≤ 3072) (inb) (i : Fin 1024) (k : Fin 512) :
    View.ld x2 (Rect.unit ![0, o] ![1024, 512] inb) (ix2 i k) = x2 (ix2 i ⟨o + k.val, by omega⟩) :=
  View.ld_unit_apply_of x2 _ _ inb _ _ (fun a => match a with | 0 => by simp [ix2] | 1 => by simp [ix2])

theorem ld256 (o : Nat) (h : o + 256 ≤ 3072) (inb) (i : Fin 1024) (k : Fin 256) :
    View.ld x2 (Rect.unit ![0, o] ![1024, 256] inb) (ix2 i k) = x2 (ix2 i ⟨o + k.val, by omega⟩) :=
  View.ld_unit_apply_of x2 _ _ inb _ _ (fun a => match a with | 0 => by simp [ix2] | 1 => by simp [ix2])

/-- The tile's row `i` times column `n` of the main weights. -/
def projT (i : Fin 1024) (n : Fin 3072) : EReal :=
  upAt (fun k => x0 (ix2 i k)) (fun k => x1 (ix2 0 k)) (fun k => x2 (ix2 k n))

/-- The gate's preactivation at the tile's row `i` and column `n`. -/
def gatePreT (i : Fin 1024) (n : Fin 512) : EReal :=
  x5 (ix2 0 n) + ∑ j : Fin 128, upAt (fun k => x0 (ix2 i k)) (fun k => x1 (ix2 0 k)) (fun k => x3 (ix2 k j)) * x4 (ix2 j n)

theorem out6_apply (i : Fin 1024) (k : Fin 512) :
    out0_6 x0 x1 x2 x3 x4 x5 (ix2 i k) = projT x0 x1 x2 i ⟨0 + k.val, by omega⟩ * Ideal.ofBits .f32 0x3E000000#32 := by
  have e : out0_6 x0 x1 x2 x3 x4 x5 = k0_pay6 x0 x1 (View.ld x2 r0_3) := by
    frame_out
  have p : ∀ W : Vec Ideal S1024x512 .bf16, k0_pay6 x0 x1 W (ix2 i k) =
      (∑ j : Fin 1024, k0_pay4 x0 x1 (ix2 i j) * W (ix2 j k)) * Ideal.ofBits .f32 0x3E000000#32 := by
    intro W
    pointwise [k0_pay6]
  rw [e, p]
  unfold projT upAt
  simp only [pay4_apply]
  refine congrArg (· * _) ?_
  exact Finset.sum_congr rfl fun j _ => congrArg (_ * ·) (ld512 x2 0 (by decide) _ j k)

theorem out7_apply (i : Fin 1024) (k : Fin 512) :
    out0_7 x0 x1 x2 x3 x4 x5 (ix2 i k) = projT x0 x1 x2 i ⟨512 + k.val, by omega⟩ := by
  have e : out0_7 x0 x1 x2 x3 x4 x5 = k0_pay7 x0 x1 (View.ld x2 r0_5) := by
    frame_out
  have p : ∀ W : Vec Ideal S1024x512 .bf16, k0_pay7 x0 x1 W (ix2 i k) =
      (∑ j : Fin 1024, k0_pay4 x0 x1 (ix2 i j) * W (ix2 j k)) := by
    intro W
    pointwise [k0_pay7]
  rw [e, p]
  unfold projT upAt
  simp only [pay4_apply]
  exact Finset.sum_congr rfl fun j _ => congrArg (_ * ·) (ld512 x2 512 (by decide) _ j k)

theorem out8_apply (i : Fin 1024) (k : Fin 512) :
    out0_8 x0 x1 x2 x3 x4 x5 (ix2 i k) = projT x0 x1 x2 i ⟨1024 + k.val, by omega⟩ := by
  have e : out0_8 x0 x1 x2 x3 x4 x5 = k0_pay9 (k0_pay4 x0 x1) (k0_pay8 (View.ld x2 r0_6)) := by
    frame_out
    rw [pay15_eq]
  have p : ∀ W : Vec Ideal S1024x512 .bf16, k0_pay9 (k0_pay4 x0 x1) (k0_pay8 W) (ix2 i k) =
      (∑ j : Fin 1024, k0_pay4 x0 x1 (ix2 i j) * W (ix2 j k)) := by
    intro W
    pointwise [k0_pay9, k0_pay8]
  rw [e, p]
  unfold projT upAt
  simp only [pay4_apply]
  exact Finset.sum_congr rfl fun j _ => congrArg (_ * ·) (ld512 x2 1024 (by decide) _ j k)

theorem out9_apply (i : Fin 1024) (k : Fin 256) :
    out0_9 x0 x1 x2 x3 x4 x5 (ix2 i k) = projT x0 x1 x2 i ⟨1536 + k.val, by omega⟩ := by
  have e : out0_9 x0 x1 x2 x3 x4 x5 = k0_pay13 (k0_pay4 x0 x1) (View.ld x2 r0_10) := by
    frame_out
    rw [pay15_eq]
  have p : ∀ W : Vec Ideal S1024x256 .bf16, k0_pay13 (k0_pay4 x0 x1) W (ix2 i k) =
      (∑ j : Fin 1024, k0_pay4 x0 x1 (ix2 i j) * W (ix2 j k)) := by
    intro W
    pointwise [k0_pay13]
  rw [e, p]
  unfold projT upAt
  simp only [pay4_apply]
  exact Finset.sum_congr rfl fun j _ => congrArg (_ * ·) (ld256 x2 1536 (by decide) _ j k)

theorem out10_apply (i : Fin 1024) (k : Fin 256) :
    out0_10 x0 x1 x2 x3 x4 x5 (ix2 i k) = projT x0 x1 x2 i ⟨1792 + k.val, by omega⟩ := by
  have e : out0_10 x0 x1 x2 x3 x4 x5 = k0_pay1 (k0_pay4 x0 x1) (k0_pay14 (View.ld x2 r0_11)) := by
    frame_out
    rw [pay15_eq]
  have p : ∀ W : Vec Ideal S1024x256 .bf16, k0_pay1 (k0_pay4 x0 x1) (k0_pay14 W) (ix2 i k) =
      (∑ j : Fin 1024, k0_pay4 x0 x1 (ix2 i j) * W (ix2 j k)) := by
    intro W
    pointwise [k0_pay1, k0_pay14]
  rw [e, p]
  unfold projT upAt
  simp only [pay4_apply]
  exact Finset.sum_congr rfl fun j _ => congrArg (_ * ·) (ld256 x2 1792 (by decide) _ j k)

theorem out11_apply (i : Fin 1024) (k : Fin 512) :
    out0_11 x0 x1 x2 x3 x4 x5 (ix2 i k) = projT x0 x1 x2 i ⟨2048 + k.val, by omega⟩ := by
  have e : out0_11 x0 x1 x2 x3 x4 x5 = k0_pay2 (k0_pay4 x0 x1) (View.ld x2 r0_12) := by
    frame_out
    rw [pay15_eq]
  have p : ∀ W : Vec Ideal S1024x512 .bf16, k0_pay2 (k0_pay4 x0 x1) W (ix2 i k) =
      (∑ j : Fin 1024, k0_pay4 x0 x1 (ix2 i j) * W (ix2 j k)) := by
    intro W
    pointwise [k0_pay2]
  rw [e, p]
  unfold projT upAt
  simp only [pay4_apply]
  exact Finset.sum_congr rfl fun j _ => congrArg (_ * ·) (ld512 x2 2048 (by decide) _ j k)

theorem out12_apply (i : Fin 1024) (k : Fin 512) :
    out0_12 x0 x1 x2 x3 x4 x5 (ix2 i k) = projT x0 x1 x2 i ⟨2560 + k.val, by omega⟩ := by
  have e : out0_12 x0 x1 x2 x3 x4 x5 = k0_pay3 (k0_pay4 x0 x1) (View.ld x2 r0_13) := by
    frame_out
    rw [pay15_eq]
  have p : ∀ W : Vec Ideal S1024x512 .bf16, k0_pay3 (k0_pay4 x0 x1) W (ix2 i k) =
      (∑ j : Fin 1024, k0_pay4 x0 x1 (ix2 i j) * W (ix2 j k)) := by
    intro W
    pointwise [k0_pay3]
  rw [e, p]
  unfold projT upAt
  simp only [pay4_apply]
  exact Finset.sum_congr rfl fun j _ => congrArg (_ * ·) (ld512 x2 2560 (by decide) _ j k)

theorem pay5_apply (i : Fin 1024) (j : Fin 128) :
    k0_pay5 x0 x1 x3 (ix2 i j) = upAt (fun k => x0 (ix2 i k)) (fun k => x1 (ix2 0 k)) (fun k => x3 (ix2 k j)) := by
  unfold upAt
  have e : k0_pay5 x0 x1 x3 (ix2 i j) = ∑ k : Fin 1024, k0_pay4 x0 x1 (ix2 i k) * x3 (ix2 k j) := by
    pointwise [k0_pay5]
  rw [e]
  simp only [pay4_apply]

theorem pay10_apply (v19 : FVec Ideal S1024x128 .f32) (i : Fin 1024) (n : Fin 512) :
    k0_pay10 v19 x5 x4 (ix2 i n) = gate (x5 (ix2 0 n) + ∑ j : Fin 128, v19 (ix2 i j) * x4 (ix2 j n)) := by
  unfold gate
  pointwise [k0_pay10]
  rfl

theorem out13_apply (i : Fin 1024) (k : Fin 256) :
    out0_13 x0 x1 x2 x3 x4 x5 (ix2 i k) = gate (gatePreT x0 x1 x3 x4 x5 i ⟨0 + k.val, by omega⟩) := by
  have e : out0_13 x0 x1 x2 x3 x4 x5 = k0_pay11 (k0_pay5 x0 x1 x3) x5 x4 := by
    frame_out
    rw [pay16_eq]
  have p : ∀ v19, k0_pay11 v19 x5 x4 (ix2 i k) = k0_pay10 v19 x5 x4 (ix2 i ⟨0 + k.val, by omega⟩) := by
    intro v19
    pointwise [k0_pay11]
  rw [e, p, pay10_apply]
  unfold gatePreT
  simp only [pay5_apply]

theorem out14_apply (i : Fin 1024) (k : Fin 256) :
    out0_14 x0 x1 x2 x3 x4 x5 (ix2 i k) = gate (gatePreT x0 x1 x3 x4 x5 i ⟨256 + k.val, by omega⟩) := by
  have e : out0_14 x0 x1 x2 x3 x4 x5 = k0_pay12 (k0_pay5 x0 x1 x3) x5 x4 := by
    frame_out
    rw [pay16_eq]
  have p : ∀ v19, k0_pay12 v19 x5 x4 (ix2 i k) = k0_pay10 v19 x5 x4 (ix2 i ⟨256 + k.val, by omega⟩) := by
    intro v19
    pointwise [k0_pay12]
  rw [e, p, pay10_apply]
  unfold gatePreT
  simp only [pay5_apply]

end

variable (m : (ℓ : Loc nD τ sig) → Buf (Elt Ideal) ℓ) (c : Dev nD)

def xArr : Vec Ideal S16x2048x1024 .f32 := m ((c : Thread nD τ).loc main_arg0)
def gArr : Vec Ideal S1024 .f32 := m ((c : Thread nD τ).loc main_arg1)
def wArr : Vec Ideal S1024x3088 .f32 := m ((c : Thread nD τ).loc main_arg2)
def wfArr : Vec Ideal S16x256 .f32 := m ((c : Thread nD τ).loc main_arg3)
def bfArr : Vec Ideal S256 .f32 := m ((c : Thread nD τ).loc main_arg4)
def wbArr : Vec Ideal S16x256 .f32 := m ((c : Thread nD τ).loc main_arg5)
def bbArr : Vec Ideal S256 .f32 := m ((c : Thread nD τ).loc main_arg6)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)

/-! ## The kernel's operands, as the host leaves them -/

theorem V_v7 (r : Fin 32768) (k : Fin 1024) : (V m c main_v7 : Vec Ideal S32768x1024 .f32) (ix2 r k) = row (xArr m c) r k := by
  dsimp only [V, hostOps0, hostOps0_1, hostOps0_2, hostOps0_3, hostOps0_4, List.flatten_cons, List.flatten_nil, List.append_nil, List.cons_append, List.nil_append]
  after_results
  unfold row xArr
  pointwise
theorem V_v8 (k : Fin 1024) : (V m c main_v8 : Vec Ideal S1x1024 .f32) (ix2 0 k) = gArr m c (ix1 k) := by
  dsimp only [V, hostOps0, hostOps0_1, hostOps0_2, hostOps0_3, hostOps0_4, List.flatten_cons, List.flatten_nil, List.append_nil, List.cons_append, List.nil_append]
  after_results
  unfold gArr
  pointwise
theorem V_v10 (i : Fin 1024) (n : Fin 3072) :
    (V m c main_v10 : Vec Ideal S1024x3072 .bf16) (ix2 i n) = wArr m c (ix2 i (⟨n.val, by omega⟩ : Fin 3088)) := by
  dsimp only [V, hostOps0, hostOps0_1, hostOps0_2, hostOps0_3, hostOps0_4, List.flatten_cons, List.flatten_nil, List.append_nil, List.cons_append, List.nil_append]
  after_results
  unfold wArr
  pointwise
theorem V_v2 (i : Fin 1024) (j : Fin 16) : (V m c main_v2 : Vec Ideal S1024x128 .bf16) (ix2 i (⟨j.val, by omega⟩ : Fin 128)) =
    wArr m c (ix2 i (⟨3072 + j.val, by omega⟩ : Fin 3088)) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wArr
  pointwise
theorem V_v11f (j : Fin 16) (n : Fin 256) :
    (V m c main_v11 : Vec Ideal S128x512 .bf16) (ix2 (⟨j.val, by omega⟩ : Fin 128) (⟨0 + n.val, by omega⟩ : Fin 512)) = wfArr m c (ix2 j n) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wfArr
  pointwise
  rw [dif_pos (show n.val < 512 by omega)]
theorem V_v11b (j : Fin 16) (n : Fin 256) :
    (V m c main_v11 : Vec Ideal S128x512 .bf16) (ix2 (⟨j.val, by omega⟩ : Fin 128) (⟨256 + n.val, by omega⟩ : Fin 512)) = wbArr m c (ix2 j n) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wbArr
  pointwise
  rw [dif_pos (show 256 + n.val < 512 by omega)]
theorem zero_word : FloatOps.sitofp (F := Ideal) FTy.f32 (0#32) = (0 : EReal) := by
  show ((((0#32 : BitVec 32).toInt : ℤ) : ℝ) : EReal) = 0
  simp
theorem V_v11z (j : Fin 128) (n : Fin 512) (hj : 16 ≤ j.val) :
    (V m c main_v11 : Vec Ideal S128x512 .bf16) (ix2 j n) = (0 : EReal) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  rw [← zero_word]
  pointwise
  rw [dif_neg (by omega)]
theorem V_v6f (n : Fin 256) : (V m c main_v6 : Vec Ideal S1x512 .f32) (ix2 0 (⟨0 + n.val, by omega⟩ : Fin 512)) = bfArr m c (ix1 n) := by
  dsimp only [V, hostOps0, hostOps0_1, hostOps0_2, hostOps0_3, hostOps0_4, List.flatten_cons, List.flatten_nil, List.append_nil, List.cons_append, List.nil_append]
  after_results
  unfold bfArr
  pointwise
theorem V_v6b (n : Fin 256) : (V m c main_v6 : Vec Ideal S1x512 .f32) (ix2 0 (⟨256 + n.val, by omega⟩ : Fin 512)) = bbArr m c (ix1 n) := by
  dsimp only [V, hostOps0, hostOps0_1, hostOps0_2, hostOps0_3, hostOps0_4, List.flatten_cons, List.flatten_nil, List.append_nil, List.cons_append, List.nil_append]
  after_results
  unfold bbArr
  pointwise

/-! ## The blocks at a grid point -/

theorem blk0 (t : Fin cfg0.N) (i k : Fin 1024) (r : Fin 32768) (hr : r.val = t.val * 1024 + i.val) :
    (iblk m c 0 t : Vec Ideal S1024x1024 .f32) (ix2 i k) = row (xArr m c) r k := by
  rw [← V_v7 m c]
  blk_ext [iblk, idx0 t]
theorem blk1 (t : Fin cfg0.N) (k : Fin 1024) : (iblk m c 1 t : Vec Ideal S1x1024 .f32) (ix2 0 k) = (V m c main_v8 : Vec Ideal S1x1024 .f32) (ix2 0 k) := by
  blk_ext [iblk, idx1 t]
theorem blk2 (t : Fin cfg0.N) (i : Fin 1024) (n : Fin 3072) :
    (iblk m c 2 t : Vec Ideal S1024x3072 .bf16) (ix2 i n) = (V m c main_v10 : Vec Ideal S1024x3072 .bf16) (ix2 i n) := by
  blk_ext [iblk, idx2 t]
theorem blk3 (t : Fin cfg0.N) (i : Fin 1024) (j : Fin 128) :
    (iblk m c 3 t : Vec Ideal S1024x128 .bf16) (ix2 i j) = (V m c main_v2 : Vec Ideal S1024x128 .bf16) (ix2 i j) := by
  blk_ext [iblk, idx3 t]
theorem blk4 (t : Fin cfg0.N) (j : Fin 128) (n : Fin 512) :
    (iblk m c 4 t : Vec Ideal S128x512 .bf16) (ix2 j n) = (V m c main_v11 : Vec Ideal S128x512 .bf16) (ix2 j n) := by
  blk_ext [iblk, idx4 t]
theorem blk5 (t : Fin cfg0.N) (n : Fin 512) :
    (iblk m c 5 t : Vec Ideal S1x512 .f32) (ix2 0 n) = (V m c main_v6 : Vec Ideal S1x512 .f32) (ix2 0 n) := by
  blk_ext [iblk, idx5 t]

end Cert.InpIdeal.Block
-- ==== Proof.InpArray.lean ====
/- The input projection's nine result arrays, as the layer's mathematics over its arguments. -/
module

public import proofs.«01_k».proof.Proof.InpRead

@[expose] public section

set_option maxRecDepth 16384

noncomputable section

namespace Cert.InpIdeal.Block

open Cert.InpIdeal Cert.InpIdeal.Gen Idealize.ShloMosaic Idealize.ShloMosaic.TcCoe Idealize.SL.Sem FfnMath ProjMath
open Idealize.ShloMosaic.Pipeline (Dat)

variable (m : (ℓ : Loc nD τ sig) → Buf (Elt Ideal) ℓ) (c : Dev nD)

theorem rowT (t : Fin cfg0.N) (i : Fin 1024) (r : Fin 32768) (hr : r.val = t.val * 1024 + i.val) :
    (fun k => (iblk m c 0 t : Vec Ideal S1024x1024 .f32) (ix2 i k)) = row (xArr m c) r :=
  funext fun k => blk0 m c t i k r hr

theorem normT (t : Fin cfg0.N) : (fun k => (iblk m c 1 t : Vec Ideal S1x1024 .f32) (ix2 0 k)) = fun k => gArr m c (ix1 k) :=
  funext fun k => (blk1 m c t k).trans (V_v8 m c k)

theorem projT_eq (t : Fin cfg0.N) (i : Fin 1024) (r : Fin 32768) (hr : r.val = t.val * 1024 + i.val) (o W : Nat) (h : o + W ≤ 3072) (k : Fin W) :
    projT (iblk m c 0 t) (iblk m c 1 t) (iblk m c 2 t) i ⟨o + k.val, by omega⟩ =
      colAt (xArr m c) (gArr m c) (wArr m c) o W (by omega) r k :=
  congr (congr (congrArg upAt (rowT m c t i r hr)) (normT m c t))
    (funext fun j => (blk2 m c t j ⟨o + k.val, by omega⟩).trans (V_v10 m c j ⟨o + k.val, by omega⟩))

theorem lowT (t : Fin cfg0.N) (i : Fin 1024) (r : Fin 32768) (hr : r.val = t.val * 1024 + i.val) (j : Fin 16) :
    upAt (fun k => (iblk m c 0 t : Vec Ideal S1024x1024 .f32) (ix2 i k)) (fun k => (iblk m c 1 t : Vec Ideal S1x1024 .f32) (ix2 0 k))
        (fun k => (iblk m c 3 t : Vec Ideal S1024x128 .bf16) (ix2 k (⟨j.val, by omega⟩ : Fin 128))) =
      upAt (row (xArr m c) r) (fun k => gArr m c (ix1 k)) (fun k => wArr m c (ix2 k (⟨3072 + j.val, by omega⟩ : Fin 3088))) :=
  congr (congr (congrArg upAt (rowT m c t i r hr)) (normT m c t))
    (funext fun k => (blk3 m c t k ⟨j.val, by omega⟩).trans (V_v2 m c k j))

/-- The padded columns of the low-rank part meet zero weights. -/
theorem gateT_eq (t : Fin cfg0.N) (i : Fin 1024) (r : Fin 32768) (hr : r.val = t.val * 1024 + i.val) (n : Fin 512)
    (wg : Fin 16 → EReal) (b : EReal) (hb : (V m c main_v6 : Vec Ideal S1x512 .f32) (ix2 0 n) = b)
    (hw : ∀ j : Fin 16, (V m c main_v11 : Vec Ideal S128x512 .bf16) (ix2 (⟨j.val, by omega⟩ : Fin 128) n) = wg j) :
    gatePreT (iblk m c 0 t) (iblk m c 1 t) (iblk m c 3 t) (iblk m c 4 t) (iblk m c 5 t) i n =
      gatePre (row (xArr m c) r) (fun k => gArr m c (ix1 k)) (fun j k => wArr m c (ix2 k (⟨3072 + j.val, by omega⟩ : Fin 3088))) wg b := by
  unfold gatePreT gatePre
  rw [sum_first _ fun j hj => by
    refine (congrArg (_ * ·) ((blk4 m c t j n).trans (V_v11z m c j n hj))).trans ?_
    exact mul_zero _]
  refine congrArg₂ (· + ·) ((blk5 m c t n).trans hb) (Finset.sum_congr rfl fun j _ => congrArg₂ (· * ·) (lowT m c t i r hr j) ?_)
  exact (blk4 m c t _ n).trans (hw j)

/-- The scaled queries. -/
def qAt (r : Fin 32768) (k : Fin 512) : EReal :=
  colAt (xArr m c) (gArr m c) (wArr m c) 0 512 (by decide) r k * Ideal.ofBits .f32 0x3E000000#32

theorem arr6 : (dats m 0 c).arrAt 6 cfg0.N = (fun y => qAt m c (y 0) (y 1) : S32768x512.Idx → EReal) := by
  refine (dats m 0 c).arrAt_eq_of_covers 6 _ (by decide +kernel) fun t hf y => ?_
  blk_simp
  rw [after0_6]
  obtain ⟨i, k, rfl⟩ : ∃ (i : Fin 1024) (k : Fin 512), y = ix2 i k := ⟨y 0, y 1, by funext d; match d with | 0 => rfl | 1 => rfl⟩
  rw [out6_apply]
  have hN : t.val < 32 := t.isLt
  have hr : (((cfg0.win 6).blk t).view.emb (ix2 i k) : S32768x512.Idx) = ix2 (⟨t.val * 1024 + i.val, by omega⟩ : Fin 32768) k := by
    blk_ext [idx6 t]
  have h0 := congrFun hr 0
  have h1 := congrFun hr 1
  refine Eq.trans ?_ (congrArg₂ (qAt m c) h0.symm h1.symm)
  exact congrArg (· * _) (projT_eq m c t i ⟨t.val * 1024 + i.val, by omega⟩ rfl 0 512 (by decide) k)

theorem arr7 : (dats m 0 c).arrAt 7 cfg0.N = (fun y => colAt (xArr m c) (gArr m c) (wArr m c) 512 512 (by decide) (y 0) (y 1) : S32768x512.Idx → EReal) := by
  refine (dats m 0 c).arrAt_eq_of_covers 7 _ (by decide +kernel) fun t hf y => ?_
  blk_simp
  rw [after0_7]
  obtain ⟨i, k, rfl⟩ : ∃ (i : Fin 1024) (k : Fin 512), y = ix2 i k := ⟨y 0, y 1, by funext d; match d with | 0 => rfl | 1 => rfl⟩
  rw [out7_apply]
  have hN : t.val < 32 := t.isLt
  have hr : (((cfg0.win 7).blk t).view.emb (ix2 i k) : S32768x512.Idx) = ix2 (⟨t.val * 1024 + i.val, by omega⟩ : Fin 32768) k := by
    blk_ext [idx7 t]
  have h0 := congrFun hr 0
  have h1 := congrFun hr 1
  refine Eq.trans ?_ (congrArg₂ (colAt (xArr m c) (gArr m c) (wArr m c) 512 512 (by decide)) h0.symm h1.symm)
  exact projT_eq m c t i ⟨t.val * 1024 + i.val, by omega⟩ rfl 512 512 (by decide) k

theorem arr8 : (dats m 0 c).arrAt 8 cfg0.N = (fun y => colAt (xArr m c) (gArr m c) (wArr m c) 1024 512 (by decide) (y 0) (y 1) : S32768x512.Idx → EReal) := by
  refine (dats m 0 c).arrAt_eq_of_covers 8 _ (by decide +kernel) fun t hf y => ?_
  blk_simp
  rw [after0_8]
  obtain ⟨i, k, rfl⟩ : ∃ (i : Fin 1024) (k : Fin 512), y = ix2 i k := ⟨y 0, y 1, by funext d; match d with | 0 => rfl | 1 => rfl⟩
  rw [out8_apply]
  have hN : t.val < 32 := t.isLt
  have hr : (((cfg0.win 8).blk t).view.emb (ix2 i k) : S32768x512.Idx) = ix2 (⟨t.val * 1024 + i.val, by omega⟩ : Fin 32768) k := by
    blk_ext [idx8 t]
  have h0 := congrFun hr 0
  have h1 := congrFun hr 1
  refine Eq.trans ?_ (congrArg₂ (colAt (xArr m c) (gArr m c) (wArr m c) 1024 512 (by decide)) h0.symm h1.symm)
  exact projT_eq m c t i ⟨t.val * 1024 + i.val, by omega⟩ rfl 1024 512 (by decide) k

theorem arr9 : (dats m 0 c).arrAt 9 cfg0.N = (fun y => colAt (xArr m c) (gArr m c) (wArr m c) 1536 256 (by decide) (y 0) (y 1) : S32768x256.Idx → EReal) := by
  refine (dats m 0 c).arrAt_eq_of_covers 9 _ (by decide +kernel) fun t hf y => ?_
  blk_simp
  rw [after0_9]
  obtain ⟨i, k, rfl⟩ : ∃ (i : Fin 1024) (k : Fin 256), y = ix2 i k := ⟨y 0, y 1, by funext d; match d with | 0 => rfl | 1 => rfl⟩
  rw [out9_apply]
  have hN : t.val < 32 := t.isLt
  have hr : (((cfg0.win 9).blk t).view.emb (ix2 i k) : S32768x256.Idx) = ix2 (⟨t.val * 1024 + i.val, by omega⟩ : Fin 32768) k := by
    blk_ext [idx9 t]
  have h0 := congrFun hr 0
  have h1 := congrFun hr 1
  refine Eq.trans ?_ (congrArg₂ (colAt (xArr m c) (gArr m c) (wArr m c) 1536 256 (by decide)) h0.symm h1.symm)
  exact projT_eq m c t i ⟨t.val * 1024 + i.val, by omega⟩ rfl 1536 256 (by decide) k

theorem arr10 : (dats m 0 c).arrAt 10 cfg0.N = (fun y => colAt (xArr m c) (gArr m c) (wArr m c) 1792 256 (by decide) (y 0) (y 1) : S32768x256.Idx → EReal) := by
  refine (dats m 0 c).arrAt_eq_of_covers 10 _ (by decide +kernel) fun t hf y => ?_
  blk_simp
  rw [after0_10]
  obtain ⟨i, k, rfl⟩ : ∃ (i : Fin 1024) (k : Fin 256), y = ix2 i k := ⟨y 0, y 1, by funext d; match d with | 0 => rfl | 1 => rfl⟩
  rw [out10_apply]
  have hN : t.val < 32 := t.isLt
  have hr : (((cfg0.win 10).blk t).view.emb (ix2 i k) : S32768x256.Idx) = ix2 (⟨t.val * 1024 + i.val, by omega⟩ : Fin 32768) k := by
    blk_ext [idx10 t]
  have h0 := congrFun hr 0
  have h1 := congrFun hr 1
  refine Eq.trans ?_ (congrArg₂ (colAt (xArr m c) (gArr m c) (wArr m c) 1792 256 (by decide)) h0.symm h1.symm)
  exact projT_eq m c t i ⟨t.val * 1024 + i.val, by omega⟩ rfl 1792 256 (by decide) k

theorem arr11 : (dats m 0 c).arrAt 11 cfg0.N = (fun y => colAt (xArr m c) (gArr m c) (wArr m c) 2048 512 (by decide) (y 0) (y 1) : S32768x512.Idx → EReal) := by
  refine (dats m 0 c).arrAt_eq_of_covers 11 _ (by decide +kernel) fun t hf y => ?_
  blk_simp
  rw [after0_11]
  obtain ⟨i, k, rfl⟩ : ∃ (i : Fin 1024) (k : Fin 512), y = ix2 i k := ⟨y 0, y 1, by funext d; match d with | 0 => rfl | 1 => rfl⟩
  rw [out11_apply]
  have hN : t.val < 32 := t.isLt
  have hr : (((cfg0.win 11).blk t).view.emb (ix2 i k) : S32768x512.Idx) = ix2 (⟨t.val * 1024 + i.val, by omega⟩ : Fin 32768) k := by
    blk_ext [idx11 t]
  have h0 := congrFun hr 0
  have h1 := congrFun hr 1
  refine Eq.trans ?_ (congrArg₂ (colAt (xArr m c) (gArr m c) (wArr m c) 2048 512 (by decide)) h0.symm h1.symm)
  exact projT_eq m c t i ⟨t.val * 1024 + i.val, by omega⟩ rfl 2048 512 (by decide) k

theorem arr12 : (dats m 0 c).arrAt 12 cfg0.N = (fun y => colAt (xArr m c) (gArr m c) (wArr m c) 2560 512 (by decide) (y 0) (y 1) : S32768x512.Idx → EReal) := by
  refine (dats m 0 c).arrAt_eq_of_covers 12 _ (by decide +kernel) fun t hf y => ?_
  blk_simp
  rw [after0_12]
  obtain ⟨i, k, rfl⟩ : ∃ (i : Fin 1024) (k : Fin 512), y = ix2 i k := ⟨y 0, y 1, by funext d; match d with | 0 => rfl | 1 => rfl⟩
  rw [out12_apply]
  have hN : t.val < 32 := t.isLt
  have hr : (((cfg0.win 12).blk t).view.emb (ix2 i k) : S32768x512.Idx) = ix2 (⟨t.val * 1024 + i.val, by omega⟩ : Fin 32768) k := by
    blk_ext [idx12 t]
  have h0 := congrFun hr 0
  have h1 := congrFun hr 1
  refine Eq.trans ?_ (congrArg₂ (colAt (xArr m c) (gArr m c) (wArr m c) 2560 512 (by decide)) h0.symm h1.symm)
  exact projT_eq m c t i ⟨t.val * 1024 + i.val, by omega⟩ rfl 2560 512 (by decide) k

theorem arr13 : (dats m 0 c).arrAt 13 cfg0.N = (fun y => decayAt (xArr m c) (gArr m c) (wArr m c) (wfArr m c) (bfArr m c) (y 0) (y 1) : S32768x256.Idx → EReal) := by
  refine (dats m 0 c).arrAt_eq_of_covers 13 _ (by decide +kernel) fun t hf y => ?_
  blk_simp
  rw [after0_13]
  obtain ⟨i, k, rfl⟩ : ∃ (i : Fin 1024) (k : Fin 256), y = ix2 i k := ⟨y 0, y 1, by funext d; match d with | 0 => rfl | 1 => rfl⟩
  rw [out13_apply]
  have hN : t.val < 32 := t.isLt
  have hr : (((cfg0.win 13).blk t).view.emb (ix2 i k) : S32768x256.Idx) = ix2 (⟨t.val * 1024 + i.val, by omega⟩ : Fin 32768) k := by
    blk_ext [idx13 t]
  have h0 := congrFun hr 0
  have h1 := congrFun hr 1
  refine Eq.trans ?_ (congrArg₂ (decayAt (xArr m c) (gArr m c) (wArr m c) (wfArr m c) (bfArr m c)) h0.symm h1.symm)
  exact congrArg gate (gateT_eq m c t i ⟨t.val * 1024 + i.val, by omega⟩ rfl ⟨0 + k.val, by omega⟩ (fun j => wfArr m c (ix2 j k)) _
    (V_v6f m c k) fun j => V_v11f m c j k)

theorem arr14 : (dats m 0 c).arrAt 14 cfg0.N = (fun y => decayAt (xArr m c) (gArr m c) (wArr m c) (wbArr m c) (bbArr m c) (y 0) (y 1) : S32768x256.Idx → EReal) := by
  refine (dats m 0 c).arrAt_eq_of_covers 14 _ (by decide +kernel) fun t hf y => ?_
  blk_simp
  rw [after0_14]
  obtain ⟨i, k, rfl⟩ : ∃ (i : Fin 1024) (k : Fin 256), y = ix2 i k := ⟨y 0, y 1, by funext d; match d with | 0 => rfl | 1 => rfl⟩
  rw [out14_apply]
  have hN : t.val < 32 := t.isLt
  have hr : (((cfg0.win 14).blk t).view.emb (ix2 i k) : S32768x256.Idx) = ix2 (⟨t.val * 1024 + i.val, by omega⟩ : Fin 32768) k := by
    blk_ext [idx14 t]
  have h0 := congrFun hr 0
  have h1 := congrFun hr 1
  refine Eq.trans ?_ (congrArg₂ (decayAt (xArr m c) (gArr m c) (wArr m c) (wbArr m c) (bbArr m c)) h0.symm h1.symm)
  exact congrArg gate (gateT_eq m c t i ⟨t.val * 1024 + i.val, by omega⟩ rfl ⟨256 + k.val, by omega⟩ (fun j => wbArr m c (ix2 j k)) _
    (V_v6b m c k) fun j => V_v11b m c j k)

end Cert.InpIdeal.Block
-- ==== Proof.InpClaims.lean ====
/- The input projection's claims: the reference's frame, and the kernel equal to the reference in extended-real
   arithmetic. -/
module

public import proofs.«01_k».proof.Defs
public import proofs.«01_k».proof.Proof.InpArray
public import proofs.«01_k».proof.Proof.Gen.InpRefIdeal.Read
public import proofs.«01_k».proof.Proof.Gen.Inp.Frame
public import Idealize.ShloMosaic.Lib.KernelVsHost

@[expose] public section

set_option maxRecDepth 16384

noncomputable section

namespace Cert.InpRefIdeal.Layer

open Cert.InpRefIdeal Cert.InpRefIdeal.Read Idealize.ShloMosaic FfnMath ProjMath

variable (x0 : Vec Ideal S16x2048x1024 .f32) (x1 : Vec Ideal S1024 .f32) (x2 : Vec Ideal S1024x3088 .f32)
  (x3 : Vec Ideal S16x256 .f32) (x4 : Vec Ideal S256 .f32) (x5 : Vec Ideal S16x256 .f32) (x6 : Vec Ideal S256 .f32)

theorem v12_eq (b : Fin 16) (s : Fin 2048) (k : Fin 1024) :
    val_main_v12 x0 x1 (ix3 b s k) = rmsRow (fun j => x0 (ix3 b s j)) (fun j => x1 (ix1 j)) k := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12]

theorem v13_eq (b : Fin 16) (s : Fin 2048) (n : Fin 3088) :
    val_main_v13 x0 x1 x2 (ix3 b s n) = upAt (fun j => x0 (ix3 b s j)) (fun j => x1 (ix1 j)) (fun j => x2 (ix2 j n)) := by
  unfold upAt
  simp only [← v12_eq]
  pointwise [val_main_v13]

theorem v25_eq (b : Fin 16) (s : Fin 2048) (n : Fin 256) :
    val_main_v25 x0 x1 x2 x3 x4 (ix3 b s n) = gatePre (fun j => x0 (ix3 b s j)) (fun j => x1 (ix1 j))
      (fun j k => x2 (ix2 k (⟨3072 + j.val, by omega⟩ : Fin 3088))) (fun j => x3 (ix2 j n)) (x4 (ix1 n)) := by
  unfold gatePre
  simp only [← v13_eq]
  rw [add_comm]
  pointwise [val_main_v21, val_main_v22, val_main_v23, val_main_v24, val_main_v25]

theorem v32_eq (b : Fin 16) (s : Fin 2048) (n : Fin 256) :
    val_main_v32 x0 x1 x2 x5 x6 (ix3 b s n) = gatePre (fun j => x0 (ix3 b s j)) (fun j => x1 (ix1 j))
      (fun j k => x2 (ix2 k (⟨3072 + j.val, by omega⟩ : Fin 3088))) (fun j => x5 (ix2 j n)) (x6 (ix1 n)) := by
  unfold gatePre
  simp only [← v13_eq]
  rw [add_comm]
  pointwise [val_main_v21, val_main_v29, val_main_v30, val_main_v31, val_main_v32]

theorem v28_eq (b : Fin 16) (s : Fin 2048) (n : Fin 256) :
    val_main_v28 x0 x1 x2 x3 x4 (ix3 b s n) = gate (val_main_v25 x0 x1 x2 x3 x4 (ix3 b s n)) := by
  rw [← softGate_eq]
  unfold softGate
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v26, val_main_cst_2, val_main_v27, val_main_v28]
  rfl

theorem v35_eq (b : Fin 16) (s : Fin 2048) (n : Fin 256) :
    val_main_v35 x0 x1 x2 x5 x6 (ix3 b s n) = gate (val_main_v32 x0 x1 x2 x5 x6 (ix3 b s n)) := by
  rw [← softGate_eq]
  unfold softGate
  pointwise [val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1, val_main_v33, val_main_cst_3, val_main_v34, val_main_v35]
  rfl

theorem v39_eq (r : Fin 32768) (k : Fin 512) : val_main_v39 x0 x1 x2 (ix2 r k) = colAt x0 x1 x2 0 512 (by decide) r k * Ideal.ofBits .f32 0x3E000000#32 := by
  unfold colAt row
  rw [← v13_eq]
  pointwise [val_main_v14, val_main_v36, val_main_cst_4, val_main_v37, val_main_v38, val_main_v39]

theorem v41_eq (r : Fin 32768) (k : Fin 512) : val_main_v41 x0 x1 x2 (ix2 r k) = colAt x0 x1 x2 512 512 (by decide) r k := by
  unfold colAt row
  rw [← v13_eq]
  pointwise [val_main_v15, val_main_v40, val_main_v41]

theorem v43_eq (r : Fin 32768) (k : Fin 512) : val_main_v43 x0 x1 x2 (ix2 r k) = colAt x0 x1 x2 1024 512 (by decide) r k := by
  unfold colAt row
  rw [← v13_eq]
  pointwise [val_main_v16, val_main_v42, val_main_v43]

theorem v44_eq (r : Fin 32768) (k : Fin 256) : val_main_v44 x0 x1 x2 (ix2 r k) = colAt x0 x1 x2 1536 256 (by decide) r k := by
  unfold colAt row
  rw [← v13_eq]
  pointwise [val_main_v17, val_main_v44]

theorem v45_eq (r : Fin 32768) (k : Fin 256) : val_main_v45 x0 x1 x2 (ix2 r k) = colAt x0 x1 x2 1792 256 (by decide) r k := by
  unfold colAt row
  rw [← v13_eq]
  pointwise [val_main_v18, val_main_v45]

theorem v47_eq (r : Fin 32768) (k : Fin 512) : val_main_v47 x0 x1 x2 (ix2 r k) = colAt x0 x1 x2 2048 512 (by decide) r k := by
  unfold colAt row
  rw [← v13_eq]
  pointwise [val_main_v19, val_main_v46, val_main_v47]

theorem v48_eq (r : Fin 32768) (k : Fin 512) : val_main_v48 x0 x1 x2 (ix2 r k) = colAt x0 x1 x2 2560 512 (by decide) r k := by
  unfold colAt row
  rw [← v13_eq]
  pointwise [val_main_v20, val_main_v48]

theorem v49_eq (r : Fin 32768) (n : Fin 256) : val_main_v49 x0 x1 x2 x3 x4 (ix2 r n) = decayAt x0 x1 x2 x3 x4 r n := by
  unfold decayAt row
  rw [← v25_eq, ← v28_eq]
  pointwise [val_main_v49]

theorem v50_eq (r : Fin 32768) (n : Fin 256) : val_main_v50 x0 x1 x2 x5 x6 (ix2 r n) = decayAt x0 x1 x2 x5 x6 r n := by
  unfold decayAt row
  rw [← v32_eq, ← v35_eq]
  pointwise [val_main_v50]

end Cert.InpRefIdeal.Layer

namespace Cert.Proof

open Idealize.ShloMosaic Idealize.SL.Sem

theorem inpRef_frame : Cert.quiescent_InpRefIdeal (hInpRefIdeal := Cert.InpRefIdeal.Gen.facts) := fun m ρ _ =>
  (θ_run Cert.InpRefIdeal.defs _ _).mono
    (fun r h => ⟨fun c => (h c).2.2.2.2.2.2.2.2.2, sem_eq_zero_of_no_sems (by decide) r.2⟩) (Cert.InpRefIdeal.Value.run m ρ)

set_option maxHeartbeats 4000000 in
theorem inp_algebraic : Cert.algebraic_InpIdeal_InpRefIdeal (hInpIdeal := Cert.InpIdeal.Gen.facts)
    (hInpRefIdeal := Cert.InpRefIdeal.Gen.facts) := by
  intro m ρ m' ρ' _ hargs
  refine ⟨fun c => (Cert.InpIdeal.Gen.dats m 0 c).arrAt 6 Cert.InpIdeal.cfg0.N, fun c => (Cert.InpIdeal.Gen.dats m 0 c).arrAt 7 Cert.InpIdeal.cfg0.N, fun c => (Cert.InpIdeal.Gen.dats m 0 c).arrAt 8 Cert.InpIdeal.cfg0.N, fun c => (Cert.InpIdeal.Gen.dats m 0 c).arrAt 9 Cert.InpIdeal.cfg0.N, fun c => (Cert.InpIdeal.Gen.dats m 0 c).arrAt 10 Cert.InpIdeal.cfg0.N, fun c => (Cert.InpIdeal.Gen.dats m 0 c).arrAt 11 Cert.InpIdeal.cfg0.N, fun c => (Cert.InpIdeal.Gen.dats m 0 c).arrAt 12 Cert.InpIdeal.cfg0.N, fun c => (Cert.InpIdeal.Gen.dats m 0 c).arrAt 13 Cert.InpIdeal.cfg0.N, fun c => (Cert.InpIdeal.Gen.dats m 0 c).arrAt 14 Cert.InpIdeal.cfg0.N,
    Cert.InpIdeal.Value.run_blocks m ρ, ?_⟩
  refine (θ_run Cert.InpRefIdeal.defs _ _).mono (fun r h c => ?_) (Cert.InpRefIdeal.Value.run m' ρ')
  obtain ⟨h0, h1, h2, h3, h4, h5, h6⟩ := hargs c
  obtain ⟨q0, q1, q2, q3, q4, q5, q6, q7, q8, q9⟩ := h c
  refine ⟨?_, ?_, ?_, ?_, ?_, ?_, ?_, ?_, ?_, q9⟩
  · rw [q0, Cert.InpRefIdeal.Read.val_main_v39_eq]
    refine Eq.trans ?_ (Cert.InpIdeal.Block.arr6 m c).symm
    funext y
    obtain ⟨i, k, rfl⟩ : ∃ (i : Fin 32768) (k : Fin 512), y = ix2 i k := ⟨y 0, y 1, by funext d; match d with | 0 => rfl | 1 => rfl⟩
    refine (Cert.InpRefIdeal.Layer.v39_eq _ _ _ i k).trans ?_
    rw [h0, h1, h2]
    rfl
  · rw [q1, Cert.InpRefIdeal.Read.val_main_v41_eq]
    refine Eq.trans ?_ (Cert.InpIdeal.Block.arr7 m c).symm
    funext y
    obtain ⟨i, k, rfl⟩ : ∃ (i : Fin 32768) (k : Fin 512), y = ix2 i k := ⟨y 0, y 1, by funext d; match d with | 0 => rfl | 1 => rfl⟩
    refine (Cert.InpRefIdeal.Layer.v41_eq _ _ _ i k).trans ?_
    rw [h0, h1, h2]
    rfl
  · rw [q2, Cert.InpRefIdeal.Read.val_main_v43_eq]
    refine Eq.trans ?_ (Cert.InpIdeal.Block.arr8 m c).symm
    funext y
    obtain ⟨i, k, rfl⟩ : ∃ (i : Fin 32768) (k : Fin 512), y = ix2 i k := ⟨y 0, y 1, by funext d; match d with | 0 => rfl | 1 => rfl⟩
    refine (Cert.InpRefIdeal.Layer.v43_eq _ _ _ i k).trans ?_
    rw [h0, h1, h2]
    rfl
  · rw [q3, Cert.InpRefIdeal.Read.val_main_v44_eq]
    refine Eq.trans ?_ (Cert.InpIdeal.Block.arr9 m c).symm
    funext y
    obtain ⟨i, k, rfl⟩ : ∃ (i : Fin 32768) (k : Fin 256), y = ix2 i k := ⟨y 0, y 1, by funext d; match d with | 0 => rfl | 1 => rfl⟩
    refine (Cert.InpRefIdeal.Layer.v44_eq _ _ _ i k).trans ?_
    rw [h0, h1, h2]
    rfl
  · rw [q4, Cert.InpRefIdeal.Read.val_main_v45_eq]
    refine Eq.trans ?_ (Cert.InpIdeal.Block.arr10 m c).symm
    funext y
    obtain ⟨i, k, rfl⟩ : ∃ (i : Fin 32768) (k : Fin 256), y = ix2 i k := ⟨y 0, y 1, by funext d; match d with | 0 => rfl | 1 => rfl⟩
    refine (Cert.InpRefIdeal.Layer.v45_eq _ _ _ i k).trans ?_
    rw [h0, h1, h2]
    rfl
  · rw [q5, Cert.InpRefIdeal.Read.val_main_v47_eq]
    refine Eq.trans ?_ (Cert.InpIdeal.Block.arr11 m c).symm
    funext y
    obtain ⟨i, k, rfl⟩ : ∃ (i : Fin 32768) (k : Fin 512), y = ix2 i k := ⟨y 0, y 1, by funext d; match d with | 0 => rfl | 1 => rfl⟩
    refine (Cert.InpRefIdeal.Layer.v47_eq _ _ _ i k).trans ?_
    rw [h0, h1, h2]
    rfl
  · rw [q6, Cert.InpRefIdeal.Read.val_main_v48_eq]
    refine Eq.trans ?_ (Cert.InpIdeal.Block.arr12 m c).symm
    funext y
    obtain ⟨i, k, rfl⟩ : ∃ (i : Fin 32768) (k : Fin 512), y = ix2 i k := ⟨y 0, y 1, by funext d; match d with | 0 => rfl | 1 => rfl⟩
    refine (Cert.InpRefIdeal.Layer.v48_eq _ _ _ i k).trans ?_
    rw [h0, h1, h2]
    rfl
  · rw [q7, Cert.InpRefIdeal.Read.val_main_v49_eq]
    refine Eq.trans ?_ (Cert.InpIdeal.Block.arr13 m c).symm
    funext y
    obtain ⟨i, k, rfl⟩ : ∃ (i : Fin 32768) (k : Fin 256), y = ix2 i k := ⟨y 0, y 1, by funext d; match d with | 0 => rfl | 1 => rfl⟩
    refine (Cert.InpRefIdeal.Layer.v49_eq _ _ _ _ _ i k).trans ?_
    rw [h0, h1, h2, h3, h4]
    rfl
  · rw [q8, Cert.InpRefIdeal.Read.val_main_v50_eq]
    refine Eq.trans ?_ (Cert.InpIdeal.Block.arr14 m c).symm
    funext y
    obtain ⟨i, k, rfl⟩ : ∃ (i : Fin 32768) (k : Fin 256), y = ix2 i k := ⟨y 0, y 1, by funext d; match d with | 0 => rfl | 1 => rfl⟩
    refine (Cert.InpRefIdeal.Layer.v50_eq _ _ _ _ _ i k).trans ?_
    rw [h0, h1, h2, h5, h6]
    rfl

end Cert.Proof
-- ==== Proof.ProjSMath.lean ====
/- The projections' rows for a batch of 4 sequences of 4096 rows. -/
module

public import proofs.«01_k».proof.Proof.ProjMath
public import proofs.«01_k».proof.Proof.FfnSMath

@[expose] public section

noncomputable section

namespace ProjSMath

open Idealize.ShloMosaic FfnSMath
open ProjMath hiding row512 colAt decayAt
open FfnMath hiding row hid hidPrev hidNext act out

/-- Row `r` of a batch of 4 sequences of 4096 rows, 512 wide. -/
def row512 (X : (⟨3, ![4, 4096, 512]⟩ : Shape).Idx → EReal) (r : Fin 16384) (k : Fin 512) : EReal :=
  X (ix3 (⟨r.val / 4096, by omega⟩ : Fin 4) (⟨r.val % 4096, by omega⟩ : Fin 4096) k)

section
variable (X : (⟨3, ![4, 4096, 1024]⟩ : Shape).Idx → EReal) (g : (⟨1, ![1024]⟩ : Shape).Idx → EReal)
  (w : (⟨2, ![1024, 3088]⟩ : Shape).Idx → EReal)

/-- Row `r` normalised, times column `o + k` of the input projection. -/
def colAt (o W : Nat) (h : o + W ≤ 3088) (r : Fin 16384) (k : Fin W) : EReal :=
  upAt (row X r) (fun j => g (ix1 j)) (fun j => w (ix2 j (⟨o + k.val, by omega⟩ : Fin 3088)))

/-- The decay's logarithm at row `r` and column `n`, from the projection's last 16 columns. -/
def decayAt (wg : (⟨2, ![16, 256]⟩ : Shape).Idx → EReal) (b : (⟨1, ![256]⟩ : Shape).Idx → EReal) (r : Fin 16384) (n : Fin 256) : EReal :=
  gate (gatePre (row X r) (fun j => g (ix1 j)) (fun j k => w (ix2 k (⟨3072 + j.val, by omega⟩ : Fin 3088))) (fun j => wg (ix2 j n)) (b (ix1 n)))

end

end ProjSMath
-- ==== Proof.InpSRead.lean ====
/- The input projection's result arrays, as the layer's mathematics over its arguments. -/
module

public import proofs.«01_k».proof.Proof.Gen.InpSIdeal.Value
public import proofs.«01_k».proof.Proof.ProjSMath
public import Idealize.ShloMosaic.Lib.Pointwise
public import Idealize.ShloMosaic.Lib.Pipeline.ValueKit

@[expose] public section

set_option maxRecDepth 16384

noncomputable section

namespace Cert.InpSIdeal.Block

open Cert.InpSIdeal Cert.InpSIdeal.Gen Idealize.ShloMosaic Idealize.ShloMosaic.TcCoe Idealize.SL.Sem FfnSMath ProjSMath
open ProjMath hiding row512 colAt decayAt
open FfnMath hiding row hid hidPrev hidNext act out
open Idealize.ShloMosaic.Pipeline (Dat)

section
variable (x0 : Vec Ideal S1024x1024 .f32) (x1 : Vec Ideal S1x1024 .f32) (x2 : Vec Ideal S1024x3072 .bf16)
  (x3 : Vec Ideal S1024x128 .bf16) (x4 : Vec Ideal S128x512 .bf16) (x5 : Vec Ideal S1x512 .f32)

theorem pay4_apply (i k : Fin 1024) :
    k0_pay4 x0 x1 (ix2 i k) = rmsRow (fun k => x0 (ix2 i k)) (fun k => x1 (ix2 0 k)) k := by
  unfold rmsRow
  pointwise [k0_pay4]

theorem pay15_eq : k0_pay15 x0 x1 x2 x3 x4 x5 = k0_pay4 x0 x1 := by
  show k0_pay4 (View.ld x0 (Rect.unit ![0, 0] S1024x1024.size inb_S1024x1024_S1024x1024_0_0))
    (View.ld x1 (Rect.unit ![0, 0] S1x1024.size inb_S1x1024_S1x1024_0_0)) = _
  rw [View.ld_unit_lit _ _ (by decide), View.ld_unit_lit _ _ (by decide)]

theorem pay16_eq : k0_pay16 x0 x1 x2 x3 x4 x5 = k0_pay5 x0 x1 x3 := by
  show k0_pay5 (View.ld x0 (Rect.unit ![0, 0] S1024x1024.size inb_S1024x1024_S1024x1024_0_0))
    (View.ld x1 (Rect.unit ![0, 0] S1x1024.size inb_S1x1024_S1x1024_0_0))
    (View.ld x3 (Rect.unit ![0, 0] S1024x128.size inb_S1024x128_S1024x128_0_0)) = _
  rw [View.ld_unit_lit _ _ (by decide), View.ld_unit_lit _ _ (by decide), View.ld_unit_lit _ _ (by decide)]

theorem ld512 (o : Nat) (h : o + 512 ≤ 3072) (inb) (i : Fin 1024) (k : Fin 512) :
    View.ld x2 (Rect.unit ![0, o] ![1024, 512] inb) (ix2 i k) = x2 (ix2 i ⟨o + k.val, by omega⟩) :=
  View.ld_unit_apply_of x2 _ _ inb _ _ (fun a => match a with | 0 => by simp [ix2] | 1 => by simp [ix2])

theorem ld256 (o : Nat) (h : o + 256 ≤ 3072) (inb) (i : Fin 1024) (k : Fin 256) :
    View.ld x2 (Rect.unit ![0, o] ![1024, 256] inb) (ix2 i k) = x2 (ix2 i ⟨o + k.val, by omega⟩) :=
  View.ld_unit_apply_of x2 _ _ inb _ _ (fun a => match a with | 0 => by simp [ix2] | 1 => by simp [ix2])

/-- The tile's row `i` times column `n` of the main weights. -/
def projT (i : Fin 1024) (n : Fin 3072) : EReal :=
  upAt (fun k => x0 (ix2 i k)) (fun k => x1 (ix2 0 k)) (fun k => x2 (ix2 k n))

/-- The gate's preactivation at the tile's row `i` and column `n`. -/
def gatePreT (i : Fin 1024) (n : Fin 512) : EReal :=
  x5 (ix2 0 n) + ∑ j : Fin 128, upAt (fun k => x0 (ix2 i k)) (fun k => x1 (ix2 0 k)) (fun k => x3 (ix2 k j)) * x4 (ix2 j n)

theorem out6_apply (i : Fin 1024) (k : Fin 512) :
    out0_6 x0 x1 x2 x3 x4 x5 (ix2 i k) = projT x0 x1 x2 i ⟨0 + k.val, by omega⟩ * Ideal.ofBits .f32 0x3E000000#32 := by
  have e : out0_6 x0 x1 x2 x3 x4 x5 = k0_pay6 x0 x1 (View.ld x2 r0_3) := by
    frame_out
  have p : ∀ W : Vec Ideal S1024x512 .bf16, k0_pay6 x0 x1 W (ix2 i k) =
      (∑ j : Fin 1024, k0_pay4 x0 x1 (ix2 i j) * W (ix2 j k)) * Ideal.ofBits .f32 0x3E000000#32 := by
    intro W
    pointwise [k0_pay6]
  rw [e, p]
  unfold projT upAt
  simp only [pay4_apply]
  refine congrArg (· * _) ?_
  exact Finset.sum_congr rfl fun j _ => congrArg (_ * ·) (ld512 x2 0 (by decide) _ j k)

theorem out7_apply (i : Fin 1024) (k : Fin 512) :
    out0_7 x0 x1 x2 x3 x4 x5 (ix2 i k) = projT x0 x1 x2 i ⟨512 + k.val, by omega⟩ := by
  have e : out0_7 x0 x1 x2 x3 x4 x5 = k0_pay7 x0 x1 (View.ld x2 r0_5) := by
    frame_out
  have p : ∀ W : Vec Ideal S1024x512 .bf16, k0_pay7 x0 x1 W (ix2 i k) =
      (∑ j : Fin 1024, k0_pay4 x0 x1 (ix2 i j) * W (ix2 j k)) := by
    intro W
    pointwise [k0_pay7]
  rw [e, p]
  unfold projT upAt
  simp only [pay4_apply]
  exact Finset.sum_congr rfl fun j _ => congrArg (_ * ·) (ld512 x2 512 (by decide) _ j k)

theorem out8_apply (i : Fin 1024) (k : Fin 512) :
    out0_8 x0 x1 x2 x3 x4 x5 (ix2 i k) = projT x0 x1 x2 i ⟨1024 + k.val, by omega⟩ := by
  have e : out0_8 x0 x1 x2 x3 x4 x5 = k0_pay9 (k0_pay4 x0 x1) (k0_pay8 (View.ld x2 r0_6)) := by
    frame_out
    rw [pay15_eq]
  have p : ∀ W : Vec Ideal S1024x512 .bf16, k0_pay9 (k0_pay4 x0 x1) (k0_pay8 W) (ix2 i k) =
      (∑ j : Fin 1024, k0_pay4 x0 x1 (ix2 i j) * W (ix2 j k)) := by
    intro W
    pointwise [k0_pay9, k0_pay8]
  rw [e, p]
  unfold projT upAt
  simp only [pay4_apply]
  exact Finset.sum_congr rfl fun j _ => congrArg (_ * ·) (ld512 x2 1024 (by decide) _ j k)

theorem out9_apply (i : Fin 1024) (k : Fin 256) :
    out0_9 x0 x1 x2 x3 x4 x5 (ix2 i k) = projT x0 x1 x2 i ⟨1536 + k.val, by omega⟩ := by
  have e : out0_9 x0 x1 x2 x3 x4 x5 = k0_pay13 (k0_pay4 x0 x1) (View.ld x2 r0_10) := by
    frame_out
    rw [pay15_eq]
  have p : ∀ W : Vec Ideal S1024x256 .bf16, k0_pay13 (k0_pay4 x0 x1) W (ix2 i k) =
      (∑ j : Fin 1024, k0_pay4 x0 x1 (ix2 i j) * W (ix2 j k)) := by
    intro W
    pointwise [k0_pay13]
  rw [e, p]
  unfold projT upAt
  simp only [pay4_apply]
  exact Finset.sum_congr rfl fun j _ => congrArg (_ * ·) (ld256 x2 1536 (by decide) _ j k)

theorem out10_apply (i : Fin 1024) (k : Fin 256) :
    out0_10 x0 x1 x2 x3 x4 x5 (ix2 i k) = projT x0 x1 x2 i ⟨1792 + k.val, by omega⟩ := by
  have e : out0_10 x0 x1 x2 x3 x4 x5 = k0_pay1 (k0_pay4 x0 x1) (k0_pay14 (View.ld x2 r0_11)) := by
    frame_out
    rw [pay15_eq]
  have p : ∀ W : Vec Ideal S1024x256 .bf16, k0_pay1 (k0_pay4 x0 x1) (k0_pay14 W) (ix2 i k) =
      (∑ j : Fin 1024, k0_pay4 x0 x1 (ix2 i j) * W (ix2 j k)) := by
    intro W
    pointwise [k0_pay1, k0_pay14]
  rw [e, p]
  unfold projT upAt
  simp only [pay4_apply]
  exact Finset.sum_congr rfl fun j _ => congrArg (_ * ·) (ld256 x2 1792 (by decide) _ j k)

theorem out11_apply (i : Fin 1024) (k : Fin 512) :
    out0_11 x0 x1 x2 x3 x4 x5 (ix2 i k) = projT x0 x1 x2 i ⟨2048 + k.val, by omega⟩ := by
  have e : out0_11 x0 x1 x2 x3 x4 x5 = k0_pay2 (k0_pay4 x0 x1) (View.ld x2 r0_12) := by
    frame_out
    rw [pay15_eq]
  have p : ∀ W : Vec Ideal S1024x512 .bf16, k0_pay2 (k0_pay4 x0 x1) W (ix2 i k) =
      (∑ j : Fin 1024, k0_pay4 x0 x1 (ix2 i j) * W (ix2 j k)) := by
    intro W
    pointwise [k0_pay2]
  rw [e, p]
  unfold projT upAt
  simp only [pay4_apply]
  exact Finset.sum_congr rfl fun j _ => congrArg (_ * ·) (ld512 x2 2048 (by decide) _ j k)

theorem out12_apply (i : Fin 1024) (k : Fin 512) :
    out0_12 x0 x1 x2 x3 x4 x5 (ix2 i k) = projT x0 x1 x2 i ⟨2560 + k.val, by omega⟩ := by
  have e : out0_12 x0 x1 x2 x3 x4 x5 = k0_pay3 (k0_pay4 x0 x1) (View.ld x2 r0_13) := by
    frame_out
    rw [pay15_eq]
  have p : ∀ W : Vec Ideal S1024x512 .bf16, k0_pay3 (k0_pay4 x0 x1) W (ix2 i k) =
      (∑ j : Fin 1024, k0_pay4 x0 x1 (ix2 i j) * W (ix2 j k)) := by
    intro W
    pointwise [k0_pay3]
  rw [e, p]
  unfold projT upAt
  simp only [pay4_apply]
  exact Finset.sum_congr rfl fun j _ => congrArg (_ * ·) (ld512 x2 2560 (by decide) _ j k)

theorem pay5_apply (i : Fin 1024) (j : Fin 128) :
    k0_pay5 x0 x1 x3 (ix2 i j) = upAt (fun k => x0 (ix2 i k)) (fun k => x1 (ix2 0 k)) (fun k => x3 (ix2 k j)) := by
  unfold upAt
  have e : k0_pay5 x0 x1 x3 (ix2 i j) = ∑ k : Fin 1024, k0_pay4 x0 x1 (ix2 i k) * x3 (ix2 k j) := by
    pointwise [k0_pay5]
  rw [e]
  simp only [pay4_apply]

theorem pay10_apply (v19 : FVec Ideal S1024x128 .f32) (i : Fin 1024) (n : Fin 512) :
    k0_pay10 v19 x5 x4 (ix2 i n) = gate (x5 (ix2 0 n) + ∑ j : Fin 128, v19 (ix2 i j) * x4 (ix2 j n)) := by
  unfold gate
  pointwise [k0_pay10]
  rfl

theorem out13_apply (i : Fin 1024) (k : Fin 256) :
    out0_13 x0 x1 x2 x3 x4 x5 (ix2 i k) = gate (gatePreT x0 x1 x3 x4 x5 i ⟨0 + k.val, by omega⟩) := by
  have e : out0_13 x0 x1 x2 x3 x4 x5 = k0_pay11 (k0_pay5 x0 x1 x3) x5 x4 := by
    frame_out
    rw [pay16_eq]
  have p : ∀ v19, k0_pay11 v19 x5 x4 (ix2 i k) = k0_pay10 v19 x5 x4 (ix2 i ⟨0 + k.val, by omega⟩) := by
    intro v19
    pointwise [k0_pay11]
  rw [e, p, pay10_apply]
  unfold gatePreT
  simp only [pay5_apply]

theorem out14_apply (i : Fin 1024) (k : Fin 256) :
    out0_14 x0 x1 x2 x3 x4 x5 (ix2 i k) = gate (gatePreT x0 x1 x3 x4 x5 i ⟨256 + k.val, by omega⟩) := by
  have e : out0_14 x0 x1 x2 x3 x4 x5 = k0_pay12 (k0_pay5 x0 x1 x3) x5 x4 := by
    frame_out
    rw [pay16_eq]
  have p : ∀ v19, k0_pay12 v19 x5 x4 (ix2 i k) = k0_pay10 v19 x5 x4 (ix2 i ⟨256 + k.val, by omega⟩) := by
    intro v19
    pointwise [k0_pay12]
  rw [e, p, pay10_apply]
  unfold gatePreT
  simp only [pay5_apply]

end

variable (m : (ℓ : Loc nD τ sig) → Buf (Elt Ideal) ℓ) (c : Dev nD)

def xArr : Vec Ideal S4x4096x1024 .f32 := m ((c : Thread nD τ).loc main_arg0)
def gArr : Vec Ideal S1024 .f32 := m ((c : Thread nD τ).loc main_arg1)
def wArr : Vec Ideal S1024x3088 .f32 := m ((c : Thread nD τ).loc main_arg2)
def wfArr : Vec Ideal S16x256 .f32 := m ((c : Thread nD τ).loc main_arg3)
def bfArr : Vec Ideal S256 .f32 := m ((c : Thread nD τ).loc main_arg4)
def wbArr : Vec Ideal S16x256 .f32 := m ((c : Thread nD τ).loc main_arg5)
def bbArr : Vec Ideal S256 .f32 := m ((c : Thread nD τ).loc main_arg6)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)

/-! ## The kernel's operands, as the host leaves them -/

theorem V_v7 (r : Fin 16384) (k : Fin 1024) : (V m c main_v7 : Vec Ideal S16384x1024 .f32) (ix2 r k) = row (xArr m c) r k := by
  dsimp only [V, hostOps0, hostOps0_1, hostOps0_2, hostOps0_3, hostOps0_4, List.flatten_cons, List.flatten_nil, List.append_nil, List.cons_append, List.nil_append]
  after_results
  unfold row xArr
  pointwise
theorem V_v8 (k : Fin 1024) : (V m c main_v8 : Vec Ideal S1x1024 .f32) (ix2 0 k) = gArr m c (ix1 k) := by
  dsimp only [V, hostOps0, hostOps0_1, hostOps0_2, hostOps0_3, hostOps0_4, List.flatten_cons, List.flatten_nil, List.append_nil, List.cons_append, List.nil_append]
  after_results
  unfold gArr
  pointwise
theorem V_v10 (i : Fin 1024) (n : Fin 3072) :
    (V m c main_v10 : Vec Ideal S1024x3072 .bf16) (ix2 i n) = wArr m c (ix2 i (⟨n.val, by omega⟩ : Fin 3088)) := by
  dsimp only [V, hostOps0, hostOps0_1, hostOps0_2, hostOps0_3, hostOps0_4, List.flatten_cons, List.flatten_nil, List.append_nil, List.cons_append, List.nil_append]
  after_results
  unfold wArr
  pointwise
theorem V_v2 (i : Fin 1024) (j : Fin 16) : (V m c main_v2 : Vec Ideal S1024x128 .bf16) (ix2 i (⟨j.val, by omega⟩ : Fin 128)) =
    wArr m c (ix2 i (⟨3072 + j.val, by omega⟩ : Fin 3088)) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wArr
  pointwise
theorem V_v11f (j : Fin 16) (n : Fin 256) :
    (V m c main_v11 : Vec Ideal S128x512 .bf16) (ix2 (⟨j.val, by omega⟩ : Fin 128) (⟨0 + n.val, by omega⟩ : Fin 512)) = wfArr m c (ix2 j n) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wfArr
  pointwise
  rw [dif_pos (show n.val < 512 by omega)]
theorem V_v11b (j : Fin 16) (n : Fin 256) :
    (V m c main_v11 : Vec Ideal S128x512 .bf16) (ix2 (⟨j.val, by omega⟩ : Fin 128) (⟨256 + n.val, by omega⟩ : Fin 512)) = wbArr m c (ix2 j n) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  unfold wbArr
  pointwise
  rw [dif_pos (show 256 + n.val < 512 by omega)]
theorem zero_word : FloatOps.sitofp (F := Ideal) FTy.f32 (0#32) = (0 : EReal) := by
  show ((((0#32 : BitVec 32).toInt : ℤ) : ℝ) : EReal) = 0
  simp
theorem V_v11z (j : Fin 128) (n : Fin 512) (hj : 16 ≤ j.val) :
    (V m c main_v11 : Vec Ideal S128x512 .bf16) (ix2 j n) = (0 : EReal) := by
  dsimp only [V, hostOps0, hostOps0_1, hostOps0_2, hostOps0_3, hostOps0_4, List.flatten_cons, List.flatten_nil, List.append_nil, List.cons_append, List.nil_append]
  after_results
  simp only [StableHlo.TRef.ofBuf, StableHlo.TRef.toBuf, cast_cast, cast_eq]
  rw [← zero_word]
  pointwise
  rw [dif_neg (by omega)]
theorem V_v6f (n : Fin 256) : (V m c main_v6 : Vec Ideal S1x512 .f32) (ix2 0 (⟨0 + n.val, by omega⟩ : Fin 512)) = bfArr m c (ix1 n) := by
  dsimp only [V, hostOps0, hostOps0_1, hostOps0_2, hostOps0_3, hostOps0_4, List.flatten_cons, List.flatten_nil, List.append_nil, List.cons_append, List.nil_append]
  after_results
  unfold bfArr
  pointwise
theorem V_v6b (n : Fin 256) : (V m c main_v6 : Vec Ideal S1x512 .f32) (ix2 0 (⟨256 + n.val, by omega⟩ : Fin 512)) = bbArr m c (ix1 n) := by
  dsimp only [V, hostOps0, hostOps0_1, hostOps0_2, hostOps0_3, hostOps0_4, List.flatten_cons, List.flatten_nil, List.append_nil, List.cons_append, List.nil_append]
  after_results
  unfold bbArr
  pointwise

/-! ## The blocks at a grid point -/

theorem blk0 (t : Fin cfg0.N) (i k : Fin 1024) (r : Fin 16384) (hr : r.val = t.val * 1024 + i.val) :
    (iblk m c 0 t : Vec Ideal S1024x1024 .f32) (ix2 i k) = row (xArr m c) r k := by
  rw [← V_v7 m c]
  blk_ext [iblk, idx0 t]
theorem blk1 (t : Fin cfg0.N) (k : Fin 1024) : (iblk m c 1 t : Vec Ideal S1x1024 .f32) (ix2 0 k) = (V m c main_v8 : Vec Ideal S1x1024 .f32) (ix2 0 k) := by
  blk_ext [iblk, idx1 t]
theorem blk2 (t : Fin cfg0.N) (i : Fin 1024) (n : Fin 3072) :
    (iblk m c 2 t : Vec Ideal S1024x3072 .bf16) (ix2 i n) = (V m c main_v10 : Vec Ideal S1024x3072 .bf16) (ix2 i n) := by
  blk_ext [iblk, idx2 t]
theorem blk3 (t : Fin cfg0.N) (i : Fin 1024) (j : Fin 128) :
    (iblk m c 3 t : Vec Ideal S1024x128 .bf16) (ix2 i j) = (V m c main_v2 : Vec Ideal S1024x128 .bf16) (ix2 i j) := by
  blk_ext [iblk, idx3 t]
theorem blk4 (t : Fin cfg0.N) (j : Fin 128) (n : Fin 512) :
    (iblk m c 4 t : Vec Ideal S128x512 .bf16) (ix2 j n) = (V m c main_v11 : Vec Ideal S128x512 .bf16) (ix2 j n) := by
  blk_ext [iblk, idx4 t]
theorem blk5 (t : Fin cfg0.N) (n : Fin 512) :
    (iblk m c 5 t : Vec Ideal S1x512 .f32) (ix2 0 n) = (V m c main_v6 : Vec Ideal S1x512 .f32) (ix2 0 n) := by
  blk_ext [iblk, idx5 t]

end Cert.InpSIdeal.Block
-- ==== Proof.InpSArray.lean ====
/- The input projection's nine result arrays, as the layer's mathematics over its arguments. -/
module

public import proofs.«01_k».proof.Proof.InpSRead

@[expose] public section

set_option maxRecDepth 16384

noncomputable section

namespace Cert.InpSIdeal.Block

open Cert.InpSIdeal Cert.InpSIdeal.Gen Idealize.ShloMosaic Idealize.ShloMosaic.TcCoe Idealize.SL.Sem FfnSMath ProjSMath
open ProjMath hiding row512 colAt decayAt
open FfnMath hiding row hid hidPrev hidNext act out
open Idealize.ShloMosaic.Pipeline (Dat)

variable (m : (ℓ : Loc nD τ sig) → Buf (Elt Ideal) ℓ) (c : Dev nD)

theorem rowT (t : Fin cfg0.N) (i : Fin 1024) (r : Fin 16384) (hr : r.val = t.val * 1024 + i.val) :
    (fun k => (iblk m c 0 t : Vec Ideal S1024x1024 .f32) (ix2 i k)) = row (xArr m c) r :=
  funext fun k => blk0 m c t i k r hr

theorem normT (t : Fin cfg0.N) : (fun k => (iblk m c 1 t : Vec Ideal S1x1024 .f32) (ix2 0 k)) = fun k => gArr m c (ix1 k) :=
  funext fun k => (blk1 m c t k).trans (V_v8 m c k)

theorem projT_eq (t : Fin cfg0.N) (i : Fin 1024) (r : Fin 16384) (hr : r.val = t.val * 1024 + i.val) (o W : Nat) (h : o + W ≤ 3072) (k : Fin W) :
    projT (iblk m c 0 t) (iblk m c 1 t) (iblk m c 2 t) i ⟨o + k.val, by omega⟩ =
      colAt (xArr m c) (gArr m c) (wArr m c) o W (by omega) r k :=
  congr (congr (congrArg upAt (rowT m c t i r hr)) (normT m c t))
    (funext fun j => (blk2 m c t j ⟨o + k.val, by omega⟩).trans (V_v10 m c j ⟨o + k.val, by omega⟩))

theorem lowT (t : Fin cfg0.N) (i : Fin 1024) (r : Fin 16384) (hr : r.val = t.val * 1024 + i.val) (j : Fin 16) :
    upAt (fun k => (iblk m c 0 t : Vec Ideal S1024x1024 .f32) (ix2 i k)) (fun k => (iblk m c 1 t : Vec Ideal S1x1024 .f32) (ix2 0 k))
        (fun k => (iblk m c 3 t : Vec Ideal S1024x128 .bf16) (ix2 k (⟨j.val, by omega⟩ : Fin 128))) =
      upAt (row (xArr m c) r) (fun k => gArr m c (ix1 k)) (fun k => wArr m c (ix2 k (⟨3072 + j.val, by omega⟩ : Fin 3088))) :=
  congr (congr (congrArg upAt (rowT m c t i r hr)) (normT m c t))
    (funext fun k => (blk3 m c t k ⟨j.val, by omega⟩).trans (V_v2 m c k j))

/-- The padded columns of the low-rank part meet zero weights. -/
theorem gateT_eq (t : Fin cfg0.N) (i : Fin 1024) (r : Fin 16384) (hr : r.val = t.val * 1024 + i.val) (n : Fin 512)
    (wg : Fin 16 → EReal) (b : EReal) (hb : (V m c main_v6 : Vec Ideal S1x512 .f32) (ix2 0 n) = b)
    (hw : ∀ j : Fin 16, (V m c main_v11 : Vec Ideal S128x512 .bf16) (ix2 (⟨j.val, by omega⟩ : Fin 128) n) = wg j) :
    gatePreT (iblk m c 0 t) (iblk m c 1 t) (iblk m c 3 t) (iblk m c 4 t) (iblk m c 5 t) i n =
      gatePre (row (xArr m c) r) (fun k => gArr m c (ix1 k)) (fun j k => wArr m c (ix2 k (⟨3072 + j.val, by omega⟩ : Fin 3088))) wg b := by
  unfold gatePreT gatePre
  rw [sum_first _ fun j hj => by
    refine (congrArg (_ * ·) ((blk4 m c t j n).trans (V_v11z m c j n hj))).trans ?_
    exact mul_zero _]
  refine congrArg₂ (· + ·) ((blk5 m c t n).trans hb) (Finset.sum_congr rfl fun j _ => congrArg₂ (· * ·) (lowT m c t i r hr j) ?_)
  exact (blk4 m c t _ n).trans (hw j)

/-- The scaled queries. -/
def qAt (r : Fin 16384) (k : Fin 512) : EReal :=
  colAt (xArr m c) (gArr m c) (wArr m c) 0 512 (by decide) r k * Ideal.ofBits .f32 0x3E000000#32

theorem arr6 : (dats m 0 c).arrAt 6 cfg0.N = (fun y => qAt m c (y 0) (y 1) : S16384x512.Idx → EReal) := by
  refine (dats m 0 c).arrAt_eq_of_covers 6 _ (by decide +kernel) fun t hf y => ?_
  blk_simp
  rw [after0_6]
  obtain ⟨i, k, rfl⟩ : ∃ (i : Fin 1024) (k : Fin 512), y = ix2 i k := ⟨y 0, y 1, by funext d; match d with | 0 => rfl | 1 => rfl⟩
  rw [out6_apply]
  have hN : t.val < 16 := t.isLt
  have hr : (((cfg0.win 6).blk t).view.emb (ix2 i k) : S16384x512.Idx) = ix2 (⟨t.val * 1024 + i.val, by omega⟩ : Fin 16384) k := by
    blk_ext [idx6 t]
  have h0 := congrFun hr 0
  have h1 := congrFun hr 1
  refine Eq.trans ?_ (congrArg₂ (qAt m c) h0.symm h1.symm)
  exact congrArg (· * _) (projT_eq m c t i ⟨t.val * 1024 + i.val, by omega⟩ rfl 0 512 (by decide) k)

theorem arr7 : (dats m 0 c).arrAt 7 cfg0.N = (fun y => colAt (xArr m c) (gArr m c) (wArr m c) 512 512 (by decide) (y 0) (y 1) : S16384x512.Idx → EReal) := by
  refine (dats m 0 c).arrAt_eq_of_covers 7 _ (by decide +kernel) fun t hf y => ?_
  blk_simp
  rw [after0_7]
  obtain ⟨i, k, rfl⟩ : ∃ (i : Fin 1024) (k : Fin 512), y = ix2 i k := ⟨y 0, y 1, by funext d; match d with | 0 => rfl | 1 => rfl⟩
  rw [out7_apply]
  have hN : t.val < 16 := t.isLt
  have hr : (((cfg0.win 7).blk t).view.emb (ix2 i k) : S16384x512.Idx) = ix2 (⟨t.val * 1024 + i.val, by omega⟩ : Fin 16384) k := by
    blk_ext [idx7 t]
  have h0 := congrFun hr 0
  have h1 := congrFun hr 1
  refine Eq.trans ?_ (congrArg₂ (colAt (xArr m c) (gArr m c) (wArr m c) 512 512 (by decide)) h0.symm h1.symm)
  exact projT_eq m c t i ⟨t.val * 1024 + i.val, by omega⟩ rfl 512 512 (by decide) k

theorem arr8 : (dats m 0 c).arrAt 8 cfg0.N = (fun y => colAt (xArr m c) (gArr m c) (wArr m c) 1024 512 (by decide) (y 0) (y 1) : S16384x512.Idx → EReal) := by
  refine (dats m 0 c).arrAt_eq_of_covers 8 _ (by decide +kernel) fun t hf y => ?_
  blk_simp
  rw [after0_8]
  obtain ⟨i, k, rfl⟩ : ∃ (i : Fin 1024) (k : Fin 512), y = ix2 i k := ⟨y 0, y 1, by funext d; match d with | 0 => rfl | 1 => rfl⟩
  rw [out8_apply]
  have hN : t.val < 16 := t.isLt
  have hr : (((cfg0.win 8).blk t).view.emb (ix2 i k) : S16384x512.Idx) = ix2 (⟨t.val * 1024 + i.val, by omega⟩ : Fin 16384) k := by
    blk_ext [idx8 t]
  have h0 := congrFun hr 0
  have h1 := congrFun hr 1
  refine Eq.trans ?_ (congrArg₂ (colAt (xArr m c) (gArr m c) (wArr m c) 1024 512 (by decide)) h0.symm h1.symm)
  exact projT_eq m c t i ⟨t.val * 1024 + i.val, by omega⟩ rfl 1024 512 (by decide) k

theorem arr9 : (dats m 0 c).arrAt 9 cfg0.N = (fun y => colAt (xArr m c) (gArr m c) (wArr m c) 1536 256 (by decide) (y 0) (y 1) : S16384x256.Idx → EReal) := by
  refine (dats m 0 c).arrAt_eq_of_covers 9 _ (by decide +kernel) fun t hf y => ?_
  blk_simp
  rw [after0_9]
  obtain ⟨i, k, rfl⟩ : ∃ (i : Fin 1024) (k : Fin 256), y = ix2 i k := ⟨y 0, y 1, by funext d; match d with | 0 => rfl | 1 => rfl⟩
  rw [out9_apply]
  have hN : t.val < 16 := t.isLt
  have hr : (((cfg0.win 9).blk t).view.emb (ix2 i k) : S16384x256.Idx) = ix2 (⟨t.val * 1024 + i.val, by omega⟩ : Fin 16384) k := by
    blk_ext [idx9 t]
  have h0 := congrFun hr 0
  have h1 := congrFun hr 1
  refine Eq.trans ?_ (congrArg₂ (colAt (xArr m c) (gArr m c) (wArr m c) 1536 256 (by decide)) h0.symm h1.symm)
  exact projT_eq m c t i ⟨t.val * 1024 + i.val, by omega⟩ rfl 1536 256 (by decide) k

theorem arr10 : (dats m 0 c).arrAt 10 cfg0.N = (fun y => colAt (xArr m c) (gArr m c) (wArr m c) 1792 256 (by decide) (y 0) (y 1) : S16384x256.Idx → EReal) := by
  refine (dats m 0 c).arrAt_eq_of_covers 10 _ (by decide +kernel) fun t hf y => ?_
  blk_simp
  rw [after0_10]
  obtain ⟨i, k, rfl⟩ : ∃ (i : Fin 1024) (k : Fin 256), y = ix2 i k := ⟨y 0, y 1, by funext d; match d with | 0 => rfl | 1 => rfl⟩
  rw [out10_apply]
  have hN : t.val < 16 := t.isLt
  have hr : (((cfg0.win 10).blk t).view.emb (ix2 i k) : S16384x256.Idx) = ix2 (⟨t.val * 1024 + i.val, by omega⟩ : Fin 16384) k := by
    blk_ext [idx10 t]
  have h0 := congrFun hr 0
  have h1 := congrFun hr 1
  refine Eq.trans ?_ (congrArg₂ (colAt (xArr m c) (gArr m c) (wArr m c) 1792 256 (by decide)) h0.symm h1.symm)
  exact projT_eq m c t i ⟨t.val * 1024 + i.val, by omega⟩ rfl 1792 256 (by decide) k

theorem arr11 : (dats m 0 c).arrAt 11 cfg0.N = (fun y => colAt (xArr m c) (gArr m c) (wArr m c) 2048 512 (by decide) (y 0) (y 1) : S16384x512.Idx → EReal) := by
  refine (dats m 0 c).arrAt_eq_of_covers 11 _ (by decide +kernel) fun t hf y => ?_
  blk_simp
  rw [after0_11]
  obtain ⟨i, k, rfl⟩ : ∃ (i : Fin 1024) (k : Fin 512), y = ix2 i k := ⟨y 0, y 1, by funext d; match d with | 0 => rfl | 1 => rfl⟩
  rw [out11_apply]
  have hN : t.val < 16 := t.isLt
  have hr : (((cfg0.win 11).blk t).view.emb (ix2 i k) : S16384x512.Idx) = ix2 (⟨t.val * 1024 + i.val, by omega⟩ : Fin 16384) k := by
    blk_ext [idx11 t]
  have h0 := congrFun hr 0
  have h1 := congrFun hr 1
  refine Eq.trans ?_ (congrArg₂ (colAt (xArr m c) (gArr m c) (wArr m c) 2048 512 (by decide)) h0.symm h1.symm)
  exact projT_eq m c t i ⟨t.val * 1024 + i.val, by omega⟩ rfl 2048 512 (by decide) k

theorem arr12 : (dats m 0 c).arrAt 12 cfg0.N = (fun y => colAt (xArr m c) (gArr m c) (wArr m c) 2560 512 (by decide) (y 0) (y 1) : S16384x512.Idx → EReal) := by
  refine (dats m 0 c).arrAt_eq_of_covers 12 _ (by decide +kernel) fun t hf y => ?_
  blk_simp
  rw [after0_12]
  obtain ⟨i, k, rfl⟩ : ∃ (i : Fin 1024) (k : Fin 512), y = ix2 i k := ⟨y 0, y 1, by funext d; match d with | 0 => rfl | 1 => rfl⟩
  rw [out12_apply]
  have hN : t.val < 16 := t.isLt
  have hr : (((cfg0.win 12).blk t).view.emb (ix2 i k) : S16384x512.Idx) = ix2 (⟨t.val * 1024 + i.val, by omega⟩ : Fin 16384) k := by
    blk_ext [idx12 t]
  have h0 := congrFun hr 0
  have h1 := congrFun hr 1
  refine Eq.trans ?_ (congrArg₂ (colAt (xArr m c) (gArr m c) (wArr m c) 2560 512 (by decide)) h0.symm h1.symm)
  exact projT_eq m c t i ⟨t.val * 1024 + i.val, by omega⟩ rfl 2560 512 (by decide) k

theorem arr13 : (dats m 0 c).arrAt 13 cfg0.N = (fun y => decayAt (xArr m c) (gArr m c) (wArr m c) (wfArr m c) (bfArr m c) (y 0) (y 1) : S16384x256.Idx → EReal) := by
  refine (dats m 0 c).arrAt_eq_of_covers 13 _ (by decide +kernel) fun t hf y => ?_
  blk_simp
  rw [after0_13]
  obtain ⟨i, k, rfl⟩ : ∃ (i : Fin 1024) (k : Fin 256), y = ix2 i k := ⟨y 0, y 1, by funext d; match d with | 0 => rfl | 1 => rfl⟩
  rw [out13_apply]
  have hN : t.val < 16 := t.isLt
  have hr : (((cfg0.win 13).blk t).view.emb (ix2 i k) : S16384x256.Idx) = ix2 (⟨t.val * 1024 + i.val, by omega⟩ : Fin 16384) k := by
    blk_ext [idx13 t]
  have h0 := congrFun hr 0
  have h1 := congrFun hr 1
  refine Eq.trans ?_ (congrArg₂ (decayAt (xArr m c) (gArr m c) (wArr m c) (wfArr m c) (bfArr m c)) h0.symm h1.symm)
  exact congrArg gate (gateT_eq m c t i ⟨t.val * 1024 + i.val, by omega⟩ rfl ⟨0 + k.val, by omega⟩ (fun j => wfArr m c (ix2 j k)) _
    (V_v6f m c k) fun j => V_v11f m c j k)

theorem arr14 : (dats m 0 c).arrAt 14 cfg0.N = (fun y => decayAt (xArr m c) (gArr m c) (wArr m c) (wbArr m c) (bbArr m c) (y 0) (y 1) : S16384x256.Idx → EReal) := by
  refine (dats m 0 c).arrAt_eq_of_covers 14 _ (by decide +kernel) fun t hf y => ?_
  blk_simp
  rw [after0_14]
  obtain ⟨i, k, rfl⟩ : ∃ (i : Fin 1024) (k : Fin 256), y = ix2 i k := ⟨y 0, y 1, by funext d; match d with | 0 => rfl | 1 => rfl⟩
  rw [out14_apply]
  have hN : t.val < 16 := t.isLt
  have hr : (((cfg0.win 14).blk t).view.emb (ix2 i k) : S16384x256.Idx) = ix2 (⟨t.val * 1024 + i.val, by omega⟩ : Fin 16384) k := by
    blk_ext [idx14 t]
  have h0 := congrFun hr 0
  have h1 := congrFun hr 1
  refine Eq.trans ?_ (congrArg₂ (decayAt (xArr m c) (gArr m c) (wArr m c) (wbArr m c) (bbArr m c)) h0.symm h1.symm)
  exact congrArg gate (gateT_eq m c t i ⟨t.val * 1024 + i.val, by omega⟩ rfl ⟨256 + k.val, by omega⟩ (fun j => wbArr m c (ix2 j k)) _
    (V_v6b m c k) fun j => V_v11b m c j k)

end Cert.InpSIdeal.Block
-- ==== Proof.InpSClaims.lean ====
/- The input projection's claims: the reference's frame, and the kernel equal to the reference in extended-real
   arithmetic. -/
module

public import proofs.«01_k».proof.Defs
public import proofs.«01_k».proof.Proof.InpSArray
public import proofs.«01_k».proof.Proof.Gen.InpSRefIdeal.Read
public import proofs.«01_k».proof.Proof.Gen.InpS.Frame
public import Idealize.ShloMosaic.Lib.KernelVsHost

@[expose] public section

set_option maxRecDepth 16384

noncomputable section

namespace Cert.InpSRefIdeal.Layer

open Cert.InpSRefIdeal Cert.InpSRefIdeal.Read Idealize.ShloMosaic FfnSMath ProjSMath
open ProjMath hiding row512 colAt decayAt
open FfnMath hiding row hid hidPrev hidNext act out

variable (x0 : Vec Ideal S4x4096x1024 .f32) (x1 : Vec Ideal S1024 .f32) (x2 : Vec Ideal S1024x3088 .f32)
  (x3 : Vec Ideal S16x256 .f32) (x4 : Vec Ideal S256 .f32) (x5 : Vec Ideal S16x256 .f32) (x6 : Vec Ideal S256 .f32)

theorem v12_eq (b : Fin 4) (s : Fin 4096) (k : Fin 1024) :
    val_main_v12 x0 x1 (ix3 b s k) = rmsRow (fun j => x0 (ix3 b s j)) (fun j => x1 (ix1 j)) k := by
  unfold rmsRow
  pointwise [val_main_v0, val_main_cst, val_main_v1, val_main_v2, val_main_cst_0, val_main_v3, val_main_v4, val_main_cst_1, val_main_v5, val_main_v6, val_main_v7, val_main_v8, val_main_v9, val_main_v10, val_main_v11, val_main_v12]

theorem v13_eq (b : Fin 4) (s : Fin 4096) (n : Fin 3088) :
    val_main_v13 x0 x1 x2 (ix3 b s n) = upAt (fun j => x0 (ix3 b s j)) (fun j => x1 (ix1 j)) (fun j => x2 (ix2 j n)) := by
  unfold upAt
  simp only [← v12_eq]
  pointwise [val_main_v13]

theorem v25_eq (b : Fin 4) (s : Fin 4096) (n : Fin 256) :
    val_main_v25 x0 x1 x2 x3 x4 (ix3 b s n) = gatePre (fun j => x0 (ix3 b s j)) (fun j => x1 (ix1 j))
      (fun j k => x2 (ix2 k (⟨3072 + j.val, by omega⟩ : Fin 3088))) (fun j => x3 (ix2 j n)) (x4 (ix1 n)) := by
  unfold gatePre
  simp only [← v13_eq]
  rw [add_comm]
  pointwise [val_main_v21, val_main_v22, val_main_v23, val_main_v24, val_main_v25]

theorem v32_eq (b : Fin 4) (s : Fin 4096) (n : Fin 256) :
    val_main_v32 x0 x1 x2 x5 x6 (ix3 b s n) = gatePre (fun j => x0 (ix3 b s j)) (fun j => x1 (ix1 j))
      (fun j k => x2 (ix2 k (⟨3072 + j.val, by omega⟩ : Fin 3088))) (fun j => x5 (ix2 j n)) (x6 (ix1 n)) := by
  unfold gatePre
  simp only [← v13_eq]
  rw [add_comm]
  pointwise [val_main_v21, val_main_v29, val_main_v30, val_main_v31, val_main_v32]

theorem v28_eq (b : Fin 4) (s : Fin 4096) (n : Fin 256) :
    val_main_v28 x0 x1 x2 x3 x4 (ix3 b s n) = gate (val_main_v25 x0 x1 x2 x3 x4 (ix3 b s n)) := by
  rw [← softGate_eq]
  unfold softGate
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v26, val_main_cst_2, val_main_v27, val_main_v28]
  rfl

theorem v35_eq (b : Fin 4) (s : Fin 4096) (n : Fin 256) :
    val_main_v35 x0 x1 x2 x5 x6 (ix3 b s n) = gate (val_main_v32 x0 x1 x2 x5 x6 (ix3 b s n)) := by
  rw [← softGate_eq]
  unfold softGate
  pointwise [val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_v1, val_main_v33, val_main_cst_3, val_main_v34, val_main_v35]
  rfl

theorem v39_eq (r : Fin 16384) (k : Fin 512) : val_main_v39 x0 x1 x2 (ix2 r k) = colAt x0 x1 x2 0 512 (by decide) r k * Ideal.ofBits .f32 0x3E000000#32 := by
  unfold colAt row
  rw [← v13_eq]
  pointwise [val_main_v14, val_main_v36, val_main_cst_4, val_main_v37, val_main_v38, val_main_v39]

theorem v41_eq (r : Fin 16384) (k : Fin 512) : val_main_v41 x0 x1 x2 (ix2 r k) = colAt x0 x1 x2 512 512 (by decide) r k := by
  unfold colAt row
  rw [← v13_eq]
  pointwise [val_main_v15, val_main_v40, val_main_v41]

theorem v43_eq (r : Fin 16384) (k : Fin 512) : val_main_v43 x0 x1 x2 (ix2 r k) = colAt x0 x1 x2 1024 512 (by decide) r k := by
  unfold colAt row
  rw [← v13_eq]
  pointwise [val_main_v16, val_main_v42, val_main_v43]

theorem v44_eq (r : Fin 16384) (k : Fin 256) : val_main_v44 x0 x1 x2 (ix2 r k) = colAt x0 x1 x2 1536 256 (by decide) r k := by
  unfold colAt row
  rw [← v13_eq]
  pointwise [val_main_v17, val_main_v44]

theorem v45_eq (r : Fin 16384) (k : Fin 256) : val_main_v45 x0 x1 x2 (ix2 r k) = colAt x0 x1 x2 1792 256 (by decide) r k := by
  unfold colAt row
  rw [← v13_eq]
  pointwise [val_main_v18, val_main_v45]

theorem v47_eq (r : Fin 16384) (k : Fin 512) : val_main_v47 x0 x1 x2 (ix2 r k) = colAt x0 x1 x2 2048 512 (by decide) r k := by
  unfold colAt row
  rw [← v13_eq]
  pointwise [val_main_v19, val_main_v46, val_main_v47]

theorem v48_eq (r : Fin 16384) (k : Fin 512) : val_main_v48 x0 x1 x2 (ix2 r k) = colAt x0 x1 x2 2560 512 (by decide) r k := by
  unfold colAt row
  rw [← v13_eq]
  pointwise [val_main_v20, val_main_v48]

theorem v49_eq (r : Fin 16384) (n : Fin 256) : val_main_v49 x0 x1 x2 x3 x4 (ix2 r n) = decayAt x0 x1 x2 x3 x4 r n := by
  unfold decayAt row
  rw [← v25_eq, ← v28_eq]
  pointwise [val_main_v49]

theorem v50_eq (r : Fin 16384) (n : Fin 256) : val_main_v50 x0 x1 x2 x5 x6 (ix2 r n) = decayAt x0 x1 x2 x5 x6 r n := by
  unfold decayAt row
  rw [← v32_eq, ← v35_eq]
  pointwise [val_main_v50]

end Cert.InpSRefIdeal.Layer

namespace Cert.Proof

open Idealize.ShloMosaic Idealize.SL.Sem

theorem inpSRef_frame : Cert.quiescent_InpSRefIdeal (hInpSRefIdeal := Cert.InpSRefIdeal.Gen.facts) := fun m ρ _ =>
  (θ_run Cert.InpSRefIdeal.defs _ _).mono
    (fun r h => ⟨fun c => (h c).2.2.2.2.2.2.2.2.2, sem_eq_zero_of_no_sems (by decide) r.2⟩) (Cert.InpSRefIdeal.Value.run m ρ)

set_option maxHeartbeats 4000000 in
theorem inpS_algebraic : Cert.algebraic_InpSIdeal_InpSRefIdeal (hInpSIdeal := Cert.InpSIdeal.Gen.facts)
    (hInpSRefIdeal := Cert.InpSRefIdeal.Gen.facts) := by
  intro m ρ m' ρ' _ hargs
  refine ⟨fun c => (Cert.InpSIdeal.Gen.dats m 0 c).arrAt 6 Cert.InpSIdeal.cfg0.N, fun c => (Cert.InpSIdeal.Gen.dats m 0 c).arrAt 7 Cert.InpSIdeal.cfg0.N, fun c => (Cert.InpSIdeal.Gen.dats m 0 c).arrAt 8 Cert.InpSIdeal.cfg0.N, fun c => (Cert.InpSIdeal.Gen.dats m 0 c).arrAt 9 Cert.InpSIdeal.cfg0.N, fun c => (Cert.InpSIdeal.Gen.dats m 0 c).arrAt 10 Cert.InpSIdeal.cfg0.N, fun c => (Cert.InpSIdeal.Gen.dats m 0 c).arrAt 11 Cert.InpSIdeal.cfg0.N, fun c => (Cert.InpSIdeal.Gen.dats m 0 c).arrAt 12 Cert.InpSIdeal.cfg0.N, fun c => (Cert.InpSIdeal.Gen.dats m 0 c).arrAt 13 Cert.InpSIdeal.cfg0.N, fun c => (Cert.InpSIdeal.Gen.dats m 0 c).arrAt 14 Cert.InpSIdeal.cfg0.N,
    Cert.InpSIdeal.Value.run_blocks m ρ, ?_⟩
  refine (θ_run Cert.InpSRefIdeal.defs _ _).mono (fun r h c => ?_) (Cert.InpSRefIdeal.Value.run m' ρ')
  obtain ⟨h0, h1, h2, h3, h4, h5, h6⟩ := hargs c
  obtain ⟨q0, q1, q2, q3, q4, q5, q6, q7, q8, q9⟩ := h c
  refine ⟨?_, ?_, ?_, ?_, ?_, ?_, ?_, ?_, ?_, q9⟩
  · rw [q0, Cert.InpSRefIdeal.Read.val_main_v39_eq]
    refine Eq.trans ?_ (Cert.InpSIdeal.Block.arr6 m c).symm
    funext y
    obtain ⟨i, k, rfl⟩ : ∃ (i : Fin 16384) (k : Fin 512), y = ix2 i k := ⟨y 0, y 1, by funext d; match d with | 0 => rfl | 1 => rfl⟩
    refine (Cert.InpSRefIdeal.Layer.v39_eq _ _ _ i k).trans ?_
    rw [h0, h1, h2]
    rfl
  · rw [q1, Cert.InpSRefIdeal.Read.val_main_v41_eq]
    refine Eq.trans ?_ (Cert.InpSIdeal.Block.arr7 m c).symm
    funext y
    obtain ⟨i, k, rfl⟩ : ∃ (i : Fin 16384) (k : Fin 512), y = ix2 i k := ⟨y 0, y 1, by funext d; match d with | 0 => rfl | 1 => rfl⟩
    refine (Cert.InpSRefIdeal.Layer.v41_eq _ _ _ i k).trans ?_
    rw [h0, h1, h2]
    rfl
  · rw [q2, Cert.InpSRefIdeal.Read.val_main_v43_eq]
    refine Eq.trans ?_ (Cert.InpSIdeal.Block.arr8 m c).symm
    funext y
    obtain ⟨i, k, rfl⟩ : ∃ (i : Fin 16384) (k : Fin 512), y = ix2 i k := ⟨y 0, y 1, by funext d; match d with | 0 => rfl | 1 => rfl⟩
    refine (Cert.InpSRefIdeal.Layer.v43_eq _ _ _ i k).trans ?_
    rw [h0, h1, h2]
    rfl
  · rw [q3, Cert.InpSRefIdeal.Read.val_main_v44_eq]
    refine Eq.trans ?_ (Cert.InpSIdeal.Block.arr9 m c).symm
    funext y
    obtain ⟨i, k, rfl⟩ : ∃ (i : Fin 16384) (k : Fin 256), y = ix2 i k := ⟨y 0, y 1, by funext d; match d with | 0 => rfl | 1 => rfl⟩
    refine (Cert.InpSRefIdeal.Layer.v44_eq _ _ _ i k).trans ?_
    rw [h0, h1, h2]
    rfl
  · rw [q4, Cert.InpSRefIdeal.Read.val_main_v45_eq]
    refine Eq.trans ?_ (Cert.InpSIdeal.Block.arr10 m c).symm
    funext y
    obtain ⟨i, k, rfl⟩ : ∃ (i : Fin 16384) (k : Fin 256), y = ix2 i k := ⟨y 0, y 1, by funext d; match d with | 0 => rfl | 1 => rfl⟩
    refine (Cert.InpSRefIdeal.Layer.v45_eq _ _ _ i k).trans ?_
    rw [h0, h1, h2]
    rfl
  · rw [q5, Cert.InpSRefIdeal.Read.val_main_v47_eq]
    refine Eq.trans ?_ (Cert.InpSIdeal.Block.arr11 m c).symm
    funext y
    obtain ⟨i, k, rfl⟩ : ∃ (i : Fin 16384) (k : Fin 512), y = ix2 i k := ⟨y 0, y 1, by funext d; match d with | 0 => rfl | 1 => rfl⟩
    refine (Cert.InpSRefIdeal.Layer.v47_eq _ _ _ i k).trans ?_
    rw [h0, h1, h2]
    rfl
  · rw [q6, Cert.InpSRefIdeal.Read.val_main_v48_eq]
    refine Eq.trans ?_ (Cert.InpSIdeal.Block.arr12 m c).symm
    funext y
    obtain ⟨i, k, rfl⟩ : ∃ (i : Fin 16384) (k : Fin 512), y = ix2 i k := ⟨y 0, y 1, by funext d; match d with | 0 => rfl | 1 => rfl⟩
    refine (Cert.InpSRefIdeal.Layer.v48_eq _ _ _ i k).trans ?_
    rw [h0, h1, h2]
    rfl
  · rw [q7, Cert.InpSRefIdeal.Read.val_main_v49_eq]
    refine Eq.trans ?_ (Cert.InpSIdeal.Block.arr13 m c).symm
    funext y
    obtain ⟨i, k, rfl⟩ : ∃ (i : Fin 16384) (k : Fin 256), y = ix2 i k := ⟨y 0, y 1, by funext d; match d with | 0 => rfl | 1 => rfl⟩
    refine (Cert.InpSRefIdeal.Layer.v49_eq _ _ _ _ _ i k).trans ?_
    rw [h0, h1, h2, h3, h4]
    rfl
  · rw [q8, Cert.InpSRefIdeal.Read.val_main_v50_eq]
    refine Eq.trans ?_ (Cert.InpSIdeal.Block.arr14 m c).symm
    funext y
    obtain ⟨i, k, rfl⟩ : ∃ (i : Fin 16384) (k : Fin 256), y = ix2 i k := ⟨y 0, y 1, by funext d; match d with | 0 => rfl | 1 => rfl⟩
    refine (Cert.InpSRefIdeal.Layer.v50_eq _ _ _ _ _ i k).trans ?_
    rw [h0, h1, h2, h5, h6]
    rfl

end Cert.Proof
-- ==== Proof.OutpArray.lean ====
/- The output projection's result array, as the layer's mathematics over its arguments. -/
module

public import proofs.«01_k».proof.Proof.Gen.OutpIdeal.Value
public import proofs.«01_k».proof.Proof.ProjMath
public import Idealize.ShloMosaic.Lib.Pointwise
public import Idealize.ShloMosaic.Lib.Pipeline.ValueKit

@[expose] public section

set_option maxRecDepth 16384

noncomputable section

namespace Cert.OutpIdeal.Block

open Cert.OutpIdeal Cert.OutpIdeal.Gen Idealize.ShloMosaic Idealize.ShloMosaic.TcCoe Idealize.SL.Sem FfnMath ProjMath
open Idealize.ShloMosaic.Pipeline (Dat)

theorem pay_apply (v0 : Vec Ideal S1024x512 .f32) (v3 : Vec Ideal S512x1024 .bf16) (v6 : Vec Ideal S1024x512 .bf16)
    (v8 : Vec Ideal S512x1024 .bf16) (v12 : Vec Ideal S1024x1024 .f32) (v14 : Vec Ideal S1x1024 .f32) (i k : Fin 1024) :
    k0_pay1 v0 v3 v6 v8 v12 v14 (ix2 i k) = outpRow (fun k => v12 (ix2 i k)) (fun j => v0 (ix2 i j)) (fun j => v6 (ix2 i j))
      (fun j k => v3 (ix2 j k)) (fun j k => v8 (ix2 j k)) (fun k => v14 (ix2 0 k)) k := by
  unfold outpRow rmsRow mixAt
  pointwise [k0_pay1]

theorem out_apply (x0 : Vec Ideal S1024x1024 .f32) (x1 : Vec Ideal S1024x512 .f32) (x2 : Vec Ideal S1024x512 .bf16)
    (x3 x4 : Vec Ideal S512x1024 .bf16) (x5 : Vec Ideal S1x1024 .f32) (i k : Fin 1024) :
    out0_6 x0 x1 x2 x3 x4 x5 (ix2 i k) = outpRow (fun k => x0 (ix2 i k)) (fun j => x1 (ix2 i j)) (fun j => x2 (ix2 i j))
      (fun j k => x3 (ix2 j k)) (fun j k => x4 (ix2 j k)) (fun k => x5 (ix2 0 k)) k := by
  have e : out0_6 x0 x1 x2 x3 x4 x5 = k0_pay1 x1 x3 x2 x4 x0 x5 := by
    frame_out
  rw [e, pay_apply]

variable (m : (ℓ : Loc nD τ sig) → Buf (Elt Ideal) ℓ) (c : Dev nD)

def xArr : Vec Ideal S16x2048x1024 .f32 := m ((c : Thread nD τ).loc main_arg0)
def oaArr : Vec Ideal S16x2048x512 .f32 := m ((c : Thread nD τ).loc main_arg1)
def ogArr : Vec Ideal S16x2048x512 .bf16 := m ((c : Thread nD τ).loc main_arg2)
def woArr : Vec Ideal S1024x1024 .f32 := m ((c : Thread nD τ).loc main_arg3)
def gArr : Vec Ideal S1024 .f32 := m ((c : Thread nD τ).loc main_arg4)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem blk0 (t : Fin cfg0.N) (i k : Fin 1024) (r : Fin 32768) (hr : r.val = t.val * 1024 + i.val) :
    (iblk m c 0 t : Vec Ideal S1024x1024 .f32) (ix2 i k) = row (xArr m c) r k := by
  unfold row xArr
  blk_ext! [iblk, idx0 t]
theorem blk1 (t : Fin cfg0.N) (i : Fin 1024) (k : Fin 512) (r : Fin 32768) (hr : r.val = t.val * 1024 + i.val) :
    (iblk m c 1 t : Vec Ideal S1024x512 .f32) (ix2 i k) = row512 (oaArr m c) r k := by
  unfold row512 oaArr
  blk_ext! [iblk, idx1 t]
theorem blk2 (t : Fin cfg0.N) (i : Fin 1024) (k : Fin 512) (r : Fin 32768) (hr : r.val = t.val * 1024 + i.val) :
    (iblk m c 2 t : Vec Ideal S1024x512 .bf16) (ix2 i k) = row512 (ogArr m c) r k := by
  unfold row512 ogArr
  blk_ext! [iblk, idx2 t]
theorem blk3 (t : Fin cfg0.N) (i : Fin 512) (k : Fin 1024) :
    (iblk m c 3 t : Vec Ideal S512x1024 .bf16) (ix2 i k) = woArr m c (ix2 (⟨i.val, by omega⟩ : Fin 1024) k) := by
  unfold woArr
  blk_ext! [iblk, idx3 t]
theorem blk4 (t : Fin cfg0.N) (i : Fin 512) (k : Fin 1024) :
    (iblk m c 4 t : Vec Ideal S512x1024 .bf16) (ix2 i k) = woArr m c (ix2 (⟨512 + i.val, by omega⟩ : Fin 1024) k) := by
  unfold woArr
  blk_ext! [iblk, idx4 t]
theorem blk5 (t : Fin cfg0.N) (k : Fin 1024) :
    (iblk m c 5 t : Vec Ideal S1x1024 .f32) (ix2 0 k) = gArr m c (ix1 k) := by
  unfold gArr
  blk_ext! [iblk, idx5 t]

/-- The result over the kernel's arguments. -/
def G (r : Fin 32768) (k : Fin 1024) : EReal :=
  outpRow (row (xArr m c) r) (row512 (oaArr m c) r) (row512 (ogArr m c) r) (fun j k => woArr m c (ix2 (⟨j.val, by omega⟩ : Fin 1024) k))
    (fun j k => woArr m c (ix2 (⟨512 + j.val, by omega⟩ : Fin 1024) k)) (fun k => gArr m c (ix1 k)) k

/-- The kernel's result array is the projection. -/
theorem arr_eq : (dats m 0 c).arrAt 6 cfg0.N = (fun y => G m c (y 0) (y 1) : S32768x1024.Idx → EReal) := by
  refine (dats m 0 c).arrAt_eq_of_covers 6 _ (by decide +kernel) fun t hf y => ?_
  blk_simp
  rw [after0_6]
  obtain ⟨i, k, rfl⟩ : ∃ (i : Fin 1024) (k : Fin 1024), y = ix2 i k := ⟨y 0, y 1, by funext d; match d with | 0 => rfl | 1 => rfl⟩
  rw [out_apply]
  have hN : t.val < 32 := t.isLt
  have hr : (((cfg0.win 6).blk t).view.emb (ix2 i k) : S32768x1024.Idx) = ix2 (⟨t.val * 1024 + i.val, by omega⟩ : Fin 32768) k := by
    blk_ext [idx6 t]
  have h0 := congrFun hr 0
  have h1 := congrFun hr 1
  refine Eq.trans ?_ (congrArg₂ (G m c) h0.symm h1.symm)
  unfold G
  refine congr (congr (congr (congr (congr (congr (congrArg outpRow ?_) ?_) ?_) ?_) ?_) ?_) rfl
  · exact funext fun k => blk0 m c t i k ⟨t.val * 1024 + i.val, by omega⟩ rfl
  · exact funext fun k => blk1 m c t i k ⟨t.val * 1024 + i.val, by omega⟩ rfl
  · exact funext fun k => blk2 m c t i k ⟨t.val * 1024 + i.val, by omega⟩ rfl
  · exact funext fun j => funext fun k => blk3 m c t j k
  · exact funext fun j => funext fun k => blk4 m c t j k
  · exact funext fun k => blk5 m c t k

end Cert.OutpIdeal.Block
-- ==== Proof.OutpClaims.lean ====
/- The output projection's claims: the reference's frame, and the kernel equal to the reference in extended-real
   arithmetic. -/
module

public import proofs.«01_k».proof.Defs
public import proofs.«01_k».proof.Proof.OutpArray
public import proofs.«01_k».proof.Proof.Gen.OutpRefIdeal.Read
public import proofs.«01_k».proof.Proof.Gen.Outp.Frame
public import Idealize.ShloMosaic.Lib.KernelVsHost

@[expose] public section

set_option maxRecDepth 16384

noncomputable section

namespace Cert.OutpRefIdeal.Layer

open Cert.OutpRefIdeal Cert.OutpRefIdeal.Read Idealize.ShloMosaic FfnMath ProjMath

variable (x0 : Vec Ideal S16x2048x1024 .f32) (x1 : Vec Ideal S16x2048x512 .f32) (x2 : Vec Ideal S16x2048x512 .bf16)
  (x3 : Vec Ideal S1024x1024 .f32) (x4 : Vec Ideal S1024 .f32)

theorem v2_eq (b : Fin 16) (s : Fin 2048) (k : Fin 1024) :
    val_main_v2 x1 x2 x3 (ix3 b s k) = mixAt (fun j => x1 (ix3 b s j)) (fun j => x2 (ix3 b s j))
      (fun j => x3 (ix2 (⟨j.val, by omega⟩ : Fin 1024) k)) (fun j => x3 (ix2 (⟨512 + j.val, by omega⟩ : Fin 1024) k)) := by
  unfold mixAt
  have e : val_main_v2 x1 x2 x3 (ix3 b s k) = ∑ j : Fin 1024, val_main_v1 x1 x2 (ix3 b s j) * x3 (ix2 j k) := by
    pointwise [val_main_v2]
  rw [e, sum_halves]
  refine congrArg₂ (· + ·) (Finset.sum_congr rfl fun j _ => congrArg (· * _) ?_) (Finset.sum_congr rfl fun j _ => congrArg (· * _) ?_)
  · pointwise [val_main_v1, val_main_v0]
  · pointwise [val_main_v1, val_main_v0]

theorem res_eq (r : Fin 32768) (k : Fin 1024) :
    val_main_v17 x0 x1 x2 x3 x4 (ix2 r k) = outpRow (row x0 r) (row512 x1 r) (row512 x2 r)
      (fun j k => x3 (ix2 (⟨j.val, by omega⟩ : Fin 1024) k)) (fun j k => x3 (ix2 (⟨512 + j.val, by omega⟩ : Fin 1024) k))
      (fun k => x4 (ix1 k)) k := by
  have e : val_main_v17 x0 x1 x2 x3 x4 (ix2 r k) = row x0 r k +
      rmsRow (fun k => val_main_v2 x1 x2 x3 (ix3 (⟨r.val / 2048, by omega⟩ : Fin 16) (⟨r.val % 2048, by omega⟩ : Fin 2048) k)) (fun k => x4 (ix1 k)) k := by
    unfold rmsRow row
    pointwise [val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17]
  rw [e]
  simp only [v2_eq]
  rfl

end Cert.OutpRefIdeal.Layer

namespace Cert.Proof

open Idealize.ShloMosaic Idealize.SL.Sem

theorem outpRef_frame : Cert.quiescent_OutpRefIdeal (hOutpRefIdeal := Cert.OutpRefIdeal.Gen.facts) := fun m ρ _ =>
  (θ_run Cert.OutpRefIdeal.defs _ _).mono
    (fun r h => ⟨fun c => (h c).2, sem_eq_zero_of_no_sems (by decide) r.2⟩) (Cert.OutpRefIdeal.Value.run m ρ)

theorem outp_algebraic : Cert.algebraic_OutpIdeal_OutpRefIdeal (hOutpIdeal := Cert.OutpIdeal.Gen.facts)
    (hOutpRefIdeal := Cert.OutpRefIdeal.Gen.facts) := by
  intro m ρ m' ρ' _ hargs
  refine ⟨fun c => (Cert.OutpIdeal.Gen.dats m 0 c).arrAt 6 Cert.OutpIdeal.cfg0.N, Cert.OutpIdeal.Value.run_blocks m ρ, ?_⟩
  refine (θ_run Cert.OutpRefIdeal.defs _ _).mono (fun r h c => ⟨?_, (h c).2⟩) (Cert.OutpRefIdeal.Value.run m' ρ')
  obtain ⟨h0, h1, h2, h3, h4⟩ := hargs c
  rw [(h c).1, Cert.OutpRefIdeal.Read.val_main_v17_eq]
  refine Eq.trans ?_ (Cert.OutpIdeal.Block.arr_eq m c).symm
  funext y
  obtain ⟨i, k, rfl⟩ : ∃ (i : Fin 32768) (k : Fin 1024), y = ix2 i k := ⟨y 0, y 1, by funext d; match d with | 0 => rfl | 1 => rfl⟩
  refine (Cert.OutpRefIdeal.Layer.res_eq _ _ _ _ _ i k).trans ?_
  rw [h0, h1, h2, h3, h4]
  rfl

end Cert.Proof
-- ==== Proof.OutpSArray.lean ====
/- The output projection's result array, as the layer's mathematics over its arguments. -/
module

public import proofs.«01_k».proof.Proof.Gen.OutpSIdeal.Value
public import proofs.«01_k».proof.Proof.ProjSMath
public import Idealize.ShloMosaic.Lib.Pointwise
public import Idealize.ShloMosaic.Lib.Pipeline.ValueKit

@[expose] public section

set_option maxRecDepth 16384

noncomputable section

namespace Cert.OutpSIdeal.Block

open Cert.OutpSIdeal Cert.OutpSIdeal.Gen Idealize.ShloMosaic Idealize.ShloMosaic.TcCoe Idealize.SL.Sem FfnSMath ProjSMath
open ProjMath hiding row512 colAt decayAt
open FfnMath hiding row hid hidPrev hidNext act out
open Idealize.ShloMosaic.Pipeline (Dat)

theorem pay_apply (v0 : Vec Ideal S1024x512 .f32) (v3 : Vec Ideal S512x1024 .bf16) (v6 : Vec Ideal S1024x512 .bf16)
    (v8 : Vec Ideal S512x1024 .bf16) (v12 : Vec Ideal S1024x1024 .f32) (v14 : Vec Ideal S1x1024 .f32) (i k : Fin 1024) :
    k0_pay1 v0 v3 v6 v8 v12 v14 (ix2 i k) = outpRow (fun k => v12 (ix2 i k)) (fun j => v0 (ix2 i j)) (fun j => v6 (ix2 i j))
      (fun j k => v3 (ix2 j k)) (fun j k => v8 (ix2 j k)) (fun k => v14 (ix2 0 k)) k := by
  unfold outpRow rmsRow mixAt
  pointwise [k0_pay1]

theorem out_apply (x0 : Vec Ideal S1024x1024 .f32) (x1 : Vec Ideal S1024x512 .f32) (x2 : Vec Ideal S1024x512 .bf16)
    (x3 x4 : Vec Ideal S512x1024 .bf16) (x5 : Vec Ideal S1x1024 .f32) (i k : Fin 1024) :
    out0_6 x0 x1 x2 x3 x4 x5 (ix2 i k) = outpRow (fun k => x0 (ix2 i k)) (fun j => x1 (ix2 i j)) (fun j => x2 (ix2 i j))
      (fun j k => x3 (ix2 j k)) (fun j k => x4 (ix2 j k)) (fun k => x5 (ix2 0 k)) k := by
  have e : out0_6 x0 x1 x2 x3 x4 x5 = k0_pay1 x1 x3 x2 x4 x0 x5 := by
    frame_out
  rw [e, pay_apply]

variable (m : (ℓ : Loc nD τ sig) → Buf (Elt Ideal) ℓ) (c : Dev nD)

def xArr : Vec Ideal S4x4096x1024 .f32 := m ((c : Thread nD τ).loc main_arg0)
def oaArr : Vec Ideal S4x4096x512 .f32 := m ((c : Thread nD τ).loc main_arg1)
def ogArr : Vec Ideal S4x4096x512 .bf16 := m ((c : Thread nD τ).loc main_arg2)
def woArr : Vec Ideal S1024x1024 .f32 := m ((c : Thread nD τ).loc main_arg3)
def gArr : Vec Ideal S1024 .f32 := m ((c : Thread nD τ).loc main_arg4)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

theorem blk0 (t : Fin cfg0.N) (i k : Fin 1024) (r : Fin 16384) (hr : r.val = t.val * 1024 + i.val) :
    (iblk m c 0 t : Vec Ideal S1024x1024 .f32) (ix2 i k) = row (xArr m c) r k := by
  unfold row xArr
  blk_ext! [iblk, idx0 t]
theorem blk1 (t : Fin cfg0.N) (i : Fin 1024) (k : Fin 512) (r : Fin 16384) (hr : r.val = t.val * 1024 + i.val) :
    (iblk m c 1 t : Vec Ideal S1024x512 .f32) (ix2 i k) = row512 (oaArr m c) r k := by
  unfold row512 oaArr
  blk_ext! [iblk, idx1 t]
theorem blk2 (t : Fin cfg0.N) (i : Fin 1024) (k : Fin 512) (r : Fin 16384) (hr : r.val = t.val * 1024 + i.val) :
    (iblk m c 2 t : Vec Ideal S1024x512 .bf16) (ix2 i k) = row512 (ogArr m c) r k := by
  unfold row512 ogArr
  blk_ext! [iblk, idx2 t]
theorem blk3 (t : Fin cfg0.N) (i : Fin 512) (k : Fin 1024) :
    (iblk m c 3 t : Vec Ideal S512x1024 .bf16) (ix2 i k) = woArr m c (ix2 (⟨i.val, by omega⟩ : Fin 1024) k) := by
  unfold woArr
  blk_ext! [iblk, idx3 t]
theorem blk4 (t : Fin cfg0.N) (i : Fin 512) (k : Fin 1024) :
    (iblk m c 4 t : Vec Ideal S512x1024 .bf16) (ix2 i k) = woArr m c (ix2 (⟨512 + i.val, by omega⟩ : Fin 1024) k) := by
  unfold woArr
  blk_ext! [iblk, idx4 t]
theorem blk5 (t : Fin cfg0.N) (k : Fin 1024) :
    (iblk m c 5 t : Vec Ideal S1x1024 .f32) (ix2 0 k) = gArr m c (ix1 k) := by
  unfold gArr
  blk_ext! [iblk, idx5 t]

/-- The result over the kernel's arguments. -/
def G (r : Fin 16384) (k : Fin 1024) : EReal :=
  outpRow (row (xArr m c) r) (row512 (oaArr m c) r) (row512 (ogArr m c) r) (fun j k => woArr m c (ix2 (⟨j.val, by omega⟩ : Fin 1024) k))
    (fun j k => woArr m c (ix2 (⟨512 + j.val, by omega⟩ : Fin 1024) k)) (fun k => gArr m c (ix1 k)) k

/-- The kernel's result array is the projection. -/
theorem arr_eq : (dats m 0 c).arrAt 6 cfg0.N = (fun y => G m c (y 0) (y 1) : S16384x1024.Idx → EReal) := by
  refine (dats m 0 c).arrAt_eq_of_covers 6 _ (by decide +kernel) fun t hf y => ?_
  blk_simp
  rw [after0_6]
  obtain ⟨i, k, rfl⟩ : ∃ (i : Fin 1024) (k : Fin 1024), y = ix2 i k := ⟨y 0, y 1, by funext d; match d with | 0 => rfl | 1 => rfl⟩
  rw [out_apply]
  have hN : t.val < 16 := t.isLt
  have hr : (((cfg0.win 6).blk t).view.emb (ix2 i k) : S16384x1024.Idx) = ix2 (⟨t.val * 1024 + i.val, by omega⟩ : Fin 16384) k := by
    blk_ext [idx6 t]
  have h0 := congrFun hr 0
  have h1 := congrFun hr 1
  refine Eq.trans ?_ (congrArg₂ (G m c) h0.symm h1.symm)
  unfold G
  refine congr (congr (congr (congr (congr (congr (congrArg outpRow ?_) ?_) ?_) ?_) ?_) ?_) rfl
  · exact funext fun k => blk0 m c t i k ⟨t.val * 1024 + i.val, by omega⟩ rfl
  · exact funext fun k => blk1 m c t i k ⟨t.val * 1024 + i.val, by omega⟩ rfl
  · exact funext fun k => blk2 m c t i k ⟨t.val * 1024 + i.val, by omega⟩ rfl
  · exact funext fun j => funext fun k => blk3 m c t j k
  · exact funext fun j => funext fun k => blk4 m c t j k
  · exact funext fun k => blk5 m c t k

end Cert.OutpSIdeal.Block
-- ==== Proof.OutpSClaims.lean ====
/- The output projection's claims: the reference's frame, and the kernel equal to the reference in extended-real
   arithmetic. -/
module

public import proofs.«01_k».proof.Defs
public import proofs.«01_k».proof.Proof.OutpSArray
public import proofs.«01_k».proof.Proof.Gen.OutpSRefIdeal.Read
public import proofs.«01_k».proof.Proof.Gen.OutpS.Frame
public import Idealize.ShloMosaic.Lib.KernelVsHost

@[expose] public section

set_option maxRecDepth 16384

noncomputable section

namespace Cert.OutpSRefIdeal.Layer

open Cert.OutpSRefIdeal Cert.OutpSRefIdeal.Read Idealize.ShloMosaic FfnSMath ProjSMath
open ProjMath hiding row512 colAt decayAt
open FfnMath hiding row hid hidPrev hidNext act out

variable (x0 : Vec Ideal S4x4096x1024 .f32) (x1 : Vec Ideal S4x4096x512 .f32) (x2 : Vec Ideal S4x4096x512 .bf16)
  (x3 : Vec Ideal S1024x1024 .f32) (x4 : Vec Ideal S1024 .f32)

theorem v2_eq (b : Fin 4) (s : Fin 4096) (k : Fin 1024) :
    val_main_v2 x1 x2 x3 (ix3 b s k) = mixAt (fun j => x1 (ix3 b s j)) (fun j => x2 (ix3 b s j))
      (fun j => x3 (ix2 (⟨j.val, by omega⟩ : Fin 1024) k)) (fun j => x3 (ix2 (⟨512 + j.val, by omega⟩ : Fin 1024) k)) := by
  unfold mixAt
  have e : val_main_v2 x1 x2 x3 (ix3 b s k) = ∑ j : Fin 1024, val_main_v1 x1 x2 (ix3 b s j) * x3 (ix2 j k) := by
    pointwise [val_main_v2]
  rw [e, sum_halves]
  refine congrArg₂ (· + ·) (Finset.sum_congr rfl fun j _ => congrArg (· * _) ?_) (Finset.sum_congr rfl fun j _ => congrArg (· * _) ?_)
  · pointwise [val_main_v1, val_main_v0]
  · pointwise [val_main_v1, val_main_v0]

theorem res_eq (r : Fin 16384) (k : Fin 1024) :
    val_main_v17 x0 x1 x2 x3 x4 (ix2 r k) = outpRow (row x0 r) (row512 x1 r) (row512 x2 r)
      (fun j k => x3 (ix2 (⟨j.val, by omega⟩ : Fin 1024) k)) (fun j k => x3 (ix2 (⟨512 + j.val, by omega⟩ : Fin 1024) k))
      (fun k => x4 (ix1 k)) k := by
  have e : val_main_v17 x0 x1 x2 x3 x4 (ix2 r k) = row x0 r k +
      rmsRow (fun k => val_main_v2 x1 x2 x3 (ix3 (⟨r.val / 4096, by omega⟩ : Fin 4) (⟨r.val % 4096, by omega⟩ : Fin 4096) k)) (fun k => x4 (ix1 k)) k := by
    unfold rmsRow row
    pointwise [val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17]
  rw [e]
  simp only [v2_eq]
  rfl

end Cert.OutpSRefIdeal.Layer

namespace Cert.Proof

open Idealize.ShloMosaic Idealize.SL.Sem

theorem outpSRef_frame : Cert.quiescent_OutpSRefIdeal (hOutpSRefIdeal := Cert.OutpSRefIdeal.Gen.facts) := fun m ρ _ =>
  (θ_run Cert.OutpSRefIdeal.defs _ _).mono
    (fun r h => ⟨fun c => (h c).2, sem_eq_zero_of_no_sems (by decide) r.2⟩) (Cert.OutpSRefIdeal.Value.run m ρ)

theorem outpS_algebraic : Cert.algebraic_OutpSIdeal_OutpSRefIdeal (hOutpSIdeal := Cert.OutpSIdeal.Gen.facts)
    (hOutpSRefIdeal := Cert.OutpSRefIdeal.Gen.facts) := by
  intro m ρ m' ρ' _ hargs
  refine ⟨fun c => (Cert.OutpSIdeal.Gen.dats m 0 c).arrAt 6 Cert.OutpSIdeal.cfg0.N, Cert.OutpSIdeal.Value.run_blocks m ρ, ?_⟩
  refine (θ_run Cert.OutpSRefIdeal.defs _ _).mono (fun r h c => ⟨?_, (h c).2⟩) (Cert.OutpSRefIdeal.Value.run m' ρ')
  obtain ⟨h0, h1, h2, h3, h4⟩ := hargs c
  rw [(h c).1, Cert.OutpSRefIdeal.Read.val_main_v17_eq]
  refine Eq.trans ?_ (Cert.OutpSIdeal.Block.arr_eq m c).symm
  funext y
  obtain ⟨i, k, rfl⟩ : ∃ (i : Fin 16384) (k : Fin 1024), y = ix2 i k := ⟨y 0, y 1, by funext d; match d with | 0 => rfl | 1 => rfl⟩
  refine (Cert.OutpSRefIdeal.Layer.res_eq _ _ _ _ _ i k).trans ?_
  rw [h0, h1, h2, h3, h4]
  rfl

end Cert.Proof
-- ==== Proof.lean ====
module

public import proofs.«01_k».proof.Defs
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Gen.Outp
public import proofs.«01_k».proof.Proof.Gen.Outp.Skeleton
public import proofs.«01_k».proof.Proof.Gen.Outp.Launch
public import proofs.«01_k».proof.Proof.Gen.Outp.Points
public import proofs.«01_k».proof.Proof.Gen.Outp.Frame
public import proofs.«01_k».proof.Proof.Gen.OutpIdeal
public import proofs.«01_k».proof.Proof.Gen.OutpIdeal.Skeleton
public import proofs.«01_k».proof.Proof.Gen.OutpIdeal.Launch
public import proofs.«01_k».proof.Proof.Gen.OutpIdeal.Points
public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Gen.OutpRefIdeal.Read
public import proofs.«01_k».proof.Proof.Gen.InpS
public import proofs.«01_k».proof.Proof.Gen.InpS.Skeleton
public import proofs.«01_k».proof.Proof.Gen.InpS.Launch
public import proofs.«01_k».proof.Proof.Gen.InpS.Points
public import proofs.«01_k».proof.Proof.Gen.InpS.Frame
public import proofs.«01_k».proof.Proof.Gen.InpSIdeal
public import proofs.«01_k».proof.Proof.Gen.InpSIdeal.Skeleton
public import proofs.«01_k».proof.Proof.Gen.InpSIdeal.Launch
public import proofs.«01_k».proof.Proof.Gen.InpSIdeal.Points
public import proofs.«01_k».proof.Proof.Gen.InpSIdeal.Frame
public import proofs.«01_k».proof.Proof.Gen.InpSIdeal.Value
public import proofs.«01_k».proof.Proof.Gen.InpSRefIdeal
public import proofs.«01_k».proof.Proof.Gen.InpSRefIdeal.Run
public import proofs.«01_k».proof.Proof.Gen.InpSRefIdeal.Read
public import proofs.«01_k».proof.Proof.Gen.OutpS
public import proofs.«01_k».proof.Proof.Gen.OutpS.Skeleton
public import proofs.«01_k».proof.Proof.Gen.OutpS.Launch
public import proofs.«01_k».proof.Proof.Gen.OutpS.Points
public import proofs.«01_k».proof.Proof.Gen.OutpS.Frame
public import proofs.«01_k».proof.Proof.Gen.OutpSIdeal
public import proofs.«01_k».proof.Proof.Gen.OutpSIdeal.Skeleton
public import proofs.«01_k».proof.Proof.Gen.OutpSIdeal.Launch
public import proofs.«01_k».proof.Proof.Gen.OutpSIdeal.Points
public import proofs.«01_k».proof.Proof.Gen.OutpSIdeal.Frame
public import proofs.«01_k».proof.Proof.Gen.OutpSIdeal.Value
public import proofs.«01_k».proof.Proof.Gen.OutpSRefIdeal
public import proofs.«01_k».proof.Proof.Gen.OutpSRefIdeal.Run
public import proofs.«01_k».proof.Proof.Gen.OutpSRefIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gen.Pre_decays_below_inf
public import proofs.«01_k».proof.Proof.FfnClaims
public import proofs.«01_k».proof.Proof.GlaClaims
public import proofs.«01_k».proof.Proof.FfnSClaims
public import proofs.«01_k».proof.Proof.InpClaims
public import proofs.«01_k».proof.Proof.InpSClaims
public import proofs.«01_k».proof.Proof.OutpClaims
public import proofs.«01_k».proof.Proof.OutpSClaims
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.FfnS.Gen.facts, Cert.FfnSIdeal.Gen.facts, Cert.FfnSRefIdeal.Gen.facts,
    Cert.Inp.Gen.facts, Cert.InpIdeal.Gen.facts, Cert.InpRefIdeal.Gen.facts,
    Cert.InpS.Gen.facts, Cert.InpSIdeal.Gen.facts, Cert.InpSRefIdeal.Gen.facts,
    Cert.Outp.Gen.facts, Cert.OutpIdeal.Gen.facts, Cert.OutpRefIdeal.Gen.facts,
    Cert.OutpS.Gen.facts, Cert.OutpSIdeal.Gen.facts, Cert.OutpSRefIdeal.Gen.facts,
    Cert.Gla.Gen.facts, Cert.GlaIdeal.Gen.facts, Cert.GlaRefIdeal.Gen.facts, Cert.Pre_decays_below_inf.Gen.facts,
    fun m ρ _ => Cert.Ffn.Gen.frame m ρ, fun m ρ _ => Cert.FfnIdeal.Gen.frame m ρ, ffnRef_frame,
    fun m ρ _ => Cert.FfnS.Gen.frame m ρ, fun m ρ _ => Cert.FfnSIdeal.Gen.frame m ρ, ffnSRef_frame,
    fun m ρ _ => Cert.Inp.Gen.frame m ρ, fun m ρ _ => Cert.InpIdeal.Gen.frame m ρ, inpRef_frame,
    fun m ρ _ => Cert.InpS.Gen.frame m ρ, fun m ρ _ => Cert.InpSIdeal.Gen.frame m ρ, inpSRef_frame,
    fun m ρ _ => Cert.Outp.Gen.frame m ρ, fun m ρ _ => Cert.OutpIdeal.Gen.frame m ρ, outpRef_frame,
    fun m ρ _ => Cert.OutpS.Gen.frame m ρ, fun m ρ _ => Cert.OutpSIdeal.Gen.frame m ρ, outpSRef_frame,
    fun m ρ _ => Cert.Gla.Gen.frame m ρ, fun m ρ _ => Cert.GlaIdeal.Gen.frame m ρ, fun m ρ _ => Cert.GlaIdeal.Gen.frame m ρ,
    glaRef_frame, fun m ρ _ => glaRef_frame m ρ trivial,
    trivial, ffn_algebraic, trivial, ffnS_algebraic,
    trivial, inp_algebraic, trivial, inpS_algebraic, trivial, outp_algebraic, trivial, outpS_algebraic,
    trivial, gla_algebraic⟩

end Cert.Proof

end
